-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_nonzero4 [hPre_nonzero4 : Cert.Pre_nonzero4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_nonzero4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_nonzero4 [hPre_nonzero4 : Cert.Pre_nonzero4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_nonzero4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_nonzero4 [hKernel4Ideal : Cert.Kernel4Ideal.Facts] [hPre_nonzero4 : Cert.Pre_nonzero4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_nonzero4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_nonzero4 [hReference4Ideal : Cert.Reference4Ideal.Facts] [hPre_nonzero4 : Cert.Pre_nonzero4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_nonzero4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_v11) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  IdealRules.named_const.Statement Cert.Kernel4Ideal.κ "cut" .f32 0xBEFF8593#32 ((-((18 / 25) * (Real.log 2)) : ℝ) : EReal)

def algebraic_Kernel4Ideal_Reference4Ideal_pre_nonzero4 [hKernel4Ideal : Cert.Kernel4Ideal.Facts] [hReference4Ideal : Cert.Reference4Ideal.Facts] [hPre_nonzero4 : Cert.Pre_nonzero4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_nonzero4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v284) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite3 : Cert.Pre_finite3.Facts) (hPre_nonzero4 : Cert.Pre_nonzero4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_nonzero4 (hKernel4Ideal := hKernel4Ideal) (hPre_nonzero4 := hPre_nonzero4)
    ∧ quiescent_Reference4Ideal (hReference4Ideal := hReference4Ideal)
    ∧ quiescent_Reference4Ideal_pre_nonzero4 (hReference4Ideal := hReference4Ideal) (hPre_nonzero4 := hPre_nonzero4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_nonzero4 (hKernel4Ideal := hKernel4Ideal) (hReference4Ideal := hReference4Ideal) (hPre_nonzero4 := hPre_nonzero4)
-- ==== Pre_finite.lean ====
abbrev S2048x8x1024 : Shape := ⟨3, ![2048, 8, 1024]⟩
abbrev S8x1536x256 : Shape := ⟨3, ![8, 1536, 256]⟩
abbrev S_ : Shape := ⟨0, ![]⟩

class Facts : Prop where
  bitsLt_bf16_f32 : FTy.bits .bf16 < FTy.bits .f32
  bcast_S_S2048x8x1024 : S_.BroadcastsInDim S2048x8x1024 (![] : Fin 0 → Fin S2048x8x1024.rank)
  reducesTo_S2048x8x1024_S_d0_1_2 : S2048x8x1024.ReducesTo [0, 1, 2] S_
  h_S_ : 0 < S_.numel
  bcast_S_S8x1536x256 : S_.BroadcastsInDim S8x1536x256 (![] : Fin 0 → Fin S8x1536x256.rank)
  reducesTo_S8x1536x256_S_d0_1_2 : S8x1536x256.ReducesTo [0, 1, 2] S_

variable [Facts]

def fn {F : FTy → Type} [FloatOps F] (main_arg0 : FVec F S2048x8x1024 .f32) (main_arg1 : FVec F S8x1536x256 .bf16) : IVec S_ 1 :=
  let main_v0 : FVec F S8x1536x256 .f32 := (extf .f32 · bitsLt_bf16_f32) main_arg1
  let main_v1 : FVec F S2048x8x1024 .f32 := Host.absf main_arg0
  let main_cst : FVec F S_ .f32 := constant S_ .f32 0x7F800000#32
  let main_v2 : FVec F S2048x8x1024 .f32 := broadcastInDim S2048x8x1024 ![] bcast_S_S2048x8x1024 main_cst
  let main_v3 : IVec S2048x8x1024 1 := cmpf .olt main_v1 main_v2
  let main_c : IVec S_ 1 := constantI S_ 1 1#1
  let main_v4 : IVec S_ 1 := (fun x v => Host.reduce IntOp.andi x v reducesTo_S2048x8x1024_S_d0_1_2 h_S_) main_v3 main_c
  let main_v5 : FVec F S8x1536x256 .f32 := Host.absf main_v0
  let main_cst_0 : FVec F S_ .f32 := constant S_ .f32 0x7F800000#32
  let main_v6 : FVec F S8x1536x256 .f32 := broadcastInDim S8x1536x256 ![] bcast_S_S8x1536x256 main_cst_0
  let main_v7 : IVec S8x1536x256 1 := cmpf .olt main_v5 main_v6
  let main_c_1 : IVec S_ 1 := constantI S_ 1 1#1
  let main_v8 : IVec S_ 1 := (fun x v => Host.reduce IntOp.andi x v reducesTo_S8x1536x256_S_d0_1_2 h_S_) main_v7 main_c_1
  let main_v9 : IVec S_ 1 := andi main_v4 main_v8
  main_v9
-- ==== Pre_finite3.lean ====
abbrev S8x262144 : Shape := ⟨2, ![8, 262144]⟩
abbrev S8x131072 : Shape := ⟨2, ![8, 131072]⟩
abbrev S1x2 : Shape := ⟨2, ![1, 2]⟩
abbrev S_ : Shape := ⟨0, ![]⟩

class Facts : Prop where
  bcast_S_S8x262144 : S_.BroadcastsInDim S8x262144 (![] : Fin 0 → Fin S8x262144.rank)
  reducesTo_S8x262144_S_d0_1 : S8x262144.ReducesTo [0, 1] S_
  h_S_ : 0 < S_.numel
  bcast_S_S8x131072 : S_.BroadcastsInDim S8x131072 (![] : Fin 0 → Fin S8x131072.rank)
  reducesTo_S8x131072_S_d0_1 : S8x131072.ReducesTo [0, 1] S_

variable [Facts]

def fn {F : FTy → Type} [FloatOps F] (main_arg0 : FVec F S8x262144 .f32) (main_arg1 : FVec F S8x131072 .f32) (main_arg2 : FVec F S1x2 .f32) (main_arg3 : FVec F S1x2 .f32) : IVec S_ 1 :=
  let main_v0 : FVec F S8x262144 .f32 := Host.absf main_arg0
  let main_cst : FVec F S_ .f32 := constant S_ .f32 0x7F800000#32
  let main_v1 : FVec F S8x262144 .f32 := broadcastInDim S8x262144 ![] bcast_S_S8x262144 main_cst
  let main_v2 : IVec S8x262144 1 := cmpf .olt main_v0 main_v1
  let main_c : IVec S_ 1 := constantI S_ 1 1#1
  let main_v3 : IVec S_ 1 := (fun x v => Host.reduce IntOp.andi x v reducesTo_S8x262144_S_d0_1 h_S_) main_v2 main_c
  let main_v4 : FVec F S8x131072 .f32 := Host.absf main_arg1
  let main_cst_0 : FVec F S_ .f32 := constant S_ .f32 0x7F800000#32
  let main_v5 : FVec F S8x131072 .f32 := broadcastInDim S8x131072 ![] bcast_S_S8x131072 main_cst_0
  let main_v6 : IVec S8x131072 1 := cmpf .olt main_v4 main_v5
  let main_c_1 : IVec S_ 1 := constantI S_ 1 1#1
  let main_v7 : IVec S_ 1 := (fun x v => Host.reduce IntOp.andi x v reducesTo_S8x131072_S_d0_1 h_S_) main_v6 main_c_1
  let main_v8 : IVec S_ 1 := andi main_v3 main_v7
  main_v8
-- ==== Pre_nonzero4.lean ====
abbrev S8x262144 : Shape := ⟨2, ![8, 262144]⟩
abbrev S8x131072 : Shape := ⟨2, ![8, 131072]⟩
abbrev S8x1536x256 : Shape := ⟨3, ![8, 1536, 256]⟩
abbrev S1x2 : Shape := ⟨2, ![1, 2]⟩
abbrev S1536x256 : Shape := ⟨2, ![1536, 256]⟩
abbrev S_ : Shape := ⟨0, ![]⟩

class Facts : Prop where
  bcast_S_S1x2 : S_.BroadcastsInDim S1x2 (![] : Fin 0 → Fin S1x2.rank)
  reducesTo_S1x2_S_d0_1 : S1x2.ReducesTo [0, 1] S_
  h_S_ : 0 < S_.numel

variable [Facts]

def fn {F : FTy → Type} [FloatOps F] (main_arg0 : FVec F S8x262144 .f32) (main_arg1 : FVec F S8x131072 .f32) (main_arg2 : FVec F S8x1536x256 .f32) (main_arg3 : FVec F S1x2 .f32) (main_arg4 : FVec F S1x2 .f32) (main_arg5 : FVec F S1x2 .f32) (main_arg6 : FVec F S1536x256 .f32) : IVec S_ 1 :=
  let main_cst : FVec F S_ .f32 := constant S_ .f32 0x00000000#32
  let main_v0 : FVec F S1x2 .f32 := broadcastInDim S1x2 ![] bcast_S_S1x2 main_cst
  let main_v1 : IVec S1x2 1 := cmpf .une main_arg5 main_v0
  let main_c : IVec S_ 1 := constantI S_ 1 1#1
  let main_v2 : IVec S_ 1 := (fun x v => Host.reduce IntOp.andi x v reducesTo_S1x2_S_d0_1 h_S_) main_v1 main_c
  main_v2
-- ==== Kernel.lean ====
abbrev S2048x8x1024 : Shape := ⟨3, ![2048, 8, 1024]⟩
abbrev S8x1536x256 : Shape := ⟨3, ![8, 1536, 256]⟩
abbrev S2048x8192 : Shape := ⟨2, ![2048, 8192]⟩
abbrev S2048x4096 : Shape := ⟨2, ![2048, 4096]⟩
abbrev S128x8192 : Shape := ⟨2, ![128, 8192]⟩
abbrev S128x4096 : Shape := ⟨2, ![128, 4096]⟩
abbrev S128x1024 : Shape := ⟨2, ![128, 1024]⟩
abbrev S1x1024x256 : Shape := ⟨3, ![1, 1024, 256]⟩
abbrev S1024x256 : Shape := ⟨2, ![1024, 256]⟩
abbrev S1x512x256 : Shape := ⟨3, ![1, 512, 256]⟩
abbrev S512x256 : Shape := ⟨2, ![512, 256]⟩
abbrev S128x256 : Shape := ⟨2, ![128, 256]⟩
abbrev S128x512 : Shape := ⟨2, ![128, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x8x1024, .f32⟩
  | .hbm, ⟨1, _⟩ => ⟨S8x1536x256, .bf16⟩
  | .hbm, ⟨2, _⟩ => ⟨S2048x8192, .f32⟩
  | .hbm, ⟨3, _⟩ => ⟨S2048x4096, .f32⟩
  | .local _ .vmem, ⟨0, _⟩ => ⟨S128x8192, .f32⟩
  | .local _ .vmem, ⟨1, _⟩ => ⟨S128x8192, .f32⟩
  | .local _ .vmem, ⟨2, _⟩ => ⟨S8x1536x256, .bf16⟩
  | .local _ .vmem, ⟨3, _⟩ => ⟨S128x4096, .f32⟩
  | .local _ .vmem, ⟨4, _⟩ => ⟨S128x4096, .f32⟩
  | _, _ => ⟨S2048x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1536x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S2048x8x1024 : Shape := ⟨3, ![2048, 8, 1024]⟩
abbrev S8x1536x256 : Shape := ⟨3, ![8, 1536, 256]⟩
abbrev S8x1024x256 : Shape := ⟨3, ![8, 1024, 256]⟩
abbrev S8x512x256 : Shape := ⟨3, ![8, 512, 256]⟩
abbrev S8x1024x512 : Shape := ⟨3, ![8, 1024, 512]⟩
abbrev S8x512x2048 : Shape := ⟨3, ![8, 512, 2048]⟩
abbrev S2048x8x512 : Shape := ⟨3, ![2048, 8, 512]⟩
abbrev S2048x4096 : Shape := ⟨2, ![2048, 4096]⟩

abbrev nBuf : Space → Nat
  | .hbm => 9
  | .vmem => 0
  | .smem => 0
  | _ => 0

abbrev bufTy : (tb : Table) → Fin (tcTables nBuf tb) → BufTy
  | .hbm, ⟨0, _⟩ => ⟨S2048x8x1024, .f32⟩
  | .hbm, ⟨1, _⟩ => ⟨S8x1536x256, .bf16⟩
  | .hbm, ⟨2, _⟩ => ⟨S8x1536x256, .f32⟩
  | .hbm, ⟨3, _⟩ => ⟨S8x1024x256, .f32⟩
  | .hbm, ⟨4, _⟩ => ⟨S8x512x256, .f32⟩
  | .hbm, ⟨5, _⟩ => ⟨S8x1024x512, .f32⟩
  | .hbm, ⟨6, _⟩ => ⟨S8x512x2048, .f32⟩
  | .hbm, ⟨7, _⟩ => ⟨S2048x8x512, .f32⟩
  | .hbm, ⟨8, _⟩ => ⟨S2048x4096, .f32⟩
  | _, _ => ⟨S2048x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel2.lean ====
abbrev S8x262144 : Shape := ⟨2, ![8, 262144]⟩
abbrev S8x131072 : Shape := ⟨2, ![8, 131072]⟩
abbrev S8x1024x256 : Shape := ⟨3, ![8, 1024, 256]⟩
abbrev S8x512x256 : Shape := ⟨3, ![8, 512, 256]⟩
abbrev S1x2 : Shape := ⟨2, ![1, 2]⟩
abbrev S8x256x256 : Shape := ⟨3, ![8, 256, 256]⟩
abbrev S1x8x256x256 : Shape := ⟨4, ![1, 8, 256, 256]⟩
abbrev S1 : Shape := ⟨1, ![1]⟩
abbrev S1x1x1x1 : Shape := ⟨4, ![1, 1, 1, 1]⟩
abbrev S1x1 : Shape := ⟨2, ![1, 1]⟩

abbrev nBuf : Space → Nat
  | .hbm => 6
  | .vmem => 4
  | .smem => 2
  | _ => 0

abbrev bufTy : (tb : Table) → Fin (tcTables nBuf tb) → BufTy
  | .hbm, ⟨0, _⟩ => ⟨S8x262144, .f32⟩
  | .hbm, ⟨1, _⟩ => ⟨S8x131072, .f32⟩
  | .hbm, ⟨2, _⟩ => ⟨S8x1024x256, .f32⟩
  | .hbm, ⟨3, _⟩ => ⟨S8x512x256, .f32⟩
  | .hbm, ⟨4, _⟩ => ⟨S1x2, .f32⟩
  | .hbm, ⟨5, _⟩ => ⟨S1x2, .f32⟩
  | .local _ .vmem, ⟨0, _⟩ => ⟨S8x256x256, .f32⟩
  | .local _ .vmem, ⟨1, _⟩ => ⟨S8x256x256, .f32⟩
  | .local _ .vmem, ⟨2, _⟩ => ⟨S8x256x256, .f32⟩
  | .local _ .vmem, ⟨3, _⟩ => ⟨S8x256x256, .f32⟩
  | .local _ .smem, ⟨0, _⟩ => ⟨S1x2, .f32⟩
  | .local _ .smem, ⟨1, _⟩ => ⟨S1x2, .f32⟩
  | _, _ => ⟨S8x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c4_i32_4 : BitVec 32 := 4#32
  let v12 : BitVec 1 := Scalar.cmpi .slt arg0 c4_i32_4
  let v13 : BitVec 32 := Scalar.extui v12
  let c0_i32_5 : BitVec 32 := 0#32
  let v14 : BitVec 1 := Scalar.cmpi .ne v13 c0_i32_5
  v14

def k0_cond3 (i : grid0.Coords) : BitVec 1 :=
  let arg0 : BitVec 32 := BitVec.ofNat 32 (i 0).val
  let c0_i32_13 : BitVec 32 := 0#32
  let v28 : BitVec 1 := Scalar.cmpi .eq arg0 c0_i32_13
  let v29 : BitVec 32 := Scalar.extui v28
  let c0_i32_14 : BitVec 32 := 0#32
  let v30 : BitVec 1 := Scalar.cmpi .ne v29 c0_i32_14
  v30

def k0_cond4 (i : grid0.Coords) : BitVec 1 :=
  let arg0 : BitVec 32 := BitVec.ofNat 32 (i 0).val
  let c0_i32_13 : BitVec 32 := 0#32
  let v28 : BitVec 1 := Scalar.cmpi .eq arg0 c0_i32_13
  let v_true : BitVec 1 := 1#1
  let v31 : BitVec 1 := Scalar.xori v28 v_true
  let v32 : BitVec 32 := Scalar.extui v31
  let c0_i32_15 : BitVec 32 := 0#32
  let v33 : BitVec 1 := Scalar.cmpi .ne v32 c0_i32_15
  v33

def k0_cond5 (i : grid0.Coords) : BitVec 1 :=
  let arg0 : BitVec 32 := BitVec.ofNat 32 (i 0).val
  let c4_i32_6 : BitVec 32 := 4#32
  let v15 : BitVec 1 := Scalar.cmpi .sge arg0 c4_i32_6
  let v16 : BitVec 32 := Scalar.extui v15
  let c0_i32_7 : BitVec 32 := 0#32
  let v17 : BitVec 1 := Scalar.cmpi .ne v16 c0_i32_7
  v17

def k0_cond6 (i : grid0.Coords) : BitVec 1 :=
  let arg0 : BitVec 32 := BitVec.ofNat 32 (i 0).val
  let c4_i32_13 : BitVec 32 := 4#32
  let v28 : BitVec 1 := Scalar.cmpi .eq arg0 c4_i32_13
  let v29 : BitVec 32 := Scalar.extui v28
  let c0_i32_14 : BitVec 32 := 0#32
  let v30 : BitVec 1 := Scalar.cmpi .ne v29 c0_i32_14
  v30

def k0_cond7 (i : grid0.Coords) : BitVec 1 :=
  let arg0 : BitVec 32 := BitVec.ofNat 32 (i 0).val
  let c4_i32_13 : BitVec 32 := 4#32
  let v28 : BitVec 1 := Scalar.cmpi .eq arg0 c4_i32_13
  let v_true : BitVec 1 := 1#1
  let v31 : BitVec 1 := Scalar.xori v28 v_true
  let v32 : BitVec 32 := Scalar.extui v31
  let c0_i32_15 : BitVec 32 := 0#32
  let v33 : BitVec 1 := Scalar.cmpi .ne v32 c0_i32_15
  v33

def k0_cond14 (i : grid0.Coords) : BitVec 1 :=
  let arg0 : BitVec 32 := BitVec.ofNat 32 (i 0).val
  let c4_i32_0 : BitVec 32 := 4#32
  let v3 : BitVec 1 := Scalar.cmpi .sge arg0 c4_i32_0
  let v4 : BitVec 32 := Scalar.extui v3
  let c0_i32_1 : BitVec 32 := 0#32
  let v5 : BitVec 1 := Scalar.cmpi .ne v4 c0_i32_1
  v5

def k0_cond15 (i : grid0.Coords) : BitVec 1 :=
  let arg0 : BitVec 32 := BitVec.ofNat 32 (i 0).val
  let c4_i32_4 : BitVec 32 := 4#32
  let v12 : BitVec 1 := Scalar.cmpi .slt arg0 c4_i32_4
  let v13 : BitVec 32 := Scalar.extui v12
  let c0_i32_5 : BitVec 32 := 0#32
  let v14 : BitVec 1 := Scalar.cmpi .ne v13 c0_i32_5
  v14

def k0_cond16 (i : grid0.Coords) : BitVec 1 :=
  let arg0 : BitVec 32 := BitVec.ofNat 32 (i 0).val
  let c0_i32_13 : BitVec 32 := 0#32
  let v28 : BitVec 1 := Scalar.cmpi .eq arg0 c0_i32_13
  let v29 : BitVec 32 := Scalar.extui v28
  let c0_i32_14 : BitVec 32 := 0#32
  let v30 : BitVec 1 := Scalar.cmpi .ne v29 c0_i32_14
  v30

def k0_cond17 (i : grid0.Coords) : BitVec 1 :=
  let arg0 : BitVec 32 := BitVec.ofNat 32 (i 0).val
  let c0_i32_13 : BitVec 32 := 0#32
  let v28 : BitVec 1 := Scalar.cmpi .eq arg0 c0_i32_13
  let v_true : BitVec 1 := 1#1
  let v31 : BitVec 1 := Scalar.xori v28 v_true
  let v32 : BitVec 32 := Scalar.extui v31
  let c0_i32_15 : BitVec 32 := 0#32
  let v33 : BitVec 1 := Scalar.cmpi .ne v32 c0_i32_15
  v33

def k0_cond18 (i : grid0.Coords) : BitVec 1 :=
  let arg0 : BitVec 32 := BitVec.ofNat 32 (i 0).val
  let c4_i32_6 : BitVec 32 := 4#32
  let v15 : BitVec 1 := Scalar.cmpi .sge arg0 c4_i32_6
  let v16 : BitVec 32 := Scalar.extui v15
  let c0_i32_7 : BitVec 32 := 0#32
  let v17 : BitVec 1 := Scalar.cmpi .ne v16 c0_i32_7
  v17

def k0_cond19 (i : grid0.Coords) : BitVec 1 :=
  let arg0 : BitVec 32 := BitVec.ofNat 32 (i 0).val
  let c4_i32_13 : BitVec 32 := 4#32
  let v28 : BitVec 1 := Scalar.cmpi .eq arg0 c4_i32_13
  let v29 : BitVec 32 := Scalar.extui v28
  let c0_i32_14 : BitVec 32 := 0#32
  let v30 : BitVec 1 := Scalar.cmpi .ne v29 c0_i32_14
  v30

def k0_cond20 (i : grid0.Coords) : BitVec 1 :=
  let arg0 : BitVec 32 := BitVec.ofNat 32 (i 0).val
  let c4_i32_13 : BitVec 32 := 4#32
  let v28 : BitVec 1 := Scalar.cmpi .eq arg0 c4_i32_13
  let v_true : BitVec 1 := 1#1
  let v31 : BitVec 1 := Scalar.xori v28 v_true
  let v32 : BitVec 32 := Scalar.extui v31
  let c0_i32_15 : BitVec 32 := 0#32
  let v33 : BitVec 1 := Scalar.cmpi .ne v32 c0_i32_15
  v33

def k0_cond8 (i : grid0.Coords) : BitVec 1 :=
  let arg0 : BitVec 32 := BitVec.ofNat 32 (i 0).val
  let c4_i32_9 : BitVec 32 := 4#32
  let v22 : BitVec 1 := Scalar.cmpi .slt arg0 c4_i32_9
  let v23 : BitVec 32 := Scalar.extui v22
  let c0_i32_10 : BitVec 32 := 0#32
  let v24 : BitVec 1 := Scalar.cmpi .ne v23 c0_i32_10
  v24

def k0_cond9 (i : grid0.Coords) : BitVec 1 :=
  let arg0 : BitVec 32 := BitVec.ofNat 32 (i 0).val
  let c0_i32_13 : BitVec 32 := 0#32
  let v28 : BitVec 1 := Scalar.cmpi .eq arg0 c0_i32_13
  let v29 : BitVec 32 := Scalar.extui v28
  let c0_i32_14 : BitVec 32 := 0#32
  let v30 : BitVec 1 := Scalar.cmpi .ne v29 c0_i32_14
  v30

def k0_cond10 (i : grid0.Coords) : BitVec 1 :=
  let arg0 : BitVec 32 := BitVec.ofNat 32 (i 0).val
  let c0_i32_13 : BitVec 32 := 0#32
  let v28 : BitVec 1 := Scalar.cmpi .eq arg0 c0_i32_13
  let v_true : BitVec 1 := 1#1
  let v31 : BitVec 1 := Scalar.xori v28 v_true
  let v32 : BitVec 32 := Scalar.extui v31
  let c0_i32_15 : BitVec 32 := 0#32
  let v33 : BitVec 1 := Scalar.cmpi .ne v32 c0_i32_15
  v33

def k0_cond11 (i : grid0.Coords) : BitVec 1 :=
  let arg0 : BitVec 32 := BitVec.ofNat 32 (i 0).val
  let c4_i32_11 : BitVec 32 := 4#32
  let v25 : BitVec 1 := Scalar.cmpi .sge arg0 c4_i32_11
  let v26 : BitVec 32 := Scalar.extui v25
  let c0_i32_12 : BitVec 32 := 0#32
  let v27 : BitVec 1 := Scalar.cmpi .ne v26 c0_i32_12
  v27

def k0_cond12 (i : grid0.Coords) : BitVec 1 :=
  let arg0 : BitVec 32 := BitVec.ofNat 32 (i 0).val
  let c4_i32_13 : BitVec 32 := 4#32
  let v28 : BitVec 1 := Scalar.cmpi .eq arg0 c4_i32_13
  let v29 : BitVec 32 := Scalar.extui v28
  let c0_i32_14 : BitVec 32 := 0#32
  let v30 : BitVec 1 := Scalar.cmpi .ne v29 c0_i32_14
  v30

def k0_cond13 (i : grid0.Coords) : BitVec 1 :=
  let arg0 : BitVec 32 := BitVec.ofNat 32 (i 0).val
  let c4_i32_13 : BitVec 32 := 4#32
  let v28 : BitVec 1 := Scalar.cmpi .eq arg0 c4_i32_13
  let v_true : BitVec 1 := 1#1
  let v31 : BitVec 1 := Scalar.xori v28 v_true
  let v32 : BitVec 32 := Scalar.extui v31
  let c0_i32_15 : BitVec 32 := 0#32
  let v33 : BitVec 1 := Scalar.cmpi .ne v32 c0_i32_15
  v33

def k0_cond21 (i : grid0.Coords) : BitVec 1 :=
  let arg0 : BitVec 32 := BitVec.ofNat 32 (i 0).val
  let c4_i32_9 : BitVec 32 := 4#32
  let v22 : BitVec 1 := Scalar.cmpi .slt arg0 c4_i32_9
  let v23 : BitVec 32 := Scalar.extui v22
  let c0_i32_10 : BitVec 32 := 0#32
  let v24 : BitVec 1 := Scalar.cmpi .ne v23 c0_i32_10
  v24

def k0_cond22 (i : grid0.Coords) : BitVec 1 :=
  let arg0 : BitVec 32 := BitVec.ofNat 32 (i 0).val
  let c0_i32_13 : BitVec 32 := 0#32
  let v28 : BitVec 1 := Scalar.cmpi .eq arg0 c0_i32_13
  let v29 : BitVec 32 := Scalar.extui v28
  let c0_i32_14 : BitVec 32 := 0#32
  let v30 : BitVec 1 := Scalar.cmpi .ne v29 c0_i32_14
  v30

def k0_cond23 (i : grid0.Coords) : BitVec 1 :=
  let arg0 : BitVec 32 := BitVec.ofNat 32 (i 0).val
  let c0_i32_13 : BitVec 32 := 0#32
  let v28 : BitVec 1 := Scalar.cmpi .eq arg0 c0_i32_13
  let v_true : BitVec 1 := 1#1
  let v31 : BitVec 1 := Scalar.xori v28 v_true
  let v32 : BitVec 32 := Scalar.extui v31
  let c0_i32_15 : BitVec 32 := 0#32
  let v33 : BitVec 1 := Scalar.cmpi .ne v32 c0_i32_15
  v33

def k0_cond24 (i : grid0.Coords) : BitVec 1 :=
  let arg0 : BitVec 32 := BitVec.ofNat 32 (i 0).val
  let c4_i32_11 : BitVec 32 := 4#32
  let v25 : BitVec 1 := Scalar.cmpi .sge arg0 c4_i32_11
  let v26 : BitVec 32 := Scalar.extui v25
  let c0_i32_12 : BitVec 32 := 0#32
  let v27 : BitVec 1 := Scalar.cmpi .ne v26 c0_i32_12
  v27

def k0_cond25 (i : grid0.Coords) : BitVec 1 :=
  let arg0 : BitVec 32 := BitVec.ofNat 32 (i 0).val
  let c4_i32_13 : BitVec 32 := 4#32
  let v28 : BitVec 1 := Scalar.cmpi .eq arg0 c4_i32_13
  let v29 : BitVec 32 := Scalar.extui v28
  let c0_i32_14 : BitVec 32 := 0#32
  let v30 : BitVec 1 := Scalar.cmpi .ne v29 c0_i32_14
  v30

def k0_cond26 (i : grid0.Coords) : BitVec 1 :=
  let arg0 : BitVec 32 := BitVec.ofNat 32 (i 0).val
  let c4_i32_13 : BitVec 32 := 4#32
  let v28 : BitVec 1 := Scalar.cmpi .eq arg0 c4_i32_13
  let v_true : BitVec 1 := 1#1
  let v31 : BitVec 1 := Scalar.xori v28 v_true
  let v32 : BitVec 32 := Scalar.extui v31
  let c0_i32_15 : BitVec 32 := 0#32
  let v33 : BitVec 1 := Scalar.cmpi .ne v32 c0_i32_15
  v33

def cc0_transform_0 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference2Ideal.lean ====
abbrev S8x262144 : Shape := ⟨2, ![8, 262144]⟩
abbrev S8x131072 : Shape := ⟨2, ![8, 131072]⟩
abbrev S_ : Shape := ⟨0, ![]⟩
abbrev S1 : Shape := ⟨1, ![1]⟩
abbrev S2 : Shape := ⟨1, ![2]⟩
abbrev S1x2 : Shape := ⟨2, ![1, 2]⟩

abbrev nBuf : Space → Nat
  | .hbm => 18
  | .vmem => 0
  | .smem => 0
  | _ => 0

abbrev bufTy : (tb : Table) → Fin (tcTables nBuf tb) → BufTy
  | .hbm, ⟨0, _⟩ => ⟨S8x262144, .f32⟩
  | .hbm, ⟨1, _⟩ => ⟨S8x131072, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1, .f32⟩
  | .hbm, ⟨7, _⟩ => ⟨S1, .f32⟩
  | .hbm, ⟨8, _⟩ => ⟨S2, .f32⟩
  | .hbm, ⟨9, _⟩ => ⟨S1x2, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1, .f32⟩
  | .hbm, ⟨15, _⟩ => ⟨S1, .f32⟩
  | .hbm, ⟨16, _⟩ => ⟨S2, .f32⟩
  | .hbm, ⟨17, _⟩ => ⟨S1x2, .f32⟩
  | _, _ => ⟨S8x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel3.lean ====
abbrev S8x262144 : Shape := ⟨2, ![8, 262144]⟩
abbrev S8x131072 : Shape := ⟨2, ![8, 131072]⟩
abbrev S1x2 : Shape := ⟨2, ![1, 2]⟩
abbrev S8x1024x256 : Shape := ⟨3, ![8, 1024, 256]⟩
abbrev S8x512x256 : Shape := ⟨3, ![8, 512, 256]⟩
abbrev S8x256x256 : Shape := ⟨3, ![8, 256, 256]⟩
abbrev S1x1 : Shape := ⟨2, ![1, 1]⟩
abbrev S1x16x256 : Shape := ⟨3, ![1, 16, 256]⟩
abbrev S16x256 : Shape := ⟨2, ![16, 256]⟩
abbrev S1 : Shape := ⟨1, ![1]⟩
abbrev S1x1x1 : Shape := ⟨3, ![1, 1, 1]⟩

abbrev nBuf : Space → Nat
  | .hbm => 7
  | .vmem => 4
  | .smem => 3
  | _ => 0

abbrev bufTy : (tb : Table) → Fin (tcTables nBuf tb) → BufTy
  | .hbm, ⟨0, _⟩ => ⟨S8x262144, .f32⟩
  | .hbm, ⟨1, _⟩ => ⟨S8x131072, .f32⟩
  | .hbm, ⟨2, _⟩ => ⟨S1x2, .f32⟩
  | .hbm, ⟨3, _⟩ => ⟨S1x2, .f32⟩
  | .hbm, ⟨4, _⟩ => ⟨S8x1024x256, .f32⟩
  | .hbm, ⟨5, _⟩ => ⟨S8x512x256, .f32⟩
  | .hbm, ⟨6, _⟩ => ⟨S1x2, .f32⟩
  | .local _ .vmem, ⟨0, _⟩ => ⟨S8x256x256, .f32⟩
  | .local _ .vmem, ⟨1, _⟩ => ⟨S8x256x256, .f32⟩
  | .local _ .vmem, ⟨2, _⟩ => ⟨S8x256x256, .f32⟩
  | .local _ .vmem, ⟨3, _⟩ => ⟨S8x256x256, .f32⟩
  | .local _ .smem, ⟨0, _⟩ => ⟨S1x2, .f32⟩
  | .local _ .smem, ⟨1, _⟩ => ⟨S1x2, .f32⟩
  | .local _ .smem, ⟨2, _⟩ => ⟨S1x2, .f32⟩
  | _, _ => ⟨S8x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c4_i32_7 : BitVec 32 := 4#32
  let v10 : BitVec 1 := Scalar.cmpi .slt arg0 c4_i32_7
  let v11 : BitVec 32 := Scalar.extui v10
  let c0_i32 : BitVec 32 := 0#32
  let v12 : BitVec 1 := Scalar.cmpi .ne v11 c0_i32
  v12

@[reducible] def k0_t1_loop : Scf.Loop 32 :=
  let c0_i32_11 : BitVec 32 := 0#32
  let c16_i32 : BitVec 32 := 16#32
  let v16 : BitVec 32 := Scalar.addi c0_i32_11 c16_i32
  let c1_i32 : BitVec 32 := 1#32
  ⟨c0_i32_11, v16, c1_i32⟩
def k0_off1 (k0_t1 : Fin k0_t1_loop.trips) : Fin 3 → Nat :=
  let c0_18 : Index := 0#32
  let c0_i32_11 : BitVec 32 := 0#32
  let c1_i32 : BitVec 32 := 1#32
  let arg6 : BitVec 32 := Scf.iv c0_i32_11 c1_i32 k0_t1
  let c16_i32_17 : BitVec 32 := 16#32
  let v24 : BitVec 32 := Scalar.muli arg6 c16_i32_17
  let v25 : Index := Scalar.indexCast v24
  let c0_19 : Index := 0#32
  ![0, v25.toNat, 0]
def k0_off2 (k0_t1 : Fin k0_t1_loop.trips) : Fin 3 → Nat :=
  let c1_20 : Index := 1#32
  let c0_i32_11 : BitVec 32 := 0#32
  let c1_i32 : BitVec 32 := 1#32
  let arg6 : BitVec 32 := Scf.iv c0_i32_11 c1_i32 k0_t1
  let c16_i32_17 : BitVec 32 := 16#32
  let v24 : BitVec 32 := Scalar.muli arg6 c16_i32_17
  let v28 : Index := Scalar.indexCast v24
  let c0_21 : Index := 0#32
  ![1, v28.toNat, 0]
def k0_off3 (k0_t1 : Fin k0_t1_loop.trips) : Fin 3 → Nat :=
  let c2 : Index := 2#32
  let c0_i32_11 : BitVec 32 := 0#32
  let c1_i32 : BitVec 32 := 1#32
  let arg6 : BitVec 32 := Scf.iv c0_i32_11 c1_i32 k0_t1
  let c16_i32_17 : BitVec 32 := 16#32
  let v24 : BitVec 32 := Scalar.muli arg6 c16_i32_17
  let v31 : Index := Scalar.indexCast v24
  let c0_22 : Index := 0#32
  ![2, v31.toNat, 0]
def k0_off4 (k0_t1 : Fin k0_t1_loop.trips) : Fin 3 → Nat :=
  let c3 : Index := 3#32
  let c0_i32_11 : BitVec 32 := 0#32
  let c1_i32 : BitVec 32 := 1#32
  let arg6 : BitVec 32 := Scf.iv c0_i32_11 c1_i32 k0_t1
  let c16_i32_17 : BitVec 32 := 16#32
  let v24 : BitVec 32 := Scalar.muli arg6 c16_i32_17
  let v34 : Index := Scalar.indexCast v24
  let c0_23 : Index := 0#32
  ![3, v34.toNat, 0]
def k0_off5 (k0_t1 : Fin k0_t1_loop.trips) : Fin 3 → Nat :=
  let c4 : Index := 4#32
  let c0_i32_11 : BitVec 32 := 0#32
  let c1_i32 : BitVec 32 := 1#32
  let arg6 : BitVec 32 := Scf.iv c0_i32_11 c1_i32 k0_t1
  let c16_i32_17 : BitVec 32 := 16#32
  let v24 : BitVec 32 := Scalar.muli arg6 c16_i32_17
  let v37 : Index := Scalar.indexCast v24
  let c0_24 : Index := 0#32
  ![4, v37.toNat, 0]
def k0_off6 (k0_t1 : Fin k0_t1_loop.trips) : Fin 3 → Nat :=
  let c5 : Index := 5#32
  let c0_i32_11 : BitVec 32 := 0#32
  let c1_i32 : BitVec 32 := 1#32
  let arg6 : BitVec 32 := Scf.iv c0_i32_11 c1_i32 k0_t1
  let c16_i32_17 : BitVec 32 := 16#32
  let v24 : BitVec 32 := Scalar.muli arg6 c16_i32_17
  let v40 : Index := Scalar.indexCast v24
  let c0_25 : Index := 0#32
  ![5, v40.toNat, 0]
def k0_off7 (k0_t1 : Fin k0_t1_loop.trips) : Fin 3 → Nat :=
  let c6 : Index := 6#32
  let c0_i32_11 : BitVec 32 := 0#32
  let c1_i32 : BitVec 32 := 1#32
  let arg6 : BitVec 32 := Scf.iv c0_i32_11 c1_i32 k0_t1
  let c16_i32_17 : BitVec 32 := 16#32
  let v24 : BitVec 32 := Scalar.muli arg6 c16_i32_17
  let v43 : Index := Scalar.indexCast v24
  let c0_26 : Index := 0#32
  ![6, v43.toNat, 0]
def k0_off8 (k0_t1 : Fin k0_t1_loop.trips) : Fin 3 → Nat :=
  let c7 : Index := 7#32
  let c0_i32_11 : BitVec 32 := 0#32
  let c1_i32 : BitVec 32 := 1#32
  let arg6 : BitVec 32 := Scf.iv c0_i32_11 c1_i32 k0_t1
  let c16_i32_17 : BitVec 32 := 16#32
  let v24 : BitVec 32 := Scalar.muli arg6 c16_i32_17
  let v46 : Index := Scalar.indexCast v24
  let c0_27 : Index := 0#32
  ![7, v46.toNat, 0]
def k0_cond8 (i : grid0.Coords) : BitVec 1 :=
  let arg0 : BitVec 32 := BitVec.ofNat 32 (i 0).val
  let c4_i32_8 : BitVec 32 := 4#32
  let v13 : BitVec 1 := Scalar.cmpi .sge arg0 c4_i32_8
  let v14 : BitVec 32 := Scalar.extui v13
  let c0_i32_9 : BitVec 32 := 0#32
  let v15 : BitVec 1 := Scalar.cmpi .ne v14 c0_i32_9
  v15

@[reducible] def k0_t2_loop : Scf.Loop 32 :=
  let c0_i32_11 : BitVec 32 := 0#32
  let c16_i32 : BitVec 32 := 16#32
  let v16 : BitVec 32 := Scalar.addi c0_i32_11 c16_i32
  let c1_i32 : BitVec 32 := 1#32
  ⟨c0_i32_11, v16, c1_i32⟩
def k0_off9 (k0_t2 : Fin k0_t2_loop.trips) : Fin 3 → Nat :=
  let c0_18 : Index := 0#32
  let c0_i32_11 : BitVec 32 := 0#32
  let c1_i32 : BitVec 32 := 1#32
  let arg6 : BitVec 32 := Scf.iv c0_i32_11 c1_i32 k0_t2
  let c16_i32_17 : BitVec 32 := 16#32
  let v24 : BitVec 32 := Scalar.muli arg6 c16_i32_17
  let v25 : Index := Scalar.indexCast v24
  let c0_19 : Index := 0#32
  ![0, v25.toNat, 0]
def k0_off10 (k0_t2 : Fin k0_t2_loop.trips) : Fin 3 → Nat :=
  let c1_20 : Index := 1#32
  let c0_i32_11 : BitVec 32 := 0#32
  let c1_i32 : BitVec 32 := 1#32
  let arg6 : BitVec 32 := Scf.iv c0_i32_11 c1_i32 k0_t2
  let c16_i32_17 : BitVec 32 := 16#32
  let v24 : BitVec 32 := Scalar.muli arg6 c16_i32_17
  let v28 : Index := Scalar.indexCast v24
  let c0_21 : Index := 0#32
  ![1, v28.toNat, 0]
def k0_off11 (k0_t2 : Fin k0_t2_loop.trips) : Fin 3 → Nat :=
  let c2 : Index := 2#32
  let c0_i32_11 : BitVec 32 := 0#32
  let c1_i32 : BitVec 32 := 1#32
  let arg6 : BitVec 32 := Scf.iv c0_i32_11 c1_i32 k0_t2
  let c16_i32_17 : BitVec 32 := 16#32
  let v24 : BitVec 32 := Scalar.muli arg6 c16_i32_17
  let v31 : Index := Scalar.indexCast v24
  let c0_22 : Index := 0#32
  ![2, v31.toNat, 0]
def k0_off12 (k0_t2 : Fin k0_t2_loop.trips) : Fin 3 → Nat :=
  let c3 : Index := 3#32
  let c0_i32_11 : BitVec 32 := 0#32
  let c1_i32 : BitVec 32 := 1#32
  let arg6 : BitVec 32 := Scf.iv c0_i32_11 c1_i32 k0_t2
  let c16_i32_17 : BitVec 32 := 16#32
  let v24 : BitVec 32 := Scalar.muli arg6 c16_i32_17
  let v34 : Index := Scalar.indexCast v24
  let c0_23 : Index := 0#32
  ![3, v34.toNat, 0]
def k0_off13 (k0_t2 : Fin k0_t2_loop.trips) : Fin 3 → Nat :=
  let c4 : Index := 4#32
  let c0_i32_11 : BitVec 32 := 0#32
  let c1_i32 : BitVec 32 := 1#32
  let arg6 : BitVec 32 := Scf.iv c0_i32_11 c1_i32 k0_t2
  let c16_i32_17 : BitVec 32 := 16#32
  let v24 : BitVec 32 := Scalar.muli arg6 c16_i32_17
  let v37 : Index := Scalar.indexCast v24
  let c0_24 : Index := 0#32
  ![4, v37.toNat, 0]
def k0_off14 (k0_t2 : Fin k0_t2_loop.trips) : Fin 3 → Nat :=
  let c5 : Index := 5#32
  let c0_i32_11 : BitVec 32 := 0#32
  let c1_i32 : BitVec 32 := 1#32
  let arg6 : BitVec 32 := Scf.iv c0_i32_11 c1_i32 k0_t2
  let c16_i32_17 : BitVec 32 := 16#32
  let v24 : BitVec 32 := Scalar.muli arg6 c16_i32_17
  let v40 : Index := Scalar.indexCast v24
  let c0_25 : Index := 0#32
  ![5, v40.toNat, 0]
def k0_off15 (k0_t2 : Fin k0_t2_loop.trips) : Fin 3 → Nat :=
  let c6 : Index := 6#32
  let c0_i32_11 : BitVec 32 := 0#32
  let c1_i32 : BitVec 32 := 1#32
  let arg6 : BitVec 32 := Scf.iv c0_i32_11 c1_i32 k0_t2
  let c16_i32_17 : BitVec 32 := 16#32
  let v24 : BitVec 32 := Scalar.muli arg6 c16_i32_17
  let v43 : Index := Scalar.indexCast v24
  let c0_26 : Index := 0#32
  ![6, v43.toNat, 0]
def k0_off16 (k0_t2 : Fin k0_t2_loop.trips) : Fin 3 → Nat :=
  let c7 : Index := 7#32
  let c0_i32_11 : BitVec 32 := 0#32
  let c1_i32 : BitVec 32 := 1#32
  let arg6 : BitVec 32 := Scf.iv c0_i32_11 c1_i32 k0_t2
  let c16_i32_17 : BitVec 32 := 16#32
  let v24 : BitVec 32 := Scalar.muli arg6 c16_i32_17
  let v46 : Index := Scalar.indexCast v24
  let c0_27 : Index := 0#32
  ![7, v46.toNat, 0]
def k0_cond2 (i : grid0.Coords) : BitVec 1 :=
  let arg0 : BitVec 32 := BitVec.ofNat 32 (i 0).val
  let c4_i32_13 : BitVec 32 := 4#32
  let v18 : BitVec 1 := Scalar.cmpi .slt arg0 c4_i32_13
  let v19 : BitVec 32 := Scalar.extui v18
  let c0_i32_14 : BitVec 32 := 0#32
  let v20 : BitVec 1 := Scalar.cmpi .ne v19 c0_i32_14
  v20

def k0_cond3 (i : grid0.Coords) : BitVec 1 :=
  let arg0 : BitVec 32 := BitVec.ofNat 32 (i 0).val
  let c0_i32_17 : BitVec 32 := 0#32
  let v24 : BitVec 1 := Scalar.cmpi .eq arg0 c0_i32_17
  let v25 : BitVec 32 := Scalar.extui v24
  let c0_i32_18 : BitVec 32 := 0#32
  let v26 : BitVec 1 := Scalar.cmpi .ne v25 c0_i32_18
  v26

def k0_cond4 (i : grid0.Coords) : BitVec 1 :=
  let arg0 : BitVec 32 := BitVec.ofNat 32 (i 0).val
  let c0_i32_17 : BitVec 32 := 0#32
  let v24 : BitVec 1 := Scalar.cmpi .eq arg0 c0_i32_17
  let v_true : BitVec 1 := 1#1
  let v27 : BitVec 1 := Scalar.xori v24 v_true
  let v28 : BitVec 32 := Scalar.extui v27
  let c0_i32_19 : BitVec 32 := 0#32
  let v29 : BitVec 1 := Scalar.cmpi .ne v28 c0_i32_19
  v29

def k0_cond5 (i : grid0.Coords) : BitVec 1 :=
  let arg0 : BitVec 32 := BitVec.ofNat 32 (i 0).val
  let c4_i32_15 : BitVec 32 := 4#32
  let v21 : BitVec 1 := Scalar.cmpi .sge arg0 c4_i32_15
  let v22 : BitVec 32 := Scalar.extui v21
  let c0_i32_16 : BitVec 32 := 0#32
  let v23 : BitVec 1 := Scalar.cmpi .ne v22 c0_i32_16
  v23

def k0_cond6 (i : grid0.Coords) : BitVec 1 :=
  let arg0 : BitVec 32 := BitVec.ofNat 32 (i 0).val
  let c4_i32_17 : BitVec 32 := 4#32
  let v24 : BitVec 1 := Scalar.cmpi .eq arg0 c4_i32_17
  let v25 : BitVec 32 := Scalar.extui v24
  let c0_i32_18 : BitVec 32 := 0#32
  let v26 : BitVec 1 := Scalar.cmpi .ne v25 c0_i32_18
  v26

def k0_cond7 (i : grid0.Coords) : BitVec 1 :=
  let arg0 : BitVec 32 := BitVec.ofNat 32 (i 0).val
  let c4_i32_17 : BitVec 32 := 4#32
  let v24 : BitVec 1 := Scalar.cmpi .eq arg0 c4_i32_17
  let v_true : BitVec 1 := 1#1
  let v27 : BitVec 1 := Scalar.xori v24 v_true
  let v28 : BitVec 32 := Scalar.extui v27
  let c0_i32_19 : BitVec 32 := 0#32
  let v29 : BitVec 1 := Scalar.cmpi .ne v28 c0_i32_19
  v29

def k0_cond9 (i : grid0.Coords) : BitVec 1 :=
  let arg0 : BitVec 32 := BitVec.ofNat 32 (i 0).val
  let c4_i32_13 : BitVec 32 := 4#32
  let v18 : BitVec 1 := Scalar.cmpi .slt arg0 c4_i32_13
  let v19 : BitVec 32 := Scalar.extui v18
  let c0_i32_14 : BitVec 32 := 0#32
  let v20 : BitVec 1 := Scalar.cmpi .ne v19 c0_i32_14
  v20

def k0_cond10 (i : grid0.Coords) : BitVec 1 :=
  let arg0 : BitVec 32 := BitVec.ofNat 32 (i 0).val
  let c0_i32_17 : BitVec 32 := 0#32
  let v24 : BitVec 1 := Scalar.cmpi .eq arg0 c0_i32_17
  let v25 : BitVec 32 := Scalar.extui v24
  let c0_i32_18 : BitVec 32 := 0#32
  let v26 : BitVec 1 := Scalar.cmpi .ne v25 c0_i32_18
  v26

def k0_cond11 (i : grid0.Coords) : BitVec 1 :=
  let arg0 : BitVec 32 := BitVec.ofNat 32 (i 0).val
  let c0_i32_17 : BitVec 32 := 0#32
  let v24 : BitVec 1 := Scalar.cmpi .eq arg0 c0_i32_17
  let v_true : BitVec 1 := 1#1
  let v27 : BitVec 1 := Scalar.xori v24 v_true
  let v28 : BitVec 32 := Scalar.extui v27
  let c0_i32_19 : BitVec 32 := 0#32
  let v29 : BitVec 1 := Scalar.cmpi .ne v28 c0_i32_19
  v29

def k0_cond12 (i : grid0.Coords) : BitVec 1 :=
  let arg0 : BitVec 32 := BitVec.ofNat 32 (i 0).val
  let c4_i32_15 : BitVec 32 := 4#32
  let v21 : BitVec 1 := Scalar.cmpi .sge arg0 c4_i32_15
  let v22 : BitVec 32 := Scalar.extui v21
  let c0_i32_16 : BitVec 32 := 0#32
  let v23 : BitVec 1 := Scalar.cmpi .ne v22 c0_i32_16
  v23

def k0_cond13 (i : grid0.Coords) : BitVec 1 :=
  let arg0 : BitVec 32 := BitVec.ofNat 32 (i 0).val
  let c4_i32_17 : BitVec 32 := 4#32
  let v24 : BitVec 1 := Scalar.cmpi .eq arg0 c4_i32_17
  let v25 : BitVec 32 := Scalar.extui v24
  let c0_i32_18 : BitVec 32 := 0#32
  let v26 : BitVec 1 := Scalar.cmpi .ne v25 c0_i32_18
  v26

def k0_cond14 (i : grid0.Coords) : BitVec 1 :=
  let arg0 : BitVec 32 := BitVec.ofNat 32 (i 0).val
  let c4_i32_17 : BitVec 32 := 4#32
  let v24 : BitVec 1 := Scalar.cmpi .eq arg0 c4_i32_17
  let v_true : BitVec 1 := 1#1
  let v27 : BitVec 1 := Scalar.xori v24 v_true
  let v28 : BitVec 32 := Scalar.extui v27
  let c0_i32_19 : BitVec 32 := 0#32
  let v29 : BitVec 1 := Scalar.cmpi .ne v28 c0_i32_19
  v29

def cc0_transform_0 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference3Ideal.lean ====
abbrev S8x262144 : Shape := ⟨2, ![8, 262144]⟩
abbrev S8x131072 : Shape := ⟨2, ![8, 131072]⟩
abbrev S1x2 : Shape := ⟨2, ![1, 2]⟩
abbrev S1x1 : Shape := ⟨2, ![1, 1]⟩
abbrev S_ : Shape := ⟨0, ![]⟩
abbrev S7x262144 : Shape := ⟨2, ![7, 262144]⟩
abbrev S7x131072 : Shape := ⟨2, ![7, 131072]⟩
abbrev S1 : Shape := ⟨1, ![1]⟩
abbrev S2 : Shape := ⟨1, ![2]⟩

abbrev nBuf : Space → Nat
  | .hbm => 46
  | .vmem => 0
  | .smem => 0
  | _ => 0

abbrev bufTy : (tb : Table) → Fin (tcTables nBuf tb) → BufTy
  | .hbm, ⟨0, _⟩ => ⟨S8x262144, .f32⟩
  | .hbm, ⟨1, _⟩ => ⟨S8x131072, .f32⟩
  | .hbm, ⟨2, _⟩ => ⟨S1x2, .f32⟩
  | .hbm, ⟨3, _⟩ => ⟨S1x2, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x262144, .f32⟩
  | .hbm, ⟨12, _⟩ => ⟨S8x262144, .f32⟩
  | .hbm, ⟨13, _⟩ => ⟨S8x262144, .f32⟩
  | .hbm, ⟨14, _⟩ => ⟨S8x262144, .f32⟩
  | .hbm, ⟨15, _⟩ => ⟨S8x262144, .f32⟩
  | .hbm, ⟨16, _⟩ => ⟨S8x262144, .f32⟩
  | .hbm, ⟨17, _⟩ => ⟨S8x262144, .f32⟩
  | .hbm, ⟨18, _⟩ => ⟨S7x262144, .f32⟩
  | .hbm, ⟨19, _⟩ => ⟨S7x262144, .f32⟩
  | .hbm, ⟨20, _⟩ => ⟨S7x262144, .f32⟩
  | .hbm, ⟨21, _⟩ => ⟨S_, .f32⟩
  | .hbm, ⟨22, _⟩ => ⟨S_, .f32⟩
  | .hbm, ⟨23, _⟩ => ⟨S1x1, .f32⟩
  | .hbm, ⟨24, _⟩ => ⟨S_, .f32⟩
  | .hbm, ⟨25, _⟩ => ⟨S1x1, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8x131072, .f32⟩
  | .hbm, ⟨31, _⟩ => ⟨S8x131072, .f32⟩
  | .hbm, ⟨32, _⟩ => ⟨S8x131072, .f32⟩
  | .hbm, ⟨33, _⟩ => ⟨S8x131072, .f32⟩
  | .hbm, ⟨34, _⟩ => ⟨S8x131072, .f32⟩
  | .hbm, ⟨35, _⟩ => ⟨S8x131072, .f32⟩
  | .hbm, ⟨36, _⟩ => ⟨S8x131072, .f32⟩
  | .hbm, ⟨37, _⟩ => ⟨S7x131072, .f32⟩
  | .hbm, ⟨38, _⟩ => ⟨S7x131072, .f32⟩
  | .hbm, ⟨39, _⟩ => ⟨S7x131072, .f32⟩
  | .hbm, ⟨40, _⟩ => ⟨S_, .f32⟩
  | .hbm, ⟨41, _⟩ => ⟨S_, .f32⟩
  | .hbm, ⟨42, _⟩ => ⟨S1, .f32⟩
  | .hbm, ⟨43, _⟩ => ⟨S1, .f32⟩
  | .hbm, ⟨44, _⟩ => ⟨S2, .f32⟩
  | .hbm, ⟨45, _⟩ => ⟨S1x2, .f32⟩
  | _, _ => ⟨S8x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩

abbrev nD : Nat := 1
abbrev τ : Topo := Topo.v7x

variable {F : FTy → Type} [FloatOps F]
-- ==== Kernel4.lean ====
abbrev S8x262144 : Shape := ⟨2, ![8, 262144]⟩
abbrev S8x131072 : Shape := ⟨2, ![8, 131072]⟩
abbrev S8x1536x256 : Shape := ⟨3, ![8, 1536, 256]⟩
abbrev S1x2 : Shape := ⟨2, ![1, 2]⟩
abbrev S1536x256 : Shape := ⟨2, ![1536, 256]⟩
abbrev S8x1024x256 : Shape := ⟨3, ![8, 1024, 256]⟩
abbrev S8x512x256 : Shape := ⟨3, ![8, 512, 256]⟩
abbrev S8x256x256 : Shape := ⟨3, ![8, 256, 256]⟩
abbrev S256x256 : Shape := ⟨2, ![256, 256]⟩
abbrev S1x1 : Shape := ⟨2, ![1, 1]⟩
abbrev S1x16x256 : Shape := ⟨3, ![1, 16, 256]⟩
abbrev S16x256 : Shape := ⟨2, ![16, 256]⟩

abbrev nBuf : Space → Nat
  | .hbm => 10
  | .vmem => 10
  | .smem => 3
  | _ => 0

abbrev bufTy : (tb : Table) → Fin (tcTables nBuf tb) → BufTy
  | .hbm, ⟨0, _⟩ => ⟨S8x262144, .f32⟩
  | .hbm, ⟨1, _⟩ => ⟨S8x131072, .f32⟩
  | .hbm, ⟨2, _⟩ => ⟨S8x1536x256, .f32⟩
  | .hbm, ⟨3, _⟩ => ⟨S1x2, .f32⟩
  | .hbm, ⟨4, _⟩ => ⟨S1x2, .f32⟩
  | .hbm, ⟨5, _⟩ => ⟨S1x2, .f32⟩
  | .hbm, ⟨6, _⟩ => ⟨S1536x256, .f32⟩
  | .hbm, ⟨7, _⟩ => ⟨S8x1024x256, .f32⟩
  | .hbm, ⟨8, _⟩ => ⟨S8x512x256, .f32⟩
  | .hbm, ⟨9, _⟩ => ⟨S8x1536x256, .bf16⟩
  | .local _ .vmem, ⟨0, _⟩ => ⟨S8x256x256, .f32⟩
  | .local _ .vmem, ⟨1, _⟩ => ⟨S8x256x256, .f32⟩
  | .local _ .vmem, ⟨2, _⟩ => ⟨S8x256x256, .f32⟩
  | .local _ .vmem, ⟨3, _⟩ => ⟨S8x256x256, .f32⟩
  | .local _ .vmem, ⟨4, _⟩ => ⟨S8x256x256, .f32⟩
  | .local _ .vmem, ⟨5, _⟩ => ⟨S8x256x256, .f32⟩
  | .local _ .vmem, ⟨6, _⟩ => ⟨S256x256, .f32⟩
  | .local _ .vmem, ⟨7, _⟩ => ⟨S256x256, .f32⟩
  | .local _ .vmem, ⟨8, _⟩ => ⟨S8x256x256, .bf16⟩
  | .local _ .vmem, ⟨9, _⟩ => ⟨S8x256x256, .bf16⟩
  | .local _ .smem, ⟨0, _⟩ => ⟨S1x2, .f32⟩
  | .local _ .smem, ⟨1, _⟩ => ⟨S1x2, .f32⟩
  | .local _ .smem, ⟨2, _⟩ => ⟨S1x2, .f32⟩
  | _, _ => ⟨S8x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg3_0 : Ref sig .tc := ⟨.smem, 0, rfl⟩
abbrev cc0_stg4_0 : Ref sig .tc := ⟨.smem, 1, rfl⟩
abbrev cc0_stg5_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c4_i32_14 : BitVec 32 := 4#32
  let v16 : BitVec 1 := Scalar.cmpi .slt arg0 c4_i32_14
  let v17 : BitVec 32 := Scalar.extui v16
  let c0_i32 : BitVec 32 := 0#32
  let v18 : BitVec 1 := Scalar.cmpi .ne v17 c0_i32
  v18

@[reducible] def k0_t1_loop : Scf.Loop 32 :=
  let c0_i32_17 : BitVec 32 := 0#32
  let c16_i32 : BitVec 32 := 16#32
  let v22 : BitVec 32 := Scalar.addi c0_i32_17 c16_i32
  let c1_i32 : BitVec 32 := 1#32
  ⟨c0_i32_17, v22, c1_i32⟩
def k0_off1 (k0_t1 : Fin k0_t1_loop.trips) : Fin 3 → Nat :=
  let c0_20 : Index := 0#32
  let c0_i32_17 : BitVec 32 := 0#32
  let c1_i32 : BitVec 32 := 1#32
  let arg9 : BitVec 32 := Scf.iv c0_i32_17 c1_i32 k0_t1
  let c16_i32_19 : BitVec 32 := 16#32
  let v23 : BitVec 32 := Scalar.muli arg9 c16_i32_19
  let v24 : Index := Scalar.indexCast v23
  let c0_21 : Index := 0#32
  ![0, v24.toNat, 0]
def k0_off2 (k0_t1 : Fin k0_t1_loop.trips) : Fin 3 → Nat :=
  let c1_22 : Index := 1#32
  let c0_i32_17 : BitVec 32 := 0#32
  let c1_i32 : BitVec 32 := 1#32
  let arg9 : BitVec 32 := Scf.iv c0_i32_17 c1_i32 k0_t1
  let c16_i32_19 : BitVec 32 := 16#32
  let v23 : BitVec 32 := Scalar.muli arg9 c16_i32_19
  let v27 : Index := Scalar.indexCast v23
  let c0_23 : Index := 0#32
  ![1, v27.toNat, 0]
def k0_off3 (k0_t1 : Fin k0_t1_loop.trips) : Fin 3 → Nat :=
  let c2 : Index := 2#32
  let c0_i32_17 : BitVec 32 := 0#32
  let c1_i32 : BitVec 32 := 1#32
  let arg9 : BitVec 32 := Scf.iv c0_i32_17 c1_i32 k0_t1
  let c16_i32_19 : BitVec 32 := 16#32
  let v23 : BitVec 32 := Scalar.muli arg9 c16_i32_19
  let v30 : Index := Scalar.indexCast v23
  let c0_24 : Index := 0#32
  ![2, v30.toNat, 0]
def k0_off4 (k0_t1 : Fin k0_t1_loop.trips) : Fin 3 → Nat :=
  let c3 : Index := 3#32
  let c0_i32_17 : BitVec 32 := 0#32
  let c1_i32 : BitVec 32 := 1#32
  let arg9 : BitVec 32 := Scf.iv c0_i32_17 c1_i32 k0_t1
  let c16_i32_19 : BitVec 32 := 16#32
  let v23 : BitVec 32 := Scalar.muli arg9 c16_i32_19
  let v33 : Index := Scalar.indexCast v23
  let c0_25 : Index := 0#32
  ![3, v33.toNat, 0]
def k0_off5 (k0_t1 : Fin k0_t1_loop.trips) : Fin 3 → Nat :=
  let c4 : Index := 4#32
  let c0_i32_17 : BitVec 32 := 0#32
  let c1_i32 : BitVec 32 := 1#32
  let arg9 : BitVec 32 := Scf.iv c0_i32_17 c1_i32 k0_t1
  let c16_i32_19 : BitVec 32 := 16#32
  let v23 : BitVec 32 := Scalar.muli arg9 c16_i32_19
  let v36 : Index := Scalar.indexCast v23
  let c0_26 : Index := 0#32
  ![4, v36.toNat, 0]
def k0_off6 (k0_t1 : Fin k0_t1_loop.trips) : Fin 3 → Nat :=
  let c5 : Index := 5#32
  let c0_i32_17 : BitVec 32 := 0#32
  let c1_i32 : BitVec 32 := 1#32
  let arg9 : BitVec 32 := Scf.iv c0_i32_17 c1_i32 k0_t1
  let c16_i32_19 : BitVec 32 := 16#32
  let v23 : BitVec 32 := Scalar.muli arg9 c16_i32_19
  let v39 : Index := Scalar.indexCast v23
  let c0_27 : Index := 0#32
  ![5, v39.toNat, 0]
def k0_off7 (k0_t1 : Fin k0_t1_loop.trips) : Fin 3 → Nat :=
  let c6 : Index := 6#32
  let c0_i32_17 : BitVec 32 := 0#32
  let c1_i32 : BitVec 32 := 1#32
  let arg9 : BitVec 32 := Scf.iv c0_i32_17 c1_i32 k0_t1
  let c16_i32_19 : BitVec 32 := 16#32
  let v23 : BitVec 32 := Scalar.muli arg9 c16_i32_19
  let v42 : Index := Scalar.indexCast v23
  let c0_28 : Index := 0#32
  ![6, v42.toNat, 0]
def k0_off8 (k0_t1 : Fin k0_t1_loop.trips) : Fin 3 → Nat :=
  let c7 : Index := 7#32
  let c0_i32_17 : BitVec 32 := 0#32
  let c1_i32 : BitVec 32 := 1#32
  let arg9 : BitVec 32 := Scf.iv c0_i32_17 c1_i32 k0_t1
  let c16_i32_19 : BitVec 32 := 16#32
  let v23 : BitVec 32 := Scalar.muli arg9 c16_i32_19
  let v45 : Index := Scalar.indexCast v23
  let c0_29 : Index := 0#32
  ![7, v45.toNat, 0]
def k0_off9 (k0_t1 : Fin k0_t1_loop.trips) : Fin 2 → Nat :=
  let c0_i32_17 : BitVec 32 := 0#32
  let c1_i32 : BitVec 32 := 1#32
  let arg9 : BitVec 32 := Scf.iv c0_i32_17 c1_i32 k0_t1
  let c16_i32_19 : BitVec 32 := 16#32
  let v23 : BitVec 32 := Scalar.muli arg9 c16_i32_19
  let v80 : Index := Scalar.indexCast v23
  let c0_46 : Index := 0#32
  ![v80.toNat, 0]
def k0_cond2 (i : grid0.Coords) : BitVec 1 :=
  let arg0 : BitVec 32 := BitVec.ofNat 32 (i 0).val
  let c4_i32_15 : BitVec 32 := 4#32
  let v19 : BitVec 1 := Scalar.cmpi .sge arg0 c4_i32_15
  let v20 : BitVec 32 := Scalar.extui v19
  let c0_i32_16 : BitVec 32 := 0#32
  let v21 : BitVec 1 := Scalar.cmpi .ne v20 c0_i32_16
  v21

@[reducible] def k0_t2_loop : Scf.Loop 32 :=
  let c0_i32_17 : BitVec 32 := 0#32
  let c16_i32 : BitVec 32 := 16#32
  let v22 : BitVec 32 := Scalar.addi c0_i32_17 c16_i32
  let c1_i32 : BitVec 32 := 1#32
  ⟨c0_i32_17, v22, c1_i32⟩
def k0_off10 (k0_t2 : Fin k0_t2_loop.trips) : Fin 3 → Nat :=
  let c0_20 : Index := 0#32
  let c0_i32_17 : BitVec 32 := 0#32
  let c1_i32 : BitVec 32 := 1#32
  let arg9 : BitVec 32 := Scf.iv c0_i32_17 c1_i32 k0_t2
  let c16_i32_19 : BitVec 32 := 16#32
  let v23 : BitVec 32 := Scalar.muli arg9 c16_i32_19
  let v24 : Index := Scalar.indexCast v23
  let c0_21 : Index := 0#32
  ![0, v24.toNat, 0]
def k0_off11 (k0_t2 : Fin k0_t2_loop.trips) : Fin 3 → Nat :=
  let c1_22 : Index := 1#32
  let c0_i32_17 : BitVec 32 := 0#32
  let c1_i32 : BitVec 32 := 1#32
  let arg9 : BitVec 32 := Scf.iv c0_i32_17 c1_i32 k0_t2
  let c16_i32_19 : BitVec 32 := 16#32
  let v23 : BitVec 32 := Scalar.muli arg9 c16_i32_19
  let v27 : Index := Scalar.indexCast v23
  let c0_23 : Index := 0#32
  ![1, v27.toNat, 0]
def k0_off12 (k0_t2 : Fin k0_t2_loop.trips) : Fin 3 → Nat :=
  let c2 : Index := 2#32
  let c0_i32_17 : BitVec 32 := 0#32
  let c1_i32 : BitVec 32 := 1#32
  let arg9 : BitVec 32 := Scf.iv c0_i32_17 c1_i32 k0_t2
  let c16_i32_19 : BitVec 32 := 16#32
  let v23 : BitVec 32 := Scalar.muli arg9 c16_i32_19
  let v30 : Index := Scalar.indexCast v23
  let c0_24 : Index := 0#32
  ![2, v30.toNat, 0]
def k0_off13 (k0_t2 : Fin k0_t2_loop.trips) : Fin 3 → Nat :=
  let c3 : Index := 3#32
  let c0_i32_17 : BitVec 32 := 0#32
  let c1_i32 : BitVec 32 := 1#32
  let arg9 : BitVec 32 := Scf.iv c0_i32_17 c1_i32 k0_t2
  let c16_i32_19 : BitVec 32 := 16#32
  let v23 : BitVec 32 := Scalar.muli arg9 c16_i32_19
  let v33 : Index := Scalar.indexCast v23
  let c0_25 : Index := 0#32
  ![3, v33.toNat, 0]
def k0_off14 (k0_t2 : Fin k0_t2_loop.trips) : Fin 3 → Nat :=
  let c4 : Index := 4#32
  let c0_i32_17 : BitVec 32 := 0#32
  let c1_i32 : BitVec 32 := 1#32
  let arg9 : BitVec 32 := Scf.iv c0_i32_17 c1_i32 k0_t2
  let c16_i32_19 : BitVec 32 := 16#32
  let v23 : BitVec 32 := Scalar.muli arg9 c16_i32_19
  let v36 : Index := Scalar.indexCast v23
  let c0_26 : Index := 0#32
  ![4, v36.toNat, 0]
def k0_off15 (k0_t2 : Fin k0_t2_loop.trips) : Fin 3 → Nat :=
  let c5 : Index := 5#32
  let c0_i32_17 : BitVec 32 := 0#32
  let c1_i32 : BitVec 32 := 1#32
  let arg9 : BitVec 32 := Scf.iv c0_i32_17 c1_i32 k0_t2
  let c16_i32_19 : BitVec 32 := 16#32
  let v23 : BitVec 32 := Scalar.muli arg9 c16_i32_19
  let v39 : Index := Scalar.indexCast v23
  let c0_27 : Index := 0#32
  ![5, v39.toNat, 0]
def k0_off16 (k0_t2 : Fin k0_t2_loop.trips) : Fin 3 → Nat :=
  let c6 : Index := 6#32
  let c0_i32_17 : BitVec 32 := 0#32
  let c1_i32 : BitVec 32 := 1#32
  let arg9 : BitVec 32 := Scf.iv c0_i32_17 c1_i32 k0_t2
  let c16_i32_19 : BitVec 32 := 16#32
  let v23 : BitVec 32 := Scalar.muli arg9 c16_i32_19
  let v42 : Index := Scalar.indexCast v23
  let c0_28 : Index := 0#32
  ![6, v42.toNat, 0]
def k0_off17 (k0_t2 : Fin k0_t2_loop.trips) : Fin 3 → Nat :=
  let c7 : Index := 7#32
  let c0_i32_17 : BitVec 32 := 0#32
  let c1_i32 : BitVec 32 := 1#32
  let arg9 : BitVec 32 := Scf.iv c0_i32_17 c1_i32 k0_t2
  let c16_i32_19 : BitVec 32 := 16#32
  let v23 : BitVec 32 := Scalar.muli arg9 c16_i32_19
  let v45 : Index := Scalar.indexCast v23
  let c0_29 : Index := 0#32
  ![7, v45.toNat, 0]
def k0_off18 (k0_t2 : Fin k0_t2_loop.trips) : Fin 2 → Nat :=
  let c0_i32_17 : BitVec 32 := 0#32
  let c1_i32 : BitVec 32 := 1#32
  let arg9 : BitVec 32 := Scf.iv c0_i32_17 c1_i32 k0_t2
  let c16_i32_19 : BitVec 32 := 16#32
  let v23 : BitVec 32 := Scalar.muli arg9 c16_i32_19
  let v80 : Index := Scalar.indexCast v23
  let c0_46 : Index := 0#32
  ![v80.toNat, 0]
def cc0_transform_0 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel4Ideal.lean ====
variable {F : FTy → Type} [FloatOps F] [Named F]
def κ : String → Option EReal := fun
  | "cut" => some ((-((18 / 25) * (Real.log 2)) : ℝ) : EReal)
  | _ => none
-- ==== Reference4Ideal.lean ====
abbrev S8x262144 : Shape := ⟨2, ![8, 262144]⟩
abbrev S8x131072 : Shape := ⟨2, ![8, 131072]⟩
abbrev S8x1536x256 : Shape := ⟨3, ![8, 1536, 256]⟩
abbrev S1x2 : Shape := ⟨2, ![1, 2]⟩
abbrev S1536x256 : Shape := ⟨2, ![1536, 256]⟩
abbrev S_ : Shape := ⟨0, ![]⟩
abbrev S8x1024x256 : Shape := ⟨3, ![8, 1024, 256]⟩
abbrev S1x1 : Shape := ⟨2, ![1, 1]⟩
abbrev S1024x256 : Shape := ⟨2, ![1024, 256]⟩
abbrev S262144 : Shape := ⟨1, ![262144]⟩
abbrev S7x262144 : Shape := ⟨2, ![7, 262144]⟩
abbrev S1x262144 : Shape := ⟨2, ![1, 262144]⟩
abbrev S8x512x256 : Shape := ⟨3, ![8, 512, 256]⟩
abbrev S512x256 : Shape := ⟨2, ![512, 256]⟩
abbrev S131072 : Shape := ⟨1, ![131072]⟩
abbrev S7x131072 : Shape := ⟨2, ![7, 131072]⟩
abbrev S1x131072 : Shape := ⟨2, ![1, 131072]⟩

abbrev nBuf : Space → Nat
  | .hbm => 387
  | .vmem => 0
  | .smem => 0
  | _ => 0

abbrev hbmTy0_0 (i : Nat) : BufTy := match i % 128 with
  | 0 => ⟨S8x262144, .f32⟩
  | 1 => ⟨S8x131072, .f32⟩
  | 2 => ⟨S8x1536x256, .f32⟩
  | 3 => ⟨S1x2, .f32⟩
  | 4 => ⟨S1x2, .f32⟩
  | 5 => ⟨S1x2, .f32⟩
  | 6 => ⟨S1536x256, .f32⟩
  | 7 => ⟨S1x2, .f32⟩
  | 8 => ⟨S_, .f32⟩
  | 9 => ⟨S1x2, .f32⟩
  | 10 => ⟨S1x2, .f32⟩
  | 11 => ⟨S_, .f32⟩
  | 12 => ⟨S1x2, .f32⟩
  | 13 => ⟨S1x2, .f32⟩
  | 14 => ⟨S_, .f32⟩
  | 15 => ⟨S1x2, .f32⟩
  | 16 => ⟨S1x2, .f32⟩
  | 17 => ⟨S8x1024x256, .f32⟩
  | 18 => ⟨S8x262144, .f32⟩
  | 19 => ⟨S1x1, .f32⟩
  | 20 => ⟨S_, .f32⟩
  | 21 => ⟨S1x1, .f32⟩
  | 22 => ⟨S_, .f32⟩
  | 23 => ⟨S1024x256, .f32⟩
  | 24 => ⟨S262144, .f32⟩
  | 25 => ⟨S8x262144, .f32⟩
  | 26 => ⟨S8x262144, .i32⟩
  | 27 => ⟨S8x262144, .f32⟩
  | 28 => ⟨S8x262144, .i32⟩
  | 29 => ⟨S7x262144, .f32⟩
  | 30 => ⟨S7x262144, .f32⟩
  | 31 => ⟨S7x262144, .f32⟩
  | 32 => ⟨S7x262144, .f32⟩
  | 33 => ⟨S7x262144, .f32⟩
  | 34 => ⟨S262144, .f32⟩
  | 35 => ⟨S262144, .f32⟩
  | 36 => ⟨S_, .f32⟩
  | 37 => ⟨S262144, .f32⟩
  | 38 => ⟨S262144, .f32⟩
  | 39 => ⟨S_, .f32⟩
  | 40 => ⟨S262144, .f32⟩
  | 41 => ⟨S262144, .f32⟩
  | 42 => ⟨S1x262144, .f32⟩
  | 43 => ⟨S7x262144, .f32⟩
  | 44 => ⟨S7x262144, .f32⟩
  | 45 => ⟨S_, .f32⟩
  | 46 => ⟨S7x262144, .f32⟩
  | 47 => ⟨S7x262144, .f32⟩
  | 48 => ⟨S7x262144, .f32⟩
  | 49 => ⟨S7x262144, .f32⟩
  | 50 => ⟨S_, .f32⟩
  | 51 => ⟨S7x262144, .f32⟩
  | 52 => ⟨S7x262144, .f32⟩
  | 53 => ⟨S_, .f32⟩
  | 54 => ⟨S7x262144, .f32⟩
  | 55 => ⟨S7x262144, .f32⟩
  | 56 => ⟨S_, .f32⟩
  | 57 => ⟨S1x262144, .f32⟩
  | 58 => ⟨S8x262144, .f32⟩
  | 59 => ⟨S_, .f32⟩
  | 60 => ⟨S_, .f32⟩
  | 61 => ⟨S8x262144, .f32⟩
  | 62 => ⟨S_, .f32⟩
  | 63 => ⟨S8x262144, .f32⟩
  | 64 => ⟨S_, .f32⟩
  | 65 => ⟨S8x262144, .f32⟩
  | 66 => ⟨S8x262144, .f32⟩
  | 67 => ⟨S_, .f32⟩
  | 68 => ⟨S8x262144, .f32⟩
  | 69 => ⟨S8x262144, .f32⟩
  | 70 => ⟨S8x262144, .f32⟩
  | 71 => ⟨S8x262144, .f32⟩
  | 72 => ⟨S8x262144, .f32⟩
  | 73 => ⟨S_, .f32⟩
  | 74 => ⟨S8x262144, .f32⟩
  | 75 => ⟨S8x262144, .f32⟩
  | 76 => ⟨S_, .f32⟩
  | 77 => ⟨S8x262144, .f32⟩
  | 78 => ⟨S8x262144, .f32⟩
  | 79 => ⟨S8x262144, .f32⟩
  | 80 => ⟨S8x262144, .f32⟩
  | 81 => ⟨S8x262144, .f32⟩
  | 82 => ⟨S_, .f32⟩
  | 83 => ⟨S262144, .f32⟩
  | 84 => ⟨S_, .f32⟩
  | 85 => ⟨S262144, .f32⟩
  | 86 => ⟨S_, .f32⟩
  | 87 => ⟨S262144, .f32⟩
  | 88 => ⟨S262144, .f32⟩
  | 89 => ⟨S262144, .f32⟩
  | 90 => ⟨S1x262144, .f32⟩
  | 91 => ⟨S8x262144, .f32⟩
  | 92 => ⟨S8x262144, .f32⟩
  | 93 => ⟨S8x262144, .f32⟩
  | 94 => ⟨S_, .f32⟩
  | 95 => ⟨S8x262144, .f32⟩
  | 96 => ⟨S8x262144, .f32⟩
  | 97 => ⟨S_, .f32⟩
  | 98 => ⟨S8x262144, .f32⟩
  | 99 => ⟨S8x262144, .f32⟩
  | 100 => ⟨S8x262144, .f32⟩
  | 101 => ⟨S8x262144, .f32⟩
  | 102 => ⟨S8x262144, .f32⟩
  | 103 => ⟨S_, .f32⟩
  | 104 => ⟨S8x262144, .f32⟩
  | 105 => ⟨S8x262144, .f32⟩
  | 106 => ⟨S_, .f32⟩
  | 107 => ⟨S8x262144, .f32⟩
  | 108 => ⟨S8x262144, .f32⟩
  | 109 => ⟨S8x262144, .f32⟩
  | 110 => ⟨S8x262144, .f32⟩
  | 111 => ⟨S8x262144, .f32⟩
  | 112 => ⟨S_, .f32⟩
  | 113 => ⟨S262144, .f32⟩
  | 114 => ⟨S_, .f32⟩
  | 115 => ⟨S262144, .f32⟩
  | 116 => ⟨S_, .f32⟩
  | 117 => ⟨S262144, .f32⟩
  | 118 => ⟨S262144, .f32⟩
  | 119 => ⟨S262144, .f32⟩
  | 120 => ⟨S1x262144, .f32⟩
  | 121 => ⟨S8x262144, .f32⟩
  | 122 => ⟨S8x262144, .f32⟩
  | 123 => ⟨S8x262144, .f32⟩
  | 124 => ⟨S_, .f32⟩
  | 125 => ⟨S8x262144, .f32⟩
  | 126 => ⟨S8x262144, .f32⟩
  | 127 => ⟨S_, .f32⟩
  | _ => ⟨S8x262144, .f32⟩

abbrev hbmTy0_1 (i : Nat) : BufTy := match i % 128 with
  | 0 => ⟨S8x262144, .f32⟩
  | 1 => ⟨S8x262144, .f32⟩
  | 2 => ⟨S8x262144, .f32⟩
  | 3 => ⟨S8x262144, .f32⟩
  | 4 => ⟨S8x262144, .f32⟩
  | 5 => ⟨S_, .f32⟩
  | 6 => ⟨S8x262144, .f32⟩
  | 7 => ⟨S8x262144, .f32⟩
  | 8 => ⟨S_, .f32⟩
  | 9 => ⟨S8x262144, .f32⟩
  | 10 => ⟨S8x262144, .f32⟩
  | 11 => ⟨S8x262144, .f32⟩
  | 12 => ⟨S8x262144, .f32⟩
  | 13 => ⟨S8x262144, .f32⟩
  | 14 => ⟨S_, .f32⟩
  | 15 => ⟨S262144, .f32⟩
  | 16 => ⟨S_, .f32⟩
  | 17 => ⟨S262144, .f32⟩
  | 18 => ⟨S_, .f32⟩
  | 19 => ⟨S262144, .f32⟩
  | 20 => ⟨S262144, .f32⟩
  | 21 => ⟨S262144, .f32⟩
  | 22 => ⟨S1x262144, .f32⟩
  | 23 => ⟨S8x262144, .f32⟩
  | 24 => ⟨S8x262144, .f32⟩
  | 25 => ⟨S8x262144, .f32⟩
  | 26 => ⟨S_, .f32⟩
  | 27 => ⟨S8x262144, .f32⟩
  | 28 => ⟨S8x262144, .f32⟩
  | 29 => ⟨S_, .f32⟩
  | 30 => ⟨S8x262144, .f32⟩
  | 31 => ⟨S8x262144, .f32⟩
  | 32 => ⟨S8x262144, .f32⟩
  | 33 => ⟨S8x262144, .f32⟩
  | 34 => ⟨S8x262144, .f32⟩
  | 35 => ⟨S_, .f32⟩
  | 36 => ⟨S8x262144, .f32⟩
  | 37 => ⟨S8x262144, .f32⟩
  | 38 => ⟨S_, .f32⟩
  | 39 => ⟨S8x262144, .f32⟩
  | 40 => ⟨S8x262144, .f32⟩
  | 41 => ⟨S8x262144, .f32⟩
  | 42 => ⟨S8x262144, .f32⟩
  | 43 => ⟨S8x262144, .f32⟩
  | 44 => ⟨S_, .f32⟩
  | 45 => ⟨S262144, .f32⟩
  | 46 => ⟨S_, .f32⟩
  | 47 => ⟨S262144, .f32⟩
  | 48 => ⟨S_, .f32⟩
  | 49 => ⟨S262144, .f32⟩
  | 50 => ⟨S262144, .f32⟩
  | 51 => ⟨S262144, .f32⟩
  | 52 => ⟨S1x262144, .f32⟩
  | 53 => ⟨S8x262144, .f32⟩
  | 54 => ⟨S8x262144, .f32⟩
  | 55 => ⟨S8x262144, .f32⟩
  | 56 => ⟨S8x262144, .i32⟩
  | 57 => ⟨S8x262144, .f32⟩
  | 58 => ⟨S8x262144, .f32⟩
  | 59 => ⟨S8x262144, .f32⟩
  | 60 => ⟨S8x262144, .f32⟩
  | 61 => ⟨S_, .f32⟩
  | 62 => ⟨S_, .f32⟩
  | 63 => ⟨S_, .f32⟩
  | 64 => ⟨S8x262144, .f32⟩
  | 65 => ⟨S8x262144, .f32⟩
  | 66 => ⟨S_, .f32⟩
  | 67 => ⟨S8x262144, .f32⟩
  | 68 => ⟨S8x262144, .f32⟩
  | 69 => ⟨S8x262144, .f32⟩
  | 70 => ⟨S8x262144, .f32⟩
  | 71 => ⟨S8x262144, .f32⟩
  | 72 => ⟨S8x512x256, .f32⟩
  | 73 => ⟨S8x131072, .f32⟩
  | 74 => ⟨S1x1, .f32⟩
  | 75 => ⟨S_, .f32⟩
  | 76 => ⟨S1x1, .f32⟩
  | 77 => ⟨S_, .f32⟩
  | 78 => ⟨S512x256, .f32⟩
  | 79 => ⟨S131072, .f32⟩
  | 80 => ⟨S8x131072, .f32⟩
  | 81 => ⟨S8x131072, .i32⟩
  | 82 => ⟨S8x131072, .f32⟩
  | 83 => ⟨S8x131072, .i32⟩
  | 84 => ⟨S7x131072, .f32⟩
  | 85 => ⟨S7x131072, .f32⟩
  | 86 => ⟨S7x131072, .f32⟩
  | 87 => ⟨S7x131072, .f32⟩
  | 88 => ⟨S7x131072, .f32⟩
  | 89 => ⟨S131072, .f32⟩
  | 90 => ⟨S131072, .f32⟩
  | 91 => ⟨S_, .f32⟩
  | 92 => ⟨S131072, .f32⟩
  | 93 => ⟨S131072, .f32⟩
  | 94 => ⟨S_, .f32⟩
  | 95 => ⟨S131072, .f32⟩
  | 96 => ⟨S131072, .f32⟩
  | 97 => ⟨S1x131072, .f32⟩
  | 98 => ⟨S7x131072, .f32⟩
  | 99 => ⟨S7x131072, .f32⟩
  | 100 => ⟨S_, .f32⟩
  | 101 => ⟨S7x131072, .f32⟩
  | 102 => ⟨S7x131072, .f32⟩
  | 103 => ⟨S7x131072, .f32⟩
  | 104 => ⟨S7x131072, .f32⟩
  | 105 => ⟨S_, .f32⟩
  | 106 => ⟨S7x131072, .f32⟩
  | 107 => ⟨S7x131072, .f32⟩
  | 108 => ⟨S_, .f32⟩
  | 109 => ⟨S7x131072, .f32⟩
  | 110 => ⟨S7x131072, .f32⟩
  | 111 => ⟨S_, .f32⟩
  | 112 => ⟨S1x131072, .f32⟩
  | 113 => ⟨S8x131072, .f32⟩
  | 114 => ⟨S_, .f32⟩
  | 115 => ⟨S_, .f32⟩
  | 116 => ⟨S8x131072, .f32⟩
  | 117 => ⟨S_, .f32⟩
  | 118 => ⟨S8x131072, .f32⟩
  | 119 => ⟨S_, .f32⟩
  | 120 => ⟨S8x131072, .f32⟩
  | 121 => ⟨S8x131072, .f32⟩
  | 122 => ⟨S_, .f32⟩
  | 123 => ⟨S8x131072, .f32⟩
  | 124 => ⟨S8x131072, .f32⟩
  | 125 => ⟨S8x131072, .f32⟩
  | 126 => ⟨S8x131072, .f32⟩
  | 127 => ⟨S8x131072, .f32⟩
  | _ => ⟨S8x262144, .f32⟩

abbrev hbmTy0_2 (i : Nat) : BufTy := match i % 128 with
  | 0 => ⟨S_, .f32⟩
  | 1 => ⟨S8x131072, .f32⟩
  | 2 => ⟨S8x131072, .f32⟩
  | 3 => ⟨S_, .f32⟩
  | 4 => ⟨S8x131072, .f32⟩
  | 5 => ⟨S8x131072, .f32⟩
  | 6 => ⟨S8x131072, .f32⟩
  | 7 => ⟨S8x131072, .f32⟩
  | 8 => ⟨S8x131072, .f32⟩
  | 9 => ⟨S_, .f32⟩
  | 10 => ⟨S131072, .f32⟩
  | 11 => ⟨S_, .f32⟩
  | 12 => ⟨S131072, .f32⟩
  | 13 => ⟨S_, .f32⟩
  | 14 => ⟨S131072, .f32⟩
  | 15 => ⟨S131072, .f32⟩
  | 16 => ⟨S131072, .f32⟩
  | 17 => ⟨S1x131072, .f32⟩
  | 18 => ⟨S8x131072, .f32⟩
  | 19 => ⟨S8x131072, .f32⟩
  | 20 => ⟨S8x131072, .f32⟩
  | 21 => ⟨S_, .f32⟩
  | 22 => ⟨S8x131072, .f32⟩
  | 23 => ⟨S8x131072, .f32⟩
  | 24 => ⟨S_, .f32⟩
  | 25 => ⟨S8x131072, .f32⟩
  | 26 => ⟨S8x131072, .f32⟩
  | 27 => ⟨S8x131072, .f32⟩
  | 28 => ⟨S8x131072, .f32⟩
  | 29 => ⟨S8x131072, .f32⟩
  | 30 => ⟨S_, .f32⟩
  | 31 => ⟨S8x131072, .f32⟩
  | 32 => ⟨S8x131072, .f32⟩
  | 33 => ⟨S_, .f32⟩
  | 34 => ⟨S8x131072, .f32⟩
  | 35 => ⟨S8x131072, .f32⟩
  | 36 => ⟨S8x131072, .f32⟩
  | 37 => ⟨S8x131072, .f32⟩
  | 38 => ⟨S8x131072, .f32⟩
  | 39 => ⟨S_, .f32⟩
  | 40 => ⟨S131072, .f32⟩
  | 41 => ⟨S_, .f32⟩
  | 42 => ⟨S131072, .f32⟩
  | 43 => ⟨S_, .f32⟩
  | 44 => ⟨S131072, .f32⟩
  | 45 => ⟨S131072, .f32⟩
  | 46 => ⟨S131072, .f32⟩
  | 47 => ⟨S1x131072, .f32⟩
  | 48 => ⟨S8x131072, .f32⟩
  | 49 => ⟨S8x131072, .f32⟩
  | 50 => ⟨S8x131072, .f32⟩
  | 51 => ⟨S_, .f32⟩
  | 52 => ⟨S8x131072, .f32⟩
  | 53 => ⟨S8x131072, .f32⟩
  | 54 => ⟨S_, .f32⟩
  | 55 => ⟨S8x131072, .f32⟩
  | 56 => ⟨S8x131072, .f32⟩
  | 57 => ⟨S8x131072, .f32⟩
  | 58 => ⟨S8x131072, .f32⟩
  | 59 => ⟨S8x131072, .f32⟩
  | 60 => ⟨S_, .f32⟩
  | 61 => ⟨S8x131072, .f32⟩
  | 62 => ⟨S8x131072, .f32⟩
  | 63 => ⟨S_, .f32⟩
  | 64 => ⟨S8x131072, .f32⟩
  | 65 => ⟨S8x131072, .f32⟩
  | 66 => ⟨S8x131072, .f32⟩
  | 67 => ⟨S8x131072, .f32⟩
  | 68 => ⟨S8x131072, .f32⟩
  | 69 => ⟨S_, .f32⟩
  | 70 => ⟨S131072, .f32⟩
  | 71 => ⟨S_, .f32⟩
  | 72 => ⟨S131072, .f32⟩
  | 73 => ⟨S_, .f32⟩
  | 74 => ⟨S131072, .f32⟩
  | 75 => ⟨S131072, .f32⟩
  | 76 => ⟨S131072, .f32⟩
  | 77 => ⟨S1x131072, .f32⟩
  | 78 => ⟨S8x131072, .f32⟩
  | 79 => ⟨S8x131072, .f32⟩
  | 80 => ⟨S8x131072, .f32⟩
  | 81 => ⟨S_, .f32⟩
  | 82 => ⟨S8x131072, .f32⟩
  | 83 => ⟨S8x131072, .f32⟩
  | 84 => ⟨S_, .f32⟩
  | 85 => ⟨S8x131072, .f32⟩
  | 86 => ⟨S8x131072, .f32⟩
  | 87 => ⟨S8x131072, .f32⟩
  | 88 => ⟨S8x131072, .f32⟩
  | 89 => ⟨S8x131072, .f32⟩
  | 90 => ⟨S_, .f32⟩
  | 91 => ⟨S8x131072, .f32⟩
  | 92 => ⟨S8x131072, .f32⟩
  | 93 => ⟨S_, .f32⟩
  | 94 => ⟨S8x131072, .f32⟩
  | 95 => ⟨S8x131072, .f32⟩
  | 96 => ⟨S8x131072, .f32⟩
  | 97 => ⟨S8x131072, .f32⟩
  | 98 => ⟨S8x131072, .f32⟩
  | 99 => ⟨S_, .f32⟩
  | 100 => ⟨S131072, .f32⟩
  | 101 => ⟨S_, .f32⟩
  | 102 => ⟨S131072, .f32⟩
  | 103 => ⟨S_, .f32⟩
  | 104 => ⟨S131072, .f32⟩
  | 105 => ⟨S131072, .f32⟩
  | 106 => ⟨S131072, .f32⟩
  | 107 => ⟨S1x131072, .f32⟩
  | 108 => ⟨S8x131072, .f32⟩
  | 109 => ⟨S8x131072, .f32⟩
  | 110 => ⟨S8x131072, .f32⟩
  | 111 => ⟨S8x131072, .i32⟩
  | 112 => ⟨S8x131072, .f32⟩
  | 113 => ⟨S8x131072, .f32⟩
  | 114 => ⟨S8x131072, .f32⟩
  | 115 => ⟨S8x131072, .f32⟩
  | 116 => ⟨S_, .f32⟩
  | 117 => ⟨S_, .f32⟩
  | 118 => ⟨S_, .f32⟩
  | 119 => ⟨S8x131072, .f32⟩
  | 120 => ⟨S8x131072, .f32⟩
  | 121 => ⟨S_, .f32⟩
  | 122 => ⟨S8x131072, .f32⟩
  | 123 => ⟨S8x131072, .f32⟩
  | 124 => ⟨S8x131072, .f32⟩
  | 125 => ⟨S8x131072, .f32⟩
  | 126 => ⟨S8x131072, .f32⟩
  | 127 => ⟨S8x1024x256, .f32⟩
  | _ => ⟨S8x262144, .f32⟩

abbrev hbmTy0_3 (i : Nat) : BufTy := match i % 128 with
  | 0 => ⟨S8x512x256, .f32⟩
  | 1 => ⟨S8x1536x256, .f32⟩
  | 2 => ⟨S8x1536x256, .bf16⟩
  | _ => ⟨S8x262144, .f32⟩

abbrev hbmTy (i : Nat) : BufTy := match i / 128 with
  | 0 => hbmTy0_0 i
  | 1 => hbmTy0_1 i
  | 2 => hbmTy0_2 i
  | 3 => hbmTy0_3 i
  | _ => ⟨S8x262144, .f32⟩

abbrev bufTy : (tb : Table) → Fin (tcTables nBuf tb) → BufTy
  | .hbm, ⟨i, _⟩ => hbmTy i
  | _, _ => ⟨S8x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_call0_call0_cst : Ref sig .tc := ⟨.hbm, 59, rfl⟩
abbrev main_call0_call0_v0 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_cst_12 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_13 : Ref sig .tc := ⟨.hbm, 82, rfl⟩
abbrev main_v58 : Ref sig .tc := ⟨.hbm, 83, rfl⟩
abbrev main_cst_14 : Ref sig .tc := ⟨.hbm, 84, rfl⟩
abbrev main_v59 : Ref sig .tc := ⟨.hbm, 85, rfl⟩
abbrev main_cst_15 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_16 : Ref sig .tc := ⟨.hbm, 94, rfl⟩
abbrev main_v67 : Ref sig .tc := ⟨.hbm, 95, rfl⟩
abbrev main_v68 : Ref sig .tc := ⟨.hbm, 96, rfl⟩
abbrev main_cst_17 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_18 : Ref sig .tc := ⟨.hbm, 103, rfl⟩
abbrev main_v74 : Ref sig .tc := ⟨.hbm, 104, rfl⟩
abbrev main_v75 : Ref sig .tc := ⟨.hbm, 105, rfl⟩
abbrev main_cst_19 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_20 : Ref sig .tc := ⟨.hbm, 112, rfl⟩
abbrev main_v81 : Ref sig .tc := ⟨.hbm, 113, rfl⟩
abbrev main_cst_21 : Ref sig .tc := ⟨.hbm, 114, rfl⟩
abbrev main_v82 : Ref sig .tc := ⟨.hbm, 115, rfl⟩
abbrev main_cst_22 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_23 : Ref sig .tc := ⟨.hbm, 124, rfl⟩
abbrev main_v90 : Ref sig .tc := ⟨.hbm, 125, rfl⟩
abbrev main_v91 : Ref sig .tc := ⟨.hbm, 126, rfl⟩
abbrev main_cst_24 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_25 : Ref sig .tc := ⟨.hbm, 133, rfl⟩
abbrev main_v97 : Ref sig .tc := ⟨.hbm, 134, rfl⟩
abbrev main_v98 : Ref sig .tc := ⟨.hbm, 135, rfl⟩
abbrev main_cst_26 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_27 : Ref sig .tc := ⟨.hbm, 142, rfl⟩
abbrev main_v104 : Ref sig .tc := ⟨.hbm, 143, rfl⟩
abbrev main_cst_28 : Ref sig .tc := ⟨.hbm, 144, rfl⟩
abbrev main_v105 : Ref sig .tc := ⟨.hbm, 145, rfl⟩
abbrev main_cst_29 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_30 : Ref sig .tc := ⟨.hbm, 154, rfl⟩
abbrev main_v113 : Ref sig .tc := ⟨.hbm, 155, rfl⟩
abbrev main_v114 : Ref sig .tc := ⟨.hbm, 156, rfl⟩
abbrev main_cst_31 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_cst_32 : Ref sig .tc := ⟨.hbm, 163, rfl⟩
abbrev main_v120 : Ref sig .tc := ⟨.hbm, 164, rfl⟩
abbrev main_v121 : Ref sig .tc := ⟨.hbm, 165, rfl⟩
abbrev main_cst_33 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_34 : Ref sig .tc := ⟨.hbm, 172, rfl⟩
abbrev main_v127 : Ref sig .tc := ⟨.hbm, 173, rfl⟩
abbrev main_cst_35 : Ref sig .tc := ⟨.hbm, 174, rfl⟩
abbrev main_v128 : Ref sig .tc := ⟨.hbm, 175, rfl⟩
abbrev main_cst_36 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136_0 : Ref sig .tc := ⟨.hbm, 184, rfl⟩
abbrev main_v136_1 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_cst_37 : Ref sig .tc := ⟨.hbm, 189, rfl⟩
abbrev main_cst_38 : Ref sig .tc := ⟨.hbm, 190, rfl⟩
abbrev main_call6_v0 : Ref sig .tc := ⟨.hbm, 191, rfl⟩
abbrev main_call6_v1 : Ref sig .tc := ⟨.hbm, 192, rfl⟩
abbrev main_call6_v2 : Ref sig .tc := ⟨.hbm, 193, rfl⟩
abbrev main_call6_v3 : Ref sig .tc := ⟨.hbm, 194, rfl⟩
abbrev main_call6_v4 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154_0 : Ref sig .tc := ⟨.hbm, 210, rfl⟩
abbrev main_v154_1 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_cst_39 : Ref sig .tc := ⟨.hbm, 219, rfl⟩
abbrev main_v162 : Ref sig .tc := ⟨.hbm, 220, rfl⟩
abbrev main_v163 : Ref sig .tc := ⟨.hbm, 221, rfl⟩
abbrev main_cst_40 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_cst_41 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_cst_42 : Ref sig .tc := ⟨.hbm, 233, rfl⟩
abbrev main_v173 : Ref sig .tc := ⟨.hbm, 234, rfl⟩
abbrev main_v174 : Ref sig .tc := ⟨.hbm, 235, rfl⟩
abbrev main_cst_43 : Ref sig .tc := ⟨.hbm, 236, rfl⟩
abbrev main_v175 : Ref sig .tc := ⟨.hbm, 237, rfl⟩
abbrev main_v176 : Ref sig .tc := ⟨.hbm, 238, rfl⟩
abbrev main_cst_44 : Ref sig .tc := ⟨.hbm, 239, rfl⟩
abbrev main_v177 : Ref sig .tc := ⟨.hbm, 240, rfl⟩
abbrev main_v178 : Ref sig .tc := ⟨.hbm, 241, rfl⟩
abbrev main_call7_call0_cst : Ref sig .tc := ⟨.hbm, 242, rfl⟩
abbrev main_call7_call0_v0 : Ref sig .tc := ⟨.hbm, 243, rfl⟩
abbrev main_v179 : Ref sig .tc := ⟨.hbm, 244, rfl⟩
abbrev main_cst_45 : Ref sig .tc := ⟨.hbm, 245, rfl⟩
abbrev main_v180 : Ref sig .tc := ⟨.hbm, 246, rfl⟩
abbrev main_cst_46 : Ref sig .tc := ⟨.hbm, 247, rfl⟩
abbrev main_v181 : Ref sig .tc := ⟨.hbm, 248, rfl⟩
abbrev main_v182 : Ref sig .tc := ⟨.hbm, 249, rfl⟩
abbrev main_cst_47 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_cst_48 : Ref sig .tc := ⟨.hbm, 256, rfl⟩
abbrev main_v188 : Ref sig .tc := ⟨.hbm, 257, rfl⟩
abbrev main_v189 : Ref sig .tc := ⟨.hbm, 258, rfl⟩
abbrev main_cst_49 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_cst_50 : Ref sig .tc := ⟨.hbm, 265, rfl⟩
abbrev main_v195 : Ref sig .tc := ⟨.hbm, 266, rfl⟩
abbrev main_cst_51 : Ref sig .tc := ⟨.hbm, 267, rfl⟩
abbrev main_v196 : Ref sig .tc := ⟨.hbm, 268, rfl⟩
abbrev main_cst_52 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_cst_53 : Ref sig .tc := ⟨.hbm, 277, rfl⟩
abbrev main_v204 : Ref sig .tc := ⟨.hbm, 278, rfl⟩
abbrev main_v205 : Ref sig .tc := ⟨.hbm, 279, rfl⟩
abbrev main_cst_54 : Ref sig .tc := ⟨.hbm, 280, rfl⟩
abbrev main_v206 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_cst_55 : Ref sig .tc := ⟨.hbm, 286, rfl⟩
abbrev main_v211 : Ref sig .tc := ⟨.hbm, 287, rfl⟩
abbrev main_v212 : Ref sig .tc := ⟨.hbm, 288, rfl⟩
abbrev main_cst_56 : Ref sig .tc := ⟨.hbm, 289, rfl⟩
abbrev main_v213 : Ref sig .tc := ⟨.hbm, 290, rfl⟩
abbrev main_v214 : Ref sig .tc := ⟨.hbm, 291, rfl⟩
abbrev main_v215 : Ref sig .tc := ⟨.hbm, 292, rfl⟩
abbrev main_v216 : Ref sig .tc := ⟨.hbm, 293, rfl⟩
abbrev main_v217 : Ref sig .tc := ⟨.hbm, 294, rfl⟩
abbrev main_cst_57 : Ref sig .tc := ⟨.hbm, 295, rfl⟩
abbrev main_v218 : Ref sig .tc := ⟨.hbm, 296, rfl⟩
abbrev main_cst_58 : Ref sig .tc := ⟨.hbm, 297, rfl⟩
abbrev main_v219 : Ref sig .tc := ⟨.hbm, 298, rfl⟩
abbrev main_cst_59 : Ref sig .tc := ⟨.hbm, 299, rfl⟩
abbrev main_v220 : Ref sig .tc := ⟨.hbm, 300, rfl⟩
abbrev main_v221 : Ref sig .tc := ⟨.hbm, 301, rfl⟩
abbrev main_v222 : Ref sig .tc := ⟨.hbm, 302, rfl⟩
abbrev main_v223 : Ref sig .tc := ⟨.hbm, 303, rfl⟩
abbrev main_v224 : Ref sig .tc := ⟨.hbm, 304, rfl⟩
abbrev main_v225 : Ref sig .tc := ⟨.hbm, 305, rfl⟩
abbrev main_v226 : Ref sig .tc := ⟨.hbm, 306, rfl⟩
abbrev main_cst_60 : Ref sig .tc := ⟨.hbm, 307, rfl⟩
abbrev main_v227 : Ref sig .tc := ⟨.hbm, 308, rfl⟩
abbrev main_v228 : Ref sig .tc := ⟨.hbm, 309, rfl⟩
abbrev main_cst_61 : Ref sig .tc := ⟨.hbm, 310, rfl⟩
abbrev main_v229 : Ref sig .tc := ⟨.hbm, 311, rfl⟩
abbrev main_v230 : Ref sig .tc := ⟨.hbm, 312, rfl⟩
abbrev main_v231 : Ref sig .tc := ⟨.hbm, 313, rfl⟩
abbrev main_v232 : Ref sig .tc := ⟨.hbm, 314, rfl⟩
abbrev main_v233 : Ref sig .tc := ⟨.hbm, 315, rfl⟩
abbrev main_cst_62 : Ref sig .tc := ⟨.hbm, 316, rfl⟩
abbrev main_v234 : Ref sig .tc := ⟨.hbm, 317, rfl⟩
abbrev main_v235 : Ref sig .tc := ⟨.hbm, 318, rfl⟩
abbrev main_cst_63 : Ref sig .tc := ⟨.hbm, 319, rfl⟩
abbrev main_v236 : Ref sig .tc := ⟨.hbm, 320, rfl⟩
abbrev main_v237 : Ref sig .tc := ⟨.hbm, 321, rfl⟩
abbrev main_v238 : Ref sig .tc := ⟨.hbm, 322, rfl⟩
abbrev main_v239 : Ref sig .tc := ⟨.hbm, 323, rfl⟩
abbrev main_v240 : Ref sig .tc := ⟨.hbm, 324, rfl⟩
abbrev main_cst_64 : Ref sig .tc := ⟨.hbm, 325, rfl⟩
abbrev main_v241 : Ref sig .tc := ⟨.hbm, 326, rfl⟩
abbrev main_cst_65 : Ref sig .tc := ⟨.hbm, 327, rfl⟩
abbrev main_v242 : Ref sig .tc := ⟨.hbm, 328, rfl⟩
abbrev main_cst_66 : Ref sig .tc := ⟨.hbm, 329, rfl⟩
abbrev main_v243 : Ref sig .tc := ⟨.hbm, 330, rfl⟩
abbrev main_v244 : Ref sig .tc := ⟨.hbm, 331, rfl⟩
abbrev main_v245 : Ref sig .tc := ⟨.hbm, 332, rfl⟩
abbrev main_v246 : Ref sig .tc := ⟨.hbm, 333, rfl⟩
abbrev main_v247 : Ref sig .tc := ⟨.hbm, 334, rfl⟩
abbrev main_v248 : Ref sig .tc := ⟨.hbm, 335, rfl⟩
abbrev main_v249 : Ref sig .tc := ⟨.hbm, 336, rfl⟩
abbrev main_cst_67 : Ref sig .tc := ⟨.hbm, 337, rfl⟩
abbrev main_v250 : Ref sig .tc := ⟨.hbm, 338, rfl⟩
abbrev main_v251 : Ref sig .tc := ⟨.hbm, 339, rfl⟩
abbrev main_cst_68 : Ref sig .tc := ⟨.hbm, 340, rfl⟩
abbrev main_v252 : Ref sig .tc := ⟨.hbm, 341, rfl⟩
abbrev main_v253 : Ref sig .tc := ⟨.hbm, 342, rfl⟩
abbrev main_v254 : Ref sig .tc := ⟨.hbm, 343, rfl⟩
abbrev main_v255 : Ref sig .tc := ⟨.hbm, 344, rfl⟩
abbrev main_v256 : Ref sig .tc := ⟨.hbm, 345, rfl⟩
abbrev main_cst_69 : Ref sig .tc := ⟨.hbm, 346, rfl⟩
abbrev main_v257 : Ref sig .tc := ⟨.hbm, 347, rfl⟩
abbrev main_v258 : Ref sig .tc := ⟨.hbm, 348, rfl⟩
abbrev main_cst_70 : Ref sig .tc := ⟨.hbm, 349, rfl⟩
abbrev main_v259 : Ref sig .tc := ⟨.hbm, 350, rfl⟩
abbrev main_v260 : Ref sig .tc := ⟨.hbm, 351, rfl⟩
abbrev main_v261 : Ref sig .tc := ⟨.hbm, 352, rfl⟩
abbrev main_v262 : Ref sig .tc := ⟨.hbm, 353, rfl⟩
abbrev main_v263 : Ref sig .tc := ⟨.hbm, 354, rfl⟩
abbrev main_cst_71 : Ref sig .tc := ⟨.hbm, 355, rfl⟩
abbrev main_v264 : Ref sig .tc := ⟨.hbm, 356, rfl⟩
abbrev main_cst_72 : Ref sig .tc := ⟨.hbm, 357, rfl⟩
abbrev main_v265 : Ref sig .tc := ⟨.hbm, 358, rfl⟩
abbrev main_cst_73 : Ref sig .tc := ⟨.hbm, 359, rfl⟩
abbrev main_v266 : Ref sig .tc := ⟨.hbm, 360, rfl⟩
abbrev main_v267 : Ref sig .tc := ⟨.hbm, 361, rfl⟩
abbrev main_v268 : Ref sig .tc := ⟨.hbm, 362, rfl⟩
abbrev main_v269 : Ref sig .tc := ⟨.hbm, 363, rfl⟩
abbrev main_v270 : Ref sig .tc := ⟨.hbm, 364, rfl⟩
abbrev main_v271 : Ref sig .tc := ⟨.hbm, 365, rfl⟩
abbrev main_v272 : Ref sig .tc := ⟨.hbm, 366, rfl⟩
abbrev main_v273_0 : Ref sig .tc := ⟨.hbm, 367, rfl⟩
abbrev main_v273_1 : Ref sig .tc := ⟨.hbm, 368, rfl⟩
abbrev main_v274 : Ref sig .tc := ⟨.hbm, 369, rfl⟩
abbrev main_v275 : Ref sig .tc := ⟨.hbm, 370, rfl⟩
abbrev main_v276 : Ref sig .tc := ⟨.hbm, 371, rfl⟩
abbrev main_cst_74 : Ref sig .tc := ⟨.hbm, 372, rfl⟩
abbrev main_cst_75 : Ref sig .tc := ⟨.hbm, 373, rfl⟩
abbrev main_call13_v0 : Ref sig .tc := ⟨.hbm, 374, rfl⟩
abbrev main_call13_v1 : Ref sig .tc := ⟨.hbm, 375, rfl⟩
abbrev main_call13_v2 : Ref sig .tc := ⟨.hbm, 376, rfl⟩
abbrev main_call13_v3 : Ref sig .tc := ⟨.hbm, 377, rfl⟩
abbrev main_call13_v4 : Ref sig .tc := ⟨.hbm, 378, rfl⟩
abbrev main_v277 : Ref sig .tc := ⟨.hbm, 379, rfl⟩
abbrev main_v278 : Ref sig .tc := ⟨.hbm, 380, rfl⟩
abbrev main_v279 : Ref sig .tc := ⟨.hbm, 381, rfl⟩
abbrev main_v280 : Ref sig .tc := ⟨.hbm, 382, rfl⟩
abbrev main_v281 : Ref sig .tc := ⟨.hbm, 383, rfl⟩
abbrev main_v282 : Ref sig .tc := ⟨.hbm, 384, rfl⟩
abbrev main_v283 : Ref sig .tc := ⟨.hbm, 385, rfl⟩
abbrev main_v284 : Ref sig .tc := ⟨.hbm, 386, rfl⟩

abbrev nD : Nat := 1
abbrev τ : Topo := Topo.v7x

variable {F : FTy → Type} [FloatOps F]
-- ==== Proof.Block.lean ====
/-
  What ONE grid point of the kernel leaves in its output block, index by index: the block has 128 rows and eight
  groups of 512 columns, one group for each head, and each group is the product of the head's slice of the rows
  with its `K`, multiplied then by the transpose of its `V`.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen

/-- Entry `(r, j)` of the block computed from the rows `x` and the packed weights `q`, whose rows 0..1023 are
    the head's `K` and whose rows 1024..1535 are its `V`. -/
def entry (x : FVec Ideal S128x8192 .f32) (q : FVec Ideal S8x1536x256 .bf16) (r : Fin 128) (j : Fin 4096) : EReal :=
  ∑ c : Fin 256, (∑ d : Fin 1024, x (ix2 r ⟨j.val / 512 * 1024 + d.val, by omega⟩) * q (ix3 ⟨j.val / 512, by omega⟩ ⟨d.val, by omega⟩ c))
    * q (ix3 ⟨j.val / 512, by omega⟩ ⟨1024 + j.val % 512, by omega⟩ c)

/-- The body's eight stores together leave `entry` at every index of the block. -/
theorem out_apply (x : FVec Ideal S128x8192 .f32) (q : FVec Ideal S8x1536x256 .bf16) (y : S128x4096.Idx) :
    out0_2 (F := Ideal) x q y = entry x q (y 0) (y 1) := by
  unfold out0_2 entry
  canon_tiles z h
  all_goals
    have hd : (y 1 : ℕ) / 512 = ((y 1 : ℕ) - (z 1 : ℕ)) / 512 := by omega
    have hm : (y 1 : ℕ) % 512 = (z 1 : ℕ) := by omega
    unfold_payloads
    pointwise
    blk_point

end Cert.KernelIdeal.Block

end
-- ==== Proof.KernelValue.lean ====
/-
  What the kernel's result array holds after the run, index by index, in terms of the two arguments: the 16 grid
  points each write 128 rows of it, and together they write every row.
-/
module

public import proofs.«01_k».proof.Proof.Block
public import proofs.«01_k».proof.Proof.Gen.KernelIdeal.Value

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen

variable (m : (ℓ : Loc nD τ sig) → Buf (Elt Ideal) ℓ)

/-- Entry `(b, j)` of `(x k) vᵀ`, where `j / 512` is the head and `j % 512` the row of the head's `V`. -/
def product (x : FVec Ideal S2048x8x1024 .f32) (q : FVec Ideal S8x1536x256 .bf16) : FVec Ideal S2048x4096 .f32 := fun i =>
  ∑ c : Fin 256, (∑ d : Fin 1024, x (ix3 (i 0) ⟨(i 1).val / 512, by idx_bounds; omega⟩ d)
      * q (ix3 ⟨(i 1).val / 512, by idx_bounds; omega⟩ ⟨d.val, by omega⟩ c))
    * q (ix3 ⟨(i 1).val / 512, by idx_bounds; omega⟩ ⟨1024 + (i 1).val % 512, by omega⟩ c)

/-- The windows' blocks: point `t` reads rows `128 t ..` of the reshaped rows, all of the weights, and writes
    rows `128 t ..` of the result. -/
theorem idx : ∀ t : Fin cfg0.N, win0_0.index t = ![t.val, 0] ∧ win0_1.index t = ![0, 0, 0] ∧ win0_2.index t = ![t.val, 0] :=
  (by decide +kernel : ∀ t : Fin grid0.N, _)

/-- After the run the result array holds `product` of the arguments. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2, out_apply]
  unfold entry product
  blk_point [iblk, V, idx t]

end Cert.KernelIdeal.Block

end
-- ==== Proof.RefValue.lean ====
/-
  What the reference computes, index by index: `w = k vᵀ` of each head first, then the rows times `w`.
-/
module

public import proofs.«01_k».proof.Proof.Gen.ReferenceIdeal.Read
public import proofs.«01_k».proof.Proof.Gen.ReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ReferenceIdeal.Entry

open Cert.ReferenceIdeal Cert.ReferenceIdeal.Gen Cert.ReferenceIdeal.Read

/-- Entry `(b, j)` of the reference's result, where `j / 512` is the head and `j % 512` the row of the head's `V`:
    the sum over `d` of `w d` times the row's entry `d`, where `w d` is the sum over `c` of `K` times `V`. -/
theorem ref_apply (x : FVec Ideal S2048x8x1024 .f32) (q : FVec Ideal S8x1536x256 .bf16) (i : S2048x4096.Idx) :
    val_main_v6 (F := Ideal) x q i
      = ∑ d : Fin 1024, (∑ c : Fin 256, q (ix3 ⟨(i 1).val / 512, by idx_bounds; omega⟩ ⟨d.val, by omega⟩ c)
            * q (ix3 ⟨(i 1).val / 512, by idx_bounds; omega⟩ ⟨1024 + (i 1).val % 512, by omega⟩ c))
          * x (ix3 (i 0) ⟨(i 1).val / 512, by idx_bounds; omega⟩ d) := by
  unfold val_main_v6 val_main_v5 val_main_v4 val_main_v3 val_main_v2 val_main_v1 val_main_v0
  pointwise

end Cert.ReferenceIdeal.Entry

end
-- ==== Proof.Reassoc.lean ====
/-
  The one law of arithmetic that the claim needs: for finite entries the product of three matrices may be
  taken in either order. It is stated for one entry of the product, so for a row `x`, a matrix `k` and a column `v`.
  Over the extended reals it is false in general (with `x = ∞`, `k = (1, 1)` and `v = (1, -1)` the left side is
  `⊥` and the right side is `0`), hence the premises.
-/
module

public import Mathlib.Data.EReal.Operations
public import Mathlib.Algebra.BigOperators.Ring.Finset
public import Mathlib.Algebra.BigOperators.Group.Finset.Sigma

@[expose] public section

open scoped BigOperators

namespace Cert.Reassoc

/-- An extended real is FINITE when it is neither infinity. -/
def Finite (a : EReal) : Prop := a ≠ ⊥ ∧ a ≠ ⊤

/-- A finite extended real is the real number it stands for. -/
theorem Finite.coe_toReal {a : EReal} (h : Finite a) : ((a.toReal : ℝ) : EReal) = a :=
  EReal.coe_toReal h.2 h.1

/-- A finite sum of real numbers is the same sum taken over the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- `(x k) v = x (k v)` for real numbers, written as sums, the factors of the second in the order in which the
    reference multiplies them. -/
theorem real {D C : ℕ} (x : Fin D → ℝ) (k : Fin D → Fin C → ℝ) (v : Fin C → ℝ) :
    ∑ c, (∑ d, x d * k d c) * v c = ∑ d, (∑ c, k d c * v c) * x d := by
  simp only [Finset.sum_mul]
  rw [Finset.sum_comm]
  exact Finset.sum_congr rfl fun d _ => Finset.sum_congr rfl fun c _ => by ring

/-- `(x k) v = x (k v)` for extended reals that are all finite. -/
theorem ereal {D C : ℕ} (x : Fin D → EReal) (k : Fin D → Fin C → EReal) (v : Fin C → EReal)
    (hx : ∀ d, Finite (x d)) (hk : ∀ d c, Finite (k d c)) (hv : ∀ c, Finite (v c)) :
    ∑ c, (∑ d, x d * k d c) * v c = ∑ d, (∑ c, k d c * v c) * x d := by
  have ex : x = fun d => ((x d).toReal : EReal) := funext fun d => (hx d).coe_toReal.symm
  have ek : k = fun d c => ((k d c).toReal : EReal) := funext fun d => funext fun c => (hk d c).coe_toReal.symm
  have ev : v = fun c => ((v c).toReal : EReal) := funext fun c => (hv c).coe_toReal.symm
  rw [ex, ek, ev]
  simp only [← EReal.coe_mul, ← coe_sum]
  rw [real]

end Cert.Reassoc
-- ==== Proof.FiniteArgs.lean ====
/-
  What the precondition `finite` says of the two arguments: every entry is neither infinity.
-/
module

public import proofs.«01_k».proof.Proof.Gen.Pre_finite
public import proofs.«01_k».proof.Proof.Reassoc
public import Idealize.ShloMosaic.Lib.ReduceAll
public import Idealize.ShloMosaic.Lib.Pointwise

@[expose] public section

set_option maxRecDepth 16384

noncomputable section

open Idealize.ShloMosaic

namespace Cert.Pre_finite.Args

open Cert.Pre_finite Cert.Pre_finite.Gen Cert.Reassoc

/-- The word of positive infinity denotes `⊤`. -/
theorem ofBits_inf : (FloatOps.ofBits (F := Ideal) .f32 0x7F800000#32) = (⊤ : EReal) := by
  show Ideal.ofBits .f32 _ = _
  simp [Ideal.ofBits, Ideal.ieee]

/-- `|a| < ∞` says that `a` is finite. -/
theorem finite_of_abs_lt (a : EReal) (h : max a (-a) < ⊤) : Finite a := by
  constructor
  · rintro rfl
    simp at h
  · rintro rfl
    simp at h

/-- Where the comparison `|a| < ∞` answers one, `a` is finite. -/
theorem finite_of_cmp (a : EReal) (h : Ideal.cmp .olt (max a (-a)) (FloatOps.ofBits (F := Ideal) .f32 0x7F800000#32) = 1#1) :
    Finite a := by
  rw [ofBits_inf] at h
  refine finite_of_abs_lt a ?_
  by_contra hn
  simp [Ideal.cmp, hn] at h

instance : Subsingleton S_.Idx := ⟨fun a b => funext fun k => k.elim0⟩

/-- The precondition gives the finiteness of every entry of both arguments. -/
theorem finite (x : FVec Ideal S2048x8x1024 .f32) (q : FVec Ideal S8x1536x256 .bf16)
    (h : Cert.Pre_finite.fn (F := Ideal) x q = fun _ => 1#1) : (∀ i, Finite (x i)) ∧ ∀ i, Finite (q i) := by
  have h0 := congrFun h (fun a => a.elim0)
  unfold fn at h0
  dsimp only at h0
  obtain ⟨hx, hq⟩ := IntOp.andi_eq_one.1 h0
  exact ⟨fun i => finite_of_cmp _ (Host.reduce_andi_all _ _ _ _ _ hx i),
    fun i => finite_of_cmp _ (Host.reduce_andi_all _ _ _ _ _ hq i)⟩

end Cert.Pre_finite.Args

end
-- ==== Proof.Agree.lean ====
/-
  The kernel's result array is the reference's, wherever the arguments are finite: entry by entry the first is
  `(x k) vᵀ` and the second is `x (k vᵀ)`.
-/
module

public import proofs.«01_k».proof.Proof.KernelValue
public import proofs.«01_k».proof.Proof.RefValue
public import proofs.«01_k».proof.Proof.FiniteArgs

@[expose] public section

set_option maxRecDepth 16384

noncomputable section

open Idealize.ShloMosaic Idealize.ShloMosaic.TcCoe Idealize.SL.Sem

namespace Cert.Agree

/-- For finite arguments the product taken from the left is the reference's result. -/
theorem product_eq (x : FVec Ideal Cert.KernelIdeal.S2048x8x1024 .f32) (q : FVec Ideal Cert.KernelIdeal.S8x1536x256 .bf16)
    (h : Cert.Pre_finite.fn (F := Ideal) x q = fun _ => 1#1) :
    Cert.KernelIdeal.Block.product x q = Cert.ReferenceIdeal.Read.val_main_v6 (F := Ideal) x q := by
  obtain ⟨hx, hq⟩ := Cert.Pre_finite.Args.finite x q h
  funext i
  rw [Cert.ReferenceIdeal.Entry.ref_apply]
  have h0 : (i 0).val < 2048 := (i 0).isLt
  have h1 : (i 1).val < 4096 := (i 1).isLt
  exact Cert.Reassoc.ereal
    (fun d : Fin 1024 => x (ix3 (i 0) ⟨(i 1).val / 512, by omega⟩ d))
    (fun (d : Fin 1024) (c : Fin 256) => q (ix3 ⟨(i 1).val / 512, by omega⟩ ⟨d.val, by omega⟩ c))
    (fun c : Fin 256 => q (ix3 ⟨(i 1).val / 512, by omega⟩ ⟨1024 + (i 1).val % 512, by omega⟩ c))
    (fun d => hx _) (fun d c => hq _) (fun c => hq _)

end Cert.Agree

end
-- ==== Proof.RangeStepIdeal.lean ====
module

public import proofs.«01_k».proof.Proof.Gen.Kernel2Ideal.Frame
public import proofs.«01_k».proof.Proof.Gen.Kernel2Ideal.Skeleton

@[expose] public section

noncomputable section

namespace Cert.Kernel2Ideal.Range

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.Kernel2Ideal.Gen

variable {F : FTy → Type} [FloatOps F]

local notation "𝕄" => MT nD τ sig Unit (Elt F) ℕ (UR sig nD τ) ℕ

/-- The branches the body takes at the first block of `K`. -/
def CaseFirst (i : grid0.Coords) : Prop :=
  k0_cond1 i = 1#1 ∧ k0_cond2 i = 1#1 ∧ k0_cond3 i = 1#1 ∧ ¬k0_cond4 i = 1#1 ∧ ¬k0_cond5 i = 1#1 ∧ ¬k0_cond6 i = 1#1 ∧ k0_cond7 i = 1#1 ∧ k0_cond8 i = 1#1 ∧ k0_cond9 i = 1#1 ∧ ¬k0_cond10 i = 1#1 ∧ ¬k0_cond11 i = 1#1 ∧ ¬k0_cond12 i = 1#1 ∧ k0_cond13 i = 1#1 ∧ ¬k0_cond14 i = 1#1 ∧ k0_cond15 i = 1#1 ∧ k0_cond16 i = 1#1 ∧ ¬k0_cond17 i = 1#1 ∧ ¬k0_cond18 i = 1#1 ∧ ¬k0_cond19 i = 1#1 ∧ k0_cond20 i = 1#1 ∧ k0_cond21 i = 1#1 ∧ k0_cond22 i = 1#1 ∧ ¬k0_cond23 i = 1#1 ∧ ¬k0_cond24 i = 1#1 ∧ ¬k0_cond25 i = 1#1 ∧ k0_cond26 i = 1#1

/-- The branches the body takes at a later block of `K`. -/
def CaseKey (i : grid0.Coords) : Prop :=
  k0_cond1 i = 1#1 ∧ k0_cond2 i = 1#1 ∧ ¬k0_cond3 i = 1#1 ∧ k0_cond4 i = 1#1 ∧ ¬k0_cond5 i = 1#1 ∧ ¬k0_cond6 i = 1#1 ∧ k0_cond7 i = 1#1 ∧ k0_cond8 i = 1#1 ∧ ¬k0_cond9 i = 1#1 ∧ k0_cond10 i = 1#1 ∧ ¬k0_cond11 i = 1#1 ∧ ¬k0_cond12 i = 1#1 ∧ k0_cond13 i = 1#1 ∧ ¬k0_cond14 i = 1#1 ∧ k0_cond15 i = 1#1 ∧ ¬k0_cond16 i = 1#1 ∧ k0_cond17 i = 1#1 ∧ ¬k0_cond18 i = 1#1 ∧ ¬k0_cond19 i = 1#1 ∧ k0_cond20 i = 1#1 ∧ k0_cond21 i = 1#1 ∧ ¬k0_cond22 i = 1#1 ∧ k0_cond23 i = 1#1 ∧ ¬k0_cond24 i = 1#1 ∧ ¬k0_cond25 i = 1#1 ∧ k0_cond26 i = 1#1

/-- The branches the body takes at the first block of `V`. -/
def CaseTurn (i : grid0.Coords) : Prop :=
  ¬k0_cond1 i = 1#1 ∧ ¬k0_cond2 i = 1#1 ∧ ¬k0_cond3 i = 1#1 ∧ k0_cond4 i = 1#1 ∧ k0_cond5 i = 1#1 ∧ k0_cond6 i = 1#1 ∧ ¬k0_cond7 i = 1#1 ∧ ¬k0_cond8 i = 1#1 ∧ ¬k0_cond9 i = 1#1 ∧ k0_cond10 i = 1#1 ∧ k0_cond11 i = 1#1 ∧ k0_cond12 i = 1#1 ∧ ¬k0_cond13 i = 1#1 ∧ k0_cond14 i = 1#1 ∧ ¬k0_cond15 i = 1#1 ∧ ¬k0_cond16 i = 1#1 ∧ k0_cond17 i = 1#1 ∧ k0_cond18 i = 1#1 ∧ k0_cond19 i = 1#1 ∧ ¬k0_cond20 i = 1#1 ∧ ¬k0_cond21 i = 1#1 ∧ ¬k0_cond22 i = 1#1 ∧ k0_cond23 i = 1#1 ∧ k0_cond24 i = 1#1 ∧ k0_cond25 i = 1#1 ∧ ¬k0_cond26 i = 1#1

/-- The branches the body takes at a later block of `V`. -/
def CaseValue (i : grid0.Coords) : Prop :=
  ¬k0_cond1 i = 1#1 ∧ ¬k0_cond2 i = 1#1 ∧ ¬k0_cond3 i = 1#1 ∧ k0_cond4 i = 1#1 ∧ k0_cond5 i = 1#1 ∧ ¬k0_cond6 i = 1#1 ∧ k0_cond7 i = 1#1 ∧ ¬k0_cond8 i = 1#1 ∧ ¬k0_cond9 i = 1#1 ∧ k0_cond10 i = 1#1 ∧ k0_cond11 i = 1#1 ∧ ¬k0_cond12 i = 1#1 ∧ k0_cond13 i = 1#1 ∧ k0_cond14 i = 1#1 ∧ ¬k0_cond15 i = 1#1 ∧ ¬k0_cond16 i = 1#1 ∧ k0_cond17 i = 1#1 ∧ k0_cond18 i = 1#1 ∧ ¬k0_cond19 i = 1#1 ∧ k0_cond20 i = 1#1 ∧ ¬k0_cond21 i = 1#1 ∧ ¬k0_cond22 i = 1#1 ∧ k0_cond23 i = 1#1 ∧ k0_cond24 i = 1#1 ∧ ¬k0_cond25 i = 1#1 ∧ k0_cond26 i = 1#1

theorem caseFirst_at : ∀ t : Fin cfg0.N, t.val = 0 → CaseFirst (grid0.coords t) :=
  (by unfold CaseFirst; decide +kernel : ∀ t : Fin grid0.N, t.val = 0 → CaseFirst (grid0.coords t))

theorem caseKey_at : ∀ t : Fin cfg0.N, t.val ≠ 0 → t.val < 4 → CaseKey (grid0.coords t) :=
  (by unfold CaseKey; decide +kernel : ∀ t : Fin grid0.N, t.val ≠ 0 → t.val < 4 → CaseKey (grid0.coords t))

theorem caseTurn_at : ∀ t : Fin cfg0.N, t.val = 4 → CaseTurn (grid0.coords t) :=
  (by unfold CaseTurn; decide +kernel : ∀ t : Fin grid0.N, t.val = 4 → CaseTurn (grid0.coords t))

theorem caseValue_at : ∀ t : Fin cfg0.N, 5 ≤ t.val → CaseValue (grid0.coords t) :=
  (by unfold CaseValue; decide +kernel : ∀ t : Fin grid0.N, 5 ≤ t.val → CaseValue (grid0.coords t))

set_option maxHeartbeats 1000000 in
/-- The body at the first block of `K`: what it writes over each accumulator, and that it runs to the
    continuation with the two weight blocks as they were. -/
def runFirst (c : Dev nD) (i : grid0.Coords) (arg1 : Memref sig .tc .vmem S8x256x256 .f32) (harg1 : arg1.IsWhole) (arg2 : Memref sig .tc .vmem S8x256x256 .f32) (harg2 : arg2.IsWhole) (arg3 : Memref sig .tc .smem S1x2 .f32) (harg3 : arg3.IsWhole) (arg4 : Memref sig .tc .smem S1x2 .f32) (harg4 : arg4.IsWhole) (hc : CaseFirst i)
    (x0 x1 : Vec F S8x256x256 .f32) (x2 x3 : Vec F S1x2 .f32) :
    { L : List (View.Piece (Elt F) S1x2 .f32) × List (View.Piece (Elt F) S1x2 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (iprop(owns (c : Thread nD τ) arg1 fullShare x0 ∗ owns (c : Thread nD τ) arg2 fullShare x1
              ∗ (arg3.view.loc (c : Thread nD τ) ↦[arg3.view.set]{fullShare} arg3.view.writes (Elt F) (harg3.unread x2) L.1)
              ∗ (arg4.view.loc (c : Thread nD τ) ↦[arg4.view.set]{fullShare} arg4.view.writes (Elt F) (harg4.unread x3) L.2)) -∗ K ⟨⟩))
          ⊢ wp frame (wpE (defs₀ (F := F)) Variants.none c none) E (cc0__phase_minmax i arg1 harg1 arg2 harg2 arg3 harg3 arg4 harg4) K } := by
  refine ⟨⟨?_, ?_⟩, fun E K => ?run⟩
  case run =>
    obtain ⟨h1, h2, h3, h4, h5, h6, h7, h8, h9, h10, h11, h12, h13, h14, h15, h16, h17, h18, h19, h20, h21, h22, h23, h24, h25, h26⟩ := hc
    simp only [cc0__phase_minmax_eq_skeleton]; unfold cc0__phase_minmax_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := assumption)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexact H2
    iexact H3

set_option maxHeartbeats 1000000 in
/-- The body at a later block of `K`: what it writes over each accumulator, and that it runs to the
    continuation with the two weight blocks as they were. -/
def runKey (c : Dev nD) (i : grid0.Coords) (arg1 : Memref sig .tc .vmem S8x256x256 .f32) (harg1 : arg1.IsWhole) (arg2 : Memref sig .tc .vmem S8x256x256 .f32) (harg2 : arg2.IsWhole) (arg3 : Memref sig .tc .smem S1x2 .f32) (harg3 : arg3.IsWhole) (arg4 : Memref sig .tc .smem S1x2 .f32) (harg4 : arg4.IsWhole) (hc : CaseKey i)
    (x0 x1 : Vec F S8x256x256 .f32) (x2 x3 : Vec F S1x2 .f32) :
    { L : List (View.Piece (Elt F) S1x2 .f32) × List (View.Piece (Elt F) S1x2 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (iprop(owns (c : Thread nD τ) arg1 fullShare x0 ∗ owns (c : Thread nD τ) arg2 fullShare x1
              ∗ (arg3.view.loc (c : Thread nD τ) ↦[arg3.view.set]{fullShare} arg3.view.writes (Elt F) (harg3.unread x2) L.1)
              ∗ (arg4.view.loc (c : Thread nD τ) ↦[arg4.view.set]{fullShare} arg4.view.writes (Elt F) (harg4.unread x3) L.2)) -∗ K ⟨⟩))
          ⊢ wp frame (wpE (defs₀ (F := F)) Variants.none c none) E (cc0__phase_minmax i arg1 harg1 arg2 harg2 arg3 harg3 arg4 harg4) K } := by
  refine ⟨⟨?_, ?_⟩, fun E K => ?run⟩
  case run =>
    obtain ⟨h1, h2, h3, h4, h5, h6, h7, h8, h9, h10, h11, h12, h13, h14, h15, h16, h17, h18, h19, h20, h21, h22, h23, h24, h25, h26⟩ := hc
    simp only [cc0__phase_minmax_eq_skeleton]; unfold cc0__phase_minmax_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := assumption)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexact H2
    iexact H3

set_option maxHeartbeats 1000000 in
/-- The body at the first block of `V`: what it writes over each accumulator, and that it runs to the
    continuation with the two weight blocks as they were. -/
def runTurn (c : Dev nD) (i : grid0.Coords) (arg1 : Memref sig .tc .vmem S8x256x256 .f32) (harg1 : arg1.IsWhole) (arg2 : Memref sig .tc .vmem S8x256x256 .f32) (harg2 : arg2.IsWhole) (arg3 : Memref sig .tc .smem S1x2 .f32) (harg3 : arg3.IsWhole) (arg4 : Memref sig .tc .smem S1x2 .f32) (harg4 : arg4.IsWhole) (hc : CaseTurn i)
    (x0 x1 : Vec F S8x256x256 .f32) (x2 x3 : Vec F S1x2 .f32) :
    { L : List (View.Piece (Elt F) S1x2 .f32) × List (View.Piece (Elt F) S1x2 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (iprop(owns (c : Thread nD τ) arg1 fullShare x0 ∗ owns (c : Thread nD τ) arg2 fullShare x1
              ∗ (arg3.view.loc (c : Thread nD τ) ↦[arg3.view.set]{fullShare} arg3.view.writes (Elt F) (harg3.unread x2) L.1)
              ∗ (arg4.view.loc (c : Thread nD τ) ↦[arg4.view.set]{fullShare} arg4.view.writes (Elt F) (harg4.unread x3) L.2)) -∗ K ⟨⟩))
          ⊢ wp frame (wpE (defs₀ (F := F)) Variants.none c none) E (cc0__phase_minmax i arg1 harg1 arg2 harg2 arg3 harg3 arg4 harg4) K } := by
  refine ⟨⟨?_, ?_⟩, fun E K => ?run⟩
  case run =>
    obtain ⟨h1, h2, h3, h4, h5, h6, h7, h8, h9, h10, h11, h12, h13, h14, h15, h16, h17, h18, h19, h20, h21, h22, h23, h24, h25, h26⟩ := hc
    simp only [cc0__phase_minmax_eq_skeleton]; unfold cc0__phase_minmax_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := assumption)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexact H2
    iexact H3

set_option maxHeartbeats 1000000 in
/-- The body at a later block of `V`: what it writes over each accumulator, and that it runs to the
    continuation with the two weight blocks as they were. -/
def runValue (c : Dev nD) (i : grid0.Coords) (arg1 : Memref sig .tc .vmem S8x256x256 .f32) (harg1 : arg1.IsWhole) (arg2 : Memref sig .tc .vmem S8x256x256 .f32) (harg2 : arg2.IsWhole) (arg3 : Memref sig .tc .smem S1x2 .f32) (harg3 : arg3.IsWhole) (arg4 : Memref sig .tc .smem S1x2 .f32) (harg4 : arg4.IsWhole) (hc : CaseValue i)
    (x0 x1 : Vec F S8x256x256 .f32) (x2 x3 : Vec F S1x2 .f32) :
    { L : List (View.Piece (Elt F) S1x2 .f32) × List (View.Piece (Elt F) S1x2 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (iprop(owns (c : Thread nD τ) arg1 fullShare x0 ∗ owns (c : Thread nD τ) arg2 fullShare x1
              ∗ (arg3.view.loc (c : Thread nD τ) ↦[arg3.view.set]{fullShare} arg3.view.writes (Elt F) (harg3.unread x2) L.1)
              ∗ (arg4.view.loc (c : Thread nD τ) ↦[arg4.view.set]{fullShare} arg4.view.writes (Elt F) (harg4.unread x3) L.2)) -∗ K ⟨⟩))
          ⊢ wp frame (wpE (defs₀ (F := F)) Variants.none c none) E (cc0__phase_minmax i arg1 harg1 arg2 harg2 arg3 harg3 arg4 harg4) K } := by
  refine ⟨⟨?_, ?_⟩, fun E K => ?run⟩
  case run =>
    obtain ⟨h1, h2, h3, h4, h5, h6, h7, h8, h9, h10, h11, h12, h13, h14, h15, h16, h17, h18, h19, h20, h21, h22, h23, h24, h25, h26⟩ := hc
    simp only [cc0__phase_minmax_eq_skeleton]; unfold cc0__phase_minmax_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := assumption)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexact H2
    iexact H3

end Cert.Kernel2Ideal.Range

end
-- ==== Proof.RangeBodyIdeal.lean ====
module

public import proofs.«01_k».proof.Proof.RangeStepIdeal
public import Idealize.ShloMosaic.Lib.WritesUnit
public import Idealize.ShloMosaic.Lib.Pipeline.DatRel
public import Idealize.ShloMosaic.Lib.Pipeline.ArrRel
public import Idealize.ShloMosaic.Lib.Claim
public import Idealize.ShloMosaic.Lib.Pipeline.ValueKit

@[expose] public section

noncomputable section

namespace Cert.Kernel2Ideal.Range

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.Kernel2Ideal.Gen

variable {F : FTy → Type} [FloatOps F]

local notation "𝕄" => MT nD τ sig Unit (Elt F) ℕ (UR sig nD τ) ℕ

/-- Entry `j` of an accumulator: 0 is of `K`, 1 is of `V`. -/
abbrev cell (j : Fin 2) : S1x2.Idx := ValueIdx.ix2 0 j

/-- `X'` is `X` with `v` as entry `j`. -/
def Put (j : Fin 2) (v : F .f32) (X X' : S1x2.Idx → F .f32) : Prop :=
  X' (cell j) = v ∧ X' (cell (1 - j)) = X (cell (1 - j))

theorem put0 {arg : Memref sig .tc .smem S1x2 .f32} (harg : arg.IsWhole) (X : Vec F S1x2 .f32) (v : F .f32)
    (inb : ∀ a, (![0, 0] : Fin 2 → ℕ) a + (![1, 1] : Fin 2 → ℕ) a ≤ S1x2.size a) :
    Put 0 v X (arg.view.read (Elt F) (arg.view.writes (Elt F) (harg.unread X) [⟨Rect.unit (s := S1x2) ![0, 0] ![1, 1] inb, fun _ => v⟩])) := by
  refine ⟨View.read_writes_cons_unit_of_mem _ _ inb _ _ _ (ValueIdx.ix2 0 0) rfl (fun a => by fin_cases a <;> rfl), ?_⟩
  rw [View.read_writes_cons_unit_of_not_mem _ _ inb _ _ _ rfl 1 (by decide), View.writes_nil, harg.read_unread]

theorem put1 {arg : Memref sig .tc .smem S1x2 .f32} (harg : arg.IsWhole) (X : Vec F S1x2 .f32) (v : F .f32)
    (inb : ∀ a, (![0, 1] : Fin 2 → ℕ) a + (![1, 1] : Fin 2 → ℕ) a ≤ S1x2.size a) :
    Put 1 v X (arg.view.read (Elt F) (arg.view.writes (Elt F) (harg.unread X) [⟨Rect.unit (s := S1x2) ![0, 1] ![1, 1] inb, fun _ => v⟩])) := by
  refine ⟨View.read_writes_cons_unit_of_mem _ _ inb _ _ _ (ValueIdx.ix2 0 0) rfl (fun a => by fin_cases a <;> rfl), ?_⟩
  rw [View.read_writes_cons_unit_of_not_mem _ _ inb _ _ _ rfl 1 (by decide), View.writes_nil, harg.read_unread]

/-- A whole block read is the block. -/
theorem whole_read {arg : Memref sig .tc .vmem S8x256x256 .f32} (harg : arg.IsWhole) (x : Vec F S8x256x256 .f32)
    (inb : ∀ a, (![0, 0, 0] : Fin 3 → ℕ) a + (![8, 256, 256] : Fin 3 → ℕ) a ≤ S8x256x256.size a) :
    View.readAt (Elt F) arg.view (Rect.unit (s := S8x256x256) ![0, 0, 0] ![8, 256, 256] inb).toLoadRect (harg.unread x) = x := by
  funext y
  refine (congrFun (harg.read_unread x) _).trans (congrArg x (funext fun a => Fin.ext ?_))
  fin_cases a <;> simp [LoadRect.idx, Rect.toLoadRect, Rect.unit]

/-- One entry read is the entry. -/
theorem cell_read0 {arg : Memref sig .tc .smem S1x2 .f32} (harg : arg.IsWhole) (x : Vec F S1x2 .f32)
    (inb : ∀ a, (![0, 0] : Fin 2 → ℕ) a + S1x1.size a ≤ S1x2.size a) (h : 0 < S1x1.numel) :
    View.readAt (Elt F) arg.view (Rect.unit (s := S1x2) ![0, 0] S1x1.size inb).toLoadRect (harg.unread x) (Shape.Idx.first h) = x (cell 0) :=
  (congrFun (harg.read_unread x) _).trans (congrArg x (funext fun a => Fin.ext (by fin_cases a <;> rfl)))

theorem cell_read1 {arg : Memref sig .tc .smem S1x2 .f32} (harg : arg.IsWhole) (x : Vec F S1x2 .f32)
    (inb : ∀ a, (![0, 1] : Fin 2 → ℕ) a + S1x1.size a ≤ S1x2.size a) (h : 0 < S1x1.numel) :
    View.readAt (Elt F) arg.view (Rect.unit (s := S1x2) ![0, 1] S1x1.size inb).toLoadRect (harg.unread x) (Shape.Idx.first h) = x (cell 1) :=
  (congrFun (harg.read_unread x) _).trans (congrArg x (funext fun a => Fin.ext (by fin_cases a <;> rfl)))

/-- The body at the first block of `K`, with each accumulator stated entry by entry. -/
theorem stepFirst (c : Dev nD) (i : grid0.Coords) (arg1 : Memref sig .tc .vmem S8x256x256 .f32) (harg1 : arg1.IsWhole) (arg2 : Memref sig .tc .vmem S8x256x256 .f32) (harg2 : arg2.IsWhole) (arg3 : Memref sig .tc .smem S1x2 .f32) (harg3 : arg3.IsWhole) (arg4 : Memref sig .tc .smem S1x2 .f32) (harg4 : arg4.IsWhole) (hc : CaseFirst i)
    (x0 x1 : Vec F S8x256x256 .f32) (x2 x3 : Vec F S1x2 .f32) (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (iprop(owns (c : Thread nD τ) arg1 fullShare x0 ∗ owns (c : Thread nD τ) arg2 fullShare x1
          ∗ (∃ X, ⌜Put 0 (k0_pay2 x0) x2 X⌝ ∗ owns (c : Thread nD τ) arg3 fullShare X)
          ∗ (∃ X, ⌜Put 0 (k0_pay5 x0) x3 X⌝ ∗ owns (c : Thread nD τ) arg4 fullShare X)) -∗ K ⟨⟩))
      ⊢ wp frame (wpE (defs₀ (F := F)) Variants.none c none) E (cc0__phase_minmax i arg1 harg1 arg2 harg2 arg3 harg3 arg4 harg4) K := by
  iintro ⟨H0, H1, H2, H3, Hk⟩
  iapply ((runFirst c i arg1 harg1 arg2 harg2 arg3 harg3 arg4 harg4 hc x0 x1 x2 x3).2 E K)
  isplitl [H0]; · iexact H0
  isplitl [H1]; · iexact H1
  isplitl [H2]; · iexact H2
  isplitl [H3]; · iexact H3
  iintro ⟨H0, H1, H2, H3⟩
  iapply Hk
  isplitl [H0]; · iexact H0
  isplitl [H1]; · iexact H1
  isplitl [H2]
  · iexists _; isplitr
    swap
    · unfold owns; iexists _; isplitr
      swap; · iexact H2
      ipureintro; rfl
    ipureintro
    unfold runFirst; dsimp only
    rw [whole_read harg1]
    exact put0 harg3 x2 _ _
  · iexists _; isplitr
    swap
    · unfold owns; iexists _; isplitr
      swap; · iexact H3
      ipureintro; rfl
    ipureintro
    unfold runFirst; dsimp only
    rw [whole_read harg1]
    exact put0 harg4 x3 _ _

/-- The body at a later block of `K`, with each accumulator stated entry by entry. -/
theorem stepKey (c : Dev nD) (i : grid0.Coords) (arg1 : Memref sig .tc .vmem S8x256x256 .f32) (harg1 : arg1.IsWhole) (arg2 : Memref sig .tc .vmem S8x256x256 .f32) (harg2 : arg2.IsWhole) (arg3 : Memref sig .tc .smem S1x2 .f32) (harg3 : arg3.IsWhole) (arg4 : Memref sig .tc .smem S1x2 .f32) (harg4 : arg4.IsWhole) (hc : CaseKey i)
    (x0 x1 : Vec F S8x256x256 .f32) (x2 x3 : Vec F S1x2 .f32) (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (iprop(owns (c : Thread nD τ) arg1 fullShare x0 ∗ owns (c : Thread nD τ) arg2 fullShare x1
          ∗ (∃ X, ⌜Put 0 (k0_pay3 x0 (x2 (cell 0))) x2 X⌝ ∗ owns (c : Thread nD τ) arg3 fullShare X)
          ∗ (∃ X, ⌜Put 0 (k0_pay6 x0 (x3 (cell 0))) x3 X⌝ ∗ owns (c : Thread nD τ) arg4 fullShare X)) -∗ K ⟨⟩))
      ⊢ wp frame (wpE (defs₀ (F := F)) Variants.none c none) E (cc0__phase_minmax i arg1 harg1 arg2 harg2 arg3 harg3 arg4 harg4) K := by
  iintro ⟨H0, H1, H2, H3, Hk⟩
  iapply ((runKey c i arg1 harg1 arg2 harg2 arg3 harg3 arg4 harg4 hc x0 x1 x2 x3).2 E K)
  isplitl [H0]; · iexact H0
  isplitl [H1]; · iexact H1
  isplitl [H2]; · iexact H2
  isplitl [H3]; · iexact H3
  iintro ⟨H0, H1, H2, H3⟩
  iapply Hk
  isplitl [H0]; · iexact H0
  isplitl [H1]; · iexact H1
  isplitl [H2]
  · iexists _; isplitr
    swap
    · unfold owns; iexists _; isplitr
      swap; · iexact H2
      ipureintro; rfl
    ipureintro
    unfold runKey; dsimp only
    unfold runKey.sl.r; rw [whole_read harg1, cell_read0 harg3]
    exact put0 harg3 x2 _ _
  · iexists _; isplitr
    swap
    · unfold owns; iexists _; isplitr
      swap; · iexact H3
      ipureintro; rfl
    ipureintro
    unfold runKey; dsimp only
    unfold runKey.sl.r_1; rw [whole_read harg1, cell_read0 harg4]
    exact put0 harg4 x3 _ _

/-- The body at the first block of `V`, with each accumulator stated entry by entry. -/
theorem stepTurn (c : Dev nD) (i : grid0.Coords) (arg1 : Memref sig .tc .vmem S8x256x256 .f32) (harg1 : arg1.IsWhole) (arg2 : Memref sig .tc .vmem S8x256x256 .f32) (harg2 : arg2.IsWhole) (arg3 : Memref sig .tc .smem S1x2 .f32) (harg3 : arg3.IsWhole) (arg4 : Memref sig .tc .smem S1x2 .f32) (harg4 : arg4.IsWhole) (hc : CaseTurn i)
    (x0 x1 : Vec F S8x256x256 .f32) (x2 x3 : Vec F S1x2 .f32) (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (iprop(owns (c : Thread nD τ) arg1 fullShare x0 ∗ owns (c : Thread nD τ) arg2 fullShare x1
          ∗ (∃ X, ⌜Put 1 (k0_pay9 x1) x2 X⌝ ∗ owns (c : Thread nD τ) arg3 fullShare X)
          ∗ (∃ X, ⌜Put 1 (k0_pay12 x1) x3 X⌝ ∗ owns (c : Thread nD τ) arg4 fullShare X)) -∗ K ⟨⟩))
      ⊢ wp frame (wpE (defs₀ (F := F)) Variants.none c none) E (cc0__phase_minmax i arg1 harg1 arg2 harg2 arg3 harg3 arg4 harg4) K := by
  iintro ⟨H0, H1, H2, H3, Hk⟩
  iapply ((runTurn c i arg1 harg1 arg2 harg2 arg3 harg3 arg4 harg4 hc x0 x1 x2 x3).2 E K)
  isplitl [H0]; · iexact H0
  isplitl [H1]; · iexact H1
  isplitl [H2]; · iexact H2
  isplitl [H3]; · iexact H3
  iintro ⟨H0, H1, H2, H3⟩
  iapply Hk
  isplitl [H0]; · iexact H0
  isplitl [H1]; · iexact H1
  isplitl [H2]
  · iexists _; isplitr
    swap
    · unfold owns; iexists _; isplitr
      swap; · iexact H2
      ipureintro; rfl
    ipureintro
    unfold runTurn; dsimp only
    rw [whole_read harg2]
    exact put1 harg3 x2 _ _
  · iexists _; isplitr
    swap
    · unfold owns; iexists _; isplitr
      swap; · iexact H3
      ipureintro; rfl
    ipureintro
    unfold runTurn; dsimp only
    rw [whole_read harg2]
    exact put1 harg4 x3 _ _

/-- The body at a later block of `V`, with each accumulator stated entry by entry. -/
theorem stepValue (c : Dev nD) (i : grid0.Coords) (arg1 : Memref sig .tc .vmem S8x256x256 .f32) (harg1 : arg1.IsWhole) (arg2 : Memref sig .tc .vmem S8x256x256 .f32) (harg2 : arg2.IsWhole) (arg3 : Memref sig .tc .smem S1x2 .f32) (harg3 : arg3.IsWhole) (arg4 : Memref sig .tc .smem S1x2 .f32) (harg4 : arg4.IsWhole) (hc : CaseValue i)
    (x0 x1 : Vec F S8x256x256 .f32) (x2 x3 : Vec F S1x2 .f32) (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (iprop(owns (c : Thread nD τ) arg1 fullShare x0 ∗ owns (c : Thread nD τ) arg2 fullShare x1
          ∗ (∃ X, ⌜Put 1 (k0_pay11 x1 (x2 (cell 1))) x2 X⌝ ∗ owns (c : Thread nD τ) arg3 fullShare X)
          ∗ (∃ X, ⌜Put 1 (k0_pay14 x1 (x3 (cell 1))) x3 X⌝ ∗ owns (c : Thread nD τ) arg4 fullShare X)) -∗ K ⟨⟩))
      ⊢ wp frame (wpE (defs₀ (F := F)) Variants.none c none) E (cc0__phase_minmax i arg1 harg1 arg2 harg2 arg3 harg3 arg4 harg4) K := by
  iintro ⟨H0, H1, H2, H3, Hk⟩
  iapply ((runValue c i arg1 harg1 arg2 harg2 arg3 harg3 arg4 harg4 hc x0 x1 x2 x3).2 E K)
  isplitl [H0]; · iexact H0
  isplitl [H1]; · iexact H1
  isplitl [H2]; · iexact H2
  isplitl [H3]; · iexact H3
  iintro ⟨H0, H1, H2, H3⟩
  iapply Hk
  isplitl [H0]; · iexact H0
  isplitl [H1]; · iexact H1
  isplitl [H2]
  · iexists _; isplitr
    swap
    · unfold owns; iexists _; isplitr
      swap; · iexact H2
      ipureintro; rfl
    ipureintro
    unfold runValue; dsimp only
    unfold runValue.sl.r; rw [whole_read harg2, cell_read1 harg3]
    exact put1 harg3 x2 _ _
  · iexists _; isplitr
    swap
    · unfold owns; iexists _; isplitr
      swap; · iexact H3
      ipureintro; rfl
    ipureintro
    unfold runValue; dsimp only
    unfold runValue.sl.r_1; rw [whole_read harg2, cell_read1 harg4]
    exact put1 harg4 x3 _ _

end Cert.Kernel2Ideal.Range

end
-- ==== Proof.RangeRunIdeal.lean ====
module

public import proofs.«01_k».proof.Proof.RangeBodyIdeal

@[expose] public section

noncomputable section

namespace Cert.Kernel2Ideal.Range

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Grid point `n`. -/
def pt (n : ℕ) : Fin cfg0.N := ⟨n % 6, lt_of_lt_of_eq (Nat.mod_lt _ (by decide)) (show cfg0.N = 6 from N_0).symm⟩

theorem pt_val (t : Fin cfg0.N) : pt t.val = t :=
  Fin.ext (Nat.mod_eq_of_lt (lt_of_lt_of_eq t.isLt (show cfg0.N = 6 from N_0)))

/-- The greatest weight of `K` in its blocks up to block `n`. -/
def hiK (c : Dev nD) : ℕ → F .f32
  | 0 => k0_pay2 (iblk m c 0 (pt 0))
  | n + 1 => k0_pay3 (iblk m c 0 (pt (n + 1))) (hiK c n)

/-- The greatest weight of `V` in its blocks up to block `n`. -/
def hiV (c : Dev nD) : ℕ → F .f32
  | 0 => k0_pay9 (iblk m c 1 (pt 4))
  | n + 1 => k0_pay11 (iblk m c 1 (pt (n + 5))) (hiV c n)

/-- The least weight of `K` in its blocks up to block `n`. -/
def loK (c : Dev nD) : ℕ → F .f32
  | 0 => k0_pay5 (iblk m c 0 (pt 0))
  | n + 1 => k0_pay6 (iblk m c 0 (pt (n + 1))) (loK c n)

/-- The least weight of `V` in its blocks up to block `n`. -/
def loV (c : Dev nD) : ℕ → F .f32
  | 0 => k0_pay12 (iblk m c 1 (pt 4))
  | n + 1 => k0_pay14 (iblk m c 1 (pt (n + 5))) (loV c n)

/-- An accumulator after point `t`: its `K` entry is `a` at the last block of `K` so far, and once the blocks of `V` have
    begun its `V` entry is `b` at the last of those. Before that the `V` entry is not said. -/
def Holds (a b : ℕ → F .f32) (t : Fin cfg0.N) (X : S1x2.Idx → F .f32) : Prop :=
  X (cell 0) = a (min t.val 3) ∧ (4 ≤ t.val → X (cell 1) = b (t.val - 4))

theorem holds_first {a b : ℕ → F .f32} {t : Fin cfg0.N} {X X' : S1x2.Idx → F .f32} {v : F .f32} (ht : t.val = 0)
    (hv : v = a 0) (h : Put 0 v X X') : Holds a b t X' :=
  ⟨by rw [h.1, hv, ht]; rfl, fun h4 => by omega⟩

theorem holds_key {a b : ℕ → F .f32} {t t' : Fin cfg0.N} {X X' : S1x2.Idx → F .f32} {v : F .f32} (ht : t.val ≠ 0)
    (ht4 : t.val < 4) (hv : v = a t.val) (h : Put 0 v X X') : Holds a b t X' :=
  ⟨by rw [h.1, hv, Nat.min_eq_left (by omega)], fun h4 => by omega⟩

theorem holds_turn {a b : ℕ → F .f32} {t t' : Fin cfg0.N} {X X' : S1x2.Idx → F .f32} {v : F .f32} (ht : t.val = 4)
    (ht' : t'.val = 3) (hX : Holds a b t' X) (hv : v = b 0) (h : Put 1 v X X') : Holds a b t X' :=
  ⟨by have h2 := h.2; have h1 := hX.1; rw [ht'] at h1; rw [ht]; exact h2.trans h1, fun _ => by rw [h.1, hv, ht]⟩

theorem holds_value {a b : ℕ → F .f32} {t t' : Fin cfg0.N} {X X' : S1x2.Idx → F .f32} {v : F .f32} (ht : t.val = 5)
    (ht' : t'.val = 4) (hX : Holds a b t' X) (hv : v = b 1) (h : Put 1 v X X') : Holds a b t X' :=
  ⟨by have h2 := h.2; have h1 := hX.1; rw [ht'] at h1; rw [ht]; exact h2.trans h1, fun _ => by rw [h.1, hv, ht]⟩

/-- What is said of the two accumulators after each point. -/
def Acc (c : Dev nD) : (w : Fin cfg0.W) → Fin cfg0.N → ((cfg0.win w).block.Idx → Elt F (cfg0.win w).elt) → Prop
  | ⟨0, _⟩, _, _ => True
  | ⟨1, _⟩, _, _ => True
  | ⟨2, _⟩, t, X => Holds (hiK m c) (hiV m c) t X
  | ⟨3, _⟩, t, X => Holds (loK m c) (loV m c) t X

/-- The windows of which only that is said. -/
def isAcc : Fin cfg0.W → Bool
  | ⟨0, _⟩ => false
  | ⟨1, _⟩ => false
  | ⟨2, _⟩ => true
  | ⟨3, _⟩ => true

/-- The arrays of the launch; the two weight blocks stay in place. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => fun _ => FloatOps.ofBits .f32 0#32
    | ⟨3, _⟩ => fun _ => FloatOps.ofBits .f32 0#32
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The proof data: the weight blocks exactly, the accumulators by `Acc`. -/
abbrev rdat (c : Dev nD) : Pipeline.RDat τ (Elt F) Unit ℕ (UR sig nD τ) ℕ cfg0 c := (dats m 0 c).toRRel isAcc (Acc m c)

/-- After the first point an accumulator is found as the point before left it. -/
theorem found2 (c : Dev nD) (t t' : Fin cfg0.N) (ht : t.val = t'.val + 1) (Y : S1x2.Idx → F .f32) (h : (rdat m c).Finds 2 t Y) :
    Holds (hiK m c) (hiV m c) t' Y := by
  have hN : t.val < 6 := lt_of_lt_of_eq t.isLt (show cfg0.N = 6 from N_0)
  have e : (⟨t.val - 1, Nat.lt_of_le_of_lt (Nat.sub_le _ _) t.isLt⟩ : Fin cfg0.N) = t' := Fin.ext (by simp only [ht]; omega)
  rcases ((rdat m c).finds_of_pos (w := 2) (t := t) rfl (by omega) Y).mp h with h | h
  · have := (flush0_2 _).mp h; simp only at this; omega
  · have := (dats m 0 c).toRRel_leaves (w := 2) rfl h; rw [e] at this; exact this
theorem found3 (c : Dev nD) (t t' : Fin cfg0.N) (ht : t.val = t'.val + 1) (Y : S1x2.Idx → F .f32) (h : (rdat m c).Finds 3 t Y) :
    Holds (loK m c) (loV m c) t' Y := by
  have hN : t.val < 6 := lt_of_lt_of_eq t.isLt (show cfg0.N = 6 from N_0)
  have e : (⟨t.val - 1, Nat.lt_of_le_of_lt (Nat.sub_le _ _) t.isLt⟩ : Fin cfg0.N) = t' := Fin.ext (by simp only [ht]; omega)
  rcases ((rdat m c).finds_of_pos (w := 3) (t := t) rfl (by omega) Y).mp h with h | h
  · have := (flush0_3 _).mp h; simp only at this; omega
  · have := (dats m 0 c).toRRel_leaves (w := 3) rfl h; rw [e] at this; exact this

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ Y, ⌜(rdat m c).Finds 2 t Y⌝ ∗ owns (c : Thread nD τ) (st0_2 t) fullShare Y)
    ∗ (∃ Y, ⌜(rdat m c).Finds 3 t Y⌝ ∗ owns (c : Thread nD τ) (st0_3 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ X, ⌜Acc m c 2 t X⌝ ∗ owns (c : Thread nD τ) (st0_2 t) fullShare X)
    ∗ (∃ X, ⌜Acc m c 3 t X⌝ ∗ owns (c : Thread nD τ) (st0_3 t) fullShare X))

set_option maxHeartbeats 1600000 in
/-- The body at any point takes the accumulators from what is said before it to what is said after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl, after0, after1]
  have hN : t.val < 6 := lt_of_lt_of_eq t.isLt (show cfg0.N = 6 from N_0)
  iintro ⟨HΦ, Ho, ⟨%d0, H0⟩, ⟨%d1, H1⟩, ⟨%Y2, %f2, H2⟩, ⟨%Y3, %f3, H3⟩⟩
  by_cases h0 : t.val = 0
  · have et : pt 0 = t := by rw [← h0]; exact pt_val t
    iapply (stepFirst c (grid0.coords t) _ _ _ _ _ _ _ _ (caseFirst_at t h0) (iblk m c 0 t) (iblk m c 1 t) Y2 Y3 Set.univ _)
    isplitl [H0]; · iexact H0
    isplitl [H1]; · iexact H1
    isplitl [H2]; · iexact H2
    isplitl [H3]; · iexact H3
    iintro ⟨H0, H1, ⟨%X2, %p2, H2⟩, ⟨%X3, %p3, H3⟩⟩
    isplitl [HΦ]; · iexact HΦ
    isplitl [Ho]; · iexact Ho
    isplitl [H0]; · iexact H0
    isplitl [H1]; · iexact H1
    isplitl [H2]
    · iexists X2; isplitr
      · ipureintro; exact holds_first h0 (by show _ = hiK m c 0; rw [hiK, et]) p2
      · iexact H2
    · iexists X3; isplitr
      · ipureintro; exact holds_first h0 (by show _ = loK m c 0; rw [loK, et]) p3
      · iexact H3
  · obtain ⟨u, hu⟩ : ∃ u : Fin cfg0.N, t.val = u.val + 1 := ⟨⟨t.val - 1, by omega⟩, by simp only; omega⟩
    have e2 := found2 m c t u hu Y2 f2
    have e3 := found3 m c t u hu Y3 f3
    by_cases h4 : t.val < 4
    · have et : pt (u.val + 1) = t := by rw [← hu]; exact pt_val t
      iapply (stepKey c (grid0.coords t) _ _ _ _ _ _ _ _ (caseKey_at t h0 h4) (iblk m c 0 t) (iblk m c 1 t) Y2 Y3 Set.univ _)
      isplitl [H0]; · iexact H0
      isplitl [H1]; · iexact H1
      isplitl [H2]; · iexact H2
      isplitl [H3]; · iexact H3
      iintro ⟨H0, H1, ⟨%X2, %p2, H2⟩, ⟨%X3, %p3, H3⟩⟩
      isplitl [HΦ]; · iexact HΦ
      isplitl [Ho]; · iexact Ho
      isplitl [H0]; · iexact H0
      isplitl [H1]; · iexact H1
      isplitl [H2]
      · iexists X2; isplitr
        · ipureintro; exact holds_key (t' := u) h0 h4 (by rw [e2.1, Nat.min_eq_left (by omega), hu, hiK, et]) p2
        · iexact H2
      · iexists X3; isplitr
        · ipureintro; exact holds_key (t' := u) h0 h4 (by rw [e3.1, Nat.min_eq_left (by omega), hu, loK, et]) p3
        · iexact H3
    · by_cases h4' : t.val = 4
      · have et : pt 4 = t := by rw [← h4']; exact pt_val t
        iapply (stepTurn c (grid0.coords t) _ _ _ _ _ _ _ _ (caseTurn_at t h4') (iblk m c 0 t) (iblk m c 1 t) Y2 Y3 Set.univ _)
        isplitl [H0]; · iexact H0
        isplitl [H1]; · iexact H1
        isplitl [H2]; · iexact H2
        isplitl [H3]; · iexact H3
        iintro ⟨H0, H1, ⟨%X2, %p2, H2⟩, ⟨%X3, %p3, H3⟩⟩
        isplitl [HΦ]; · iexact HΦ
        isplitl [Ho]; · iexact Ho
        isplitl [H0]; · iexact H0
        isplitl [H1]; · iexact H1
        isplitl [H2]
        · iexists X2; isplitr
          · ipureintro; exact holds_turn h4' (by omega) e2 (by rw [hiV, et]) p2
          · iexact H2
        · iexists X3; isplitr
          · ipureintro; exact holds_turn h4' (by omega) e3 (by rw [loV, et]) p3
          · iexact H3
      · have h5 : t.val = 5 := by omega
        have et : pt (0 + 5) = t := by rw [← pt_val t, h5]
        have hu4 : u.val = 4 := by omega
        iapply (stepValue c (grid0.coords t) _ _ _ _ _ _ _ _ (caseValue_at t (by omega)) (iblk m c 0 t) (iblk m c 1 t) Y2 Y3 Set.univ _)
        isplitl [H0]; · iexact H0
        isplitl [H1]; · iexact H1
        isplitl [H2]; · iexact H2
        isplitl [H3]; · iexact H3
        iintro ⟨H0, H1, ⟨%X2, %p2, H2⟩, ⟨%X3, %p3, H3⟩⟩
        isplitl [HΦ]; · iexact HΦ
        isplitl [Ho]; · iexact Ho
        isplitl [H0]; · iexact H0
        isplitl [H1]; · iexact H1
        isplitl [H2]
        · iexists X2; isplitr
          · ipureintro; exact holds_value h5 hu4 e2 (by rw [e2.2 (by omega), hu4, ← et]; rfl) p2
          · iexact H2
        · iexists X3; isplitr
          · ipureintro; exact holds_value h5 hu4 e3 (by rw [e3.2 (by omega), hu4, ← et]; rfl) p3
          · iexact H3

/-- The body table's row is the body. -/
theorem row (t : Fin cfg0.N) : defs₀ (F := F) .tc cfg0.body (cfg0.bodyArgs t (cfg0.slots t)) = bodyAt0 t := by
  unfold defs₀; rw [Defs.onTc_tc]

theorem obligation (c : Dev nD) :
    Pipeline.BodyObligationRel (dats (F := F) m 0 c) (defs₀ (F := F)) Variants.none () Set.univ isAcc (Acc m c) := fun t => by
  rw [bigSep_W0, bigSep_W0, row]
  exact triple_restated (sound_body m c t) rfl .rfl fun _ => .rfl

set_option backward.isDefEq.respectTransparency.types false in
/-- The program runs; at the end every array is as the proof data say, and every counter is zero. -/
theorem run_all : θ_run defs (onTc (τ := τ) (main (F := F))) (s₀ m ρ)
    (fun r => Pipeline.RDat.FramePost cfg0 (rdat m) (V m) r ∧ r.2.sem = fun _ => 0) :=
  Pipeline.RDat.θ_run_frame (Q' := _) cfgs (0 : Fin 1) launch0 defs₀ Variants.none (rdat m) m ρ main
    (hbody := fun c => (obligation m c).toRRel) (hshare := fun c => (dats m 0 c).share_full fun _ => rfl)
    (howed := fun _ _ => rfl) (V := V m) (hmain := hmain m Variants.none) (hA := A_eq m) (hΦ := fun _ _ => rfl)
    (hQ' := fun _ h => h)

/-- The frame: the program runs, its arguments end unchanged, every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩, h.2⟩) (run_all m ρ)

end Cert.Kernel2Ideal.Range

end
-- ==== Proof.RangeValue.lean ====
/-
  The greatest and the least weights that the range call finds over the extended reals. Each is told by what bounds it: the greatest
  is at most `b` exactly when every weight is, and the least is at least `b` exactly when every weight is.
-/
module

public import proofs.«01_k».proof.Proof.RangeRunIdeal
public import Idealize.ShloMosaic.Lib.Pointwise
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.Kernel2Ideal.Range

open Cert.Kernel2Ideal Cert.Kernel2Ideal.Gen

/-- The word the maxima start from is `-∞`, -/
theorem bot_word : (FloatOps.ofBits .f32 0xFF800000#32 : Ideal .f32) = (⊥ : EReal) := by
  show Ideal.ofBits .f32 _ = _
  simp [Ideal.ofBits, Ideal.ieee]
/-- and the word the minima start from is `+∞`. -/
theorem top_word : (FloatOps.ofBits .f32 0x7F800000#32 : Ideal .f32) = (⊤ : EReal) := by
  show Ideal.ofBits .f32 _ = _
  simp [Ideal.ofBits, Ideal.ieee]

section
variable {s t : Shape} {axes : List (Fin s.rank)}

/-- A maximum over all of a vector is at most `b` when every entry is, -/
theorem maxRed_le (src : FVec Ideal s .f32) (h : s.Reduces axes t) (hφ : FKind.Formats .f32)
    (hacc : (0xFF800000#32 : BitVec (FTy.bits .f32)) = FKind.maximumf.neutral .f32 hφ) (ht : ∀ i j : t.Idx, i = j) (j : t.Idx) (b : EReal) :
    (multiReduction .maximumf axes t src 0xFF800000#32 h hφ hacc j : EReal) ≤ b ↔ ∀ i, (src i : EReal) ≤ b := by
  rw [multiReduction_maximumf_eq_fold, bot_word]
  exact Finset.fold_max_le (b := (⊥ : EReal)) (f := src) b |>.trans
    ⟨fun h' i => h'.2 i (Finset.mem_filter.mpr ⟨Finset.mem_univ i, ht _ _⟩), fun h' => ⟨bot_le, fun i _ => h' i⟩⟩

/-- and a minimum at least `b` when every entry is. -/
theorem le_minRed (src : FVec Ideal s .f32) (h : s.Reduces axes t) (hφ : FKind.Formats .f32)
    (hacc : (0x7F800000#32 : BitVec (FTy.bits .f32)) = FKind.minimumf.neutral .f32 hφ) (ht : ∀ i j : t.Idx, i = j) (j : t.Idx) (b : EReal) :
    b ≤ (multiReduction .minimumf axes t src 0x7F800000#32 h hφ hacc j : EReal) ↔ ∀ i, b ≤ (src i : EReal) := by
  rw [multiReduction_minimumf_eq_fold, top_word]
  exact Finset.le_fold_min (b := (⊤ : EReal)) (f := src) b |>.trans
    ⟨fun h' i => h'.2 i (Finset.mem_filter.mpr ⟨Finset.mem_univ i, ht _ _⟩), fun h' => ⟨le_top, fun i _ => h' i⟩⟩

/-- A property of every entry is a property of every entry of a reshape. -/
theorem forall_shapeCast {α : Type} (p : α → Prop) (x : s.Idx → α) (h : s.ShapeCasts t) : (∀ i, p (shapeCast t x h i)) ↔ ∀ i, p (x i) :=
  (Shape.reshapeEquiv h).forall_congr fun _ => Iff.rfl

end

theorem one_idx : ∀ i j : S1.Idx, i = j := fun i j => funext fun a => by
  match a with
  | ⟨0, _⟩ => exact Subsingleton.elim (α := Fin 1) _ _

/-- The greatest entry of a block is at most `b` when every entry is, -/
theorem blockMax_le (x : FVec Ideal S8x256x256 .f32) (b : EReal) : (k0_pay2 (F := Ideal) x : EReal) ≤ b ↔ ∀ i, (x i : EReal) ≤ b := by
  unfold k0_pay2 k0_pay1
  exact (maxRed_le _ _ (.inl rfl) rfl one_idx _ b).trans ((forall_shapeCast (· ≤ b) _ _).trans (forall_shapeCast (· ≤ b) _ _))
theorem blockMax_le' (x : FVec Ideal S8x256x256 .f32) (b : EReal) : (k0_pay9 (F := Ideal) x : EReal) ≤ b ↔ ∀ i, (x i : EReal) ≤ b := by
  unfold k0_pay9 k0_pay8
  exact (maxRed_le _ _ (.inl rfl) rfl one_idx _ b).trans ((forall_shapeCast (· ≤ b) _ _).trans (forall_shapeCast (· ≤ b) _ _))

/-- and its least entry at least `b` when every entry is. -/
theorem le_blockMin (x : FVec Ideal S8x256x256 .f32) (b : EReal) : b ≤ (k0_pay5 (F := Ideal) x : EReal) ↔ ∀ i, b ≤ (x i : EReal) := by
  unfold k0_pay5 k0_pay1
  exact (le_minRed _ _ (.inl rfl) rfl one_idx _ b).trans ((forall_shapeCast (b ≤ ·) _ _).trans (forall_shapeCast (b ≤ ·) _ _))
theorem le_blockMin' (x : FVec Ideal S8x256x256 .f32) (b : EReal) : b ≤ (k0_pay12 (F := Ideal) x : EReal) ↔ ∀ i, b ≤ (x i : EReal) := by
  unfold k0_pay12 k0_pay8
  exact (le_minRed _ _ (.inl rfl) rfl one_idx _ b).trans ((forall_shapeCast (b ≤ ·) _ _).trans (forall_shapeCast (b ≤ ·) _ _))

/-- A running maximum is at most `b` when everything it has met is, -/
theorem running_max {ι : Type} (a p : ℕ → EReal) (f : ℕ → ι → EReal) (h0 : a 0 = p 0) (hs : ∀ n, a (n + 1) = max (a n) (p (n + 1)))
    (hp : ∀ n b, p n ≤ b ↔ ∀ i, f n i ≤ b) (b : EReal) : ∀ n, a n ≤ b ↔ ∀ k ≤ n, ∀ i, f k i ≤ b
  | 0 => by
    rw [h0, hp]
    exact ⟨fun h k hk => by obtain rfl := Nat.le_zero.mp hk; exact h, fun h => h 0 le_rfl⟩
  | n + 1 => by
    rw [hs, max_le_iff, running_max a p f h0 hs hp b n, hp]
    exact ⟨fun h k hk => by rcases Nat.le_succ_iff.mp hk with h' | rfl; exacts [h.1 k h', h.2],
      fun h => ⟨fun k hk => h k (by omega), h _ le_rfl⟩⟩

/-- and a running minimum at least `b` when everything it has met is. -/
theorem running_min {ι : Type} (a p : ℕ → EReal) (f : ℕ → ι → EReal) (h0 : a 0 = p 0) (hs : ∀ n, a (n + 1) = min (a n) (p (n + 1)))
    (hp : ∀ n b, b ≤ p n ↔ ∀ i, b ≤ f n i) (b : EReal) : ∀ n, b ≤ a n ↔ ∀ k ≤ n, ∀ i, b ≤ f k i
  | 0 => by
    rw [h0, hp]
    exact ⟨fun h k hk => by obtain rfl := Nat.le_zero.mp hk; exact h, fun h => h 0 le_rfl⟩
  | n + 1 => by
    rw [hs, le_min_iff, running_min a p f h0 hs hp b n, hp]
    exact ⟨fun h k hk => by rcases Nat.le_succ_iff.mp hk with h' | rfl; exacts [h.1 k h', h.2],
      fun h => ⟨fun k hk => h k (by omega), h _ le_rfl⟩⟩

variable (m : (ℓ : Loc nD τ sig) → Buf (Elt Ideal) ℓ)

/-- A later block's step is the maximum or the minimum of what there was and the block's own. -/
theorem pay3_eq (x : FVec Ideal S8x256x256 .f32) (v : Ideal .f32) : k0_pay3 (F := Ideal) x v = (max v (k0_pay2 (F := Ideal) x) : EReal) := by
  unfold k0_pay3; exact Ideal.scalar_maximumf_def ..
theorem pay6_eq (x : FVec Ideal S8x256x256 .f32) (v : Ideal .f32) : k0_pay6 (F := Ideal) x v = (min v (k0_pay5 (F := Ideal) x) : EReal) := by
  unfold k0_pay6; exact Ideal.scalar_minimumf_def ..
theorem pay11_eq (x : FVec Ideal S8x256x256 .f32) (v : Ideal .f32) : k0_pay11 (F := Ideal) x v = (max v (k0_pay9 (F := Ideal) x) : EReal) := by
  unfold k0_pay11; exact Ideal.scalar_maximumf_def ..
theorem pay14_eq (x : FVec Ideal S8x256x256 .f32) (v : Ideal .f32) : k0_pay14 (F := Ideal) x v = (min v (k0_pay12 (F := Ideal) x) : EReal) := by
  unfold k0_pay14; exact Ideal.scalar_minimumf_def ..

/-- Block `k` of `K` and of `V`. -/
def blkK (c : Dev nD) (k : ℕ) : FVec Ideal S8x256x256 .f32 := iblk m c 0 (pt k)
def blkV (c : Dev nD) (k : ℕ) : FVec Ideal S8x256x256 .f32 := iblk m c 1 (pt (k + 4))

/-- The two accumulations up to block `n` of `K`, -/
theorem hiK_le (c : Dev nD) (b : EReal) (n : ℕ) : (hiK m c n : EReal) ≤ b ↔ ∀ k ≤ n, ∀ i, (blkK m c k i : EReal) ≤ b := by
  refine running_max (hiK m c) (fun n => k0_pay2 (F := Ideal) (blkK m c n)) (fun n i => blkK m c n i) ?_ ?_ ?_ b n
  · simp only [hiK, blkK]
  · exact fun n => pay3_eq _ _
  · exact fun n b => blockMax_le _ b
theorem le_loK (c : Dev nD) (b : EReal) (n : ℕ) : b ≤ (loK m c n : EReal) ↔ ∀ k ≤ n, ∀ i, b ≤ (blkK m c k i : EReal) := by
  refine running_min (loK m c) (fun n => k0_pay5 (F := Ideal) (blkK m c n)) (fun n i => blkK m c n i) ?_ ?_ ?_ b n
  · simp only [loK, blkK]
  · exact fun n => pay6_eq _ _
  · exact fun n b => le_blockMin _ b

/-- and up to block `n` of `V`. -/
theorem hiV_le (c : Dev nD) (b : EReal) (n : ℕ) : (hiV m c n : EReal) ≤ b ↔ ∀ k ≤ n, ∀ i, (blkV m c k i : EReal) ≤ b := by
  refine running_max (hiV m c) (fun n => k0_pay9 (F := Ideal) (blkV m c n)) (fun n i => blkV m c n i) ?_ ?_ ?_ b n
  · simp only [hiV, blkV, Nat.zero_add]
  · exact fun n => pay11_eq _ _
  · exact fun n b => blockMax_le' _ b
theorem le_loV (c : Dev nD) (b : EReal) (n : ℕ) : b ≤ (loV m c n : EReal) ↔ ∀ k ≤ n, ∀ i, b ≤ (blkV m c k i : EReal) := by
  refine running_min (loV m c) (fun n => k0_pay12 (F := Ideal) (blkV m c n)) (fun n i => blkV m c n i) ?_ ?_ ?_ b n
  · simp only [loV, blkV, Nat.zero_add]
  · exact fun n => pay14_eq _ _
  · exact fun n b => le_blockMin' _ b

end Cert.Kernel2Ideal.Range

end
-- ==== Proof.RangeBlocks.lean ====
/-
  Which weights a block holds.
-/
module

public import proofs.«01_k».proof.Proof.RangeValue
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Range

open Cert.Kernel2Ideal Cert.Kernel2Ideal.Gen

variable (m : (ℓ : Loc nD τ sig) → Buf (Elt Ideal) ℓ)

/-- The windows' blocks: the four blocks of `K` and then the last of them again; the first block of `V` until the fifth point. -/
theorem idx : ∀ t : Fin cfg0.N, win0_0.index t = ![0, min t.val 3, 0] ∧ win0_1.index t = ![0, t.val - 4, 0] :=
  (by decide +kernel : ∀ t : Fin grid0.N, _)

/-- An entry of a block of `K`: row `r`, column `s` of block `k` is weight `(256 k + r) 256 + s`. -/
theorem blockK (c : Dev nD) (k : ℕ) (hk : k ≤ 3) (i : S8x256x256.Idx) : blkK m c k i
    = m ((c : Thread nD τ).loc main_arg0) (ix2 (i 0) ⟨(k * 256 + (i 1).val) * 256 + (i 2).val, by idx_bounds; omega⟩) := by
  have hp : (pt k).val = k := Nat.mod_eq_of_lt (by omega)
  have hm : min k 3 = k := by omega
  unfold blkK
  blk_point [iblk, V, idx (pt k), hp, hm]

theorem blockV (c : Dev nD) (k : ℕ) (hk : k ≤ 1) (i : S8x256x256.Idx) : blkV m c k i
    = m ((c : Thread nD τ).loc main_arg1) (ix2 (i 0) ⟨(k * 256 + (i 1).val) * 256 + (i 2).val, by idx_bounds; omega⟩) := by
  have hp : (pt (k + 4)).val = k + 4 := Nat.mod_eq_of_lt (by omega)
  have hm : k + 4 - 4 = k := by omega
  unfold blkV
  blk_point [iblk, V, idx (pt (k + 4)), hp, hm]

/-- Every weight of `K` is in one of its four blocks, -/
theorem inK (c : Dev nD) (p : EReal → Prop) : (∀ k ≤ 3, ∀ i, p (blkK m c k i)) ↔ ∀ i : S8x262144.Idx, p (m ((c : Thread nD τ).loc main_arg0) i) := by
  constructor
  · intro h i
    have h1 : (i 1).val < 262144 := (i 1).isLt
    have := h ((i 1).val / 65536) (by omega) (ix3 (i 0) ⟨(i 1).val / 256 % 256, by omega⟩ ⟨(i 1).val % 256, by omega⟩)
    rw [blockK m c _ (by omega)] at this
    convert this using 2
    funext a
    match a with
    | ⟨0, _⟩ => rfl
    | ⟨1, _⟩ => exact Fin.ext (by show (i 1).val = ((i 1).val / 65536 * 256 + (i 1).val / 256 % 256) * 256 + (i 1).val % 256; omega)
  · intro h k hk i
    rw [blockK m c k hk]; exact h _

/-- and every weight of `V` in one of its two. -/
theorem inV (c : Dev nD) (p : EReal → Prop) : (∀ k ≤ 1, ∀ i, p (blkV m c k i)) ↔ ∀ i : S8x131072.Idx, p (m ((c : Thread nD τ).loc main_arg1) i) := by
  constructor
  · intro h i
    have h1 : (i 1).val < 131072 := (i 1).isLt
    have := h ((i 1).val / 65536) (by omega) (ix3 (i 0) ⟨(i 1).val / 256 % 256, by omega⟩ ⟨(i 1).val % 256, by omega⟩)
    rw [blockV m c _ (by omega)] at this
    convert this using 2
    funext a
    match a with
    | ⟨0, _⟩ => rfl
    | ⟨1, _⟩ => exact Fin.ext (by show (i 1).val = ((i 1).val / 65536 * 256 + (i 1).val / 256 % 256) * 256 + (i 1).val % 256; omega)
  · intro h k hk i
    rw [blockV m c k hk]; exact h _

end Cert.Kernel2Ideal.Range

end
-- ==== Proof.RangeEnd.lean ====
/-
  The range call's two results after the run, and that they are the reference's: each entry and the reference's are bounded by the
  same numbers.
-/
module

public import proofs.«01_k».proof.Proof.RangeBlocks
public import proofs.«01_k».proof.Proof.Gen.Reference2Ideal
public import proofs.«01_k».proof.Proof.Gen.Reference2Ideal.Read
public import Idealize.ShloMosaic.Lib.Pipeline.ArrRel
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Range

open Cert.Kernel2Ideal Cert.Kernel2Ideal.Gen

variable (m : (ℓ : Loc nD τ sig) → Buf (Elt Ideal) ℓ)

section
variable {s t u : Shape} {axes : List (Fin s.rank)}

/-- The host's maximum over all of an array is at most `b` when every entry is, -/
theorem hostMax_le (src : FVec Ideal s .f32) (h : s.ReducesTo axes t) (hu : 0 < u.numel) (ht : ∀ i j : t.Idx, i = j) (j : t.Idx) (b : EReal) :
    (Host.reduce (α := Ideal .f32) (FloatOps.maximumf (F := Ideal) (φ := .f32)) src (constant (F := Ideal) u .f32 0xFF800000#32) h hu j : EReal) ≤ b ↔ ∀ i, (src i : EReal) ≤ b := by
  rw [Host.reduce_eq_fold, show constant (F := Ideal) u .f32 0xFF800000#32 (Shape.Idx.first hu) = (⊥ : EReal) from bot_word]
  exact Finset.fold_max_le (b := (⊥ : EReal)) (f := src) b |>.trans
    ⟨fun h' i => h'.2 i (Finset.mem_filter.mpr ⟨Finset.mem_univ i, ht _ _⟩), fun h' => ⟨bot_le, fun i _ => h' i⟩⟩

/-- and its minimum at least `b` when every entry is. -/
theorem le_hostMin (src : FVec Ideal s .f32) (h : s.ReducesTo axes t) (hu : 0 < u.numel) (ht : ∀ i j : t.Idx, i = j) (j : t.Idx) (b : EReal) :
    b ≤ (Host.reduce (α := Ideal .f32) (FloatOps.minimumf (F := Ideal) (φ := .f32)) src (constant (F := Ideal) u .f32 0x7F800000#32) h hu j : EReal) ↔ ∀ i, b ≤ (src i : EReal) := by
  rw [Host.reduce_eq_fold, show constant (F := Ideal) u .f32 0x7F800000#32 (Shape.Idx.first hu) = (⊤ : EReal) from top_word]
  exact Finset.le_fold_min (b := (⊤ : EReal)) (f := src) b |>.trans
    ⟨fun h' i => h'.2 i (Finset.mem_filter.mpr ⟨Finset.mem_univ i, ht _ _⟩), fun h' => ⟨le_top, fun i _ => h' i⟩⟩

end

theorem scalar_idx : ∀ i j : Cert.Reference2Ideal.S_.Idx, i = j := fun i j => funext fun a => a.elim0

/-- An index of a result is one of its two cells. -/
theorem cells (j : S1x2.Idx) : j = cell 0 ∨ j = cell 1 := by
  have h0 : (j 0).val < 1 := (j 0).isLt
  have h1 : (j 1).val < 2 := (j 1).isLt
  rcases (by omega : (j 1).val = 0 ∨ (j 1).val = 1) with h | h
  · left; funext a
    match a with
    | ⟨0, _⟩ => exact Fin.ext (by show (j 0).val = 0; omega)
    | ⟨1, _⟩ => exact Fin.ext (by show (j 1).val = 0; omega)
  · right; funext a
    match a with
    | ⟨0, _⟩ => exact Fin.ext (by show (j 0).val = 0; omega)
    | ⟨1, _⟩ => exact Fin.ext (by show (j 1).val = 1; omega)

open Cert.Reference2Ideal.Read in
/-- The first entry of the reference's maxima is the greatest weight of `K`, the second that of `V`, -/
theorem ref_max (x : FVec Ideal S8x262144 .f32) (y : FVec Ideal S8x131072 .f32) (b : EReal) :
    ((val_main_v5 (F := Ideal) x y (cell 0) : EReal) ≤ b ↔ ∀ i, (x i : EReal) ≤ b)
      ∧ ((val_main_v5 (F := Ideal) x y (cell 1) : EReal) ≤ b ↔ ∀ i, (y i : EReal) ≤ b) := by
  have e0 : val_main_v4 (F := Ideal) x y (idx_main_v5 (cell 0)) = val_main_v2 (F := Ideal) x (ix1 0) := by
    unfold val_main_v4
    generalize val_main_v2 (F := Ideal) x = p
    generalize val_main_v3 (F := Ideal) y = q
    pointwise
  have e1 : val_main_v4 (F := Ideal) x y (idx_main_v5 (cell 1)) = val_main_v3 (F := Ideal) y (ix1 0) := by
    unfold val_main_v4
    generalize val_main_v2 (F := Ideal) x = p
    generalize val_main_v3 (F := Ideal) y = q
    pointwise
  rw [val_main_v5_apply, val_main_v5_apply, e0, e1, val_main_v2_apply, val_main_v3_apply]
  unfold val_main_v0 val_main_v1
  exact ⟨hostMax_le _ _ _ scalar_idx _ b, hostMax_le _ _ _ scalar_idx _ b⟩

open Cert.Reference2Ideal.Read in
/-- and of its minima likewise. -/
theorem ref_min (x : FVec Ideal S8x262144 .f32) (y : FVec Ideal S8x131072 .f32) (b : EReal) :
    (b ≤ (val_main_v11 (F := Ideal) x y (cell 0) : EReal) ↔ ∀ i, b ≤ (x i : EReal))
      ∧ (b ≤ (val_main_v11 (F := Ideal) x y (cell 1) : EReal) ↔ ∀ i, b ≤ (y i : EReal)) := by
  have e0 : val_main_v10 (F := Ideal) x y (idx_main_v11 (cell 0)) = val_main_v8 (F := Ideal) x (ix1 0) := by
    unfold val_main_v10
    generalize val_main_v8 (F := Ideal) x = p
    generalize val_main_v9 (F := Ideal) y = q
    pointwise
  have e1 : val_main_v10 (F := Ideal) x y (idx_main_v11 (cell 1)) = val_main_v9 (F := Ideal) y (ix1 0) := by
    unfold val_main_v10
    generalize val_main_v8 (F := Ideal) x = p
    generalize val_main_v9 (F := Ideal) y = q
    pointwise
  rw [val_main_v11_apply, val_main_v11_apply, e0, e1, val_main_v8_apply, val_main_v9_apply]
  unfold val_main_v6 val_main_v7
  exact ⟨le_hostMin _ _ _ scalar_idx _ b, le_hostMin _ _ _ scalar_idx _ b⟩

/-- An array that one point writes whole: what the point may have left. -/
theorem whole_array {cfg₁ : Pipeline.Cfg sig Λ₀} {rd : (c : Dev nD) → Pipeline.RDat τ (Elt Ideal) Unit ℕ (UR sig nD τ) ℕ cfg₁ c}
    {V₁ : (c : Dev nD) → (b : Ref sig .tc) → Buf (Elt Ideal) ((c.tc : Thread nD τ).loc b)} {r : PUnit × MemSt nD τ sig (Elt Ideal)}
    (h : Pipeline.RDat.FramePost cfg₁ rd V₁ r) (c : Dev nD) (w : Fin cfg₁.W) {t₀ : Fin cfg₁.N} (hw : (cfg₁.win w).WholeAt t₀) :
    ∃ X, (rd c).Leaves w t₀ X ∧ ∀ j : (cfg₁.win w).shape.Idx,
      r.2.mem ((cfg₁.spec w).arr.view.loc (c.tc : Thread nD τ)) ((cfg₁.win w).arr.view.emb j)
        = _root_.cast (congrArg (Elt Ideal) (cfg₁.win w).arr.view.elt_eq.symm) (X fun a => ⟨j a, hw.lt_size j a⟩) :=
  ((h c).1 w).emb_eq_of_wholeAt hw

/-- After the run the first result holds the greatest weights, -/
theorem end_max {r : PUnit × MemSt nD τ sig (Elt Ideal)} (h : Pipeline.RDat.FramePost cfg0 (rdat m) (V m) r) (c : Dev nD) :
    Holds (hiK m c) (hiV m c) t0_5 (r.2.mem ((c : Thread nD τ).loc main_v2_0)) := by
  obtain ⟨X, hX, hj⟩ := whole_array h c 2 (t₀ := t0_5) (by decide +kernel)
  have e : Holds (hiK m c) (hiV m c) t0_5 X := (dats m 0 c).toRRel_leaves (w := 2) rfl hX
  have e0 := hj (cell 0)
  have e1 := hj (cell 1)
  exact ⟨e0.trans e.1, fun h4 => e1.trans (e.2 h4)⟩

/-- and the second the least. -/
theorem end_min {r : PUnit × MemSt nD τ sig (Elt Ideal)} (h : Pipeline.RDat.FramePost cfg0 (rdat m) (V m) r) (c : Dev nD) :
    Holds (loK m c) (loV m c) t0_5 (r.2.mem ((c : Thread nD τ).loc main_v2_1)) := by
  obtain ⟨X, hX, hj⟩ := whole_array h c 3 (t₀ := t0_5) (by decide +kernel)
  have e : Holds (loK m c) (loV m c) t0_5 X := (dats m 0 c).toRRel_leaves (w := 3) rfl hX
  have e0 := hj (cell 0)
  have e1 := hj (cell 1)
  exact ⟨e0.trans e.1, fun h4 => e1.trans (e.2 h4)⟩

open Cert.Reference2Ideal.Read in
/-- The accumulated maxima are the reference's, -/
theorem max_eq (c : Dev nD) (X : FVec Ideal S1x2 .f32) (h : Holds (hiK m c) (hiV m c) t0_5 X) :
    X = val_main_v5 (F := Ideal) (m ((c : Thread nD τ).loc main_arg0)) (m ((c : Thread nD τ).loc main_arg1)) := by
  have r := ref_max (m ((c : Thread nD τ).loc main_arg0)) (m ((c : Thread nD τ).loc main_arg1))
  funext j
  rcases cells j with rfl | rfl
  · exact h.1.trans (eq_of_forall_ge_iff fun b => ((hiK_le m c b 3).trans (inK m c (· ≤ b))).trans (r b).1.symm)
  · exact (h.2 (by decide)).trans (eq_of_forall_ge_iff fun b => ((hiV_le m c b 1).trans (inV m c (· ≤ b))).trans (r b).2.symm)

open Cert.Reference2Ideal.Read in
/-- and the accumulated minima. -/
theorem min_eq (c : Dev nD) (X : FVec Ideal S1x2 .f32) (h : Holds (loK m c) (loV m c) t0_5 X) :
    X = val_main_v11 (F := Ideal) (m ((c : Thread nD τ).loc main_arg0)) (m ((c : Thread nD τ).loc main_arg1)) := by
  have r := ref_min (m ((c : Thread nD τ).loc main_arg0)) (m ((c : Thread nD τ).loc main_arg1))
  funext j
  rcases cells j with rfl | rfl
  · exact h.1.trans (eq_of_forall_le_iff fun b => ((le_loK m c b 3).trans (inK m c (b ≤ ·))).trans (r b).1.symm)
  · exact (h.2 (by decide)).trans (eq_of_forall_le_iff fun b => ((le_loV m c b 1).trans (inV m c (b ≤ ·))).trans (r b).2.symm)

open Cert.Reference2Ideal.Read in
/-- The run's results: the reference's values of the arguments, which end unchanged. -/
theorem run_values (ρ : Dev nD → PrngReg) : θ_run defs (onTc (τ := τ) (main (F := Ideal))) ⟨m, fun _ => 0, ρ⟩ (fun r => ∀ c : Dev nD,
      r.2.mem ((c.tc : Thread nD τ).loc main_v2_0) = val_main_v5 (F := Ideal) (m ((c : Thread nD τ).loc main_arg0)) (m ((c : Thread nD τ).loc main_arg1))
      ∧ r.2.mem ((c.tc : Thread nD τ).loc main_v2_1) = val_main_v11 (F := Ideal) (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨max_eq m c _ (end_max m h.1 c), min_eq m c _ (end_min m h.1 c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩) (run_all m ρ)

end Cert.Kernel2Ideal.Range

end
-- ==== Proof.GapLoopIdeal.lean ====
module

public import proofs.«01_k».proof.Proof.Gen.Kernel3Ideal.Frame
public import proofs.«01_k».proof.Proof.Gen.Kernel3Ideal.Skeleton
public import proofs.«01_k».proof.Proof.Gen.Kernel3Ideal.Loops
public import Idealize.ShloMosaic.Lib.Pipeline.ValueKit

@[expose] public section

noncomputable section

namespace Cert.Kernel3Ideal.Gap

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.Kernel3Ideal.Gen

variable {F : FTy → Type} [FloatOps F]

local notation "𝕄" => MT nD τ sig Unit (Elt F) ℕ (UR sig nD τ) ℕ

/-- Chunk `n` of slice `a` of a block: sixteen of its rows. -/
def slab (x : Vec F S8x256x256 .f32) (a : Fin 8) (n : ℕ) : Vec F S1x16x256 .f32 := fun j =>
  x (ValueIdx.ix3 a ⟨(16 * n + (j 1).val) % 256, Nat.mod_lt _ (by decide)⟩ (j 2))

/-- A chunk read is the chunk. -/
theorem slab_read {arg : Memref sig .tc .vmem S8x256x256 .f32} (harg : arg.IsWhole) (x : Vec F S8x256x256 .f32)
    (o : Fin 3 → ℕ) (a : Fin 8) (n : ℕ) (ho : o = ![a.val, 16 * n, 0]) (hn : n < 16)
    (inb : ∀ b, o b + S1x16x256.size b ≤ S8x256x256.size b) :
    View.readAt (Elt F) arg.view (Rect.unit (s := S8x256x256) o S1x16x256.size inb).toLoadRect (harg.unread x) = slab x a n := by
  subst ho
  funext y
  refine (congrFun (harg.read_unread x) _).trans (congrArg x (funext fun b => Fin.ext ?_))
  have h0 : (y 0).val < 1 := (y 0).isLt
  have h1 : (y 1).val < 16 := (y 1).isLt
  match b with
  | ⟨0, _⟩ => show a.val + 1 * (y 0).val = a.val; omega
  | ⟨1, _⟩ => show 16 * n + 1 * (y 1).val = (16 * n + (y 1).val) % 256; omega
  | ⟨2, _⟩ => show 0 + 1 * (y 2).val = (y 2).val; omega

/-- The carried value after one chunk of `K` whose eight weights of a column are in `b0` … `b7`. -/
def gapK (s : F .f32) (b0 b1 b2 b3 b4 b5 b6 b7 : Vec F S1x16x256 .f32) (acc : F .f32) : F .f32 :=
  k0_pay50 acc
    (k0_pay41 s (k0_pay6 b2) (k0_pay7 b3) (k0_pay8 b4) (k0_pay9 b5) (k0_pay10 b6) (k0_pay11 b7) (k0_pay12 s b0) (k0_pay13 s b1) (k0_pay14 s b2))
    (k0_pay42 s (k0_pay6 b2) (k0_pay7 b3) (k0_pay8 b4) (k0_pay9 b5) (k0_pay10 b6) (k0_pay11 b7) (k0_pay12 s b0) (k0_pay13 s b1) (k0_pay14 s b2))
    (k0_pay43 s (k0_pay6 b2) (k0_pay7 b3) (k0_pay8 b4) (k0_pay9 b5) (k0_pay10 b6) (k0_pay11 b7) (k0_pay12 s b0) (k0_pay13 s b1) (k0_pay14 s b2))
    (k0_pay44 s (k0_pay6 b2) (k0_pay7 b3) (k0_pay8 b4) (k0_pay9 b5) (k0_pay10 b6) (k0_pay11 b7) (k0_pay12 s b0) (k0_pay13 s b1) (k0_pay14 s b2))
    (k0_pay45 s (k0_pay6 b2) (k0_pay7 b3) (k0_pay8 b4) (k0_pay9 b5) (k0_pay10 b6) (k0_pay11 b7) (k0_pay12 s b0) (k0_pay13 s b1) (k0_pay14 s b2))
    (k0_pay46 s (k0_pay6 b2) (k0_pay7 b3) (k0_pay8 b4) (k0_pay9 b5) (k0_pay10 b6) (k0_pay11 b7) (k0_pay12 s b0) (k0_pay13 s b1) (k0_pay14 s b2))
    (k0_pay47 s (k0_pay6 b2) (k0_pay7 b3) (k0_pay8 b4) (k0_pay9 b5) (k0_pay10 b6) (k0_pay11 b7) (k0_pay12 s b0) (k0_pay13 s b1) (k0_pay14 s b2))
    (k0_pay48 s (k0_pay6 b2) (k0_pay7 b3) (k0_pay8 b4) (k0_pay9 b5) (k0_pay10 b6) (k0_pay11 b7) (k0_pay12 s b0) (k0_pay13 s b1) (k0_pay14 s b2))
    (k0_pay49 s (k0_pay6 b2) (k0_pay7 b3) (k0_pay8 b4) (k0_pay9 b5) (k0_pay10 b6) (k0_pay11 b7) (k0_pay12 s b0) (k0_pay13 s b1) (k0_pay14 s b2))

/-- The carried value after `n` chunks of the block `x` of `K`. -/
def foldK (s : F .f32) (x : Vec F S8x256x256 .f32) : ℕ → F .f32
  | 0 => Scalar.ofBits .f32 0x00000000#32
  | n + 1 => gapK s (slab x 0 n) (slab x 1 n) (slab x 2 n) (slab x 3 n) (slab x 4 n) (slab x 5 n) (slab x 6 n) (slab x 7 n) (foldK s x n)

/-- The carried value after one chunk of `V` whose eight weights of a column are in `b0` … `b7`. -/
def gapV (s : F .f32) (b0 b1 b2 b3 b4 b5 b6 b7 : Vec F S1x16x256 .f32) (acc : F .f32) : F .f32 :=
  k0_pay95 acc
    (k0_pay86 s (k0_pay51 b2) (k0_pay52 b3) (k0_pay53 b4) (k0_pay54 b5) (k0_pay55 b6) (k0_pay56 b7) (k0_pay57 s b0) (k0_pay58 s b1) (k0_pay59 s b2))
    (k0_pay87 s (k0_pay51 b2) (k0_pay52 b3) (k0_pay53 b4) (k0_pay54 b5) (k0_pay55 b6) (k0_pay56 b7) (k0_pay57 s b0) (k0_pay58 s b1) (k0_pay59 s b2))
    (k0_pay88 s (k0_pay51 b2) (k0_pay52 b3) (k0_pay53 b4) (k0_pay54 b5) (k0_pay55 b6) (k0_pay56 b7) (k0_pay57 s b0) (k0_pay58 s b1) (k0_pay59 s b2))
    (k0_pay89 s (k0_pay51 b2) (k0_pay52 b3) (k0_pay53 b4) (k0_pay54 b5) (k0_pay55 b6) (k0_pay56 b7) (k0_pay57 s b0) (k0_pay58 s b1) (k0_pay59 s b2))
    (k0_pay90 s (k0_pay51 b2) (k0_pay52 b3) (k0_pay53 b4) (k0_pay54 b5) (k0_pay55 b6) (k0_pay56 b7) (k0_pay57 s b0) (k0_pay58 s b1) (k0_pay59 s b2))
    (k0_pay91 s (k0_pay51 b2) (k0_pay52 b3) (k0_pay53 b4) (k0_pay54 b5) (k0_pay55 b6) (k0_pay56 b7) (k0_pay57 s b0) (k0_pay58 s b1) (k0_pay59 s b2))
    (k0_pay92 s (k0_pay51 b2) (k0_pay52 b3) (k0_pay53 b4) (k0_pay54 b5) (k0_pay55 b6) (k0_pay56 b7) (k0_pay57 s b0) (k0_pay58 s b1) (k0_pay59 s b2))
    (k0_pay93 s (k0_pay51 b2) (k0_pay52 b3) (k0_pay53 b4) (k0_pay54 b5) (k0_pay55 b6) (k0_pay56 b7) (k0_pay57 s b0) (k0_pay58 s b1) (k0_pay59 s b2))
    (k0_pay94 s (k0_pay51 b2) (k0_pay52 b3) (k0_pay53 b4) (k0_pay54 b5) (k0_pay55 b6) (k0_pay56 b7) (k0_pay57 s b0) (k0_pay58 s b1) (k0_pay59 s b2))

/-- The carried value after `n` chunks of the block `x` of `V`. -/
def foldV (s : F .f32) (x : Vec F S8x256x256 .f32) : ℕ → F .f32
  | 0 => Scalar.ofBits .f32 0x00000000#32
  | n + 1 => gapV s (slab x 0 n) (slab x 1 n) (slab x 2 n) (slab x 3 n) (slab x 4 n) (slab x 5 n) (slab x 6 n) (slab x 7 n) (foldV s x n)

theorem tripsK : k0_t1_loop.trips = 16 := by decide +kernel

/-- One trip of the loop over the chunks of `K` carries its value as `gapK` says. -/
theorem tripK (c : Dev nD) (i : grid0.Coords) (arg1 : Memref sig .tc .vmem S8x256x256 .f32) (harg1 : arg1.IsWhole) (arg2 : Memref sig .tc .vmem S8x256x256 .f32) (harg2 : arg2.IsWhole) (arg3 : Memref sig .tc .smem S1x2 .f32) (harg3 : arg3.IsWhole) (arg4 : Memref sig .tc .smem S1x2 .f32) (harg4 : arg4.IsWhole) (arg5 : Memref sig .tc .smem S1x2 .f32) (harg5 : arg5.IsWhole) (v1 v2 v5 v6 : Elt F .f32)
    (k0_h1 : k0_cond1 i = 1#1) (x : Vec F S8x256x256 .f32) (k : Fin k0_t1_loop.trips) (acc : F .f32) :
    tripR_k0_t1 Variants.none c none i arg1 harg1 arg2 harg2 arg3 harg3 arg4 harg4 arg5 harg5 v1 v2 v5 v6 k0_h1 (harg1.unread x) k acc
      = gapK (k0_pay1 i v1 v2 v5 v6) (slab x 0 k.val) (slab x 1 k.val) (slab x 2 k.val) (slab x 3 k.val) (slab x 4 k.val) (slab x 5 k.val) (slab x 6 k.val) (slab x 7 k.val) acc := by
  have hk : k.val < 16 := lt_of_lt_of_eq k.isLt tripsK
  unfold tripR_k0_t1 trip_k0_t1
  refine Eq.trans (show _ = gapK (k0_pay1 i v1 v2 v5 v6)
    (View.readAt (Elt F) arg1.view (Rect.unit (s := S8x256x256) (k0_off1 k) S1x16x256.size (k0_off1_inb i k k0_h1)).toLoadRect (harg1.unread x))
    (View.readAt (Elt F) arg1.view (Rect.unit (s := S8x256x256) (k0_off2 k) S1x16x256.size (k0_off2_inb i k k0_h1)).toLoadRect (harg1.unread x))
    (View.readAt (Elt F) arg1.view (Rect.unit (s := S8x256x256) (k0_off3 k) S1x16x256.size (k0_off3_inb i k k0_h1)).toLoadRect (harg1.unread x))
    (View.readAt (Elt F) arg1.view (Rect.unit (s := S8x256x256) (k0_off4 k) S1x16x256.size (k0_off4_inb i k k0_h1)).toLoadRect (harg1.unread x))
    (View.readAt (Elt F) arg1.view (Rect.unit (s := S8x256x256) (k0_off5 k) S1x16x256.size (k0_off5_inb i k k0_h1)).toLoadRect (harg1.unread x))
    (View.readAt (Elt F) arg1.view (Rect.unit (s := S8x256x256) (k0_off6 k) S1x16x256.size (k0_off6_inb i k k0_h1)).toLoadRect (harg1.unread x))
    (View.readAt (Elt F) arg1.view (Rect.unit (s := S8x256x256) (k0_off7 k) S1x16x256.size (k0_off7_inb i k k0_h1)).toLoadRect (harg1.unread x))
    (View.readAt (Elt F) arg1.view (Rect.unit (s := S8x256x256) (k0_off8 k) S1x16x256.size (k0_off8_inb i k k0_h1)).toLoadRect (harg1.unread x)) acc from rfl) ?_
  rw [slab_read harg1 x _ 0 k.val (k0_off1_eq k) hk, slab_read harg1 x _ 1 k.val (k0_off2_eq k) hk, slab_read harg1 x _ 2 k.val (k0_off3_eq k) hk, slab_read harg1 x _ 3 k.val (k0_off4_eq k) hk, slab_read harg1 x _ 4 k.val (k0_off5_eq k) hk, slab_read harg1 x _ 5 k.val (k0_off6_eq k) hk, slab_read harg1 x _ 6 k.val (k0_off7_eq k) hk, slab_read harg1 x _ 7 k.val (k0_off8_eq k) hk]

/-- The value the loop over the chunks of `K` carries. -/
theorem loopK (c : Dev nD) (i : grid0.Coords) (arg1 : Memref sig .tc .vmem S8x256x256 .f32) (harg1 : arg1.IsWhole) (arg2 : Memref sig .tc .vmem S8x256x256 .f32) (harg2 : arg2.IsWhole) (arg3 : Memref sig .tc .smem S1x2 .f32) (harg3 : arg3.IsWhole) (arg4 : Memref sig .tc .smem S1x2 .f32) (harg4 : arg4.IsWhole) (arg5 : Memref sig .tc .smem S1x2 .f32) (harg5 : arg5.IsWhole) (v1 v2 v5 v6 : Elt F .f32)
    (k0_h1 : k0_cond1 i = 1#1) (x : Vec F S8x256x256 .f32) : ∀ n : ℕ, n ≤ 16 →
    st_k0_t1 Variants.none c none i arg1 harg1 arg2 harg2 arg3 harg3 arg4 harg4 arg5 harg5 v1 v2 v5 v6 k0_h1 (harg1.unread x) (Scalar.ofBits .f32 0x00000000#32) n
      = foldK (k0_pay1 i v1 v2 v5 v6) x n
  | 0, _ => rfl
  | n + 1, hn => by
    have e := st_k0_t1_succ Variants.none c none i arg1 harg1 arg2 harg2 arg3 harg3 arg4 harg4 arg5 harg5 v1 v2 v5 v6 k0_h1 (harg1.unread x)
      (Scalar.ofBits .f32 0x00000000#32) ⟨n, lt_of_lt_of_eq (Nat.lt_of_succ_le hn) tripsK.symm⟩
    rw [tripK, loopK c i arg1 harg1 arg2 harg2 arg3 harg3 arg4 harg4 arg5 harg5 v1 v2 v5 v6 k0_h1 x n (Nat.le_of_succ_le hn)] at e
    exact e

/-- The value the loop over the chunks of `K` ends with. -/
theorem loopK_all (c : Dev nD) (i : grid0.Coords) (arg1 : Memref sig .tc .vmem S8x256x256 .f32) (harg1 : arg1.IsWhole) (arg2 : Memref sig .tc .vmem S8x256x256 .f32) (harg2 : arg2.IsWhole) (arg3 : Memref sig .tc .smem S1x2 .f32) (harg3 : arg3.IsWhole) (arg4 : Memref sig .tc .smem S1x2 .f32) (harg4 : arg4.IsWhole) (arg5 : Memref sig .tc .smem S1x2 .f32) (harg5 : arg5.IsWhole) (v1 v2 v5 v6 : Elt F .f32)
    (k0_h1 : k0_cond1 i = 1#1) (x : Vec F S8x256x256 .f32) :
    st_k0_t1 Variants.none c none i arg1 harg1 arg2 harg2 arg3 harg3 arg4 harg4 arg5 harg5 v1 v2 v5 v6 k0_h1 (harg1.unread x) (Scalar.ofBits .f32 0x00000000#32)
        (Scf.trips k0_t1_loop.lb k0_t1_loop.ub k0_t1_loop.st)
      = foldK (k0_pay1 i v1 v2 v5 v6) x 16 :=
  (congrArg _ (show Scf.trips k0_t1_loop.lb k0_t1_loop.ub k0_t1_loop.st = 16 from tripsK)).trans
    (loopK c i arg1 harg1 arg2 harg2 arg3 harg3 arg4 harg4 arg5 harg5 v1 v2 v5 v6 k0_h1 x 16 le_rfl)

theorem tripsV : k0_t2_loop.trips = 16 := by decide +kernel

/-- One trip of the loop over the chunks of `V` carries its value as `gapV` says. -/
theorem tripV (c : Dev nD) (i : grid0.Coords) (arg1 : Memref sig .tc .vmem S8x256x256 .f32) (harg1 : arg1.IsWhole) (arg2 : Memref sig .tc .vmem S8x256x256 .f32) (harg2 : arg2.IsWhole) (arg3 : Memref sig .tc .smem S1x2 .f32) (harg3 : arg3.IsWhole) (arg4 : Memref sig .tc .smem S1x2 .f32) (harg4 : arg4.IsWhole) (arg5 : Memref sig .tc .smem S1x2 .f32) (harg5 : arg5.IsWhole) (v1 v2 v5 v6 : Elt F .f32)
    (k0_h8 : k0_cond8 i = 1#1) (x : Vec F S8x256x256 .f32) (k : Fin k0_t2_loop.trips) (acc : F .f32) :
    tripR_k0_t2 Variants.none c none i arg1 harg1 arg2 harg2 arg3 harg3 arg4 harg4 arg5 harg5 v1 v2 v5 v6 k0_h8 (harg2.unread x) k acc
      = gapV (k0_pay1 i v1 v2 v5 v6) (slab x 0 k.val) (slab x 1 k.val) (slab x 2 k.val) (slab x 3 k.val) (slab x 4 k.val) (slab x 5 k.val) (slab x 6 k.val) (slab x 7 k.val) acc := by
  have hk : k.val < 16 := lt_of_lt_of_eq k.isLt tripsV
  unfold tripR_k0_t2 trip_k0_t2
  refine Eq.trans (show _ = gapV (k0_pay1 i v1 v2 v5 v6)
    (View.readAt (Elt F) arg2.view (Rect.unit (s := S8x256x256) (k0_off9 k) S1x16x256.size (k0_off9_inb i k k0_h8)).toLoadRect (harg2.unread x))
    (View.readAt (Elt F) arg2.view (Rect.unit (s := S8x256x256) (k0_off10 k) S1x16x256.size (k0_off10_inb i k k0_h8)).toLoadRect (harg2.unread x))
    (View.readAt (Elt F) arg2.view (Rect.unit (s := S8x256x256) (k0_off11 k) S1x16x256.size (k0_off11_inb i k k0_h8)).toLoadRect (harg2.unread x))
    (View.readAt (Elt F) arg2.view (Rect.unit (s := S8x256x256) (k0_off12 k) S1x16x256.size (k0_off12_inb i k k0_h8)).toLoadRect (harg2.unread x))
    (View.readAt (Elt F) arg2.view (Rect.unit (s := S8x256x256) (k0_off13 k) S1x16x256.size (k0_off13_inb i k k0_h8)).toLoadRect (harg2.unread x))
    (View.readAt (Elt F) arg2.view (Rect.unit (s := S8x256x256) (k0_off14 k) S1x16x256.size (k0_off14_inb i k k0_h8)).toLoadRect (harg2.unread x))
    (View.readAt (Elt F) arg2.view (Rect.unit (s := S8x256x256) (k0_off15 k) S1x16x256.size (k0_off15_inb i k k0_h8)).toLoadRect (harg2.unread x))
    (View.readAt (Elt F) arg2.view (Rect.unit (s := S8x256x256) (k0_off16 k) S1x16x256.size (k0_off16_inb i k k0_h8)).toLoadRect (harg2.unread x)) acc from rfl) ?_
  rw [slab_read harg2 x _ 0 k.val (k0_off9_eq k) hk, slab_read harg2 x _ 1 k.val (k0_off10_eq k) hk, slab_read harg2 x _ 2 k.val (k0_off11_eq k) hk, slab_read harg2 x _ 3 k.val (k0_off12_eq k) hk, slab_read harg2 x _ 4 k.val (k0_off13_eq k) hk, slab_read harg2 x _ 5 k.val (k0_off14_eq k) hk, slab_read harg2 x _ 6 k.val (k0_off15_eq k) hk, slab_read harg2 x _ 7 k.val (k0_off16_eq k) hk]

/-- The value the loop over the chunks of `V` carries. -/
theorem loopV (c : Dev nD) (i : grid0.Coords) (arg1 : Memref sig .tc .vmem S8x256x256 .f32) (harg1 : arg1.IsWhole) (arg2 : Memref sig .tc .vmem S8x256x256 .f32) (harg2 : arg2.IsWhole) (arg3 : Memref sig .tc .smem S1x2 .f32) (harg3 : arg3.IsWhole) (arg4 : Memref sig .tc .smem S1x2 .f32) (harg4 : arg4.IsWhole) (arg5 : Memref sig .tc .smem S1x2 .f32) (harg5 : arg5.IsWhole) (v1 v2 v5 v6 : Elt F .f32)
    (k0_h8 : k0_cond8 i = 1#1) (x : Vec F S8x256x256 .f32) : ∀ n : ℕ, n ≤ 16 →
    st_k0_t2 Variants.none c none i arg1 harg1 arg2 harg2 arg3 harg3 arg4 harg4 arg5 harg5 v1 v2 v5 v6 k0_h8 (harg2.unread x) (Scalar.ofBits .f32 0x00000000#32) n
      = foldV (k0_pay1 i v1 v2 v5 v6) x n
  | 0, _ => rfl
  | n + 1, hn => by
    have e := st_k0_t2_succ Variants.none c none i arg1 harg1 arg2 harg2 arg3 harg3 arg4 harg4 arg5 harg5 v1 v2 v5 v6 k0_h8 (harg2.unread x)
      (Scalar.ofBits .f32 0x00000000#32) ⟨n, lt_of_lt_of_eq (Nat.lt_of_succ_le hn) tripsV.symm⟩
    rw [tripV, loopV c i arg1 harg1 arg2 harg2 arg3 harg3 arg4 harg4 arg5 harg5 v1 v2 v5 v6 k0_h8 x n (Nat.le_of_succ_le hn)] at e
    exact e

/-- The value the loop over the chunks of `V` ends with. -/
theorem loopV_all (c : Dev nD) (i : grid0.Coords) (arg1 : Memref sig .tc .vmem S8x256x256 .f32) (harg1 : arg1.IsWhole) (arg2 : Memref sig .tc .vmem S8x256x256 .f32) (harg2 : arg2.IsWhole) (arg3 : Memref sig .tc .smem S1x2 .f32) (harg3 : arg3.IsWhole) (arg4 : Memref sig .tc .smem S1x2 .f32) (harg4 : arg4.IsWhole) (arg5 : Memref sig .tc .smem S1x2 .f32) (harg5 : arg5.IsWhole) (v1 v2 v5 v6 : Elt F .f32)
    (k0_h8 : k0_cond8 i = 1#1) (x : Vec F S8x256x256 .f32) :
    st_k0_t2 Variants.none c none i arg1 harg1 arg2 harg2 arg3 harg3 arg4 harg4 arg5 harg5 v1 v2 v5 v6 k0_h8 (harg2.unread x) (Scalar.ofBits .f32 0x00000000#32)
        (Scf.trips k0_t2_loop.lb k0_t2_loop.ub k0_t2_loop.st)
      = foldV (k0_pay1 i v1 v2 v5 v6) x 16 :=
  (congrArg _ (show Scf.trips k0_t2_loop.lb k0_t2_loop.ub k0_t2_loop.st = 16 from tripsV)).trans
    (loopV c i arg1 harg1 arg2 harg2 arg3 harg3 arg4 harg4 arg5 harg5 v1 v2 v5 v6 k0_h8 x 16 le_rfl)

end Cert.Kernel3Ideal.Gap

end
-- ==== Proof.GapStepIdeal.lean ====
module

public import proofs.«01_k».proof.Proof.GapLoopIdeal

@[expose] public section

noncomputable section

namespace Cert.Kernel3Ideal.Gap

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.Kernel3Ideal.Gen

variable {F : FTy → Type} [FloatOps F]

local notation "𝕄" => MT nD τ sig Unit (Elt F) ℕ (UR sig nD τ) ℕ

/-- The branches the body takes at the first block of `K`. -/
def CaseFirst (i : grid0.Coords) : Prop :=
  k0_cond1 i = 1#1 ∧ k0_cond2 i = 1#1 ∧ k0_cond3 i = 1#1 ∧ ¬k0_cond4 i = 1#1 ∧ ¬k0_cond5 i = 1#1 ∧ ¬k0_cond6 i = 1#1 ∧ k0_cond7 i = 1#1 ∧ ¬k0_cond8 i = 1#1 ∧ k0_cond9 i = 1#1 ∧ k0_cond10 i = 1#1 ∧ ¬k0_cond11 i = 1#1 ∧ ¬k0_cond12 i = 1#1 ∧ ¬k0_cond13 i = 1#1 ∧ k0_cond14 i = 1#1

/-- The branches the body takes at a later block of `K`. -/
def CaseKey (i : grid0.Coords) : Prop :=
  k0_cond1 i = 1#1 ∧ k0_cond2 i = 1#1 ∧ ¬k0_cond3 i = 1#1 ∧ k0_cond4 i = 1#1 ∧ ¬k0_cond5 i = 1#1 ∧ ¬k0_cond6 i = 1#1 ∧ k0_cond7 i = 1#1 ∧ ¬k0_cond8 i = 1#1 ∧ k0_cond9 i = 1#1 ∧ ¬k0_cond10 i = 1#1 ∧ k0_cond11 i = 1#1 ∧ ¬k0_cond12 i = 1#1 ∧ ¬k0_cond13 i = 1#1 ∧ k0_cond14 i = 1#1

/-- The branches the body takes at the first block of `V`. -/
def CaseTurn (i : grid0.Coords) : Prop :=
  ¬k0_cond1 i = 1#1 ∧ ¬k0_cond2 i = 1#1 ∧ ¬k0_cond3 i = 1#1 ∧ k0_cond4 i = 1#1 ∧ k0_cond5 i = 1#1 ∧ k0_cond6 i = 1#1 ∧ ¬k0_cond7 i = 1#1 ∧ k0_cond8 i = 1#1 ∧ ¬k0_cond9 i = 1#1 ∧ ¬k0_cond10 i = 1#1 ∧ k0_cond11 i = 1#1 ∧ k0_cond12 i = 1#1 ∧ k0_cond13 i = 1#1 ∧ ¬k0_cond14 i = 1#1

/-- The branches the body takes at a later block of `V`. -/
def CaseValue (i : grid0.Coords) : Prop :=
  ¬k0_cond1 i = 1#1 ∧ ¬k0_cond2 i = 1#1 ∧ ¬k0_cond3 i = 1#1 ∧ k0_cond4 i = 1#1 ∧ k0_cond5 i = 1#1 ∧ ¬k0_cond6 i = 1#1 ∧ k0_cond7 i = 1#1 ∧ k0_cond8 i = 1#1 ∧ ¬k0_cond9 i = 1#1 ∧ ¬k0_cond10 i = 1#1 ∧ k0_cond11 i = 1#1 ∧ k0_cond12 i = 1#1 ∧ ¬k0_cond13 i = 1#1 ∧ k0_cond14 i = 1#1

theorem caseFirst_at : ∀ t : Fin cfg0.N, t.val = 0 → CaseFirst (grid0.coords t) :=
  (by unfold CaseFirst; decide +kernel : ∀ t : Fin grid0.N, t.val = 0 → CaseFirst (grid0.coords t))

theorem caseKey_at : ∀ t : Fin cfg0.N, t.val ≠ 0 → t.val < 4 → CaseKey (grid0.coords t) :=
  (by unfold CaseKey; decide +kernel : ∀ t : Fin grid0.N, t.val ≠ 0 → t.val < 4 → CaseKey (grid0.coords t))

theorem caseTurn_at : ∀ t : Fin cfg0.N, t.val = 4 → CaseTurn (grid0.coords t) :=
  (by unfold CaseTurn; decide +kernel : ∀ t : Fin grid0.N, t.val = 4 → CaseTurn (grid0.coords t))

theorem caseValue_at : ∀ t : Fin cfg0.N, 5 ≤ t.val → CaseValue (grid0.coords t) :=
  (by unfold CaseValue; decide +kernel : ∀ t : Fin grid0.N, 5 ≤ t.val → CaseValue (grid0.coords t))

set_option maxHeartbeats 1000000 in
/-- The body at the first block of `K`: what it writes over the accumulator, and that it runs to the
    continuation with its four inputs as they were. -/
def runFirst (c : Dev nD) (i : grid0.Coords) (arg1 : Memref sig .tc .vmem S8x256x256 .f32) (harg1 : arg1.IsWhole) (arg2 : Memref sig .tc .vmem S8x256x256 .f32) (harg2 : arg2.IsWhole) (arg3 : Memref sig .tc .smem S1x2 .f32) (harg3 : arg3.IsWhole) (arg4 : Memref sig .tc .smem S1x2 .f32) (harg4 : arg4.IsWhole) (arg5 : Memref sig .tc .smem S1x2 .f32) (harg5 : arg5.IsWhole)
    (h1 : k0_cond1 i = 1#1) (h2 : k0_cond2 i = 1#1) (h3 : k0_cond3 i = 1#1) (h4 : ¬k0_cond4 i = 1#1) (h5 : ¬k0_cond5 i = 1#1) (h6 : ¬k0_cond6 i = 1#1) (h7 : k0_cond7 i = 1#1) (h8 : ¬k0_cond8 i = 1#1) (h9 : k0_cond9 i = 1#1) (h10 : k0_cond10 i = 1#1) (h11 : ¬k0_cond11 i = 1#1) (h12 : ¬k0_cond12 i = 1#1) (h13 : ¬k0_cond13 i = 1#1) (h14 : k0_cond14 i = 1#1)
    (x0 x1 : Vec F S8x256x256 .f32) (x2 x3 x4 : Vec F S1x2 .f32) :
    { L : List (View.Piece (Elt F) S1x2 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4
            ∗ (iprop(owns (c : Thread nD τ) arg1 fullShare x0 ∗ owns (c : Thread nD τ) arg2 fullShare x1 ∗ owns (c : Thread nD τ) arg3 fullShare x2 ∗ owns (c : Thread nD τ) arg4 fullShare x3
              ∗ (arg5.view.loc (c : Thread nD τ) ↦[arg5.view.set]{fullShare} arg5.view.writes (Elt F) (harg5.unread x4) L)) -∗ K ⟨⟩))
          ⊢ wp frame (wpE (defs₀ (F := F)) Variants.none c none) E (cc0__phase_maxd1 i arg1 harg1 arg2 harg2 arg3 harg3 arg4 harg4 arg5 harg5) K } := by
  refine ⟨?_, fun E K => ?run⟩
  case run =>
    simp only [cc0__phase_maxd1_eq_skeleton]; unfold cc0__phase_maxd1_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2; obtain rfl := harg4.eq_unread hf3; obtain rfl := harg5.eq_unread hf4
    sl_exec (disch := assumption)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexact H4

set_option maxHeartbeats 1000000 in
/-- The body at a later block of `K`: what it writes over the accumulator, and that it runs to the
    continuation with its four inputs as they were. -/
def runKey (c : Dev nD) (i : grid0.Coords) (arg1 : Memref sig .tc .vmem S8x256x256 .f32) (harg1 : arg1.IsWhole) (arg2 : Memref sig .tc .vmem S8x256x256 .f32) (harg2 : arg2.IsWhole) (arg3 : Memref sig .tc .smem S1x2 .f32) (harg3 : arg3.IsWhole) (arg4 : Memref sig .tc .smem S1x2 .f32) (harg4 : arg4.IsWhole) (arg5 : Memref sig .tc .smem S1x2 .f32) (harg5 : arg5.IsWhole)
    (h1 : k0_cond1 i = 1#1) (h2 : k0_cond2 i = 1#1) (h3 : ¬k0_cond3 i = 1#1) (h4 : k0_cond4 i = 1#1) (h5 : ¬k0_cond5 i = 1#1) (h6 : ¬k0_cond6 i = 1#1) (h7 : k0_cond7 i = 1#1) (h8 : ¬k0_cond8 i = 1#1) (h9 : k0_cond9 i = 1#1) (h10 : ¬k0_cond10 i = 1#1) (h11 : k0_cond11 i = 1#1) (h12 : ¬k0_cond12 i = 1#1) (h13 : ¬k0_cond13 i = 1#1) (h14 : k0_cond14 i = 1#1)
    (x0 x1 : Vec F S8x256x256 .f32) (x2 x3 x4 : Vec F S1x2 .f32) :
    { L : List (View.Piece (Elt F) S1x2 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4
            ∗ (iprop(owns (c : Thread nD τ) arg1 fullShare x0 ∗ owns (c : Thread nD τ) arg2 fullShare x1 ∗ owns (c : Thread nD τ) arg3 fullShare x2 ∗ owns (c : Thread nD τ) arg4 fullShare x3
              ∗ (arg5.view.loc (c : Thread nD τ) ↦[arg5.view.set]{fullShare} arg5.view.writes (Elt F) (harg5.unread x4) L)) -∗ K ⟨⟩))
          ⊢ wp frame (wpE (defs₀ (F := F)) Variants.none c none) E (cc0__phase_maxd1 i arg1 harg1 arg2 harg2 arg3 harg3 arg4 harg4 arg5 harg5) K } := by
  refine ⟨?_, fun E K => ?run⟩
  case run =>
    simp only [cc0__phase_maxd1_eq_skeleton]; unfold cc0__phase_maxd1_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2; obtain rfl := harg4.eq_unread hf3; obtain rfl := harg5.eq_unread hf4
    sl_exec (disch := assumption)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexact H4

set_option maxHeartbeats 1000000 in
/-- The body at the first block of `V`: what it writes over the accumulator, and that it runs to the
    continuation with its four inputs as they were. -/
def runTurn (c : Dev nD) (i : grid0.Coords) (arg1 : Memref sig .tc .vmem S8x256x256 .f32) (harg1 : arg1.IsWhole) (arg2 : Memref sig .tc .vmem S8x256x256 .f32) (harg2 : arg2.IsWhole) (arg3 : Memref sig .tc .smem S1x2 .f32) (harg3 : arg3.IsWhole) (arg4 : Memref sig .tc .smem S1x2 .f32) (harg4 : arg4.IsWhole) (arg5 : Memref sig .tc .smem S1x2 .f32) (harg5 : arg5.IsWhole)
    (h1 : ¬k0_cond1 i = 1#1) (h2 : ¬k0_cond2 i = 1#1) (h3 : ¬k0_cond3 i = 1#1) (h4 : k0_cond4 i = 1#1) (h5 : k0_cond5 i = 1#1) (h6 : k0_cond6 i = 1#1) (h7 : ¬k0_cond7 i = 1#1) (h8 : k0_cond8 i = 1#1) (h9 : ¬k0_cond9 i = 1#1) (h10 : ¬k0_cond10 i = 1#1) (h11 : k0_cond11 i = 1#1) (h12 : k0_cond12 i = 1#1) (h13 : k0_cond13 i = 1#1) (h14 : ¬k0_cond14 i = 1#1)
    (x0 x1 : Vec F S8x256x256 .f32) (x2 x3 x4 : Vec F S1x2 .f32) :
    { L : List (View.Piece (Elt F) S1x2 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4
            ∗ (iprop(owns (c : Thread nD τ) arg1 fullShare x0 ∗ owns (c : Thread nD τ) arg2 fullShare x1 ∗ owns (c : Thread nD τ) arg3 fullShare x2 ∗ owns (c : Thread nD τ) arg4 fullShare x3
              ∗ (arg5.view.loc (c : Thread nD τ) ↦[arg5.view.set]{fullShare} arg5.view.writes (Elt F) (harg5.unread x4) L)) -∗ K ⟨⟩))
          ⊢ wp frame (wpE (defs₀ (F := F)) Variants.none c none) E (cc0__phase_maxd1 i arg1 harg1 arg2 harg2 arg3 harg3 arg4 harg4 arg5 harg5) K } := by
  refine ⟨?_, fun E K => ?run⟩
  case run =>
    simp only [cc0__phase_maxd1_eq_skeleton]; unfold cc0__phase_maxd1_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2; obtain rfl := harg4.eq_unread hf3; obtain rfl := harg5.eq_unread hf4
    sl_exec (disch := assumption)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexact H4

set_option maxHeartbeats 1000000 in
/-- The body at a later block of `V`: what it writes over the accumulator, and that it runs to the
    continuation with its four inputs as they were. -/
def runValue (c : Dev nD) (i : grid0.Coords) (arg1 : Memref sig .tc .vmem S8x256x256 .f32) (harg1 : arg1.IsWhole) (arg2 : Memref sig .tc .vmem S8x256x256 .f32) (harg2 : arg2.IsWhole) (arg3 : Memref sig .tc .smem S1x2 .f32) (harg3 : arg3.IsWhole) (arg4 : Memref sig .tc .smem S1x2 .f32) (harg4 : arg4.IsWhole) (arg5 : Memref sig .tc .smem S1x2 .f32) (harg5 : arg5.IsWhole)
    (h1 : ¬k0_cond1 i = 1#1) (h2 : ¬k0_cond2 i = 1#1) (h3 : ¬k0_cond3 i = 1#1) (h4 : k0_cond4 i = 1#1) (h5 : k0_cond5 i = 1#1) (h6 : ¬k0_cond6 i = 1#1) (h7 : k0_cond7 i = 1#1) (h8 : k0_cond8 i = 1#1) (h9 : ¬k0_cond9 i = 1#1) (h10 : ¬k0_cond10 i = 1#1) (h11 : k0_cond11 i = 1#1) (h12 : k0_cond12 i = 1#1) (h13 : ¬k0_cond13 i = 1#1) (h14 : k0_cond14 i = 1#1)
    (x0 x1 : Vec F S8x256x256 .f32) (x2 x3 x4 : Vec F S1x2 .f32) :
    { L : List (View.Piece (Elt F) S1x2 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4
            ∗ (iprop(owns (c : Thread nD τ) arg1 fullShare x0 ∗ owns (c : Thread nD τ) arg2 fullShare x1 ∗ owns (c : Thread nD τ) arg3 fullShare x2 ∗ owns (c : Thread nD τ) arg4 fullShare x3
              ∗ (arg5.view.loc (c : Thread nD τ) ↦[arg5.view.set]{fullShare} arg5.view.writes (Elt F) (harg5.unread x4) L)) -∗ K ⟨⟩))
          ⊢ wp frame (wpE (defs₀ (F := F)) Variants.none c none) E (cc0__phase_maxd1 i arg1 harg1 arg2 harg2 arg3 harg3 arg4 harg4 arg5 harg5) K } := by
  refine ⟨?_, fun E K => ?run⟩
  case run =>
    simp only [cc0__phase_maxd1_eq_skeleton]; unfold cc0__phase_maxd1_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2; obtain rfl := harg4.eq_unread hf3; obtain rfl := harg5.eq_unread hf4
    sl_exec (disch := assumption)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexact H4

end Cert.Kernel3Ideal.Gap

end
-- ==== Proof.GapBodyIdeal.lean ====
module

public import proofs.«01_k».proof.Proof.GapStepIdeal
public import Idealize.ShloMosaic.Lib.WritesUnit
public import Idealize.ShloMosaic.Lib.Pipeline.DatRel
public import Idealize.ShloMosaic.Lib.Pipeline.ArrRel
public import Idealize.ShloMosaic.Lib.Claim
public import Idealize.ShloMosaic.Lib.Pipeline.ValueKit

@[expose] public section

noncomputable section

namespace Cert.Kernel3Ideal.Gap

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.Kernel3Ideal.Gen

variable {F : FTy → Type} [FloatOps F]

local notation "𝕄" => MT nD τ sig Unit (Elt F) ℕ (UR sig nD τ) ℕ

/-- Entry `j` of an array of two: 0 is of `K`, 1 is of `V`. -/
abbrev cell (j : Fin 2) : S1x2.Idx := ValueIdx.ix2 0 j

/-- `X'` is `X` with `v` as entry `j`. -/
def Put (j : Fin 2) (v : F .f32) (X X' : S1x2.Idx → F .f32) : Prop :=
  X' (cell j) = v ∧ X' (cell (1 - j)) = X (cell (1 - j))

theorem put0 {arg : Memref sig .tc .smem S1x2 .f32} (harg : arg.IsWhole) (X : Vec F S1x2 .f32) (v : F .f32)
    (inb : ∀ a, (![0, 0] : Fin 2 → ℕ) a + (![1, 1] : Fin 2 → ℕ) a ≤ S1x2.size a) :
    Put 0 v X (arg.view.read (Elt F) (arg.view.writes (Elt F) (harg.unread X) [⟨Rect.unit (s := S1x2) ![0, 0] ![1, 1] inb, fun _ => v⟩])) := by
  refine ⟨View.read_writes_cons_unit_of_mem _ _ inb _ _ _ (ValueIdx.ix2 0 0) rfl (fun a => by fin_cases a <;> rfl), ?_⟩
  rw [View.read_writes_cons_unit_of_not_mem _ _ inb _ _ _ rfl 1 (by decide), View.writes_nil, harg.read_unread]

theorem put1 {arg : Memref sig .tc .smem S1x2 .f32} (harg : arg.IsWhole) (X : Vec F S1x2 .f32) (v : F .f32)
    (inb : ∀ a, (![0, 1] : Fin 2 → ℕ) a + (![1, 1] : Fin 2 → ℕ) a ≤ S1x2.size a) :
    Put 1 v X (arg.view.read (Elt F) (arg.view.writes (Elt F) (harg.unread X) [⟨Rect.unit (s := S1x2) ![0, 1] ![1, 1] inb, fun _ => v⟩])) := by
  refine ⟨View.read_writes_cons_unit_of_mem _ _ inb _ _ _ (ValueIdx.ix2 0 0) rfl (fun a => by fin_cases a <;> rfl), ?_⟩
  rw [View.read_writes_cons_unit_of_not_mem _ _ inb _ _ _ rfl 1 (by decide), View.writes_nil, harg.read_unread]

/-- One entry read is the entry. -/
theorem cell_read0 {arg : Memref sig .tc .smem S1x2 .f32} (harg : arg.IsWhole) (x : Vec F S1x2 .f32)
    (inb : ∀ a, (![0, 0] : Fin 2 → ℕ) a + S1x1.size a ≤ S1x2.size a) (h : 0 < S1x1.numel) :
    View.readAt (Elt F) arg.view (Rect.unit (s := S1x2) ![0, 0] S1x1.size inb).toLoadRect (harg.unread x) (Shape.Idx.first h) = x (cell 0) :=
  (congrFun (harg.read_unread x) _).trans (congrArg x (funext fun a => Fin.ext (by fin_cases a <;> rfl)))

theorem cell_read1 {arg : Memref sig .tc .smem S1x2 .f32} (harg : arg.IsWhole) (x : Vec F S1x2 .f32)
    (inb : ∀ a, (![0, 1] : Fin 2 → ℕ) a + S1x1.size a ≤ S1x2.size a) (h : 0 < S1x1.numel) :
    View.readAt (Elt F) arg.view (Rect.unit (s := S1x2) ![0, 1] S1x1.size inb).toLoadRect (harg.unread x) (Shape.Idx.first h) = x (cell 1) :=
  (congrFun (harg.read_unread x) _).trans (congrArg x (funext fun a => Fin.ext (by fin_cases a <;> rfl)))

/-- The body at the first block of `K`, with the accumulator stated entry by entry. -/
theorem stepFirst (c : Dev nD) (i : grid0.Coords) (arg1 : Memref sig .tc .vmem S8x256x256 .f32) (harg1 : arg1.IsWhole) (arg2 : Memref sig .tc .vmem S8x256x256 .f32) (harg2 : arg2.IsWhole) (arg3 : Memref sig .tc .smem S1x2 .f32) (harg3 : arg3.IsWhole) (arg4 : Memref sig .tc .smem S1x2 .f32) (harg4 : arg4.IsWhole) (arg5 : Memref sig .tc .smem S1x2 .f32) (harg5 : arg5.IsWhole) (hc : CaseFirst i)
    (x0 x1 : Vec F S8x256x256 .f32) (x2 x3 x4 : Vec F S1x2 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4
        ∗ (iprop(owns (c : Thread nD τ) arg1 fullShare x0 ∗ owns (c : Thread nD τ) arg2 fullShare x1 ∗ owns (c : Thread nD τ) arg3 fullShare x2 ∗ owns (c : Thread nD τ) arg4 fullShare x3
          ∗ (∃ X, ⌜Put 0 (foldK (k0_pay1 i (x2 (cell 0)) (x2 (cell 1)) (x3 (cell 0)) (x3 (cell 1))) x0 16) x4 X⌝ ∗ owns (c : Thread nD τ) arg5 fullShare X)) -∗ K ⟨⟩))
      ⊢ wp frame (wpE (defs₀ (F := F)) Variants.none c none) E (cc0__phase_maxd1 i arg1 harg1 arg2 harg2 arg3 harg3 arg4 harg4 arg5 harg5) K := by
  obtain ⟨h1, h2, h3, h4, h5, h6, h7, h8, h9, h10, h11, h12, h13, h14⟩ := hc
  iintro ⟨H0, H1, H2, H3, H4, Hk⟩
  iapply ((runFirst c i arg1 harg1 arg2 harg2 arg3 harg3 arg4 harg4 arg5 harg5 h1 h2 h3 h4 h5 h6 h7 h8 h9 h10 h11 h12 h13 h14 x0 x1 x2 x3 x4).2 E K)
  isplitl [H0]; · iexact H0
  isplitl [H1]; · iexact H1
  isplitl [H2]; · iexact H2
  isplitl [H3]; · iexact H3
  isplitl [H4]; · iexact H4
  iintro ⟨H0, H1, H2, H3, H4⟩
  iapply Hk
  isplitl [H0]; · iexact H0
  isplitl [H1]; · iexact H1
  isplitl [H2]; · iexact H2
  isplitl [H3]; · iexact H3
  iexists _; isplitr
  swap
  · unfold owns; iexists _; isplitr
    swap; · iexact H4
    ipureintro; rfl
  ipureintro
  unfold runFirst runFirst.sl.r runFirst.sl.r_1 runFirst.sl.r_2 runFirst.sl.r_3 runFirst.sl.cst_10; dsimp only
  rw [cell_read0 harg3, cell_read1 harg3, cell_read0 harg4, cell_read1 harg4, loopK_all]
  exact put0 harg5 x4 _ _

/-- The body at a later block of `K`, with the accumulator stated entry by entry. -/
theorem stepKey (c : Dev nD) (i : grid0.Coords) (arg1 : Memref sig .tc .vmem S8x256x256 .f32) (harg1 : arg1.IsWhole) (arg2 : Memref sig .tc .vmem S8x256x256 .f32) (harg2 : arg2.IsWhole) (arg3 : Memref sig .tc .smem S1x2 .f32) (harg3 : arg3.IsWhole) (arg4 : Memref sig .tc .smem S1x2 .f32) (harg4 : arg4.IsWhole) (arg5 : Memref sig .tc .smem S1x2 .f32) (harg5 : arg5.IsWhole) (hc : CaseKey i)
    (x0 x1 : Vec F S8x256x256 .f32) (x2 x3 x4 : Vec F S1x2 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4
        ∗ (iprop(owns (c : Thread nD τ) arg1 fullShare x0 ∗ owns (c : Thread nD τ) arg2 fullShare x1 ∗ owns (c : Thread nD τ) arg3 fullShare x2 ∗ owns (c : Thread nD τ) arg4 fullShare x3
          ∗ (∃ X, ⌜Put 0 (k0_pay2 (foldK (k0_pay1 i (x2 (cell 0)) (x2 (cell 1)) (x3 (cell 0)) (x3 (cell 1))) x0 16) (x4 (cell 0))) x4 X⌝ ∗ owns (c : Thread nD τ) arg5 fullShare X)) -∗ K ⟨⟩))
      ⊢ wp frame (wpE (defs₀ (F := F)) Variants.none c none) E (cc0__phase_maxd1 i arg1 harg1 arg2 harg2 arg3 harg3 arg4 harg4 arg5 harg5) K := by
  obtain ⟨h1, h2, h3, h4, h5, h6, h7, h8, h9, h10, h11, h12, h13, h14⟩ := hc
  iintro ⟨H0, H1, H2, H3, H4, Hk⟩
  iapply ((runKey c i arg1 harg1 arg2 harg2 arg3 harg3 arg4 harg4 arg5 harg5 h1 h2 h3 h4 h5 h6 h7 h8 h9 h10 h11 h12 h13 h14 x0 x1 x2 x3 x4).2 E K)
  isplitl [H0]; · iexact H0
  isplitl [H1]; · iexact H1
  isplitl [H2]; · iexact H2
  isplitl [H3]; · iexact H3
  isplitl [H4]; · iexact H4
  iintro ⟨H0, H1, H2, H3, H4⟩
  iapply Hk
  isplitl [H0]; · iexact H0
  isplitl [H1]; · iexact H1
  isplitl [H2]; · iexact H2
  isplitl [H3]; · iexact H3
  iexists _; isplitr
  swap
  · unfold owns; iexists _; isplitr
    swap; · iexact H4
    ipureintro; rfl
  ipureintro
  unfold runKey runKey.sl.r runKey.sl.r_1 runKey.sl.r_2 runKey.sl.r_3 runKey.sl.r_4 runKey.sl.cst_10; dsimp only
  rw [cell_read0 harg3, cell_read1 harg3, cell_read0 harg4, cell_read1 harg4, cell_read0 harg5, loopK_all]
  exact put0 harg5 x4 _ _

/-- The body at the first block of `V`, with the accumulator stated entry by entry. -/
theorem stepTurn (c : Dev nD) (i : grid0.Coords) (arg1 : Memref sig .tc .vmem S8x256x256 .f32) (harg1 : arg1.IsWhole) (arg2 : Memref sig .tc .vmem S8x256x256 .f32) (harg2 : arg2.IsWhole) (arg3 : Memref sig .tc .smem S1x2 .f32) (harg3 : arg3.IsWhole) (arg4 : Memref sig .tc .smem S1x2 .f32) (harg4 : arg4.IsWhole) (arg5 : Memref sig .tc .smem S1x2 .f32) (harg5 : arg5.IsWhole) (hc : CaseTurn i)
    (x0 x1 : Vec F S8x256x256 .f32) (x2 x3 x4 : Vec F S1x2 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4
        ∗ (iprop(owns (c : Thread nD τ) arg1 fullShare x0 ∗ owns (c : Thread nD τ) arg2 fullShare x1 ∗ owns (c : Thread nD τ) arg3 fullShare x2 ∗ owns (c : Thread nD τ) arg4 fullShare x3
          ∗ (∃ X, ⌜Put 1 (foldV (k0_pay1 i (x2 (cell 0)) (x2 (cell 1)) (x3 (cell 0)) (x3 (cell 1))) x1 16) x4 X⌝ ∗ owns (c : Thread nD τ) arg5 fullShare X)) -∗ K ⟨⟩))
      ⊢ wp frame (wpE (defs₀ (F := F)) Variants.none c none) E (cc0__phase_maxd1 i arg1 harg1 arg2 harg2 arg3 harg3 arg4 harg4 arg5 harg5) K := by
  obtain ⟨h1, h2, h3, h4, h5, h6, h7, h8, h9, h10, h11, h12, h13, h14⟩ := hc
  iintro ⟨H0, H1, H2, H3, H4, Hk⟩
  iapply ((runTurn c i arg1 harg1 arg2 harg2 arg3 harg3 arg4 harg4 arg5 harg5 h1 h2 h3 h4 h5 h6 h7 h8 h9 h10 h11 h12 h13 h14 x0 x1 x2 x3 x4).2 E K)
  isplitl [H0]; · iexact H0
  isplitl [H1]; · iexact H1
  isplitl [H2]; · iexact H2
  isplitl [H3]; · iexact H3
  isplitl [H4]; · iexact H4
  iintro ⟨H0, H1, H2, H3, H4⟩
  iapply Hk
  isplitl [H0]; · iexact H0
  isplitl [H1]; · iexact H1
  isplitl [H2]; · iexact H2
  isplitl [H3]; · iexact H3
  iexists _; isplitr
  swap
  · unfold owns; iexists _; isplitr
    swap; · iexact H4
    ipureintro; rfl
  ipureintro
  unfold runTurn runTurn.sl.r runTurn.sl.r_1 runTurn.sl.r_2 runTurn.sl.r_3 runTurn.sl.cst_10; dsimp only
  rw [cell_read0 harg3, cell_read1 harg3, cell_read0 harg4, cell_read1 harg4, loopV_all]
  exact put1 harg5 x4 _ _

/-- The body at a later block of `V`, with the accumulator stated entry by entry. -/
theorem stepValue (c : Dev nD) (i : grid0.Coords) (arg1 : Memref sig .tc .vmem S8x256x256 .f32) (harg1 : arg1.IsWhole) (arg2 : Memref sig .tc .vmem S8x256x256 .f32) (harg2 : arg2.IsWhole) (arg3 : Memref sig .tc .smem S1x2 .f32) (harg3 : arg3.IsWhole) (arg4 : Memref sig .tc .smem S1x2 .f32) (harg4 : arg4.IsWhole) (arg5 : Memref sig .tc .smem S1x2 .f32) (harg5 : arg5.IsWhole) (hc : CaseValue i)
    (x0 x1 : Vec F S8x256x256 .f32) (x2 x3 x4 : Vec F S1x2 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4
        ∗ (iprop(owns (c : Thread nD τ) arg1 fullShare x0 ∗ owns (c : Thread nD τ) arg2 fullShare x1 ∗ owns (c : Thread nD τ) arg3 fullShare x2 ∗ owns (c : Thread nD τ) arg4 fullShare x3
          ∗ (∃ X, ⌜Put 1 (k0_pay5 (foldV (k0_pay1 i (x2 (cell 0)) (x2 (cell 1)) (x3 (cell 0)) (x3 (cell 1))) x1 16) (x4 (cell 1))) x4 X⌝ ∗ owns (c : Thread nD τ) arg5 fullShare X)) -∗ K ⟨⟩))
      ⊢ wp frame (wpE (defs₀ (F := F)) Variants.none c none) E (cc0__phase_maxd1 i arg1 harg1 arg2 harg2 arg3 harg3 arg4 harg4 arg5 harg5) K := by
  obtain ⟨h1, h2, h3, h4, h5, h6, h7, h8, h9, h10, h11, h12, h13, h14⟩ := hc
  iintro ⟨H0, H1, H2, H3, H4, Hk⟩
  iapply ((runValue c i arg1 harg1 arg2 harg2 arg3 harg3 arg4 harg4 arg5 harg5 h1 h2 h3 h4 h5 h6 h7 h8 h9 h10 h11 h12 h13 h14 x0 x1 x2 x3 x4).2 E K)
  isplitl [H0]; · iexact H0
  isplitl [H1]; · iexact H1
  isplitl [H2]; · iexact H2
  isplitl [H3]; · iexact H3
  isplitl [H4]; · iexact H4
  iintro ⟨H0, H1, H2, H3, H4⟩
  iapply Hk
  isplitl [H0]; · iexact H0
  isplitl [H1]; · iexact H1
  isplitl [H2]; · iexact H2
  isplitl [H3]; · iexact H3
  iexists _; isplitr
  swap
  · unfold owns; iexists _; isplitr
    swap; · iexact H4
    ipureintro; rfl
  ipureintro
  unfold runValue runValue.sl.r runValue.sl.r_1 runValue.sl.r_2 runValue.sl.r_3 runValue.sl.r_4 runValue.sl.cst_10; dsimp only
  rw [cell_read0 harg3, cell_read1 harg3, cell_read0 harg4, cell_read1 harg4, cell_read1 harg5, loopV_all]
  exact put1 harg5 x4 _ _

end Cert.Kernel3Ideal.Gap

end
-- ==== Proof.GapRunIdeal.lean ====
module

public import proofs.«01_k».proof.Proof.GapBodyIdeal

@[expose] public section

noncomputable section

namespace Cert.Kernel3Ideal.Gap

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Grid point `n`. -/
def pt (n : ℕ) : Fin cfg0.N := ⟨n % 6, lt_of_lt_of_eq (Nat.mod_lt _ (by decide)) (show cfg0.N = 6 from N_0).symm⟩

theorem pt_val (t : Fin cfg0.N) : pt t.val = t :=
  Fin.ext (Nat.mod_eq_of_lt (lt_of_lt_of_eq t.isLt (show cfg0.N = 6 from N_0)))

/-- The quantiser's step at point `t`, from the greatest and least weights the two small arguments hold. -/
def stepAt (c : Dev nD) (t : Fin cfg0.N) : F .f32 :=
  k0_pay1 (grid0.coords t) (iblk m c 2 t (cell 0)) (iblk m c 2 t (cell 1)) (iblk m c 3 t (cell 0)) (iblk m c 3 t (cell 1))

/-- The greatest gap in the blocks of `K` up to block `n`. -/
def gapsK (c : Dev nD) : ℕ → F .f32
  | 0 => foldK (stepAt m c (pt 0)) (iblk m c 0 (pt 0)) 16
  | n + 1 => k0_pay2 (foldK (stepAt m c (pt (n + 1))) (iblk m c 0 (pt (n + 1))) 16) (gapsK c n)

/-- The greatest gap in the blocks of `V` up to block `n`. -/
def gapsV (c : Dev nD) : ℕ → F .f32
  | 0 => foldV (stepAt m c (pt 4)) (iblk m c 1 (pt 4)) 16
  | n + 1 => k0_pay5 (foldV (stepAt m c (pt (n + 5))) (iblk m c 1 (pt (n + 5))) 16) (gapsV c n)

/-- The accumulator after point `t`: its `K` entry is `a` at the last block of `K` so far, and once the blocks of `V` have
    begun its `V` entry is `b` at the last of those. Before that the `V` entry is not said. -/
def Holds (a b : ℕ → F .f32) (t : Fin cfg0.N) (X : S1x2.Idx → F .f32) : Prop :=
  X (cell 0) = a (min t.val 3) ∧ (4 ≤ t.val → X (cell 1) = b (t.val - 4))

theorem holds_first {a b : ℕ → F .f32} {t : Fin cfg0.N} {X X' : S1x2.Idx → F .f32} {v : F .f32} (ht : t.val = 0)
    (hv : v = a 0) (h : Put 0 v X X') : Holds a b t X' :=
  ⟨by rw [h.1, hv, ht]; rfl, fun h4 => by omega⟩

theorem holds_key {a b : ℕ → F .f32} {t t' : Fin cfg0.N} {X X' : S1x2.Idx → F .f32} {v : F .f32} (ht : t.val ≠ 0)
    (ht4 : t.val < 4) (hv : v = a t.val) (h : Put 0 v X X') : Holds a b t X' :=
  ⟨by rw [h.1, hv, Nat.min_eq_left (by omega)], fun h4 => by omega⟩

theorem holds_turn {a b : ℕ → F .f32} {t t' : Fin cfg0.N} {X X' : S1x2.Idx → F .f32} {v : F .f32} (ht : t.val = 4)
    (ht' : t'.val = 3) (hX : Holds a b t' X) (hv : v = b 0) (h : Put 1 v X X') : Holds a b t X' :=
  ⟨by have h2 := h.2; have h1 := hX.1; rw [ht'] at h1; rw [ht]; exact h2.trans h1, fun _ => by rw [h.1, hv, ht]⟩

theorem holds_value {a b : ℕ → F .f32} {t t' : Fin cfg0.N} {X X' : S1x2.Idx → F .f32} {v : F .f32} (ht : t.val = 5)
    (ht' : t'.val = 4) (hX : Holds a b t' X) (hv : v = b 1) (h : Put 1 v X X') : Holds a b t X' :=
  ⟨by have h2 := h.2; have h1 := hX.1; rw [ht'] at h1; rw [ht]; exact h2.trans h1, fun _ => by rw [h.1, hv, ht]⟩

/-- What is said of the accumulator after each point. -/
def Acc (c : Dev nD) : (w : Fin cfg0.W) → Fin cfg0.N → ((cfg0.win w).block.Idx → Elt F (cfg0.win w).elt) → Prop
  | ⟨0, _⟩, _, _ => True
  | ⟨1, _⟩, _, _ => True
  | ⟨2, _⟩, _, _ => True
  | ⟨3, _⟩, _, _ => True
  | ⟨4, _⟩, t, X => Holds (gapsK m c) (gapsV m c) t X

/-- The window of which only that is said. -/
def isAcc : Fin cfg0.W → Bool
  | ⟨0, _⟩ => false
  | ⟨1, _⟩ => false
  | ⟨2, _⟩ => false
  | ⟨3, _⟩ => false
  | ⟨4, _⟩ => true

/-- The arrays of the launch; the four inputs stay in place. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fun _ => FloatOps.ofBits .f32 0#32
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The proof data: the inputs exactly, the accumulator by `Acc`. -/
abbrev rdat (c : Dev nD) : Pipeline.RDat τ (Elt F) Unit ℕ (UR sig nD τ) ℕ cfg0 c := (dats m 0 c).toRRel isAcc (Acc m c)

/-- After the first point the accumulator is found as the point before left it. -/
theorem found4 (c : Dev nD) (t t' : Fin cfg0.N) (ht : t.val = t'.val + 1) (Y : S1x2.Idx → F .f32) (h : (rdat m c).Finds 4 t Y) :
    Holds (gapsK m c) (gapsV m c) t' Y := by
  have hN : t.val < 6 := lt_of_lt_of_eq t.isLt (show cfg0.N = 6 from N_0)
  have e : (⟨t.val - 1, Nat.lt_of_le_of_lt (Nat.sub_le _ _) t.isLt⟩ : Fin cfg0.N) = t' := Fin.ext (by simp only [ht]; omega)
  rcases ((rdat m c).finds_of_pos (w := 4) (t := t) rfl (by omega) Y).mp h with h | h
  · have := (flush0_4 _).mp h; simp only at this; omega
  · have := (dats m 0 c).toRRel_leaves (w := 4) rfl h; rw [e] at this; exact this

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ Y, ⌜(rdat m c).Finds 4 t Y⌝ ∗ owns (c : Thread nD τ) (st0_4 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, ⌜Acc m c 4 t X⌝ ∗ owns (c : Thread nD τ) (st0_4 t) fullShare X))

set_option maxHeartbeats 1600000 in
/-- The body at any point takes the accumulator from what is said before it to what is said after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl, after0, after1, after2, after3]
  have hN : t.val < 6 := lt_of_lt_of_eq t.isLt (show cfg0.N = 6 from N_0)
  iintro ⟨HΦ, Ho, ⟨%d0, H0⟩, ⟨%d1, H1⟩, ⟨%d2, H2⟩, ⟨%d3, H3⟩, ⟨%Y4, %f4, H4⟩⟩
  by_cases h0 : t.val = 0
  · have et : pt 0 = t := by rw [← h0]; exact pt_val t
    iapply (stepFirst c (grid0.coords t) _ _ _ _ _ _ _ _ _ _ (caseFirst_at t h0) (iblk m c 0 t) (iblk m c 1 t) (iblk m c 2 t) (iblk m c 3 t) Y4 Set.univ _)
    isplitl [H0]; · iexact H0
    isplitl [H1]; · iexact H1
    isplitl [H2]; · iexact H2
    isplitl [H3]; · iexact H3
    isplitl [H4]; · iexact H4
    iintro ⟨H0, H1, H2, H3, ⟨%X4, %p4, H4⟩⟩
    isplitl [HΦ]; · iexact HΦ
    isplitl [Ho]; · iexact Ho
    isplitl [H0]; · iexact H0
    isplitl [H1]; · iexact H1
    isplitl [H2]; · iexact H2
    isplitl [H3]; · iexact H3
    iexists X4; isplitr
    · ipureintro; exact holds_first h0 (by show _ = gapsK m c 0; rw [gapsK, et]; rfl) p4
    · iexact H4
  · obtain ⟨u, hu⟩ : ∃ u : Fin cfg0.N, t.val = u.val + 1 := ⟨⟨t.val - 1, by omega⟩, by simp only; omega⟩
    have e4 := found4 m c t u hu Y4 f4
    by_cases h4 : t.val < 4
    · have et : pt (u.val + 1) = t := by rw [← hu]; exact pt_val t
      iapply (stepKey c (grid0.coords t) _ _ _ _ _ _ _ _ _ _ (caseKey_at t h0 h4) (iblk m c 0 t) (iblk m c 1 t) (iblk m c 2 t) (iblk m c 3 t) Y4 Set.univ _)
      isplitl [H0]; · iexact H0
      isplitl [H1]; · iexact H1
      isplitl [H2]; · iexact H2
      isplitl [H3]; · iexact H3
      isplitl [H4]; · iexact H4
      iintro ⟨H0, H1, H2, H3, ⟨%X4, %p4, H4⟩⟩
      isplitl [HΦ]; · iexact HΦ
      isplitl [Ho]; · iexact Ho
      isplitl [H0]; · iexact H0
      isplitl [H1]; · iexact H1
      isplitl [H2]; · iexact H2
      isplitl [H3]; · iexact H3
      iexists X4; isplitr
      · ipureintro; exact holds_key (t' := u) h0 h4 (by rw [e4.1, Nat.min_eq_left (by omega), hu, gapsK, et]; rfl) p4
      · iexact H4
    · by_cases h4' : t.val = 4
      · have et : pt 4 = t := by rw [← h4']; exact pt_val t
        iapply (stepTurn c (grid0.coords t) _ _ _ _ _ _ _ _ _ _ (caseTurn_at t h4') (iblk m c 0 t) (iblk m c 1 t) (iblk m c 2 t) (iblk m c 3 t) Y4 Set.univ _)
        isplitl [H0]; · iexact H0
        isplitl [H1]; · iexact H1
        isplitl [H2]; · iexact H2
        isplitl [H3]; · iexact H3
        isplitl [H4]; · iexact H4
        iintro ⟨H0, H1, H2, H3, ⟨%X4, %p4, H4⟩⟩
        isplitl [HΦ]; · iexact HΦ
        isplitl [Ho]; · iexact Ho
        isplitl [H0]; · iexact H0
        isplitl [H1]; · iexact H1
        isplitl [H2]; · iexact H2
        isplitl [H3]; · iexact H3
        iexists X4; isplitr
        · ipureintro; exact holds_turn h4' (by omega) e4 (by rw [gapsV, et]; rfl) p4
        · iexact H4
      · have h5 : t.val = 5 := by omega
        have et : pt (0 + 5) = t := by rw [← pt_val t, h5]
        have hu4 : u.val = 4 := by omega
        iapply (stepValue c (grid0.coords t) _ _ _ _ _ _ _ _ _ _ (caseValue_at t (by omega)) (iblk m c 0 t) (iblk m c 1 t) (iblk m c 2 t) (iblk m c 3 t) Y4 Set.univ _)
        isplitl [H0]; · iexact H0
        isplitl [H1]; · iexact H1
        isplitl [H2]; · iexact H2
        isplitl [H3]; · iexact H3
        isplitl [H4]; · iexact H4
        iintro ⟨H0, H1, H2, H3, ⟨%X4, %p4, H4⟩⟩
        isplitl [HΦ]; · iexact HΦ
        isplitl [Ho]; · iexact Ho
        isplitl [H0]; · iexact H0
        isplitl [H1]; · iexact H1
        isplitl [H2]; · iexact H2
        isplitl [H3]; · iexact H3
        iexists X4; isplitr
        · ipureintro; exact holds_value h5 hu4 e4 (by rw [e4.2 (by omega), hu4, ← et]; rfl) p4
        · iexact H4

/-- The body table's row is the body. -/
theorem row (t : Fin cfg0.N) : defs₀ (F := F) .tc cfg0.body (cfg0.bodyArgs t (cfg0.slots t)) = bodyAt0 t := by
  unfold defs₀; rw [Defs.onTc_tc]

theorem obligation (c : Dev nD) :
    Pipeline.BodyObligationRel (dats (F := F) m 0 c) (defs₀ (F := F)) Variants.none () Set.univ isAcc (Acc m c) := fun t => by
  rw [bigSep_W0, bigSep_W0, row]
  exact triple_restated (sound_body m c t) rfl .rfl fun _ => .rfl

set_option backward.isDefEq.respectTransparency.types false in
/-- The program runs; at the end every array is as the proof data say, and every counter is zero. -/
theorem run_all : θ_run defs (onTc (τ := τ) (main (F := F))) (s₀ m ρ)
    (fun r => Pipeline.RDat.FramePost cfg0 (rdat m) (V m) r ∧ r.2.sem = fun _ => 0) :=
  Pipeline.RDat.θ_run_frame (Q' := _) cfgs (0 : Fin 1) launch0 defs₀ Variants.none (rdat m) m ρ main
    (hbody := fun c => (obligation m c).toRRel) (hshare := fun c => (dats m 0 c).share_full fun _ => rfl)
    (howed := fun _ _ => rfl) (V := V m) (hmain := hmain m Variants.none) (hA := A_eq m) (hΦ := fun _ _ => rfl)
    (hQ' := fun _ h => h)

/-- An input array is at the end what it was at the start. -/
theorem input_kept (c : Dev nD) (w : Fin cfg0.W) (hw : (cfg0.win w).isOut = false)
    (G : Buf (Elt F) ((cfg0.win w).arr.view.loc (c.tc : Thread nD τ))) (h : (rdat m c).ArrAt w cfg0.N G) :
    G = V m c (Pipeline.arrRef spec0 w) := by
  rw [Pipeline.RDat.ArrAt_in _ _ hw] at h
  exact h.trans (A_eq m c w)

/-- The frame: the program runs, its arguments end unchanged, every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (input_kept m c 2 rfl _ ((h.1 c).1 2)).trans (V_main_arg2 m c),
      (input_kept m c 3 rfl _ ((h.1 c).1 3)).trans (V_main_arg3 m c)⟩, h.2⟩) (run_all m ρ)

end Cert.Kernel3Ideal.Gap

end
-- ==== Proof.GapSort.lean ====
/-
  Sorting eight numbers by the nineteen exchanges the quantiser uses, and that the host's sort along the rows gives the same.
-/
module

public import proofs.«01_k».proof.Proof.RangeEnd
public import proofs.«01_k».proof.Proof.Gen.Reference3Ideal
public import proofs.«01_k».proof.Proof.Gen.Reference3Ideal.Read
public import Idealize.ShloMosaic.Lib.SortNet.Basic
public import Idealize.ShloMosaic.Lib.SortFacts
public import Idealize.ShloMosaic.Lib.SortNet.HostSort
public import Mathlib.Order.Fin.Basic
public import Mathlib.Data.Fintype.Pi
public import Mathlib.Data.EReal.Basic

@[expose] public section

set_option maxRecDepth 16384

noncomputable section

namespace Cert.Sort8

open Idealize.ShloMosaic Idealize.ShloMosaic.SortNet

/-- The exchanges, first to last. -/
def net : Network 8 :=
  [⟨0, 1, by decide⟩, ⟨2, 3, by decide⟩, ⟨4, 5, by decide⟩, ⟨6, 7, by decide⟩, ⟨0, 2, by decide⟩, ⟨1, 3, by decide⟩, ⟨4, 6, by decide⟩, ⟨5, 7, by decide⟩, ⟨1, 2, by decide⟩, ⟨5, 6, by decide⟩, ⟨0, 4, by decide⟩, ⟨1, 5, by decide⟩, ⟨2, 6, by decide⟩, ⟨3, 7, by decide⟩, ⟨2, 4, by decide⟩, ⟨3, 5, by decide⟩, ⟨1, 2, by decide⟩, ⟨3, 4, by decide⟩, ⟨5, 6, by decide⟩]

/-- They sort zeros and ones, -/
theorem net_bools : ∀ b0 b1 b2 b3 b4 b5 b6 b7 : Bool, ∀ k : Fin 7,
    net.apply ![b0, b1, b2, b3, b4, b5, b6, b7] k.castSucc ≤ net.apply ![b0, b1, b2, b3, b4, b5, b6, b7] k.succ := by
  decide +kernel

/-- Eight numbers after the exchanges, -/
def sort8 (v : Fin 8 → EReal) : Fin 8 → EReal := net.apply v

/-- in ascending order. -/
theorem sort8_mono (v : Fin 8 → EReal) : Monotone (sort8 v) :=
  Network.zero_one net (fun b => Fin.monotone_iff_le_succ.mpr fun k => by
    have e : b = ![b 0, b 1, b 2, b 3, b 4, b 5, b 6, b 7] := by funext a; fin_cases a <;> rfl
    rw [e]; exact net_bools _ _ _ _ _ _ _ _ k) v

/-- Any rearrangement in ascending order is that one. -/
theorem sort8_unique (v : Fin 8 → EReal) (σ : Equiv.Perm (Fin 8)) (h : Monotone (v ∘ σ)) : v ∘ σ = sort8 v := by
  have hm := sort8_mono v
  obtain ⟨τ, hτ⟩ := Network.exists_perm net v
  rw [show sort8 v = v ∘ τ from hτ] at hm ⊢
  have p : (List.ofFn (v ∘ σ)).Perm (List.ofFn (v ∘ τ)) :=
    (Equiv.Perm.ofFn_comp_perm σ v).trans (Equiv.Perm.ofFn_comp_perm τ v).symm
  exact List.ofFn_injective (p.eq_of_pairwise (le := (· ≤ ·)) (fun _ _ _ _ => le_antisymm)
    (List.pairwise_ofFn.mpr fun i j hij => h hij.le) (List.pairwise_ofFn.mpr fun i j hij => hm hij.le))

/-- Every number after the exchanges is one of those before. -/
theorem sort8_mem (v : Fin 8 → EReal) (k : Fin 8) : ∃ a, sort8 v k = v a := by
  obtain ⟨τ, hτ⟩ := Network.exists_perm net v
  exact ⟨τ k, congrFun hτ k⟩

theorem swap01 (a0 a1 a2 a3 a4 a5 a6 a7 : EReal) : Cmpx.apply ⟨0, 1, by decide⟩ ![a0, a1, a2, a3, a4, a5, a6, a7] = ![min a0 a1, max a0 a1, a2, a3, a4, a5, a6, a7] := by
  funext k; fin_cases k <;> rfl
theorem swap23 (a0 a1 a2 a3 a4 a5 a6 a7 : EReal) : Cmpx.apply ⟨2, 3, by decide⟩ ![a0, a1, a2, a3, a4, a5, a6, a7] = ![a0, a1, min a2 a3, max a2 a3, a4, a5, a6, a7] := by
  funext k; fin_cases k <;> rfl
theorem swap45 (a0 a1 a2 a3 a4 a5 a6 a7 : EReal) : Cmpx.apply ⟨4, 5, by decide⟩ ![a0, a1, a2, a3, a4, a5, a6, a7] = ![a0, a1, a2, a3, min a4 a5, max a4 a5, a6, a7] := by
  funext k; fin_cases k <;> rfl
theorem swap67 (a0 a1 a2 a3 a4 a5 a6 a7 : EReal) : Cmpx.apply ⟨6, 7, by decide⟩ ![a0, a1, a2, a3, a4, a5, a6, a7] = ![a0, a1, a2, a3, a4, a5, min a6 a7, max a6 a7] := by
  funext k; fin_cases k <;> rfl
theorem swap02 (a0 a1 a2 a3 a4 a5 a6 a7 : EReal) : Cmpx.apply ⟨0, 2, by decide⟩ ![a0, a1, a2, a3, a4, a5, a6, a7] = ![min a0 a2, a1, max a0 a2, a3, a4, a5, a6, a7] := by
  funext k; fin_cases k <;> rfl
theorem swap13 (a0 a1 a2 a3 a4 a5 a6 a7 : EReal) : Cmpx.apply ⟨1, 3, by decide⟩ ![a0, a1, a2, a3, a4, a5, a6, a7] = ![a0, min a1 a3, a2, max a1 a3, a4, a5, a6, a7] := by
  funext k; fin_cases k <;> rfl
theorem swap46 (a0 a1 a2 a3 a4 a5 a6 a7 : EReal) : Cmpx.apply ⟨4, 6, by decide⟩ ![a0, a1, a2, a3, a4, a5, a6, a7] = ![a0, a1, a2, a3, min a4 a6, a5, max a4 a6, a7] := by
  funext k; fin_cases k <;> rfl
theorem swap57 (a0 a1 a2 a3 a4 a5 a6 a7 : EReal) : Cmpx.apply ⟨5, 7, by decide⟩ ![a0, a1, a2, a3, a4, a5, a6, a7] = ![a0, a1, a2, a3, a4, min a5 a7, a6, max a5 a7] := by
  funext k; fin_cases k <;> rfl
theorem swap12 (a0 a1 a2 a3 a4 a5 a6 a7 : EReal) : Cmpx.apply ⟨1, 2, by decide⟩ ![a0, a1, a2, a3, a4, a5, a6, a7] = ![a0, min a1 a2, max a1 a2, a3, a4, a5, a6, a7] := by
  funext k; fin_cases k <;> rfl
theorem swap56 (a0 a1 a2 a3 a4 a5 a6 a7 : EReal) : Cmpx.apply ⟨5, 6, by decide⟩ ![a0, a1, a2, a3, a4, a5, a6, a7] = ![a0, a1, a2, a3, a4, min a5 a6, max a5 a6, a7] := by
  funext k; fin_cases k <;> rfl
theorem swap04 (a0 a1 a2 a3 a4 a5 a6 a7 : EReal) : Cmpx.apply ⟨0, 4, by decide⟩ ![a0, a1, a2, a3, a4, a5, a6, a7] = ![min a0 a4, a1, a2, a3, max a0 a4, a5, a6, a7] := by
  funext k; fin_cases k <;> rfl
theorem swap15 (a0 a1 a2 a3 a4 a5 a6 a7 : EReal) : Cmpx.apply ⟨1, 5, by decide⟩ ![a0, a1, a2, a3, a4, a5, a6, a7] = ![a0, min a1 a5, a2, a3, a4, max a1 a5, a6, a7] := by
  funext k; fin_cases k <;> rfl
theorem swap26 (a0 a1 a2 a3 a4 a5 a6 a7 : EReal) : Cmpx.apply ⟨2, 6, by decide⟩ ![a0, a1, a2, a3, a4, a5, a6, a7] = ![a0, a1, min a2 a6, a3, a4, a5, max a2 a6, a7] := by
  funext k; fin_cases k <;> rfl
theorem swap37 (a0 a1 a2 a3 a4 a5 a6 a7 : EReal) : Cmpx.apply ⟨3, 7, by decide⟩ ![a0, a1, a2, a3, a4, a5, a6, a7] = ![a0, a1, a2, min a3 a7, a4, a5, a6, max a3 a7] := by
  funext k; fin_cases k <;> rfl
theorem swap24 (a0 a1 a2 a3 a4 a5 a6 a7 : EReal) : Cmpx.apply ⟨2, 4, by decide⟩ ![a0, a1, a2, a3, a4, a5, a6, a7] = ![a0, a1, min a2 a4, a3, max a2 a4, a5, a6, a7] := by
  funext k; fin_cases k <;> rfl
theorem swap35 (a0 a1 a2 a3 a4 a5 a6 a7 : EReal) : Cmpx.apply ⟨3, 5, by decide⟩ ![a0, a1, a2, a3, a4, a5, a6, a7] = ![a0, a1, a2, min a3 a5, a4, max a3 a5, a6, a7] := by
  funext k; fin_cases k <;> rfl
theorem swap34 (a0 a1 a2 a3 a4 a5 a6 a7 : EReal) : Cmpx.apply ⟨3, 4, by decide⟩ ![a0, a1, a2, a3, a4, a5, a6, a7] = ![a0, a1, a2, min a3 a4, max a3 a4, a5, a6, a7] := by
  funext k; fin_cases k <;> rfl

/-- The exchanges one after another: the numbers they leave, from the equations of each. -/
theorem sort8_steps {x0 x1 x2 x3 x4 x5 x6 x7 r97 r98 r99 r100 r101 r102 r103 r104 r105 r106 r107 r108 r109 r110 r111 r112 r113 r114 r115 r116 r117 r118 r119 r120 r121 r122 r123 r124 r125 r126 r127 r128 r129 r130 r131 r132 r133 r134 : EReal}
    (e97 : r97 = min x0 x1)
    (e98 : r98 = max x0 x1)
    (e99 : r99 = min x2 x3)
    (e100 : r100 = max x2 x3)
    (e101 : r101 = min x4 x5)
    (e102 : r102 = max x4 x5)
    (e103 : r103 = min x6 x7)
    (e104 : r104 = max x6 x7)
    (e105 : r105 = min r97 r99)
    (e106 : r106 = max r97 r99)
    (e107 : r107 = min r98 r100)
    (e108 : r108 = max r98 r100)
    (e109 : r109 = min r101 r103)
    (e110 : r110 = max r101 r103)
    (e111 : r111 = min r102 r104)
    (e112 : r112 = max r102 r104)
    (e113 : r113 = min r107 r106)
    (e114 : r114 = max r107 r106)
    (e115 : r115 = min r111 r110)
    (e116 : r116 = max r111 r110)
    (e117 : r117 = min r105 r109)
    (e118 : r118 = max r105 r109)
    (e119 : r119 = min r113 r115)
    (e120 : r120 = max r113 r115)
    (e121 : r121 = min r114 r116)
    (e122 : r122 = max r114 r116)
    (e123 : r123 = min r108 r112)
    (e124 : r124 = max r108 r112)
    (e125 : r125 = min r121 r118)
    (e126 : r126 = max r121 r118)
    (e127 : r127 = min r123 r120)
    (e128 : r128 = max r123 r120)
    (e129 : r129 = min r119 r125)
    (e130 : r130 = max r119 r125)
    (e131 : r131 = min r127 r126)
    (e132 : r132 = max r127 r126)
    (e133 : r133 = min r128 r122)
    (e134 : r134 = max r128 r122) :
    sort8 ![x0, x1, x2, x3, x4, x5, x6, x7] = ![r117, r129, r130, r131, r132, r133, r134, r124] := by
  unfold sort8 net
  rw [Network.apply_cons, swap01, ← e97, ← e98]
  rw [Network.apply_cons, swap23, ← e99, ← e100]
  rw [Network.apply_cons, swap45, ← e101, ← e102]
  rw [Network.apply_cons, swap67, ← e103, ← e104]
  rw [Network.apply_cons, swap02, ← e105, ← e106]
  rw [Network.apply_cons, swap13, ← e107, ← e108]
  rw [Network.apply_cons, swap46, ← e109, ← e110]
  rw [Network.apply_cons, swap57, ← e111, ← e112]
  rw [Network.apply_cons, swap12, ← e113, ← e114]
  rw [Network.apply_cons, swap56, ← e115, ← e116]
  rw [Network.apply_cons, swap04, ← e117, ← e118]
  rw [Network.apply_cons, swap15, ← e119, ← e120]
  rw [Network.apply_cons, swap26, ← e121, ← e122]
  rw [Network.apply_cons, swap37, ← e123, ← e124]
  rw [Network.apply_cons, swap24, ← e125, ← e126]
  rw [Network.apply_cons, swap35, ← e127, ← e128]
  rw [Network.apply_cons, swap12, ← e129, ← e130]
  rw [Network.apply_cons, swap34, ← e131, ← e132]
  rw [Network.apply_cons, swap56, ← e133, ← e134]
  rfl

/-- The comparison of the host's sort is `<`. -/
theorem before_iff (l r : EReal) : (Cert.Reference3Ideal.comparator_f32_d0 (F := Ideal) l r == 1#1) = decide (l < r) := by
  have z : (FloatOps.ofBits .f32 0x00000000#32 : Ideal .f32) = (0 : EReal) := by
    show Ideal.ofBits .f32 _ = _
    simp [Ideal.ofBits, Ideal.ieee]
  have canon : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits .f32 0x00000000#32)) (FloatOps.ofBits .f32 0x00000000#32) x) = x := by
    intro x
    have e1 : FloatOps.cmpf (F := Ideal) (φ := .f32) .une x x = 0#1 := by
      show Ideal.cmp .une x x = 0#1
      simp [Ideal.cmp]
    rw [e1, z]
    by_cases hx : x = 0
    · subst hx
      simp [Scalar.select]
    · have e2 : FloatOps.cmpf (F := Ideal) (φ := .f32) .oeq x (0 : EReal) = 0#1 := by
        show Ideal.cmp .oeq x 0 = 0#1
        simp [Ideal.cmp, hx]
      rw [e2]
      simp [Scalar.select]
  have e : Cert.Reference3Ideal.comparator_f32_d0 (F := Ideal) l r = Ideal.cmp .olt l r := by
    unfold Cert.Reference3Ideal.comparator_f32_d0
    dsimp only
    rw [canon l, canon r]
    rfl
  rw [e]
  by_cases h : l < r <;> simp [Ideal.cmp, h]

/-- The positions the host's sort of eight numbers reads from put them in the same order as the exchanges. -/
theorem sortedFrom_eq (v : Fin 8 → EReal) (R : Fin 8 → Fin 8 → Bool) (hR : ∀ a b, R a b = decide (v a < v b)) :
    (fun k => v (sortedFrom R k)) = sort8 v := by
  have inv := sortedFrom_noInversion R R
    (fun a b h => by rw [hR] at h ⊢; exact decide_eq_false (lt_asymm (of_decide_eq_true h)))
    (fun a b h => h)
    (fun a b c h1 h2 => by
      rw [hR] at h1 h2 ⊢
      exact decide_eq_false (not_lt.mpr ((not_lt.mp (of_decide_eq_false h2)).trans (not_lt.mp (of_decide_eq_false h1)))))
  refine sort8_unique v (Equiv.ofBijective _ ⟨sortedFrom_injective R, sortedFrom_surjective R⟩) ?_
  intro i j hij
  rcases hij.eq_or_lt with rfl | h
  · exact le_rfl
  · have := inv i j h
    rw [hR] at this
    exact not_lt.mp (of_decide_eq_false this)

end Cert.Sort8

end
-- ==== Proof.GapTrip.lean ====
/-
  What the gap call accumulates: an accumulator is at most a number when zero is and when every gap between neighbours of every
  sorted column of errors is.
-/
module

public import proofs.«01_k».proof.Proof.GapRunIdeal
public import proofs.«01_k».proof.Proof.GapSort

@[expose] public section

set_option maxRecDepth 16384

noncomputable section

open Idealize.ShloMosaic Idealize.ShloMosaic.TcCoe Idealize.SL.Sem
open Idealize.ShloMosaic.Pipeline (Dat)

namespace Cert.Kernel3Ideal.Gap

open Cert.Kernel3Ideal Cert.Kernel3Ideal.Gen
open Cert.Sort8
open Cert.Kernel2Ideal.Range (maxRed_le forall_shapeCast one_idx)

/-- The error of rounding the weight `w` to a multiple of the step `s`. -/
def err (s w : EReal) : EReal := w - s * Ideal.liftRound Ideal.roundHalfEven (Ideal.div w s)

/-- The `k`-th gap between neighbours of a column's sorted errors. -/
def gapOf (s : EReal) (w : Fin 8 → EReal) (k : Fin 7) : EReal :=
  sort8 (fun a => err s (w a)) k.succ - sort8 (fun a => err s (w a)) k.castSucc

/-- The maximum of two is at most `b` when both are. -/
theorem smax_le (x y : Ideal .f32) (b : EReal) : (Scalar.maximumf (F := Ideal) x y : EReal) ≤ b ↔ (x : EReal) ≤ b ∧ (y : EReal) ≤ b := by
  rw [Ideal.scalar_maximumf_def]; exact max_le_iff

/-- The maximum over a chunk is at most `b` when every entry is. -/
theorem chunkMax_le (u : FVec Ideal S16x256 .f32) (b : EReal) :
    (extractAt (s := S1x1x1) ![0, 0, 0] (shapeCast S1x1x1 (multiReduction .maximumf [1, 2] S1
      (shapeCast S1x16x256 u shapeCasts_S16x256_S1x16x256) 0xFF800000#32 reduces_S1x16x256_S1 (.inl rfl) rfl) shapeCasts_S1_S1x1x1) inpos_S1x1x1_p0_0_0 : EReal) ≤ b
      ↔ ∀ i, (u i : EReal) ≤ b :=
  (maxRed_le _ _ (.inl rfl) rfl one_idx _ b).trans (forall_shapeCast (· ≤ b) _ _)

/-- The entry of a chunk that an entry of its reshape is. -/
def back (i : S16x256.Idx) : S1x16x256.Idx := Shape.reshapeEquiv shapeCasts_S1x16x256_S16x256 i

/-- The end of a trip over `K`: its last exchanges, the seven differences and their maxima. -/
theorem endK_le (acc : Ideal .f32) (v117 v118 v119 v120 v121 v122 v123 v124 v125 : FVec Ideal S16x256 .f32) (b : EReal) :
    (k0_pay50 (F := Ideal) acc v117 v118 v119 v120 v121 v122 v123 v124 v125 : EReal) ≤ b ↔ (acc : EReal) ≤ b ∧
      ((((((∀ i, (subf (minimumf v119 v125) v117 i : EReal) ≤ b)
        ∧ (∀ i, (subf (maximumf v119 v125) (minimumf v119 v125) i : EReal) ≤ b))
        ∧ (∀ i, (subf (minimumf (minimumf v123 v120) (maximumf v121 v118)) (maximumf v119 v125) i : EReal) ≤ b))
        ∧ (∀ i, (subf (maximumf (minimumf v123 v120) (maximumf v121 v118)) (minimumf (minimumf v123 v120) (maximumf v121 v118)) i : EReal) ≤ b))
        ∧ (∀ i, (subf (minimumf (maximumf v123 v120) v122) (maximumf (minimumf v123 v120) (maximumf v121 v118)) i : EReal) ≤ b))
        ∧ (∀ i, (subf (maximumf (maximumf v123 v120) v122) (minimumf (maximumf v123 v120) v122) i : EReal) ≤ b))
        ∧ (∀ i, (subf v124 (maximumf (maximumf v123 v120) v122) i : EReal) ≤ b) := by
  unfold k0_pay50
  dsimp only
  rw [smax_le, smax_le, smax_le, smax_le, smax_le, smax_le, smax_le, chunkMax_le, chunkMax_le, chunkMax_le, chunkMax_le,
    chunkMax_le, chunkMax_le, chunkMax_le]

set_option maxHeartbeats 1600000 in
/-- A column of a chunk of `K` after the exchanges. -/
theorem sortedK (s : Ideal .f32) (b0 b1 b2 b3 b4 b5 b6 b7 : FVec Ideal S1x16x256 .f32) (i : S16x256.Idx) :
    sort8 ![err s (b0 (back i)), err s (b1 (back i)), err s (b2 (back i)), err s (b3 (back i)), err s (b4 (back i)), err s (b5 (back i)), err s (b6 (back i)), err s (b7 (back i))] = ![(k0_pay41 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2) i : EReal), (minimumf (k0_pay43 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2)) (k0_pay49 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2)) i : EReal), (maximumf (k0_pay43 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2)) (k0_pay49 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2)) i : EReal), (minimumf (minimumf (k0_pay47 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2)) (k0_pay44 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2))) (maximumf (k0_pay45 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2)) (k0_pay42 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2))) i : EReal), (maximumf (minimumf (k0_pay47 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2)) (k0_pay44 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2))) (maximumf (k0_pay45 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2)) (k0_pay42 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2))) i : EReal), (minimumf (maximumf (k0_pay47 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2)) (k0_pay44 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2))) (k0_pay46 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2)) i : EReal), (maximumf (maximumf (k0_pay47 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2)) (k0_pay44 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2))) (k0_pay46 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2)) i : EReal), (k0_pay48 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2) i : EReal)] :=
  sort8_steps (x0 := err s (b0 (back i))) (x1 := err s (b1 (back i))) (x2 := err s (b2 (back i))) (x3 := err s (b3 (back i))) (x4 := err s (b4 (back i))) (x5 := err s (b5 (back i))) (x6 := err s (b6 (back i))) (x7 := err s (b7 (back i)))
    (r97 := (k0_pay21 (F := Ideal) (k0_pay12 (F := Ideal) s b0) (k0_pay13 (F := Ideal) s b1) i : EReal)) (r98 := (k0_pay22 (F := Ideal) (k0_pay12 (F := Ideal) s b0) (k0_pay13 (F := Ideal) s b1) i : EReal)) (r99 := (k0_pay23 (F := Ideal) s (k0_pay6 (F := Ideal) b2) (k0_pay7 (F := Ideal) b3) (k0_pay14 (F := Ideal) s b2) i : EReal)) (r100 := (k0_pay24 (F := Ideal) s (k0_pay6 (F := Ideal) b2) (k0_pay7 (F := Ideal) b3) (k0_pay14 (F := Ideal) s b2) i : EReal)) (r101 := (k0_pay25 (F := Ideal) s (k0_pay8 (F := Ideal) b4) (k0_pay9 (F := Ideal) b5) i : EReal)) (r102 := (k0_pay26 (F := Ideal) s (k0_pay8 (F := Ideal) b4) (k0_pay9 (F := Ideal) b5) i : EReal)) (r103 := (k0_pay27 (F := Ideal) s (k0_pay10 (F := Ideal) b6) (k0_pay11 (F := Ideal) b7) i : EReal)) (r104 := (k0_pay28 (F := Ideal) s (k0_pay10 (F := Ideal) b6) (k0_pay11 (F := Ideal) b7) i : EReal)) (r105 := (k0_pay29 (F := Ideal) s (k0_pay6 (F := Ideal) b2) (k0_pay7 (F := Ideal) b3) (k0_pay12 (F := Ideal) s b0) (k0_pay13 (F := Ideal) s b1) (k0_pay14 (F := Ideal) s b2) i : EReal)) (r106 := (k0_pay30 (F := Ideal) s (k0_pay6 (F := Ideal) b2) (k0_pay7 (F := Ideal) b3) (k0_pay12 (F := Ideal) s b0) (k0_pay13 (F := Ideal) s b1) (k0_pay14 (F := Ideal) s b2) i : EReal)) (r107 := (k0_pay31 (F := Ideal) s (k0_pay6 (F := Ideal) b2) (k0_pay7 (F := Ideal) b3) (k0_pay12 (F := Ideal) s b0) (k0_pay13 (F := Ideal) s b1) (k0_pay14 (F := Ideal) s b2) i : EReal)) (r108 := (k0_pay32 (F := Ideal) s (k0_pay6 (F := Ideal) b2) (k0_pay7 (F := Ideal) b3) (k0_pay12 (F := Ideal) s b0) (k0_pay13 (F := Ideal) s b1) (k0_pay14 (F := Ideal) s b2) i : EReal)) (r109 := (k0_pay33 (F := Ideal) s (k0_pay8 (F := Ideal) b4) (k0_pay9 (F := Ideal) b5) (k0_pay10 (F := Ideal) b6) (k0_pay11 (F := Ideal) b7) i : EReal)) (r110 := (k0_pay34 (F := Ideal) s (k0_pay8 (F := Ideal) b4) (k0_pay9 (F := Ideal) b5) (k0_pay10 (F := Ideal) b6) (k0_pay11 (F := Ideal) b7) i : EReal)) (r111 := (k0_pay35 (F := Ideal) s (k0_pay8 (F := Ideal) b4) (k0_pay9 (F := Ideal) b5) (k0_pay10 (F := Ideal) b6) (k0_pay11 (F := Ideal) b7) i : EReal)) (r112 := (k0_pay36 (F := Ideal) s (k0_pay8 (F := Ideal) b4) (k0_pay9 (F := Ideal) b5) (k0_pay10 (F := Ideal) b6) (k0_pay11 (F := Ideal) b7) i : EReal)) (r113 := (k0_pay37 (F := Ideal) s (k0_pay6 (F := Ideal) b2) (k0_pay7 (F := Ideal) b3) (k0_pay12 (F := Ideal) s b0) (k0_pay13 (F := Ideal) s b1) (k0_pay14 (F := Ideal) s b2) i : EReal)) (r114 := (k0_pay38 (F := Ideal) s (k0_pay6 (F := Ideal) b2) (k0_pay7 (F := Ideal) b3) (k0_pay12 (F := Ideal) s b0) (k0_pay13 (F := Ideal) s b1) (k0_pay14 (F := Ideal) s b2) i : EReal)) (r115 := (k0_pay39 (F := Ideal) s (k0_pay8 (F := Ideal) b4) (k0_pay9 (F := Ideal) b5) (k0_pay10 (F := Ideal) b6) (k0_pay11 (F := Ideal) b7) i : EReal)) (r116 := (k0_pay40 (F := Ideal) s (k0_pay8 (F := Ideal) b4) (k0_pay9 (F := Ideal) b5) (k0_pay10 (F := Ideal) b6) (k0_pay11 (F := Ideal) b7) i : EReal)) (r117 := (k0_pay41 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2) i : EReal)) (r118 := (k0_pay42 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2) i : EReal)) (r119 := (k0_pay43 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2) i : EReal)) (r120 := (k0_pay44 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2) i : EReal)) (r121 := (k0_pay45 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2) i : EReal)) (r122 := (k0_pay46 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2) i : EReal)) (r123 := (k0_pay47 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2) i : EReal)) (r124 := (k0_pay48 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2) i : EReal)) (r125 := (k0_pay49 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2) i : EReal)) (r126 := (maximumf (k0_pay45 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2)) (k0_pay42 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2)) i : EReal)) (r127 := (minimumf (k0_pay47 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2)) (k0_pay44 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2)) i : EReal)) (r128 := (maximumf (k0_pay47 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2)) (k0_pay44 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2)) i : EReal)) (r129 := (minimumf (k0_pay43 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2)) (k0_pay49 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2)) i : EReal)) (r130 := (maximumf (k0_pay43 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2)) (k0_pay49 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2)) i : EReal)) (r131 := (minimumf (minimumf (k0_pay47 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2)) (k0_pay44 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2))) (maximumf (k0_pay45 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2)) (k0_pay42 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2))) i : EReal)) (r132 := (maximumf (minimumf (k0_pay47 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2)) (k0_pay44 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2))) (maximumf (k0_pay45 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2)) (k0_pay42 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2))) i : EReal)) (r133 := (minimumf (maximumf (k0_pay47 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2)) (k0_pay44 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2))) (k0_pay46 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2)) i : EReal)) (r134 := (maximumf (maximumf (k0_pay47 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2)) (k0_pay44 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2))) (k0_pay46 (F := Ideal) s (k0_pay6 (F := Ideal) b2) (k0_pay7 (F := Ideal) b3) (k0_pay8 (F := Ideal) b4) (k0_pay9 (F := Ideal) b5) (k0_pay10 (F := Ideal) b6) (k0_pay11 (F := Ideal) b7) (k0_pay12 (F := Ideal) s b0) (k0_pay13 (F := Ideal) s b1) (k0_pay14 (F := Ideal) s b2)) i : EReal))
    rfl rfl rfl rfl rfl rfl rfl rfl rfl rfl rfl rfl rfl rfl rfl rfl rfl rfl rfl rfl rfl rfl rfl rfl rfl rfl rfl rfl rfl rfl rfl rfl rfl rfl rfl rfl rfl rfl

/-- One chunk of `K`: the carried value is at most `b` when it was and every gap in the chunk is. -/
theorem gapK_le (s : Ideal .f32) (b0 b1 b2 b3 b4 b5 b6 b7 : FVec Ideal S1x16x256 .f32) (acc : Ideal .f32) (b : EReal) :
    (gapK (F := Ideal) s b0 b1 b2 b3 b4 b5 b6 b7 acc : EReal) ≤ b ↔ (acc : EReal) ≤ b ∧ ∀ i k, gapOf s ![b0 (back i), b1 (back i), b2 (back i), b3 (back i), b4 (back i), b5 (back i), b6 (back i), b7 (back i)] k ≤ b := by
  unfold gapK
  rw [endK_le]
  have e : ∀ i : S16x256.Idx, (fun a => err s ((![b0 (back i), b1 (back i), b2 (back i), b3 (back i), b4 (back i), b5 (back i), b6 (back i), b7 (back i)] : Fin 8 → EReal) a))
      = ![err s (b0 (back i)), err s (b1 (back i)), err s (b2 (back i)), err s (b3 (back i)), err s (b4 (back i)), err s (b5 (back i)), err s (b6 (back i)), err s (b7 (back i))] := fun i => by funext a; fin_cases a <;> rfl
  refine and_congr_right fun _ => ⟨fun h i k => ?_, fun h => ?_⟩
  · obtain ⟨⟨⟨⟨⟨⟨h0, h1⟩, h2⟩, h3⟩, h4⟩, h5⟩, h6⟩ := h
    unfold gapOf
    rw [e, sortedK]
    match k with
    | ⟨0, _⟩ => exact h0 i
    | ⟨1, _⟩ => exact h1 i
    | ⟨2, _⟩ => exact h2 i
    | ⟨3, _⟩ => exact h3 i
    | ⟨4, _⟩ => exact h4 i
    | ⟨5, _⟩ => exact h5 i
    | ⟨6, _⟩ => exact h6 i
  · unfold gapOf at h
    simp only [e, sortedK] at h
    exact ⟨⟨⟨⟨⟨⟨fun i => h i 0, fun i => h i 1⟩, fun i => h i 2⟩, fun i => h i 3⟩, fun i => h i 4⟩, fun i => h i 5⟩, fun i => h i 6⟩

/-- The end of a trip over `V`: its last exchanges, the seven differences and their maxima. -/
theorem endV_le (acc : Ideal .f32) (v117 v118 v119 v120 v121 v122 v123 v124 v125 : FVec Ideal S16x256 .f32) (b : EReal) :
    (k0_pay95 (F := Ideal) acc v117 v118 v119 v120 v121 v122 v123 v124 v125 : EReal) ≤ b ↔ (acc : EReal) ≤ b ∧
      ((((((∀ i, (subf (minimumf v119 v125) v117 i : EReal) ≤ b)
        ∧ (∀ i, (subf (maximumf v119 v125) (minimumf v119 v125) i : EReal) ≤ b))
        ∧ (∀ i, (subf (minimumf (minimumf v123 v120) (maximumf v121 v118)) (maximumf v119 v125) i : EReal) ≤ b))
        ∧ (∀ i, (subf (maximumf (minimumf v123 v120) (maximumf v121 v118)) (minimumf (minimumf v123 v120) (maximumf v121 v118)) i : EReal) ≤ b))
        ∧ (∀ i, (subf (minimumf (maximumf v123 v120) v122) (maximumf (minimumf v123 v120) (maximumf v121 v118)) i : EReal) ≤ b))
        ∧ (∀ i, (subf (maximumf (maximumf v123 v120) v122) (minimumf (maximumf v123 v120) v122) i : EReal) ≤ b))
        ∧ (∀ i, (subf v124 (maximumf (maximumf v123 v120) v122) i : EReal) ≤ b) := by
  unfold k0_pay95
  dsimp only
  rw [smax_le, smax_le, smax_le, smax_le, smax_le, smax_le, smax_le, chunkMax_le, chunkMax_le, chunkMax_le, chunkMax_le,
    chunkMax_le, chunkMax_le, chunkMax_le]

set_option maxHeartbeats 1600000 in
/-- A column of a chunk of `V` after the exchanges. -/
theorem sortedV (s : Ideal .f32) (b0 b1 b2 b3 b4 b5 b6 b7 : FVec Ideal S1x16x256 .f32) (i : S16x256.Idx) :
    sort8 ![err s (b0 (back i)), err s (b1 (back i)), err s (b2 (back i)), err s (b3 (back i)), err s (b4 (back i)), err s (b5 (back i)), err s (b6 (back i)), err s (b7 (back i))] = ![(k0_pay86 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2) i : EReal), (minimumf (k0_pay88 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2)) (k0_pay94 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2)) i : EReal), (maximumf (k0_pay88 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2)) (k0_pay94 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2)) i : EReal), (minimumf (minimumf (k0_pay92 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2)) (k0_pay89 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2))) (maximumf (k0_pay90 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2)) (k0_pay87 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2))) i : EReal), (maximumf (minimumf (k0_pay92 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2)) (k0_pay89 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2))) (maximumf (k0_pay90 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2)) (k0_pay87 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2))) i : EReal), (minimumf (maximumf (k0_pay92 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2)) (k0_pay89 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2))) (k0_pay91 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2)) i : EReal), (maximumf (maximumf (k0_pay92 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2)) (k0_pay89 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2))) (k0_pay91 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2)) i : EReal), (k0_pay93 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2) i : EReal)] :=
  sort8_steps (x0 := err s (b0 (back i))) (x1 := err s (b1 (back i))) (x2 := err s (b2 (back i))) (x3 := err s (b3 (back i))) (x4 := err s (b4 (back i))) (x5 := err s (b5 (back i))) (x6 := err s (b6 (back i))) (x7 := err s (b7 (back i)))
    (r97 := (k0_pay66 (F := Ideal) (k0_pay57 (F := Ideal) s b0) (k0_pay58 (F := Ideal) s b1) i : EReal)) (r98 := (k0_pay67 (F := Ideal) (k0_pay57 (F := Ideal) s b0) (k0_pay58 (F := Ideal) s b1) i : EReal)) (r99 := (k0_pay68 (F := Ideal) s (k0_pay51 (F := Ideal) b2) (k0_pay52 (F := Ideal) b3) (k0_pay59 (F := Ideal) s b2) i : EReal)) (r100 := (k0_pay69 (F := Ideal) s (k0_pay51 (F := Ideal) b2) (k0_pay52 (F := Ideal) b3) (k0_pay59 (F := Ideal) s b2) i : EReal)) (r101 := (k0_pay70 (F := Ideal) s (k0_pay53 (F := Ideal) b4) (k0_pay54 (F := Ideal) b5) i : EReal)) (r102 := (k0_pay71 (F := Ideal) s (k0_pay53 (F := Ideal) b4) (k0_pay54 (F := Ideal) b5) i : EReal)) (r103 := (k0_pay72 (F := Ideal) s (k0_pay55 (F := Ideal) b6) (k0_pay56 (F := Ideal) b7) i : EReal)) (r104 := (k0_pay73 (F := Ideal) s (k0_pay55 (F := Ideal) b6) (k0_pay56 (F := Ideal) b7) i : EReal)) (r105 := (k0_pay74 (F := Ideal) s (k0_pay51 (F := Ideal) b2) (k0_pay52 (F := Ideal) b3) (k0_pay57 (F := Ideal) s b0) (k0_pay58 (F := Ideal) s b1) (k0_pay59 (F := Ideal) s b2) i : EReal)) (r106 := (k0_pay75 (F := Ideal) s (k0_pay51 (F := Ideal) b2) (k0_pay52 (F := Ideal) b3) (k0_pay57 (F := Ideal) s b0) (k0_pay58 (F := Ideal) s b1) (k0_pay59 (F := Ideal) s b2) i : EReal)) (r107 := (k0_pay76 (F := Ideal) s (k0_pay51 (F := Ideal) b2) (k0_pay52 (F := Ideal) b3) (k0_pay57 (F := Ideal) s b0) (k0_pay58 (F := Ideal) s b1) (k0_pay59 (F := Ideal) s b2) i : EReal)) (r108 := (k0_pay77 (F := Ideal) s (k0_pay51 (F := Ideal) b2) (k0_pay52 (F := Ideal) b3) (k0_pay57 (F := Ideal) s b0) (k0_pay58 (F := Ideal) s b1) (k0_pay59 (F := Ideal) s b2) i : EReal)) (r109 := (k0_pay78 (F := Ideal) s (k0_pay53 (F := Ideal) b4) (k0_pay54 (F := Ideal) b5) (k0_pay55 (F := Ideal) b6) (k0_pay56 (F := Ideal) b7) i : EReal)) (r110 := (k0_pay79 (F := Ideal) s (k0_pay53 (F := Ideal) b4) (k0_pay54 (F := Ideal) b5) (k0_pay55 (F := Ideal) b6) (k0_pay56 (F := Ideal) b7) i : EReal)) (r111 := (k0_pay80 (F := Ideal) s (k0_pay53 (F := Ideal) b4) (k0_pay54 (F := Ideal) b5) (k0_pay55 (F := Ideal) b6) (k0_pay56 (F := Ideal) b7) i : EReal)) (r112 := (k0_pay81 (F := Ideal) s (k0_pay53 (F := Ideal) b4) (k0_pay54 (F := Ideal) b5) (k0_pay55 (F := Ideal) b6) (k0_pay56 (F := Ideal) b7) i : EReal)) (r113 := (k0_pay82 (F := Ideal) s (k0_pay51 (F := Ideal) b2) (k0_pay52 (F := Ideal) b3) (k0_pay57 (F := Ideal) s b0) (k0_pay58 (F := Ideal) s b1) (k0_pay59 (F := Ideal) s b2) i : EReal)) (r114 := (k0_pay83 (F := Ideal) s (k0_pay51 (F := Ideal) b2) (k0_pay52 (F := Ideal) b3) (k0_pay57 (F := Ideal) s b0) (k0_pay58 (F := Ideal) s b1) (k0_pay59 (F := Ideal) s b2) i : EReal)) (r115 := (k0_pay84 (F := Ideal) s (k0_pay53 (F := Ideal) b4) (k0_pay54 (F := Ideal) b5) (k0_pay55 (F := Ideal) b6) (k0_pay56 (F := Ideal) b7) i : EReal)) (r116 := (k0_pay85 (F := Ideal) s (k0_pay53 (F := Ideal) b4) (k0_pay54 (F := Ideal) b5) (k0_pay55 (F := Ideal) b6) (k0_pay56 (F := Ideal) b7) i : EReal)) (r117 := (k0_pay86 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2) i : EReal)) (r118 := (k0_pay87 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2) i : EReal)) (r119 := (k0_pay88 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2) i : EReal)) (r120 := (k0_pay89 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2) i : EReal)) (r121 := (k0_pay90 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2) i : EReal)) (r122 := (k0_pay91 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2) i : EReal)) (r123 := (k0_pay92 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2) i : EReal)) (r124 := (k0_pay93 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2) i : EReal)) (r125 := (k0_pay94 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2) i : EReal)) (r126 := (maximumf (k0_pay90 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2)) (k0_pay87 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2)) i : EReal)) (r127 := (minimumf (k0_pay92 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2)) (k0_pay89 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2)) i : EReal)) (r128 := (maximumf (k0_pay92 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2)) (k0_pay89 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2)) i : EReal)) (r129 := (minimumf (k0_pay88 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2)) (k0_pay94 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2)) i : EReal)) (r130 := (maximumf (k0_pay88 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2)) (k0_pay94 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2)) i : EReal)) (r131 := (minimumf (minimumf (k0_pay92 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2)) (k0_pay89 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2))) (maximumf (k0_pay90 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2)) (k0_pay87 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2))) i : EReal)) (r132 := (maximumf (minimumf (k0_pay92 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2)) (k0_pay89 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2))) (maximumf (k0_pay90 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2)) (k0_pay87 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2))) i : EReal)) (r133 := (minimumf (maximumf (k0_pay92 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2)) (k0_pay89 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2))) (k0_pay91 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2)) i : EReal)) (r134 := (maximumf (maximumf (k0_pay92 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2)) (k0_pay89 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2))) (k0_pay91 (F := Ideal) s (k0_pay51 (F := Ideal) b2) (k0_pay52 (F := Ideal) b3) (k0_pay53 (F := Ideal) b4) (k0_pay54 (F := Ideal) b5) (k0_pay55 (F := Ideal) b6) (k0_pay56 (F := Ideal) b7) (k0_pay57 (F := Ideal) s b0) (k0_pay58 (F := Ideal) s b1) (k0_pay59 (F := Ideal) s b2)) i : EReal))
    rfl rfl rfl rfl rfl rfl rfl rfl rfl rfl rfl rfl rfl rfl rfl rfl rfl rfl rfl rfl rfl rfl rfl rfl rfl rfl rfl rfl rfl rfl rfl rfl rfl rfl rfl rfl rfl rfl

/-- One chunk of `V`: the carried value is at most `b` when it was and every gap in the chunk is. -/
theorem gapV_le (s : Ideal .f32) (b0 b1 b2 b3 b4 b5 b6 b7 : FVec Ideal S1x16x256 .f32) (acc : Ideal .f32) (b : EReal) :
    (gapV (F := Ideal) s b0 b1 b2 b3 b4 b5 b6 b7 acc : EReal) ≤ b ↔ (acc : EReal) ≤ b ∧ ∀ i k, gapOf s ![b0 (back i), b1 (back i), b2 (back i), b3 (back i), b4 (back i), b5 (back i), b6 (back i), b7 (back i)] k ≤ b := by
  unfold gapV
  rw [endV_le]
  have e : ∀ i : S16x256.Idx, (fun a => err s ((![b0 (back i), b1 (back i), b2 (back i), b3 (back i), b4 (back i), b5 (back i), b6 (back i), b7 (back i)] : Fin 8 → EReal) a))
      = ![err s (b0 (back i)), err s (b1 (back i)), err s (b2 (back i)), err s (b3 (back i)), err s (b4 (back i)), err s (b5 (back i)), err s (b6 (back i)), err s (b7 (back i))] := fun i => by funext a; fin_cases a <;> rfl
  refine and_congr_right fun _ => ⟨fun h i k => ?_, fun h => ?_⟩
  · obtain ⟨⟨⟨⟨⟨⟨h0, h1⟩, h2⟩, h3⟩, h4⟩, h5⟩, h6⟩ := h
    unfold gapOf
    rw [e, sortedV]
    match k with
    | ⟨0, _⟩ => exact h0 i
    | ⟨1, _⟩ => exact h1 i
    | ⟨2, _⟩ => exact h2 i
    | ⟨3, _⟩ => exact h3 i
    | ⟨4, _⟩ => exact h4 i
    | ⟨5, _⟩ => exact h5 i
    | ⟨6, _⟩ => exact h6 i
  · unfold gapOf at h
    simp only [e, sortedV] at h
    exact ⟨⟨⟨⟨⟨⟨fun i => h i 0, fun i => h i 1⟩, fun i => h i 2⟩, fun i => h i 3⟩, fun i => h i 4⟩, fun i => h i 5⟩, fun i => h i 6⟩

end Cert.Kernel3Ideal.Gap

end
-- ==== Proof.GapValue.lean ====
/-
  What the gap call accumulates over a block and over the blocks.
-/
module

public import proofs.«01_k».proof.Proof.GapTrip

@[expose] public section

set_option maxRecDepth 16384

noncomputable section

open Idealize.ShloMosaic Idealize.ShloMosaic.TcCoe Idealize.SL.Sem
open Idealize.ShloMosaic.Pipeline (Dat)

namespace Cert.Kernel3Ideal.Gap

open Cert.Kernel3Ideal Cert.Kernel3Ideal.Gen
open Cert.Sort8

/-- The word a block's accumulation starts from is zero. -/
theorem zero_word : (FloatOps.ofBits .f32 0x00000000#32 : Ideal .f32) = (0 : EReal) := by
  show Ideal.ofBits .f32 _ = _
  simp [Ideal.ofBits, Ideal.ieee]

/-- Where in a block an entry of chunk `n` lies. -/
def chunkIdx (a : Fin 8) (n : ℕ) (y : S1x16x256.Idx) : S8x256x256.Idx :=
  ix3 a ⟨(16 * n + (y 1).val) % 256, Nat.mod_lt _ (by decide)⟩ (y 2)

/-- A property of every column of the sixteen chunks is a property of every column of the block. -/
theorem chunks_all (p : (Fin 8 → EReal) → Prop) (x : FVec Ideal S8x256x256 .f32) :
    (∀ i < 16, ∀ y : S1x16x256.Idx, p fun a => x (chunkIdx a i y)) ↔ ∀ r l : Fin 256, p fun a => x (ix3 a r l) := by
  constructor
  · intro h r l
    have := h (r.val / 16) (by omega) (ix3 0 ⟨r.val % 16, by omega⟩ l)
    convert this using 3 with a
    funext c
    match c with
    | ⟨0, _⟩ => rfl
    | ⟨1, _⟩ => exact Fin.ext (by show r.val = (16 * (r.val / 16) + r.val % 16) % 256; omega)
    | ⟨2, _⟩ => rfl
  · exact fun h i _ y => h _ _

/-- The carried value after `n` chunks of a block of `K` is at most `b` when zero is and every gap in those chunks is. -/
theorem foldK_le (s : Ideal .f32) (x : FVec Ideal S8x256x256 .f32) (b : EReal) : ∀ n : ℕ,
    (foldK (F := Ideal) s x n : EReal) ≤ b ↔ 0 ≤ b ∧ ∀ i < n, ∀ y : S1x16x256.Idx, ∀ k, gapOf s (fun a => x (chunkIdx a i y)) k ≤ b
  | 0 => by
    rw [show foldK (F := Ideal) s x 0 = (0 : EReal) from zero_word]
    exact ⟨fun h => ⟨h, fun i hi => absurd hi (Nat.not_lt_zero i)⟩, fun h => h.1⟩
  | n + 1 => by
    have e : ∀ y : S1x16x256.Idx, (![slab (F := Ideal) x 0 n y, slab (F := Ideal) x 1 n y, slab (F := Ideal) x 2 n y, slab (F := Ideal) x 3 n y, slab (F := Ideal) x 4 n y, slab (F := Ideal) x 5 n y, slab (F := Ideal) x 6 n y, slab (F := Ideal) x 7 n y] : Fin 8 → EReal) = fun a => x (chunkIdx a n y) := fun y => by
      funext a; fin_cases a <;> rfl
    have st : (foldK (F := Ideal) s x (n + 1) : EReal) ≤ b ↔ (foldK (F := Ideal) s x n : EReal) ≤ b
        ∧ ∀ y : S1x16x256.Idx, ∀ k, gapOf s (fun a => x (chunkIdx a n y)) k ≤ b := by
      rw [foldK, gapK_le]
      simp only [e]
      exact and_congr_right fun _ => (Shape.reshapeEquiv shapeCasts_S1x16x256_S16x256).forall_congr fun _ => Iff.rfl
    rw [st, foldK_le s x b n]
    exact ⟨fun h => ⟨h.1.1, fun i hi => by rcases Nat.lt_succ_iff_lt_or_eq.mp hi with h' | rfl; exacts [h.1.2 i h', h.2]⟩,
      fun h => ⟨⟨h.1, fun i hi => h.2 i (by omega)⟩, h.2 n (by omega)⟩⟩

/-- The carried value after a whole block. -/
theorem blockK_le (s : Ideal .f32) (x : FVec Ideal S8x256x256 .f32) (b : EReal) :
    (foldK (F := Ideal) s x 16 : EReal) ≤ b ↔ 0 ≤ b ∧ ∀ (r l : Fin 256) (k : Fin 7), gapOf s (fun a => x (ix3 a r l)) k ≤ b := by
  rw [foldK_le]
  exact and_congr_right fun _ => chunks_all (fun w => ∀ k, gapOf s w k ≤ b) x

/-- The carried value after `n` chunks of a block of `V` is at most `b` when zero is and every gap in those chunks is. -/
theorem foldV_le (s : Ideal .f32) (x : FVec Ideal S8x256x256 .f32) (b : EReal) : ∀ n : ℕ,
    (foldV (F := Ideal) s x n : EReal) ≤ b ↔ 0 ≤ b ∧ ∀ i < n, ∀ y : S1x16x256.Idx, ∀ k, gapOf s (fun a => x (chunkIdx a i y)) k ≤ b
  | 0 => by
    rw [show foldV (F := Ideal) s x 0 = (0 : EReal) from zero_word]
    exact ⟨fun h => ⟨h, fun i hi => absurd hi (Nat.not_lt_zero i)⟩, fun h => h.1⟩
  | n + 1 => by
    have e : ∀ y : S1x16x256.Idx, (![slab (F := Ideal) x 0 n y, slab (F := Ideal) x 1 n y, slab (F := Ideal) x 2 n y, slab (F := Ideal) x 3 n y, slab (F := Ideal) x 4 n y, slab (F := Ideal) x 5 n y, slab (F := Ideal) x 6 n y, slab (F := Ideal) x 7 n y] : Fin 8 → EReal) = fun a => x (chunkIdx a n y) := fun y => by
      funext a; fin_cases a <;> rfl
    have st : (foldV (F := Ideal) s x (n + 1) : EReal) ≤ b ↔ (foldV (F := Ideal) s x n : EReal) ≤ b
        ∧ ∀ y : S1x16x256.Idx, ∀ k, gapOf s (fun a => x (chunkIdx a n y)) k ≤ b := by
      rw [foldV, gapV_le]
      simp only [e]
      exact and_congr_right fun _ => (Shape.reshapeEquiv shapeCasts_S1x16x256_S16x256).forall_congr fun _ => Iff.rfl
    rw [st, foldV_le s x b n]
    exact ⟨fun h => ⟨h.1.1, fun i hi => by rcases Nat.lt_succ_iff_lt_or_eq.mp hi with h' | rfl; exacts [h.1.2 i h', h.2]⟩,
      fun h => ⟨⟨h.1, fun i hi => h.2 i (by omega)⟩, h.2 n (by omega)⟩⟩

/-- The carried value after a whole block. -/
theorem blockV_le (s : Ideal .f32) (x : FVec Ideal S8x256x256 .f32) (b : EReal) :
    (foldV (F := Ideal) s x 16 : EReal) ≤ b ↔ 0 ≤ b ∧ ∀ (r l : Fin 256) (k : Fin 7), gapOf s (fun a => x (ix3 a r l)) k ≤ b := by
  rw [foldV_le]
  exact and_congr_right fun _ => chunks_all (fun w => ∀ k, gapOf s w k ≤ b) x

/-- A running maximum is at most `b` when everything it has met is. -/
theorem running (a p : ℕ → EReal) (Q : ℕ → Prop) (b : EReal) (h0 : a 0 = p 0) (hs : ∀ n, a (n + 1) = max (a n) (p (n + 1)))
    (hp : ∀ n, p n ≤ b ↔ 0 ≤ b ∧ Q n) : ∀ n, a n ≤ b ↔ 0 ≤ b ∧ ∀ k ≤ n, Q k
  | 0 => by
    rw [h0, hp]
    exact and_congr_right fun _ => ⟨fun h k hk => by obtain rfl := Nat.le_zero.mp hk; exact h, fun h => h 0 le_rfl⟩
  | n + 1 => by
    rw [hs, max_le_iff, running a p Q b h0 hs hp n, hp]
    exact ⟨fun h => ⟨h.2.1, fun k hk => by rcases Nat.le_succ_iff.mp hk with h' | rfl; exacts [h.1.2 k h', h.2.2]⟩,
      fun h => ⟨⟨h.1, fun k hk => h.2 k (by omega)⟩, h.1, h.2 _ le_rfl⟩⟩

/-- A later block's step is the maximum of what there was and the block's own. -/
theorem pay2_eq (x v : Ideal .f32) : k0_pay2 (F := Ideal) x v = (max v x : EReal) := by
  unfold k0_pay2; exact Ideal.scalar_maximumf_def ..
theorem pay5_eq (x v : Ideal .f32) : k0_pay5 (F := Ideal) x v = (max v x : EReal) := by
  unfold k0_pay5; exact Ideal.scalar_maximumf_def ..

variable (m : (ℓ : Loc nD τ sig) → Buf (Elt Ideal) ℓ)

/-- Block `k` of `K` and of `V`, and the step at each. -/
def blkK (c : Dev nD) (k : ℕ) : FVec Ideal S8x256x256 .f32 := iblk m c 0 (pt k)
def blkV (c : Dev nD) (k : ℕ) : FVec Ideal S8x256x256 .f32 := iblk m c 1 (pt (k + 4))
def stpK (c : Dev nD) (k : ℕ) : Ideal .f32 := stepAt m c (pt k)
def stpV (c : Dev nD) (k : ℕ) : Ideal .f32 := stepAt m c (pt (k + 4))

/-- The accumulation up to block `n` of `K`, -/
theorem gapsK_le (c : Dev nD) (b : EReal) (n : ℕ) : (gapsK m c n : EReal) ≤ b ↔ 0 ≤ b ∧ ∀ j ≤ n, ∀ (r l : Fin 256) (k : Fin 7),
    gapOf (stpK m c j) (fun a => blkK m c j (ix3 a r l)) k ≤ b := by
  refine running (gapsK m c) (fun n => foldK (F := Ideal) (stpK m c n) (blkK m c n) 16) _ b ?_ ?_ ?_ n
  · simp only [gapsK, blkK, stpK]
  · exact fun n => pay2_eq _ _
  · exact fun n => blockK_le _ _ b

/-- and up to block `n` of `V`. -/
theorem gapsV_le (c : Dev nD) (b : EReal) (n : ℕ) : (gapsV m c n : EReal) ≤ b ↔ 0 ≤ b ∧ ∀ j ≤ n, ∀ (r l : Fin 256) (k : Fin 7),
    gapOf (stpV m c j) (fun a => blkV m c j (ix3 a r l)) k ≤ b := by
  refine running (gapsV m c) (fun n => foldV (F := Ideal) (stpV m c n) (blkV m c n) 16) _ b ?_ ?_ ?_ n
  · simp only [gapsV, blkV, stpV, Nat.zero_add]
  · exact fun n => pay5_eq _ _
  · exact fun n => blockV_le _ _ b

end Cert.Kernel3Ideal.Gap

end
-- ==== Proof.GapBlocks.lean ====
/-
  Which weights and which step the gap call has at each point.
-/
module

public import proofs.«01_k».proof.Proof.GapValue
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Gap

open Cert.Kernel3Ideal Cert.Kernel3Ideal.Gen
open Cert.Sort8

variable (m : (ℓ : Loc nD τ sig) → Buf (Elt Ideal) ℓ)

/-- The windows' blocks: the four blocks of `K` and then the last of them again; the first block of `V` until the fifth point; the
    two small arguments whole. -/
theorem idx : ∀ t : Fin cfg0.N, win0_0.index t = ![0, min t.val 3, 0] ∧ win0_1.index t = ![0, t.val - 4, 0]
    ∧ win0_2.index t = ![0, 0] ∧ win0_3.index t = ![0, 0] :=
  (by decide +kernel : ∀ t : Fin grid0.N, _)

/-- A third of the range. -/
def stepOf (hi lo : EReal) : EReal := Ideal.div (hi - lo) (FloatOps.ofBits (F := Ideal) .f32 0x40400000#32)

/-- The step at the points of `K` is of the first entries, -/
theorem step_key (t : Fin cfg0.N) (h : t.val < 4) (v1 v2 v5 v6 : Ideal .f32) :
    k0_pay1 (F := Ideal) (grid0.coords t) v1 v2 v5 v6 = stepOf v1 v5 := by
  have e : Scalar.cmpi .slt (BitVec.ofNat 32 (grid0.coords t 0).val) 4#32 = 1#1 :=
    (by decide +kernel : ∀ t : Fin grid0.N, t.val < 4 → Scalar.cmpi .slt (BitVec.ofNat 32 (grid0.coords t 0).val) 4#32 = 1#1) t h
  unfold k0_pay1
  dsimp only
  rw [e]
  rfl

/-- and at the points of `V` of the second. -/
theorem step_value (t : Fin cfg0.N) (h : 4 ≤ t.val) (v1 v2 v5 v6 : Ideal .f32) :
    k0_pay1 (F := Ideal) (grid0.coords t) v1 v2 v5 v6 = stepOf v2 v6 := by
  have e : Scalar.cmpi .slt (BitVec.ofNat 32 (grid0.coords t 0).val) 4#32 = 0#1 :=
    (by decide +kernel : ∀ t : Fin grid0.N, 4 ≤ t.val → Scalar.cmpi .slt (BitVec.ofNat 32 (grid0.coords t 0).val) 4#32 = 0#1) t h
  unfold k0_pay1
  dsimp only
  rw [e]
  rfl

/-- The two small arguments as a point has them. -/
theorem small2 (c : Dev nD) (t : Fin cfg0.N) (j : S1x2.Idx) :
    (iblk m c 2 t : FVec Ideal S1x2 .f32) j = m ((c : Thread nD τ).loc main_arg2) j := by
  blk_point [iblk, V, idx t]

theorem small3 (c : Dev nD) (t : Fin cfg0.N) (j : S1x2.Idx) :
    (iblk m c 3 t : FVec Ideal S1x2 .f32) j = m ((c : Thread nD τ).loc main_arg3) j := by
  blk_point [iblk, V, idx t]

/-- An entry of a block of `K`: row `r`, column `s` of block `k` is weight `(256 k + r) 256 + s`. -/
theorem blockK (c : Dev nD) (k : ℕ) (hk : k ≤ 3) (i : S8x256x256.Idx) : blkK m c k i
    = m ((c : Thread nD τ).loc main_arg0) (ix2 (i 0) ⟨(k * 256 + (i 1).val) * 256 + (i 2).val, by idx_bounds; omega⟩) := by
  have hp : (pt k).val = k := Nat.mod_eq_of_lt (by omega)
  have hm : min k 3 = k := by omega
  unfold blkK
  blk_point [iblk, V, idx (pt k), hp, hm]

/-- The step at a block of `K`. -/
theorem stepK_eq (c : Dev nD) (k : ℕ) (hk : k ≤ 3) : stpK m c k
    = stepOf (m ((c : Thread nD τ).loc main_arg2) (cell 0)) (m ((c : Thread nD τ).loc main_arg3) (cell 0)) := by
  have hp : (pt k).val = k := Nat.mod_eq_of_lt (by omega)
  unfold stpK stepAt
  rw [step_key (pt k) (by omega), small2, small3]

/-- Every column of `K` is in one of its blocks. -/
theorem inK (c : Dev nD) (p : EReal → (Fin 8 → EReal) → Prop) :
    (∀ j ≤ 3, ∀ r l : Fin 256, p (stpK m c j) fun a => blkK m c j (ix3 a r l)) ↔
      ∀ n : Fin 262144, p (stepOf (m ((c : Thread nD τ).loc main_arg2) (cell 0)) (m ((c : Thread nD τ).loc main_arg3) (cell 0)))
        fun a => m ((c : Thread nD τ).loc main_arg0) (ix2 a n) := by
  constructor
  · intro h n
    have := h (n.val / 65536) (by omega) ⟨n.val / 256 % 256, by omega⟩ ⟨n.val % 256, by omega⟩
    rw [stepK_eq m c _ (by omega)] at this
    simp only [blockK m c _ (show n.val / 65536 ≤ 3 by omega)] at this
    convert this using 3 with a
    funext d
    match d with
    | ⟨0, _⟩ => rfl
    | ⟨1, _⟩ => exact Fin.ext (by show n.val = (n.val / 65536 * 256 + n.val / 256 % 256) * 256 + n.val % 256; omega)
  · intro h k hk r l
    rw [stepK_eq m c k hk]
    simp only [blockK m c k hk]
    exact h ⟨(k * 256 + r.val) * 256 + l.val, by omega⟩

/-- An entry of a block of `V`: row `r`, column `s` of block `k` is weight `(256 k + r) 256 + s`. -/
theorem blockV (c : Dev nD) (k : ℕ) (hk : k ≤ 1) (i : S8x256x256.Idx) : blkV m c k i
    = m ((c : Thread nD τ).loc main_arg1) (ix2 (i 0) ⟨(k * 256 + (i 1).val) * 256 + (i 2).val, by idx_bounds; omega⟩) := by
  have hp : (pt (k + 4)).val = k + 4 := Nat.mod_eq_of_lt (by omega)
  have hm : k + 4 - 4 = k := by omega
  unfold blkV
  blk_point [iblk, V, idx (pt (k + 4)), hp, hm]

/-- The step at a block of `V`. -/
theorem stepV_eq (c : Dev nD) (k : ℕ) (hk : k ≤ 1) : stpV m c k
    = stepOf (m ((c : Thread nD τ).loc main_arg2) (cell 1)) (m ((c : Thread nD τ).loc main_arg3) (cell 1)) := by
  have hp : (pt (k + 4)).val = k + 4 := Nat.mod_eq_of_lt (by omega)
  unfold stpV stepAt
  rw [step_value (pt (k + 4)) (by omega), small2, small3]

/-- Every column of `V` is in one of its blocks. -/
theorem inV (c : Dev nD) (p : EReal → (Fin 8 → EReal) → Prop) :
    (∀ j ≤ 1, ∀ r l : Fin 256, p (stpV m c j) fun a => blkV m c j (ix3 a r l)) ↔
      ∀ n : Fin 131072, p (stepOf (m ((c : Thread nD τ).loc main_arg2) (cell 1)) (m ((c : Thread nD τ).loc main_arg3) (cell 1)))
        fun a => m ((c : Thread nD τ).loc main_arg1) (ix2 a n) := by
  constructor
  · intro h n
    have := h (n.val / 65536) (by omega) ⟨n.val / 256 % 256, by omega⟩ ⟨n.val % 256, by omega⟩
    rw [stepV_eq m c _ (by omega)] at this
    simp only [blockV m c _ (show n.val / 65536 ≤ 1 by omega)] at this
    convert this using 3 with a
    funext d
    match d with
    | ⟨0, _⟩ => rfl
    | ⟨1, _⟩ => exact Fin.ext (by show n.val = (n.val / 65536 * 256 + n.val / 256 % 256) * 256 + n.val % 256; omega)
  · intro h k hk r l
    rw [stepV_eq m c k hk]
    simp only [blockV m c k hk]
    exact h ⟨(k * 256 + r.val) * 256 + l.val, by omega⟩

end Cert.Kernel3Ideal.Gap

end
-- ==== Proof.GapRef.lean ====
/-
  What the reference of the gap call computes: the greatest of the gaps of all columns.
-/
module

public import proofs.«01_k».proof.Proof.GapBlocks

@[expose] public section

set_option maxRecDepth 16384

noncomputable section

open Idealize.ShloMosaic Idealize.ShloMosaic.TcCoe Idealize.SL.Sem
open Idealize.ShloMosaic.Pipeline (Dat)

namespace Cert.Kernel3Ideal.Gap

open Cert.Sort8
open Cert.Reference3Ideal Cert.Reference3Ideal.Gen Cert.Reference3Ideal.Read
open Cert.Kernel2Ideal.Range (hostMax_le)

/-- The host's sort of a column of the errors of `K` is the exchanges' sort of it. -/
theorem sortK (x : FVec Ideal S8x262144 .f32) (a : Fin 8) (n : Fin 262144) :
    Host.sort (α := Ideal .f32) S8x262144 0 (comparator_f32_d0 (F := Ideal)) x (ix2 a n) = sort8 (fun k => x (ix2 k n)) a := by
  have al : ∀ k : Fin 8, Shape.Idx.along (s := S8x262144) (ix2 a n) (0 : Fin 2) k = ix2 k n := fun k => by
    funext d
    match d with
    | ⟨0, _⟩ => rfl
    | ⟨1, _⟩ => rfl
  unfold Host.sort
  rw [dif_pos (by decide)]
  exact (congrFun (sortedFrom_eq (fun k : Fin 8 => (x (Shape.Idx.along (s := S8x262144) (ix2 a n) (0 : Fin 2) k) : EReal)) _ fun p q => before_iff _ _) a).trans
    (congrArg (fun v => sort8 v a) (funext fun k => congrArg x (al k)))

/-- The reference's step for `K`, -/
theorem refStepK (x2 x3 : FVec Ideal S1x2 .f32) (i : S_.Idx) :
    val_main_v5 (F := Ideal) x2 x3 i = stepOf (x2 (cell 0)) (x3 (cell 0)) := by
  have e : ∀ j : S1x1.Idx, idx_main_v0 j = cell 0 ∧ idx_main_v2 j = cell 0 := fun j => by
    have h0 : (j 0).val < 1 := (j 0).isLt
    have h1 : (j 1).val < 1 := (j 1).isLt
    constructor <;>
    · funext d
      match d with
      | ⟨0, _⟩ => exact Fin.ext (by show (j 0).val = 0; omega)
      | ⟨1, _⟩ => exact Fin.ext (by show (j 1).val = 0; omega)
  have e1 : val_main_v1 (F := Ideal) x2 i = x2 (cell 0) := by
    unfold val_main_v1
    exact (val_main_v0_apply (F := Ideal) x2 (Shape.reshapeEquiv Cert.Reference3Ideal.Facts₀.shapeCasts_S1x1_S_ i)).trans (congrArg x2 (e _).1)
  have e3 : val_main_v3 (F := Ideal) x3 i = x3 (cell 0) := by
    unfold val_main_v3
    exact (val_main_v2_apply (F := Ideal) x3 (Shape.reshapeEquiv Cert.Reference3Ideal.Facts₀.shapeCasts_S1x1_S_ i)).trans (congrArg x3 (e _).2)
  rw [val_main_v5_apply, val_main_v4_apply, e1, e3]
  rfl

/-- its errors, -/
theorem refErrK (x : FVec Ideal S8x262144 .f32) (x2 x3 : FVec Ideal S1x2 .f32) (i : S8x262144.Idx) :
    val_main_v11 (F := Ideal) x x2 x3 i = err (stepOf (x2 (cell 0)) (x3 (cell 0))) (x i) := by
  rw [val_main_v11_apply, val_main_v10_apply, val_main_v9_apply, val_main_v8_apply, val_main_v7_apply, val_main_v6_apply, refStepK]
  rfl

/-- its gaps -/
theorem refGapK (x : FVec Ideal S8x262144 .f32) (x2 x3 : FVec Ideal S1x2 .f32) (k : Fin 7) (n : Fin 262144) :
    val_main_v15 (F := Ideal) x x2 x3 (ix2 k n) = gapOf (stepOf (x2 (cell 0)) (x3 (cell 0))) (fun a => x (ix2 a n)) k := by
  have s : ∀ a : Fin 8, val_main_v12 (F := Ideal) x x2 x3 (ix2 a n) = sort8 (fun a => err (stepOf (x2 (cell 0)) (x3 (cell 0))) (x (ix2 a n))) a := fun a => by
    unfold val_main_v12
    rw [sortK]
    exact congrArg (fun v => sort8 v a) (funext fun a => refErrK x x2 x3 _)
  have e1 : idx_main_v13 (ix2 k n) = ix2 k.succ n := by
    funext d
    match d with
    | ⟨0, _⟩ => exact Fin.ext (by show 1 + k.val = k.val + 1; omega)
    | ⟨1, _⟩ => rfl
  have e2 : idx_main_v14 (ix2 k n) = ix2 k.castSucc n := by
    funext d
    match d with
    | ⟨0, _⟩ => rfl
    | ⟨1, _⟩ => rfl
  rw [val_main_v15_apply, val_main_v13_apply, val_main_v14_apply, e1, e2, s, s]
  rfl

/-- and the greatest of them. -/
theorem refMaxK (x : FVec Ideal S8x262144 .f32) (x2 x3 : FVec Ideal S1x2 .f32) (j : S_.Idx) (b : EReal) :
    (val_main_v16 (F := Ideal) x x2 x3 j : EReal) ≤ b
      ↔ ∀ (n : Fin 262144) (k : Fin 7), gapOf (stepOf (x2 (cell 0)) (x3 (cell 0))) (fun a => x (ix2 a n)) k ≤ b := by
  unfold val_main_v16
  refine (hostMax_le _ _ _ (fun i j => funext fun a => a.elim0) j b).trans ⟨fun h n k => ?_, fun h i => ?_⟩
  · rw [← refGapK]
    exact h _
  · have e : i = ix2 (i 0) (i 1) := by
      funext d
      match d with
      | ⟨0, _⟩ => rfl
      | ⟨1, _⟩ => rfl
    exact le_of_eq_of_le ((congrArg (val_main_v15 (F := Ideal) x x2 x3) e).trans (refGapK x x2 x3 (i 0) (i 1))) (h _ _)

/-- The host's sort of a column of the errors of `V` is the exchanges' sort of it. -/
theorem sortV (x : FVec Ideal S8x131072 .f32) (a : Fin 8) (n : Fin 131072) :
    Host.sort (α := Ideal .f32) S8x131072 0 (comparator_f32_d0 (F := Ideal)) x (ix2 a n) = sort8 (fun k => x (ix2 k n)) a := by
  have al : ∀ k : Fin 8, Shape.Idx.along (s := S8x131072) (ix2 a n) (0 : Fin 2) k = ix2 k n := fun k => by
    funext d
    match d with
    | ⟨0, _⟩ => rfl
    | ⟨1, _⟩ => rfl
  unfold Host.sort
  rw [dif_pos (by decide)]
  exact (congrFun (sortedFrom_eq (fun k : Fin 8 => (x (Shape.Idx.along (s := S8x131072) (ix2 a n) (0 : Fin 2) k) : EReal)) _ fun p q => before_iff _ _) a).trans
    (congrArg (fun v => sort8 v a) (funext fun k => congrArg x (al k)))

/-- The reference's step for `V`, -/
theorem refStepV (x2 x3 : FVec Ideal S1x2 .f32) (i : S_.Idx) :
    val_main_v22 (F := Ideal) x2 x3 i = stepOf (x2 (cell 1)) (x3 (cell 1)) := by
  have e : ∀ j : S1x1.Idx, idx_main_v17 j = cell 1 ∧ idx_main_v19 j = cell 1 := fun j => by
    have h0 : (j 0).val < 1 := (j 0).isLt
    have h1 : (j 1).val < 1 := (j 1).isLt
    constructor <;>
    · funext d
      match d with
      | ⟨0, _⟩ => exact Fin.ext (by show (j 0).val = 0; omega)
      | ⟨1, _⟩ => exact Fin.ext (by show 1 + (j 1).val = 1; omega)
  have e1 : val_main_v18 (F := Ideal) x2 i = x2 (cell 1) := by
    unfold val_main_v18
    exact (val_main_v17_apply (F := Ideal) x2 (Shape.reshapeEquiv Cert.Reference3Ideal.Facts₀.shapeCasts_S1x1_S_ i)).trans (congrArg x2 (e _).1)
  have e3 : val_main_v20 (F := Ideal) x3 i = x3 (cell 1) := by
    unfold val_main_v20
    exact (val_main_v19_apply (F := Ideal) x3 (Shape.reshapeEquiv Cert.Reference3Ideal.Facts₀.shapeCasts_S1x1_S_ i)).trans (congrArg x3 (e _).2)
  rw [val_main_v22_apply, val_main_v21_apply, e1, e3]
  rfl

/-- its errors, -/
theorem refErrV (x : FVec Ideal S8x131072 .f32) (x2 x3 : FVec Ideal S1x2 .f32) (i : S8x131072.Idx) :
    val_main_v28 (F := Ideal) x x2 x3 i = err (stepOf (x2 (cell 1)) (x3 (cell 1))) (x i) := by
  rw [val_main_v28_apply, val_main_v27_apply, val_main_v26_apply, val_main_v25_apply, val_main_v24_apply, val_main_v23_apply, refStepV]
  rfl

/-- its gaps -/
theorem refGapV (x : FVec Ideal S8x131072 .f32) (x2 x3 : FVec Ideal S1x2 .f32) (k : Fin 7) (n : Fin 131072) :
    val_main_v32 (F := Ideal) x x2 x3 (ix2 k n) = gapOf (stepOf (x2 (cell 1)) (x3 (cell 1))) (fun a => x (ix2 a n)) k := by
  have s : ∀ a : Fin 8, val_main_v29 (F := Ideal) x x2 x3 (ix2 a n) = sort8 (fun a => err (stepOf (x2 (cell 1)) (x3 (cell 1))) (x (ix2 a n))) a := fun a => by
    unfold val_main_v29
    rw [sortV]
    exact congrArg (fun v => sort8 v a) (funext fun a => refErrV x x2 x3 _)
  have e1 : idx_main_v30 (ix2 k n) = ix2 k.succ n := by
    funext d
    match d with
    | ⟨0, _⟩ => exact Fin.ext (by show 1 + k.val = k.val + 1; omega)
    | ⟨1, _⟩ => rfl
  have e2 : idx_main_v31 (ix2 k n) = ix2 k.castSucc n := by
    funext d
    match d with
    | ⟨0, _⟩ => rfl
    | ⟨1, _⟩ => rfl
  rw [val_main_v32_apply, val_main_v30_apply, val_main_v31_apply, e1, e2, s, s]
  rfl

/-- and the greatest of them. -/
theorem refMaxV (x : FVec Ideal S8x131072 .f32) (x2 x3 : FVec Ideal S1x2 .f32) (j : S_.Idx) (b : EReal) :
    (val_main_v33 (F := Ideal) x x2 x3 j : EReal) ≤ b
      ↔ ∀ (n : Fin 131072) (k : Fin 7), gapOf (stepOf (x2 (cell 1)) (x3 (cell 1))) (fun a => x (ix2 a n)) k ≤ b := by
  unfold val_main_v33
  refine (hostMax_le _ _ _ (fun i j => funext fun a => a.elim0) j b).trans ⟨fun h n k => ?_, fun h i => ?_⟩
  · rw [← refGapV]
    exact h _
  · have e : i = ix2 (i 0) (i 1) := by
      funext d
      match d with
      | ⟨0, _⟩ => rfl
      | ⟨1, _⟩ => rfl
    exact le_of_eq_of_le ((congrArg (val_main_v32 (F := Ideal) x x2 x3) e).trans (refGapV x x2 x3 (i 0) (i 1))) (h _ _)

/-- The reference's two results. -/
theorem ref_cells (x : FVec Ideal S8x262144 .f32) (y : FVec Ideal S8x131072 .f32) (x2 x3 : FVec Ideal S1x2 .f32) (b : EReal) :
    ((val_main_v37 (F := Ideal) x y x2 x3 (cell 0) : EReal) ≤ b
        ↔ ∀ (n : Fin 262144) (k : Fin 7), gapOf (stepOf (x2 (cell 0)) (x3 (cell 0))) (fun a => x (ix2 a n)) k ≤ b)
      ∧ ((val_main_v37 (F := Ideal) x y x2 x3 (cell 1) : EReal) ≤ b
        ↔ ∀ (n : Fin 131072) (k : Fin 7), gapOf (stepOf (x2 (cell 1)) (x3 (cell 1))) (fun a => y (ix2 a n)) k ≤ b) := by
  have e0 : val_main_v36 (F := Ideal) x y x2 x3 (idx_main_v37 (cell 0)) = val_main_v34 (F := Ideal) x x2 x3 (ix1 0) := by
    unfold val_main_v36
    generalize val_main_v34 (F := Ideal) x x2 x3 = p
    generalize val_main_v35 (F := Ideal) y x2 x3 = q
    pointwise
  have e1 : val_main_v36 (F := Ideal) x y x2 x3 (idx_main_v37 (cell 1)) = val_main_v35 (F := Ideal) y x2 x3 (ix1 0) := by
    unfold val_main_v36
    generalize val_main_v34 (F := Ideal) x x2 x3 = p
    generalize val_main_v35 (F := Ideal) y x2 x3 = q
    pointwise
  rw [val_main_v37_apply, val_main_v37_apply, e0, e1, val_main_v34_apply, val_main_v35_apply]
  exact ⟨refMaxK x x2 x3 _ b, refMaxV y x2 x3 _ b⟩

end Cert.Kernel3Ideal.Gap

end
-- ==== Proof.FiniteGap.lean ====
/-
  What the precondition `finite3` says of the first two arguments: every entry is neither infinity.
-/
module

public import proofs.«01_k».proof.Proof.Gen.Pre_finite3
public import proofs.«01_k».proof.Proof.FiniteArgs

@[expose] public section

set_option maxRecDepth 16384

noncomputable section

open Idealize.ShloMosaic

namespace Cert.Pre_finite3.Args

open Cert.Pre_finite3 Cert.Pre_finite3.Gen Cert.Reassoc
open Cert.Pre_finite.Args (finite_of_cmp)

/-- The precondition gives the finiteness of every entry of the first two arguments. -/
theorem finite (x : FVec Ideal S8x262144 .f32) (y : FVec Ideal S8x131072 .f32) (p q : FVec Ideal S1x2 .f32)
    (h : Cert.Pre_finite3.fn (F := Ideal) x y p q = fun _ => 1#1) : (∀ i, Finite (x i)) ∧ ∀ i, Finite (y i) := by
  have h0 := congrFun h (fun a => a.elim0)
  unfold fn at h0
  dsimp only at h0
  obtain ⟨hx, hy⟩ := IntOp.andi_eq_one.1 h0
  exact ⟨fun i => finite_of_cmp _ (Host.reduce_andi_all _ _ _ _ _ hx i),
    fun i => finite_of_cmp _ (Host.reduce_andi_all _ _ _ _ _ hy i)⟩

end Cert.Pre_finite3.Args

end
-- ==== Proof.GapEnd.lean ====
/-
  The gap call's result after the run, and that it is the reference's: each entry and the reference's are bounded by the same numbers.
-/
module

public import proofs.«01_k».proof.Proof.GapRef
public import proofs.«01_k».proof.Proof.FiniteGap
public import Idealize.ShloMosaic.Lib.Pipeline.ArrRel

@[expose] public section

set_option maxRecDepth 16384

noncomputable section

open Idealize.ShloMosaic Idealize.ShloMosaic.TcCoe Idealize.SL.Sem
open Idealize.ShloMosaic.Pipeline (Dat)

namespace Cert.Kernel3Ideal.Gap

open Cert.Kernel3Ideal Cert.Kernel3Ideal.Gen
open Cert.Sort8
open Cert.Reassoc (Finite)

variable (m : (ℓ : Loc nD τ sig) → Buf (Elt Ideal) ℓ)

/-- Rounding keeps zero. -/
theorem round_zero : Ideal.liftRound Ideal.roundHalfEven 0 = 0 := by
  show Ideal.liftRound Ideal.roundHalfEven ((0 : ℝ) : EReal) = 0
  rw [Ideal.liftRound_coe, Ideal.roundHalfEven]
  norm_num

/-- The error of a finite weight is finite, whatever the step. -/
theorem err_finite (s w : EReal) (h : Finite w) : Finite (err s w) := by
  obtain ⟨r, rfl⟩ : ∃ r : ℝ, (r : EReal) = w := ⟨w.toReal, h.coe_toReal⟩
  have out : ∀ q : ℝ, Finite (q : EReal) := fun q => ⟨EReal.coe_ne_bot q, EReal.coe_ne_top q⟩
  unfold err Ideal.div
  induction s using EReal.rec with
  | bot =>
    rw [if_neg (by simp), EReal.inv_bot, mul_zero, round_zero, mul_zero, sub_zero]
    exact out r
  | top =>
    rw [if_neg (by simp), EReal.inv_top, mul_zero, round_zero, mul_zero, sub_zero]
    exact out r
  | coe t =>
    by_cases ht : t = 0
    · subst ht
      rw [EReal.coe_zero, zero_mul, sub_zero]
      exact out r
    · rw [if_neg (by exact_mod_cast ht), ← EReal.coe_inv, ← EReal.coe_mul, Ideal.liftRound_coe, ← EReal.coe_mul, ← EReal.coe_sub]
      exact out _

/-- A gap of a column of finite weights is not negative. -/
theorem gap_nonneg (s : EReal) (w : Fin 8 → EReal) (h : ∀ a, Finite (w a)) (k : Fin 7) : 0 ≤ gapOf s w k := by
  have fin : ∀ i, Finite (sort8 (fun a => err s (w a)) i) := fun i => by
    obtain ⟨a, ha⟩ := sort8_mem (fun a => err s (w a)) i
    rw [ha]
    exact err_finite s _ (h a)
  unfold gapOf
  rw [EReal.sub_nonneg (Or.inl (fin _).2) (Or.inl (fin _).1)]
  exact sort8_mono _ (Fin.castSucc_lt_succ).le

/-- An array that one point writes whole: what the point may have left. -/
theorem whole_array {cfg₁ : Pipeline.Cfg sig Λ₀} {rd : (c : Dev nD) → Pipeline.RDat τ (Elt Ideal) Unit ℕ (UR sig nD τ) ℕ cfg₁ c}
    {V₁ : (c : Dev nD) → (b : Ref sig .tc) → Buf (Elt Ideal) ((c.tc : Thread nD τ).loc b)} {r : PUnit × MemSt nD τ sig (Elt Ideal)}
    (h : Pipeline.RDat.FramePost cfg₁ rd V₁ r) (c : Dev nD) (w : Fin cfg₁.W) {t₀ : Fin cfg₁.N} (hw : (cfg₁.win w).WholeAt t₀) :
    ∃ X, (rd c).Leaves w t₀ X ∧ ∀ j : (cfg₁.win w).shape.Idx,
      r.2.mem ((cfg₁.spec w).arr.view.loc (c.tc : Thread nD τ)) ((cfg₁.win w).arr.view.emb j)
        = _root_.cast (congrArg (Elt Ideal) (cfg₁.win w).arr.view.elt_eq.symm) (X fun a => ⟨j a, hw.lt_size j a⟩) :=
  ((h c).1 w).emb_eq_of_wholeAt hw

/-- After the run the result holds the greatest gaps. -/
theorem end_gaps {r : PUnit × MemSt nD τ sig (Elt Ideal)} (h : Pipeline.RDat.FramePost cfg0 (rdat m) (V m) r) (c : Dev nD) :
    Holds (gapsK m c) (gapsV m c) t0_5 (r.2.mem ((c : Thread nD τ).loc main_v2)) := by
  obtain ⟨X, hX, hj⟩ := whole_array h c 4 (t₀ := t0_5) (by decide +kernel)
  have e : Holds (gapsK m c) (gapsV m c) t0_5 X := (dats m 0 c).toRRel_leaves (w := 4) rfl hX
  have e0 := hj (cell 0)
  have e1 := hj (cell 1)
  exact ⟨e0.trans e.1, fun h4 => e1.trans (e.2 h4)⟩

open Cert.Reference3Ideal.Read in
/-- The accumulated gaps are the reference's. -/
theorem gaps_eq (c : Dev nD) (hK : ∀ i, Finite (m ((c : Thread nD τ).loc main_arg0) i)) (hV : ∀ i, Finite (m ((c : Thread nD τ).loc main_arg1) i))
    (X : FVec Ideal S1x2 .f32) (h : Holds (gapsK m c) (gapsV m c) t0_5 X) :
    X = val_main_v37 (F := Ideal) (m ((c : Thread nD τ).loc main_arg0)) (m ((c : Thread nD τ).loc main_arg1))
      (m ((c : Thread nD τ).loc main_arg2)) (m ((c : Thread nD τ).loc main_arg3)) := by
  have r := ref_cells (m ((c : Thread nD τ).loc main_arg0)) (m ((c : Thread nD τ).loc main_arg1))
      (m ((c : Thread nD τ).loc main_arg2)) (m ((c : Thread nD τ).loc main_arg3))
  funext j
  rcases Cert.Kernel2Ideal.Range.cells j with rfl | rfl
  · refine h.1.trans (eq_of_forall_ge_iff fun b => (gapsK_le m c b 3).trans (Iff.trans ?_ (r b).1.symm))
    rw [inK m c fun s w => ∀ k, gapOf s w k ≤ b]
    exact ⟨fun h => h.2, fun h => ⟨(gap_nonneg _ _ (fun a => hK _) 0).trans (h 0 0), h⟩⟩
  · refine (h.2 (by decide)).trans (eq_of_forall_ge_iff fun b => (gapsV_le m c b 1).trans (Iff.trans ?_ (r b).2.symm))
    rw [inV m c fun s w => ∀ k, gapOf s w k ≤ b]
    exact ⟨fun h => h.2, fun h => ⟨(gap_nonneg _ _ (fun a => hV _) 0).trans (h 0 0), h⟩⟩

open Cert.Reference3Ideal.Read in
/-- The run's result for finite weights: the reference's value of the arguments, which end unchanged. -/
theorem run_values (hpre : ∀ c : Dev nD, Cert.Pre_finite3.fn (F := Ideal) (m ((c : Thread nD τ).loc main_arg0)) (m ((c : Thread nD τ).loc main_arg1))
      (m ((c : Thread nD τ).loc main_arg2)) (m ((c : Thread nD τ).loc main_arg3)) = fun _ => 1#1)
    (ρ : Dev nD → PrngReg) : θ_run defs (onTc (τ := τ) (main (F := Ideal))) ⟨m, fun _ => 0, ρ⟩ (fun r => ∀ c : Dev nD,
      r.2.mem ((c.tc : Thread nD τ).loc main_v2) = val_main_v37 (F := Ideal) (m ((c : Thread nD τ).loc main_arg0)) (m ((c : Thread nD τ).loc main_arg1))
        (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨gaps_eq m c (Cert.Pre_finite3.Args.finite _ _ _ _ (hpre c)).1 (Cert.Pre_finite3.Args.finite _ _ _ _ (hpre c)).2 _ (end_gaps m h.1 c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (input_kept m c 2 rfl _ ((h.1 c).1 2)).trans (V_main_arg2 m c),
      (input_kept m c 3 rfl _ ((h.1 c).1 3)).trans (V_main_arg3 m c)⟩) (run_all m ρ)

end Cert.Kernel3Ideal.Gap

end
-- ==== Proof.GroupTrace.lean ====
/-
  The values one trip of the second level's quantiser computes from the weights, the totals and the thresholds it reads: each is the
  one the kernel's text names, over the ones before it.
-/
module

public import proofs.«01_k».proof.Proof.Gen.Kernel4Ideal.Skeleton

@[expose] public section

set_option maxRecDepth 16384

noncomputable section

open Idealize.ShloMosaic Idealize.ShloMosaic.TcCoe Idealize.SL.Sem

namespace Cert.Kernel4Ideal.Group

open Cert.Kernel4Ideal Cert.Kernel4Ideal.Gen

/-- What a trip reads: eight chunks of weights, eight of totals, one of thresholds, and the step and the greatest gap. -/
structure Chunk where
  b : Fin 8 → FVec Ideal S1x16x256 .f32
  t : Fin 8 → FVec Ideal S1x16x256 .f32
  thr : FVec Ideal S16x256 .f32
  step : Ideal .f32
  gap : Ideal .f32

namespace Chunk

def v26 (L : Chunk) : FVec Ideal S16x256 .f32 := k0_pay7 (F := Ideal) (L.b 0)
def v29 (L : Chunk) : FVec Ideal S16x256 .f32 := k0_pay8 (F := Ideal) (L.b 1)
def v32 (L : Chunk) : FVec Ideal S16x256 .f32 := k0_pay9 (F := Ideal) (L.b 2)
def v35 (L : Chunk) : FVec Ideal S16x256 .f32 := k0_pay10 (F := Ideal) (L.b 3)
def v38 (L : Chunk) : FVec Ideal S16x256 .f32 := k0_pay11 (F := Ideal) (L.b 4)
def v41 (L : Chunk) : FVec Ideal S16x256 .f32 := k0_pay12 (F := Ideal) (L.b 5)
def v44 (L : Chunk) : FVec Ideal S16x256 .f32 := k0_pay13 (F := Ideal) (L.b 6)
def v47 (L : Chunk) : FVec Ideal S16x256 .f32 := k0_pay14 (F := Ideal) (L.b 7)
def v50 (L : Chunk) : FVec Ideal S16x256 .f32 := k0_pay15 (F := Ideal) (L.t 0)
def v53 (L : Chunk) : FVec Ideal S16x256 .f32 := k0_pay16 (F := Ideal) (L.t 1)
def v56 (L : Chunk) : FVec Ideal S16x256 .f32 := k0_pay17 (F := Ideal) (L.t 2)
def v59 (L : Chunk) : FVec Ideal S16x256 .f32 := k0_pay18 (F := Ideal) (L.t 3)
def v62 (L : Chunk) : FVec Ideal S16x256 .f32 := k0_pay19 (F := Ideal) (L.t 4)
def v65 (L : Chunk) : FVec Ideal S16x256 .f32 := k0_pay20 (F := Ideal) (L.t 5)
def v68 (L : Chunk) : FVec Ideal S16x256 .f32 := k0_pay21 (F := Ideal) (L.t 6)
def v71 (L : Chunk) : FVec Ideal S16x256 .f32 := k0_pay22 (F := Ideal) (L.t 7)
def v72 (L : Chunk) : FVec Ideal S16x256 .f32 := k0_pay23 (F := Ideal) (L.v26) (L.v50)
def v73 (L : Chunk) : FVec Ideal S16x256 .f32 := k0_pay24 (F := Ideal) (L.v29) (L.v53)
def v74 (L : Chunk) : FVec Ideal S16x256 .f32 := k0_pay25 (F := Ideal) (L.v32) (L.v56)
def v75 (L : Chunk) : FVec Ideal S16x256 .f32 := k0_pay26 (F := Ideal) (L.v35) (L.t 3)
def v76 (L : Chunk) : FVec Ideal S16x256 .f32 := k0_pay27 (F := Ideal) (L.v38) (L.t 4)
def v77 (L : Chunk) : FVec Ideal S16x256 .f32 := k0_pay28 (F := Ideal) (L.v41) (L.t 5)
def v78 (L : Chunk) : FVec Ideal S16x256 .f32 := k0_pay29 (F := Ideal) (L.v44) (L.t 6)
def v79 (L : Chunk) : FVec Ideal S16x256 .f32 := k0_pay30 (F := Ideal) (L.v47) (L.t 7)
def v88 (L : Chunk) : FVec Ideal S16x256 .f32 := k0_pay31 (F := Ideal) L.thr
def v89 (L : Chunk) : FVec Ideal S16x256 .f32 := k0_pay32 (F := Ideal)
def v90 (L : Chunk) : FVec Ideal S16x256 .f32 := k0_pay33 (F := Ideal)
def v91 (L : Chunk) : FVec Ideal S16x256 .f32 := k0_pay34 (F := Ideal)
def v92 (L : Chunk) : FVec Ideal S16x256 .f32 := k0_pay35 (F := Ideal)
def v93 (L : Chunk) : FVec Ideal S16x256 .f32 := k0_pay36 (F := Ideal)
def v94 (L : Chunk) : FVec Ideal S16x256 .f32 := k0_pay37 (F := Ideal)
def v95 (L : Chunk) : FVec Ideal S16x256 .f32 := k0_pay38 (F := Ideal)
def v96 (L : Chunk) : FVec Ideal S16x256 .f32 := k0_pay39 (F := Ideal)
def v101 (L : Chunk) : IVec S16x256 1 := k0_pay40 (F := Ideal) (L.v72) (L.v73) (L.v89) (L.v90)
def v102 (L : Chunk) : FVec Ideal S16x256 .f32 := k0_pay41 (F := Ideal) (L.v72) (L.v73)
def v103 (L : Chunk) : FVec Ideal S16x256 .f32 := k0_pay42 (F := Ideal) (L.v72) (L.v73)
def v104 (L : Chunk) : FVec Ideal S16x256 .f32 := k0_pay43 (F := Ideal) (L.v72) (L.v73) (L.v89) (L.v90)
def v105 (L : Chunk) : FVec Ideal S16x256 .f32 := k0_pay44 (F := Ideal) (L.v72) (L.v73) (L.v89) (L.v90)
def v110 (L : Chunk) : IVec S16x256 1 := k0_pay45 (F := Ideal) (L.v74) (L.v75) (L.v91) (L.v92)
def v111 (L : Chunk) : FVec Ideal S16x256 .f32 := k0_pay46 (F := Ideal) (L.v74) (L.v75)
def v112 (L : Chunk) : FVec Ideal S16x256 .f32 := k0_pay47 (F := Ideal) (L.v74) (L.v75)
def v113 (L : Chunk) : FVec Ideal S16x256 .f32 := k0_pay48 (F := Ideal) (L.v74) (L.v75) (L.v91) (L.v92)
def v114 (L : Chunk) : FVec Ideal S16x256 .f32 := k0_pay49 (F := Ideal) (L.v74) (L.v75) (L.v91) (L.v92)
def v119 (L : Chunk) : IVec S16x256 1 := k0_pay50 (F := Ideal) (L.v76) (L.v77) (L.v93) (L.v94)
def v120 (L : Chunk) : FVec Ideal S16x256 .f32 := k0_pay51 (F := Ideal) (L.v76) (L.v77)
def v121 (L : Chunk) : FVec Ideal S16x256 .f32 := k0_pay52 (F := Ideal) (L.v76) (L.v77)
def v122 (L : Chunk) : FVec Ideal S16x256 .f32 := k0_pay53 (F := Ideal) (L.v76) (L.v77) (L.v93) (L.v94)
def v123 (L : Chunk) : FVec Ideal S16x256 .f32 := k0_pay54 (F := Ideal) (L.v76) (L.v77) (L.v93) (L.v94)
def v128 (L : Chunk) : IVec S16x256 1 := k0_pay55 (F := Ideal) (L.v78) (L.v79) (L.v95) (L.v96)
def v129 (L : Chunk) : FVec Ideal S16x256 .f32 := k0_pay56 (F := Ideal) (L.v78) (L.v79)
def v130 (L : Chunk) : FVec Ideal S16x256 .f32 := k0_pay57 (F := Ideal) (L.v78) (L.v79)
def v131 (L : Chunk) : FVec Ideal S16x256 .f32 := k0_pay58 (F := Ideal) (L.v78) (L.v79) (L.v95) (L.v96)
def v132 (L : Chunk) : FVec Ideal S16x256 .f32 := k0_pay59 (F := Ideal) (L.v78) (L.v79) (L.v95) (L.v96)
def v137 (L : Chunk) : IVec S16x256 1 := k0_pay60 (F := Ideal) (L.v72) (L.v73) (L.v74) (L.v75) (L.v89) (L.v90) (L.v91) (L.v92)
def v138 (L : Chunk) : FVec Ideal S16x256 .f32 := k0_pay61 (F := Ideal) (L.v72) (L.v73) (L.v74) (L.v75)
def v139 (L : Chunk) : FVec Ideal S16x256 .f32 := k0_pay62 (F := Ideal) (L.v72) (L.v73) (L.v74) (L.v75)
def v140 (L : Chunk) : FVec Ideal S16x256 .f32 := k0_pay63 (F := Ideal) (L.v72) (L.v73) (L.v74) (L.v75) (L.v89) (L.v90) (L.v91) (L.v92)
def v141 (L : Chunk) : FVec Ideal S16x256 .f32 := k0_pay64 (F := Ideal) (L.v72) (L.v73) (L.v74) (L.v75) (L.v89) (L.v90) (L.v91) (L.v92)
def v146 (L : Chunk) : IVec S16x256 1 := k0_pay65 (F := Ideal) (L.v72) (L.v73) (L.v74) (L.v75) (L.v89) (L.v90) (L.v91) (L.v92)
def v147 (L : Chunk) : FVec Ideal S16x256 .f32 := k0_pay66 (F := Ideal) (L.v72) (L.v73) (L.v74) (L.v75)
def v148 (L : Chunk) : FVec Ideal S16x256 .f32 := k0_pay67 (F := Ideal) (L.v72) (L.v73) (L.v74) (L.v75)
def v149 (L : Chunk) : FVec Ideal S16x256 .f32 := k0_pay68 (F := Ideal) (L.v72) (L.v73) (L.v74) (L.v75) (L.v89) (L.v90) (L.v91) (L.v92)
def v150 (L : Chunk) : FVec Ideal S16x256 .f32 := k0_pay69 (F := Ideal) (L.v72) (L.v73) (L.v74) (L.v75) (L.v89) (L.v90) (L.v91) (L.v92)
def v155 (L : Chunk) : IVec S16x256 1 := k0_pay70 (F := Ideal) (L.v76) (L.v77) (L.v78) (L.v79) (L.v93) (L.v94) (L.v95) (L.v96)
def v156 (L : Chunk) : FVec Ideal S16x256 .f32 := k0_pay71 (F := Ideal) (L.v76) (L.v77) (L.v78) (L.v79)
def v157 (L : Chunk) : FVec Ideal S16x256 .f32 := k0_pay72 (F := Ideal) (L.v120) (L.v129)
def v158 (L : Chunk) : FVec Ideal S16x256 .f32 := k0_pay73 (F := Ideal) (L.v122) (L.v131) (L.v155)
def v159 (L : Chunk) : FVec Ideal S16x256 .f32 := k0_pay74 (F := Ideal) (L.v122) (L.v131) (L.v155)
def v164 (L : Chunk) : IVec S16x256 1 := k0_pay75 (F := Ideal) (L.v121) (L.v123) (L.v130) (L.v132)
def v165 (L : Chunk) : FVec Ideal S16x256 .f32 := k0_pay76 (F := Ideal) (L.v121) (L.v130)
def v166 (L : Chunk) : FVec Ideal S16x256 .f32 := k0_pay77 (F := Ideal) (L.v121) (L.v130)
def v167 (L : Chunk) : FVec Ideal S16x256 .f32 := k0_pay78 (F := Ideal) (L.v121) (L.v123) (L.v130) (L.v132)
def v168 (L : Chunk) : FVec Ideal S16x256 .f32 := k0_pay79 (F := Ideal) (L.v121) (L.v123) (L.v130) (L.v132)
def v173 (L : Chunk) : IVec S16x256 1 := k0_pay80 (F := Ideal) (L.v139) (L.v141) (L.v147) (L.v149)
def v174 (L : Chunk) : FVec Ideal S16x256 .f32 := k0_pay81 (F := Ideal) (L.v139) (L.v147)
def v175 (L : Chunk) : FVec Ideal S16x256 .f32 := k0_pay82 (F := Ideal) (L.v139) (L.v147)
def v176 (L : Chunk) : FVec Ideal S16x256 .f32 := k0_pay83 (F := Ideal) (L.v139) (L.v141) (L.v147) (L.v149)
def v177 (L : Chunk) : FVec Ideal S16x256 .f32 := k0_pay84 (F := Ideal) (L.v139) (L.v141) (L.v147) (L.v149)
def v182 (L : Chunk) : IVec S16x256 1 := k0_pay85 (F := Ideal) (L.v120) (L.v121) (L.v122) (L.v123) (L.v129) (L.v130) (L.v131) (L.v132) (L.v155)
def v183 (L : Chunk) : FVec Ideal S16x256 .f32 := k0_pay86 (F := Ideal) (L.v120) (L.v121) (L.v129) (L.v130)
def v184 (L : Chunk) : FVec Ideal S16x256 .f32 := k0_pay87 (F := Ideal) (L.v120) (L.v121) (L.v129) (L.v130)
def v185 (L : Chunk) : FVec Ideal S16x256 .f32 := k0_pay88 (F := Ideal) (L.v120) (L.v121) (L.v122) (L.v123) (L.v129) (L.v130) (L.v131) (L.v132) (L.v155)
def v186 (L : Chunk) : FVec Ideal S16x256 .f32 := k0_pay89 (F := Ideal) (L.v120) (L.v121) (L.v122) (L.v123) (L.v129) (L.v130) (L.v131) (L.v132) (L.v155)
def v191 (L : Chunk) : IVec S16x256 1 := k0_pay90 (F := Ideal) (L.v122) (L.v131) (L.v138) (L.v140) (L.v155) (L.v156)
def v192 (L : Chunk) : FVec Ideal S16x256 .f32 := k0_pay91 (F := Ideal) (L.v138) (L.v156)
def v193 (L : Chunk) : FVec Ideal S16x256 .f32 := k0_pay92 (F := Ideal) (L.v138) (L.v156)
def v194 (L : Chunk) : FVec Ideal S16x256 .f32 := k0_pay93 (F := Ideal) (L.v122) (L.v131) (L.v138) (L.v140) (L.v155) (L.v156)
def v195 (L : Chunk) : FVec Ideal S16x256 .f32 := k0_pay94 (F := Ideal) (L.v122) (L.v131) (L.v138) (L.v140) (L.v155) (L.v156)
def v200 (L : Chunk) : IVec S16x256 1 := k0_pay95 (F := Ideal) (L.v120) (L.v121) (L.v122) (L.v123) (L.v129) (L.v130) (L.v131) (L.v132) (L.v139) (L.v141) (L.v147) (L.v149) (L.v155)
def v201 (L : Chunk) : FVec Ideal S16x256 .f32 := k0_pay96 (F := Ideal) (L.v120) (L.v121) (L.v129) (L.v130) (L.v139) (L.v147)
def v202 (L : Chunk) : FVec Ideal S16x256 .f32 := k0_pay97 (F := Ideal) (L.v120) (L.v121) (L.v129) (L.v130) (L.v139) (L.v147)
def v203 (L : Chunk) : FVec Ideal S16x256 .f32 := k0_pay98 (F := Ideal) (L.v120) (L.v121) (L.v122) (L.v123) (L.v129) (L.v130) (L.v131) (L.v132) (L.v139) (L.v141) (L.v147) (L.v149) (L.v155)
def v204 (L : Chunk) : FVec Ideal S16x256 .f32 := k0_pay99 (F := Ideal) (L.v120) (L.v121) (L.v122) (L.v123) (L.v129) (L.v130) (L.v131) (L.v132) (L.v139) (L.v141) (L.v147) (L.v149) (L.v155)
def v209 (L : Chunk) : IVec S16x256 1 := k0_pay100 (F := Ideal) (L.v120) (L.v121) (L.v122) (L.v123) (L.v129) (L.v130) (L.v131) (L.v132) (L.v139) (L.v141) (L.v147) (L.v149) (L.v155)
def v210 (L : Chunk) : FVec Ideal S16x256 .f32 := k0_pay101 (F := Ideal) (L.v120) (L.v121) (L.v129) (L.v130) (L.v139) (L.v147)
def v211 (L : Chunk) : FVec Ideal S16x256 .f32 := k0_pay102 (F := Ideal) (L.v120) (L.v121) (L.v129) (L.v130) (L.v139) (L.v147)
def v212 (L : Chunk) : FVec Ideal S16x256 .f32 := k0_pay103 (F := Ideal) (L.v120) (L.v121) (L.v122) (L.v123) (L.v129) (L.v130) (L.v131) (L.v132) (L.v139) (L.v141) (L.v147) (L.v149) (L.v155)
def v213 (L : Chunk) : FVec Ideal S16x256 .f32 := k0_pay104 (F := Ideal) (L.v120) (L.v121) (L.v122) (L.v123) (L.v129) (L.v130) (L.v131) (L.v132) (L.v139) (L.v141) (L.v147) (L.v149) (L.v155)
def v214 (L : Chunk) : IVec S16x256 1 := k0_pay105 (F := Ideal) (L.v121) (L.v130) (L.v148)
def v215 (L : Chunk) : IVec S16x256 1 := k0_pay106 (F := Ideal) (L.v121) (L.v130) (L.v148)
def v216 (L : Chunk) : IVec S16x256 1 := k0_pay107 (F := Ideal) (L.v121) (L.v123) (L.v130) (L.v132) (L.v150)
def v218 (L : Chunk) : IVec S16x256 1 := k0_pay108 (L.v214) (L.v215) (L.v216)
def v219 (L : Chunk) : FVec Ideal S16x256 .f32 := k0_pay109 (F := Ideal) (L.v148) (L.v166)
def v220 (L : Chunk) : FVec Ideal S16x256 .f32 := k0_pay110 (F := Ideal) (L.v148) (L.v166)
def v221 (L : Chunk) : FVec Ideal S16x256 .f32 := k0_pay111 (F := Ideal) (L.v150) (L.v168) (L.v214) (L.v215) (L.v216)
def v222 (L : Chunk) : FVec Ideal S16x256 .f32 := k0_pay112 (F := Ideal) (L.v150) (L.v168) (L.v214) (L.v215) (L.v216)
def v227 (L : Chunk) : IVec S16x256 1 := k0_pay113 (F := Ideal) (L.v193) (L.v195) (L.v210) (L.v212)
def v228 (L : Chunk) : FVec Ideal S16x256 .f32 := k0_pay114 (F := Ideal) (L.v193) (L.v210)
def v229 (L : Chunk) : FVec Ideal S16x256 .f32 := k0_pay115 (F := Ideal) (L.v193) (L.v210)
def v230 (L : Chunk) : FVec Ideal S16x256 .f32 := k0_pay116 (F := Ideal) (L.v193) (L.v195) (L.v210) (L.v212)
def v231 (L : Chunk) : FVec Ideal S16x256 .f32 := k0_pay117 (F := Ideal) (L.v193) (L.v195) (L.v210) (L.v212)
def v236 (L : Chunk) : IVec S16x256 1 := k0_pay118 (F := Ideal) (L.v148) (L.v150) (L.v166) (L.v168) (L.v202) (L.v204) (L.v214) (L.v215) (L.v216)
def v237 (L : Chunk) : FVec Ideal S16x256 .f32 := k0_pay119 (F := Ideal) (L.v148) (L.v166) (L.v202)
def v238 (L : Chunk) : FVec Ideal S16x256 .f32 := k0_pay120 (F := Ideal) (L.v148) (L.v166) (L.v202)
def v239 (L : Chunk) : FVec Ideal S16x256 .f32 := k0_pay121 (F := Ideal) (L.v148) (L.v150) (L.v166) (L.v168) (L.v202) (L.v204) (L.v214) (L.v215) (L.v216)
def v240 (L : Chunk) : FVec Ideal S16x256 .f32 := k0_pay122 (F := Ideal) (L.v148) (L.v150) (L.v166) (L.v168) (L.v202) (L.v204) (L.v214) (L.v215) (L.v216)
def v245 (L : Chunk) : IVec S16x256 1 := k0_pay123 (F := Ideal) (L.v193) (L.v195) (L.v201) (L.v203) (L.v210) (L.v212)
def v246 (L : Chunk) : FVec Ideal S16x256 .f32 := k0_pay124 (F := Ideal) (L.v193) (L.v201) (L.v210)
def v247 (L : Chunk) : FVec Ideal S16x256 .f32 := k0_pay125 (F := Ideal) (L.v193) (L.v201) (L.v210)
def v248 (L : Chunk) : FVec Ideal S16x256 .f32 := k0_pay126 (F := Ideal) (L.v193) (L.v195) (L.v201) (L.v203) (L.v210) (L.v212)
def v249 (L : Chunk) : FVec Ideal S16x256 .f32 := k0_pay127 (F := Ideal) (L.v193) (L.v195) (L.v201) (L.v203) (L.v210) (L.v212)
def v254 (L : Chunk) : IVec S16x256 1 := k0_pay128 (F := Ideal) (L.v148) (L.v150) (L.v166) (L.v168) (L.v193) (L.v195) (L.v202) (L.v204) (L.v210) (L.v212) (L.v214) (L.v215) (L.v216)
def v255 (L : Chunk) : FVec Ideal S16x256 .f32 := k0_pay129 (F := Ideal) (L.v148) (L.v166) (L.v193) (L.v202) (L.v210)
def v256 (L : Chunk) : FVec Ideal S16x256 .f32 := k0_pay130 (F := Ideal) (L.v148) (L.v166) (L.v193) (L.v202) (L.v210)
def v257 (L : Chunk) : FVec Ideal S16x256 .f32 := k0_pay131 (F := Ideal) (L.v148) (L.v150) (L.v166) (L.v168) (L.v193) (L.v195) (L.v202) (L.v204) (L.v210) (L.v212) (L.v214) (L.v215) (L.v216)
def v258 (L : Chunk) : FVec Ideal S16x256 .f32 := k0_pay132 (F := Ideal) (L.v148) (L.v150) (L.v166) (L.v168) (L.v193) (L.v195) (L.v202) (L.v204) (L.v210) (L.v212) (L.v214) (L.v215) (L.v216)
def v263 (L : Chunk) : IVec S16x256 1 := k0_pay133 (F := Ideal) (L.v148) (L.v150) (L.v166) (L.v168) (L.v202) (L.v204) (L.v211) (L.v213) (L.v214) (L.v215) (L.v216)
def v264 (L : Chunk) : FVec Ideal S16x256 .f32 := k0_pay134 (F := Ideal) (L.v148) (L.v166) (L.v202) (L.v211)
def v265 (L : Chunk) : FVec Ideal S16x256 .f32 := k0_pay135 (F := Ideal) (L.v148) (L.v166) (L.v202) (L.v211)
def v266 (L : Chunk) : FVec Ideal S16x256 .f32 := k0_pay136 (F := Ideal) (L.v148) (L.v150) (L.v166) (L.v168) (L.v202) (L.v204) (L.v211) (L.v213) (L.v214) (L.v215) (L.v216)
def v267 (L : Chunk) : FVec Ideal S16x256 .f32 := k0_pay137 (F := Ideal) (L.v148) (L.v150) (L.v166) (L.v168) (L.v202) (L.v204) (L.v211) (L.v213) (L.v214) (L.v215) (L.v216)
def v268 (L : Chunk) : Ideal .f32 := k0_pay138 (F := Ideal) L.gap
def v269 (L : Chunk) : FVec Ideal S16x256 .f32 := k0_pay139 (F := Ideal)
def v273 (L : Chunk) : FVec Ideal S16x256 .f32 := k0_pay140 (F := Ideal) L.gap (L.v88) (L.v192) (L.v193) (L.v201) (L.v210)
def v283 (L : Chunk) : FVec Ideal S16x256 .f32 := k0_pay141 (F := Ideal) (L.v269) (L.v273) (Scalar.ofBits .f32 0x42C80000#32)
def v297 (L : Chunk) : FVec Ideal S16x256 .f32 := k0_pay142 (F := Ideal) (L.v88) (L.v246) (L.v247) (L.v268) (L.v269) (L.v273) (Scalar.ofBits .f32 0x42C80000#32)
def v311 (L : Chunk) : FVec Ideal S16x256 .f32 := k0_pay143 (F := Ideal) (L.v88) (L.v246) (L.v247) (L.v255) (L.v268) (L.v269) (L.v273) (Scalar.ofBits .f32 0x42C80000#32)
def v320 (L : Chunk) : FVec Ideal S16x256 .f32 := k0_pay144 (F := Ideal) (L.v88) (L.v255) (L.v256) (L.v268)
def v325 (L : Chunk) : FVec Ideal S16x256 .f32 := k0_pay145 (F := Ideal) (L.v311) (L.v320)
def v339 (L : Chunk) : FVec Ideal S16x256 .f32 := k0_pay146 (F := Ideal) (L.v88) (L.v256) (L.v264) (L.v268) (L.v311) (L.v320)
def v353 (L : Chunk) : FVec Ideal S16x256 .f32 := k0_pay147 (F := Ideal) (L.v88) (L.v256) (L.v264) (L.v265) (L.v268) (L.v311) (L.v320)
def v366 (L : Chunk) : FVec Ideal S16x256 .f32 := k0_pay148 (F := Ideal) (L.v88) (L.v220) (L.v265) (L.v268)
def v367 (L : Chunk) : FVec Ideal S16x256 .f32 := k0_pay149 (F := Ideal) (L.v353) (L.v366)
def v368 (L : Chunk) : FVec Ideal S16x256 .f32 := k0_pay150 (F := Ideal)
def v369 (L : Chunk) : FVec Ideal S16x256 .f32 := k0_pay151 (F := Ideal)
def v378 (L : Chunk) : IVec S16x256 1 := k0_pay152 (F := Ideal) (L.v269)
def v387 (L : Chunk) : IVec S16x256 1 := k0_pay153 (F := Ideal) (L.v283)
def v396 (L : Chunk) : IVec S16x256 1 := k0_pay154 (F := Ideal) (L.v297)
def v405 (L : Chunk) : IVec S16x256 1 := k0_pay155 (F := Ideal) (L.v311)
def v407 (L : Chunk) : FVec Ideal S16x256 .f32 := k0_pay156 (F := Ideal) (L.v325)
def v414 (L : Chunk) : IVec S16x256 1 := k0_pay157 (F := Ideal) (L.v407)
def v423 (L : Chunk) : IVec S16x256 1 := k0_pay158 (F := Ideal) (L.v339)
def v432 (L : Chunk) : IVec S16x256 1 := k0_pay159 (F := Ideal) (L.v353)
def v441 (L : Chunk) : IVec S16x256 1 := k0_pay160 (F := Ideal) (L.v367)
def v449 (L : Chunk) : FVec Ideal S16x256 .f32 := k0_pay161 (F := Ideal) (L.v192) (L.v246) (L.v247) (L.v368) (L.v378) (L.v387) (L.v396)
def v451 (L : Chunk) : FVec Ideal S16x256 .f32 := k0_pay162 (F := Ideal) (L.v368) (L.v369) (L.v378) (L.v387) (L.v396)
def v452 (L : Chunk) : FVec Ideal S16x256 .f32 := k0_pay163 (F := Ideal) (L.v255) (L.v368) (L.v405)
def v474 (L : Chunk) : FVec Ideal S16x256 .f32 := k0_pay164 (F := Ideal) (L.v220) (L.v256) (L.v264) (L.v265) (L.v368) (L.v369) (L.v405) (L.v414) (L.v423) (L.v432) (L.v441) (L.v449) (L.v451) (L.v452)
def v476 (L : Chunk) : FVec Ideal S16x256 .f32 := k0_pay165 (F := Ideal) (L.v220) (L.v256) (L.v264) (L.v265) (L.v368) (L.v369) (L.v378) (L.v405) (L.v414) (L.v423) (L.v432) (L.v441) (L.v449) (L.v451) (L.v452)
def v478 (L : Chunk) : FVec Ideal S16x256 .f32 := k0_pay166 (F := Ideal) (L.v220) (L.v256) (L.v264) (L.v265) (L.v368) (L.v369) (L.v387) (L.v405) (L.v414) (L.v423) (L.v432) (L.v441) (L.v449) (L.v451) (L.v452)
def v480 (L : Chunk) : FVec Ideal S16x256 .f32 := k0_pay167 (F := Ideal) (L.v220) (L.v256) (L.v264) (L.v265) (L.v368) (L.v369) (L.v396) (L.v405) (L.v414) (L.v423) (L.v432) (L.v441) (L.v449) (L.v451) (L.v452)
def v482 (L : Chunk) : FVec Ideal S16x256 .f32 := k0_pay168 (F := Ideal) (L.v220) (L.v256) (L.v264) (L.v265) (L.v368) (L.v369) (L.v405) (L.v414) (L.v423) (L.v432) (L.v441) (L.v449) (L.v451) (L.v452)
def v484 (L : Chunk) : FVec Ideal S16x256 .f32 := k0_pay169 (F := Ideal) (L.v220) (L.v256) (L.v264) (L.v265) (L.v368) (L.v369) (L.v405) (L.v414) (L.v423) (L.v432) (L.v441) (L.v449) (L.v451) (L.v452)
def v486 (L : Chunk) : FVec Ideal S16x256 .f32 := k0_pay170 (F := Ideal) (L.v220) (L.v256) (L.v264) (L.v265) (L.v368) (L.v369) (L.v405) (L.v414) (L.v423) (L.v432) (L.v441) (L.v449) (L.v451) (L.v452)
def v488 (L : Chunk) : FVec Ideal S16x256 .f32 := k0_pay171 (F := Ideal) (L.v220) (L.v256) (L.v264) (L.v265) (L.v368) (L.v369) (L.v405) (L.v414) (L.v423) (L.v432) (L.v441) (L.v449) (L.v451) (L.v452)
def v490 (L : Chunk) : FVec Ideal S16x256 .f32 := k0_pay172 (F := Ideal) (L.v220) (L.v256) (L.v264) (L.v265) (L.v368) (L.v369) (L.v405) (L.v414) (L.v423) (L.v432) (L.v441) (L.v449) (L.v451) (L.v452)
def v499 (L : Chunk) : IVec S16x256 1 := k0_pay173 (F := Ideal) (L.v269)
def v504 (L : Chunk) : FVec Ideal S16x256 .f32 := k0_pay174 (F := Ideal) (L.v283)
def v508 (L : Chunk) : IVec S16x256 1 := k0_pay175 (F := Ideal) (L.v504) (Scalar.ofBits .f32 0x00000000#32)
def v517 (L : Chunk) : IVec S16x256 1 := k0_pay176 (F := Ideal) (L.v297)
def v526 (L : Chunk) : IVec S16x256 1 := k0_pay177 (F := Ideal) (L.v311)
def v535 (L : Chunk) : IVec S16x256 1 := k0_pay178 (F := Ideal) (L.v325)
def v544 (L : Chunk) : IVec S16x256 1 := k0_pay179 (F := Ideal) (L.v339)
def v546 (L : Chunk) : FVec Ideal S16x256 .f32 := k0_pay180 (F := Ideal) (L.v353)
def v553 (L : Chunk) : IVec S16x256 1 := k0_pay181 (F := Ideal) (L.v546)
def v562 (L : Chunk) : IVec S16x256 1 := k0_pay182 (F := Ideal) (L.v367)
def v595 (L : Chunk) : FVec Ideal S16x256 .f32 := k0_pay183 (F := Ideal) (L.v192) (L.v220) (L.v246) (L.v247) (L.v255) (L.v256) (L.v264) (L.v265) (L.v367) (L.v368) (L.v369) (L.v499) (L.v508) (L.v517) (L.v526) (L.v535) (L.v544) (L.v546)
def v597 (L : Chunk) : FVec Ideal S16x256 .f32 := k0_pay184 (F := Ideal) (L.v192) (L.v220) (L.v246) (L.v247) (L.v255) (L.v256) (L.v264) (L.v265) (L.v367) (L.v368) (L.v369) (L.v476) (L.v499) (L.v508) (L.v517) (L.v526) (L.v535) (L.v544) (L.v546)
def v598 (L : Chunk) : FVec Ideal S16x256 .f32 := k0_pay185 (F := Ideal) (L.v192) (L.v220) (L.v246) (L.v247) (L.v255) (L.v256) (L.v264) (L.v265) (L.v367) (L.v368) (L.v369) (L.v499) (L.v508) (L.v517) (L.v526) (L.v535) (L.v544) (L.v546)
def v599 (L : Chunk) : FVec Ideal S16x256 .f32 := k0_pay186 (F := Ideal) (L.v478) (L.v598)
def v601 (L : Chunk) : FVec Ideal S16x256 .f32 := k0_pay187 (F := Ideal) (L.v368) (L.v480) (L.v517) (L.v595)
def v603 (L : Chunk) : FVec Ideal S16x256 .f32 := k0_pay188 (F := Ideal) (L.v368) (L.v482) (L.v526) (L.v595)
def v605 (L : Chunk) : FVec Ideal S16x256 .f32 := k0_pay189 (F := Ideal) (L.v368) (L.v484) (L.v535) (L.v595)
def v607 (L : Chunk) : FVec Ideal S16x256 .f32 := k0_pay190 (F := Ideal) (L.v368) (L.v486) (L.v544) (L.v595)
def v609 (L : Chunk) : FVec Ideal S16x256 .f32 := k0_pay191 (F := Ideal) (L.v368) (L.v488) (L.v553) (L.v595)
def v611 (L : Chunk) : FVec Ideal S16x256 .f32 := k0_pay192 (F := Ideal) (L.v368) (L.v490) (L.v562) (L.v595)
def v620 (L : Chunk) : IVec S16x256 1 := k0_pay193 (F := Ideal) (L.v269)
def v629 (L : Chunk) : IVec S16x256 1 := k0_pay194 (F := Ideal) (L.v283)
def v638 (L : Chunk) : IVec S16x256 1 := k0_pay195 (F := Ideal) (L.v297)
def v643 (L : Chunk) : FVec Ideal S16x256 .f32 := k0_pay196 (F := Ideal) (L.v311)
def v647 (L : Chunk) : IVec S16x256 1 := k0_pay197 (F := Ideal) (L.v643) (Scalar.ofBits .f32 0x00000000#32)
def v656 (L : Chunk) : IVec S16x256 1 := k0_pay198 (F := Ideal) (L.v325)
def v665 (L : Chunk) : IVec S16x256 1 := k0_pay199 (F := Ideal) (L.v339)
def v674 (L : Chunk) : IVec S16x256 1 := k0_pay200 (F := Ideal) (L.v353)
def v683 (L : Chunk) : IVec S16x256 1 := k0_pay201 (F := Ideal) (L.v367)
def v684 (L : Chunk) : FVec Ideal S16x256 .f32 := k0_pay202 (F := Ideal) (L.v192) (L.v368) (L.v620)
def v685 (L : Chunk) : FVec Ideal S16x256 .f32 := k0_pay203 (F := Ideal) (L.v368) (L.v369) (L.v620)
def v686 (L : Chunk) : FVec Ideal S16x256 .f32 := k0_pay204 (F := Ideal) (L.v246) (L.v368) (L.v629)
def v716 (L : Chunk) : FVec Ideal S16x256 .f32 := k0_pay205 (F := Ideal) (L.v220) (L.v247) (L.v255) (L.v256) (L.v264) (L.v265) (L.v368) (L.v369) (L.v629) (L.v638) (L.v647) (L.v656) (L.v665) (L.v674) (L.v683) (L.v684) (L.v685) (L.v686)
def v718 (L : Chunk) : FVec Ideal S16x256 .f32 := k0_pay206 (F := Ideal) (L.v220) (L.v247) (L.v255) (L.v256) (L.v264) (L.v265) (L.v368) (L.v369) (L.v597) (L.v620) (L.v629) (L.v638) (L.v647) (L.v656) (L.v665) (L.v674) (L.v683) (L.v684) (L.v685) (L.v686)
def v720 (L : Chunk) : FVec Ideal S16x256 .f32 := k0_pay207 (F := Ideal) (L.v220) (L.v247) (L.v255) (L.v256) (L.v264) (L.v265) (L.v368) (L.v369) (L.v599) (L.v629) (L.v638) (L.v647) (L.v656) (L.v665) (L.v674) (L.v683) (L.v684) (L.v685) (L.v686)
def v722 (L : Chunk) : FVec Ideal S16x256 .f32 := k0_pay208 (F := Ideal) (L.v220) (L.v247) (L.v255) (L.v256) (L.v264) (L.v265) (L.v368) (L.v369) (L.v601) (L.v629) (L.v638) (L.v647) (L.v656) (L.v665) (L.v674) (L.v683) (L.v684) (L.v685) (L.v686)
def v724 (L : Chunk) : FVec Ideal S16x256 .f32 := k0_pay209 (F := Ideal) (L.v220) (L.v247) (L.v255) (L.v256) (L.v264) (L.v265) (L.v368) (L.v369) (L.v603) (L.v629) (L.v638) (L.v647) (L.v656) (L.v665) (L.v674) (L.v683) (L.v684) (L.v685) (L.v686)
def v726 (L : Chunk) : FVec Ideal S16x256 .f32 := k0_pay210 (F := Ideal) (L.v220) (L.v247) (L.v255) (L.v256) (L.v264) (L.v265) (L.v368) (L.v369) (L.v605) (L.v629) (L.v638) (L.v647) (L.v656) (L.v665) (L.v674) (L.v683) (L.v684) (L.v685) (L.v686)
def v728 (L : Chunk) : FVec Ideal S16x256 .f32 := k0_pay211 (F := Ideal) (L.v220) (L.v247) (L.v255) (L.v256) (L.v264) (L.v265) (L.v368) (L.v369) (L.v607) (L.v629) (L.v638) (L.v647) (L.v656) (L.v665) (L.v674) (L.v683) (L.v684) (L.v685) (L.v686)
def v730 (L : Chunk) : FVec Ideal S16x256 .f32 := k0_pay212 (F := Ideal) (L.v220) (L.v247) (L.v255) (L.v256) (L.v264) (L.v265) (L.v368) (L.v369) (L.v609) (L.v629) (L.v638) (L.v647) (L.v656) (L.v665) (L.v674) (L.v683) (L.v684) (L.v685) (L.v686)
def v732 (L : Chunk) : FVec Ideal S16x256 .f32 := k0_pay213 (F := Ideal) (L.v220) (L.v247) (L.v255) (L.v256) (L.v264) (L.v265) (L.v368) (L.v369) (L.v611) (L.v629) (L.v638) (L.v647) (L.v656) (L.v665) (L.v674) (L.v683) (L.v684) (L.v685) (L.v686)
def v741 (L : Chunk) : IVec S16x256 1 := k0_pay214 (F := Ideal) (L.v269)
def v750 (L : Chunk) : IVec S16x256 1 := k0_pay215 (F := Ideal) (L.v283)
def v759 (L : Chunk) : IVec S16x256 1 := k0_pay216 (F := Ideal) (L.v297)
def v768 (L : Chunk) : IVec S16x256 1 := k0_pay217 (F := Ideal) (L.v311)
def v777 (L : Chunk) : IVec S16x256 1 := k0_pay218 (F := Ideal) (L.v325)
def v782 (L : Chunk) : FVec Ideal S16x256 .f32 := k0_pay219 (F := Ideal) (L.v339)
def v786 (L : Chunk) : IVec S16x256 1 := k0_pay220 (F := Ideal) (L.v782) (Scalar.ofBits .f32 0x00000000#32)
def v795 (L : Chunk) : IVec S16x256 1 := k0_pay221 (F := Ideal) (L.v353)
def v804 (L : Chunk) : IVec S16x256 1 := k0_pay222 (F := Ideal) (L.v367)
def v830 (L : Chunk) : FVec Ideal S16x256 .f32 := k0_pay223 (F := Ideal) (L.v353) (L.v368) (L.v369) (L.v741) (L.v750) (L.v759) (L.v768) (L.v777) (L.v782) (Scalar.ofBits .f32 0x00000000#32)
def v832 (L : Chunk) : FVec Ideal S16x256 .f32 := k0_pay224 (F := Ideal) (L.v192) (L.v220) (L.v246) (L.v247) (L.v255) (L.v256) (L.v264) (L.v265) (L.v353) (L.v367) (L.v368) (L.v741) (L.v750) (L.v759) (L.v768) (L.v777) (L.v782) (Scalar.ofBits .f32 0x00000000#32)
def v833 (L : Chunk) : FVec Ideal S16x256 .f32 := k0_pay225 (F := Ideal) (L.v367) (L.v368) (L.v369)
def v837 (L : Chunk) : FVec Ideal S16x256 .f32 := k0_pay226 (F := Ideal) (L.v830) (L.v832) (L.v833)
def v839 (L : Chunk) : FVec Ideal S16x256 .f32 := k0_pay227 (F := Ideal) (L.v368) (L.v718) (L.v741) (L.v830) (L.v832) (L.v833)
def v841 (L : Chunk) : FVec Ideal S16x256 .f32 := k0_pay228 (F := Ideal) (L.v368) (L.v720) (L.v750) (L.v830) (L.v832) (L.v833)
def v843 (L : Chunk) : FVec Ideal S16x256 .f32 := k0_pay229 (F := Ideal) (L.v368) (L.v722) (L.v759) (L.v830) (L.v832) (L.v833)
def v845 (L : Chunk) : FVec Ideal S16x256 .f32 := k0_pay230 (F := Ideal) (L.v368) (L.v724) (L.v768) (L.v830) (L.v832) (L.v833)
def v847 (L : Chunk) : FVec Ideal S16x256 .f32 := k0_pay231 (F := Ideal) (L.v368) (L.v726) (L.v777) (L.v830) (L.v832) (L.v833)
def v849 (L : Chunk) : FVec Ideal S16x256 .f32 := k0_pay232 (F := Ideal) (L.v368) (L.v728) (L.v786) (L.v830) (L.v832) (L.v833)
def v851 (L : Chunk) : FVec Ideal S16x256 .f32 := k0_pay233 (F := Ideal) (L.v368) (L.v730) (L.v795) (L.v830) (L.v832) (L.v833)
def v853 (L : Chunk) : FVec Ideal S16x256 .f32 := k0_pay234 (F := Ideal) (L.v368) (L.v732) (L.v804) (L.v830) (L.v832) (L.v833)
def v854 (L : Chunk) : Ideal .f32 := k0_pay235 (F := Ideal) L.step
def v878 (L : Chunk) : FVec Ideal S16x256 .f32 := k0_pay236 (F := Ideal) (L.v194) (L.v248) (L.v249) (L.v257) (L.v258) (L.v368) (L.v718) (L.v720) (L.v722) (L.v724) (L.v726) (L.v741) (L.v750) (L.v759) (L.v768) (L.v777) (L.v830) (L.v832) (L.v833)
def v880 (L : Chunk) : IVec S16x256 1 := k0_pay237 (F := Ideal) (L.v266)
def v900 (L : Chunk) : FVec Ideal S16x256 .f32 := k0_pay238 (F := Ideal) (L.v222) (L.v267) (L.v849) (L.v851) (L.v853) (L.v854) (L.v878) (L.v880)
def v919 (L : Chunk) : FVec Ideal S16x256 .f32 := k0_pay239 (F := Ideal) (L.v194) (L.v248) (L.v249) (L.v257) (L.v839) (L.v841) (L.v843) (L.v845)
def v923 (L : Chunk) : FVec Ideal S16x256 .f32 := k0_pay240 (F := Ideal) (L.v258) (L.v847)
def v946 (L : Chunk) : FVec Ideal S16x256 .f32 := k0_pay241 (F := Ideal) (L.v222) (L.v266) (L.v267) (L.v849) (L.v851) (L.v853) (L.v854) (L.v919) (L.v923)
def v965 (L : Chunk) : FVec Ideal S16x256 .f32 := k0_pay242 (F := Ideal) (L.v194) (L.v248) (L.v249) (L.v257) (L.v839) (L.v841) (L.v843) (L.v845)
def v966 (L : Chunk) : FVec Ideal S16x256 .f32 := k0_pay243 (F := Ideal)
def v992 (L : Chunk) : FVec Ideal S16x256 .f32 := k0_pay244 (F := Ideal) (L.v222) (L.v258) (L.v266) (L.v267) (L.v847) (L.v849) (L.v851) (L.v853) (L.v854) (L.v965) (L.v966)
def v1006 (L : Chunk) : FVec Ideal S16x256 .f32 := k0_pay245 (F := Ideal) (L.v194) (L.v248) (L.v249) (L.v839) (L.v841) (L.v843)
def v1008 (L : Chunk) : IVec S16x256 1 := k0_pay246 (F := Ideal) (L.v257)
def v1009 (L : Chunk) : FVec Ideal S16x256 .f32 := k0_pay247 (F := Ideal)
def v1038 (L : Chunk) : FVec Ideal S16x256 .f32 := k0_pay248 (F := Ideal) (L.v222) (L.v258) (L.v266) (L.v267) (L.v845) (L.v847) (L.v849) (L.v851) (L.v853) (L.v854) (L.v1006) (L.v1008) (L.v1009)
def v1052 (L : Chunk) : FVec Ideal S16x256 .f32 := k0_pay249 (F := Ideal) (L.v194) (L.v248) (L.v249) (L.v839) (L.v841) (L.v843)
def v1084 (L : Chunk) : FVec Ideal S16x256 .f32 := k0_pay250 (F := Ideal) (L.v222) (L.v257) (L.v258) (L.v266) (L.v267) (L.v845) (L.v847) (L.v849) (L.v851) (L.v853) (L.v854) (L.v1052) (Scalar.ofBits .f32 0x40800000#32)
def v1093 (L : Chunk) : FVec Ideal S16x256 .f32 := k0_pay251 (F := Ideal) (L.v194) (L.v248) (L.v839) (L.v841)
def v1095 (L : Chunk) : IVec S16x256 1 := k0_pay252 (F := Ideal) (L.v249)
def v1130 (L : Chunk) : FVec Ideal S16x256 .f32 := k0_pay253 (F := Ideal) (L.v222) (L.v257) (L.v258) (L.v266) (L.v267) (L.v843) (L.v845) (L.v847) (L.v849) (L.v851) (L.v853) (L.v854) (L.v1093) (L.v1095) (Scalar.ofBits .f32 0x00000000#32)
def v1139 (L : Chunk) : FVec Ideal S16x256 .f32 := k0_pay254 (F := Ideal) (L.v194) (L.v248) (L.v839) (L.v841)
def v1176 (L : Chunk) : FVec Ideal S16x256 .f32 := k0_pay255 (F := Ideal) (L.v222) (L.v249) (L.v257) (L.v258) (L.v266) (L.v267) (L.v843) (L.v845) (L.v847) (L.v849) (L.v851) (L.v853) (L.v854) (L.v1139)
def v1180 (L : Chunk) : FVec Ideal S16x256 .f32 := k0_pay256 (F := Ideal) (L.v194) (L.v839)
def v1182 (L : Chunk) : IVec S16x256 1 := k0_pay257 (F := Ideal) (L.v248)
def v1222 (L : Chunk) : FVec Ideal S16x256 .f32 := k0_pay258 (F := Ideal) (L.v222) (L.v249) (L.v257) (L.v258) (L.v266) (L.v267) (L.v841) (L.v843) (L.v845) (L.v847) (L.v849) (L.v851) (L.v853) (L.v854) (L.v1180) (L.v1182)
def v1226 (L : Chunk) : FVec Ideal S16x256 .bf16 := k0_pay259 (F := Ideal) L.step (L.v50) (L.v900)
def v1230 (L : Chunk) : FVec Ideal S1x16x256 .bf16 := k0_pay260 (F := Ideal) (L.v1226)
def v1238 (L : Chunk) : FVec Ideal S1x16x256 .bf16 := k0_pay261 (F := Ideal) L.step (L.v53) (L.v946)
def v1246 (L : Chunk) : FVec Ideal S1x16x256 .bf16 := k0_pay262 (F := Ideal) L.step (L.v56) (L.v992)
def v1254 (L : Chunk) : FVec Ideal S1x16x256 .bf16 := k0_pay263 (F := Ideal) L.step (L.v59) (L.v1038)
def v1262 (L : Chunk) : FVec Ideal S1x16x256 .bf16 := k0_pay264 (F := Ideal) L.step (L.v62) (L.v1084)
def v1270 (L : Chunk) : FVec Ideal S1x16x256 .bf16 := k0_pay265 (F := Ideal) L.step (L.v65) (L.v1130)

end Chunk

end Cert.Kernel4Ideal.Group

end
-- ==== Proof.GroupSort.lean ====
/-
  Sorting eight numbers with their positions: the nineteen exchanges the quantiser uses, with a smaller position first where two
  numbers are equal, leave the numbers and the positions where a stable sort leaves them.
-/
module

public import proofs.«01_k».proof.Proof.GapSort
public import Idealize.ShloMosaic.Lib.SortFacts
public import Mathlib.Data.Prod.Lex

@[expose] public section

set_option maxRecDepth 16384

noncomputable section

namespace Cert.Group

open Idealize.ShloMosaic Idealize.ShloMosaic.SortNet
open Cert.Sort8 (net net_bools)

/-! ## The order of a stable sort -/

/-- Position `a` of a column `v` with its number: the numbers are compared first, then the positions. -/
def key (v : Fin 8 → EReal) (a : Fin 8) : EReal ×ₗ Fin 8 := toLex (v a, a)

theorem key_lt (v : Fin 8 → EReal) (a b : Fin 8) : key v a < key v b ↔ v a < v b ∨ v a = v b ∧ a < b :=
  Prod.Lex.toLex_lt_toLex

/-- The stable sort of a list of ascending positions by their numbers is its sort by numbers and positions. -/
theorem stable_lex (v : Fin 8 → EReal) : ∀ l : List (Fin 8), l.Pairwise (· < ·) →
    stableSort (fun a b => decide (v a < v b)) l = stableSort (fun a b => decide (key v a < key v b)) l
  | [], _ => rfl
  | a :: l, h => by
    rw [List.pairwise_cons] at h
    unfold stableSort
    rw [stable_lex v l h.2]
    refine insertBefore_congr _ _ a _ fun b hb => ?_
    have hab := h.1 b ((perm_stableSort _ l).mem_iff.mp hb)
    have : ¬ b < a := not_lt.mpr hab.le
    by_cases hv : v b < v a <;> simp [key_lt, hv, this]

/-- Where the stable sort takes each of its places from. -/
def order (v : Fin 8 → EReal) : Fin 8 → Fin 8 := sortedFrom fun a b => decide (v a < v b)

theorem order_lex (v : Fin 8 → EReal) : order v = sortedFrom fun a b => decide (key v a < key v b) := by
  have e : sortPositions 8 (fun a b => decide (v a < v b)) = sortPositions 8 (fun a b => decide (key v a < key v b)) :=
    stable_lex v _ (List.pairwise_lt_finRange 8)
  funext k
  unfold order sortedFrom
  rw [List.get_of_eq e]
  rfl

theorem order_injective (v : Fin 8 → EReal) : Function.Injective (order v) := sortedFrom_injective _

/-- The places one after another ascend. -/
theorem order_mono (v : Fin 8 → EReal) : Monotone fun k => key v (order v k) := by
  have inv := sortedFrom_noInversion (fun a b => decide (key v a < key v b)) (fun a b => decide (key v a < key v b))
    (fun a b h => decide_eq_false (lt_asymm (of_decide_eq_true h))) (fun a b h => h)
    (fun a b c h1 h2 => decide_eq_false (not_lt.mpr ((not_lt.mp (of_decide_eq_false h2)).trans (not_lt.mp (of_decide_eq_false h1)))))
  intro i j hij
  rcases hij.eq_or_lt with rfl | h
  · exact le_rfl
  · rw [order_lex]
    exact not_lt.mp (of_decide_eq_false (inv i j h))

/-! ## The exchanges -/

/-- The exchanges leave numbers and positions in ascending order, -/
theorem net_mono {α : Type} [LinearOrder α] (x : Fin 8 → α) : Monotone (net.apply x) :=
  Network.zero_one net (fun b => Fin.monotone_iff_le_succ.mpr fun k => by
    have e : b = ![b 0, b 1, b 2, b 3, b 4, b 5, b 6, b 7] := by funext a; fin_cases a <;> rfl
    rw [e]; exact net_bools _ _ _ _ _ _ _ _ k) x

/-- so they leave them as the stable sort does. -/
theorem net_key (v : Fin 8 → EReal) (k : Fin 8) : net.apply (key v) k = key v (order v k) := by
  have hm := net_mono (key v)
  obtain ⟨τ, hτ⟩ := Network.exists_perm net (key v)
  rw [hτ] at hm ⊢
  let σ : Equiv.Perm (Fin 8) := Equiv.ofBijective (order v) (Finite.injective_iff_bijective.mp (order_injective v))
  have p : (List.ofFn (key v ∘ τ)).Perm (List.ofFn (key v ∘ σ)) :=
    (Equiv.Perm.ofFn_comp_perm τ (key v)).trans (Equiv.Perm.ofFn_comp_perm σ (key v)).symm
  exact congrFun (List.ofFn_injective (p.eq_of_pairwise (le := (· ≤ ·)) (fun _ _ _ _ => le_antisymm)
    (List.pairwise_ofFn.mpr fun i j hij => hm hij.le) (List.pairwise_ofFn.mpr fun i j hij => order_mono v hij.le))) k

/-- A position as a number. -/
def num (a : Fin 8) : EReal := ((a.val : ℝ) : EReal)

theorem num_lt (a b : Fin 8) : num a < num b ↔ a < b := by
  unfold num
  rw [EReal.coe_lt_coe_iff, Nat.cast_lt, Fin.lt_def]

theorem num_inj (a b : Fin 8) : num a = num b ↔ a = b := by
  unfold num
  rw [EReal.coe_eq_coe_iff, Nat.cast_inj, Fin.ext_iff]

/-- Whether an exchange takes place: the first number is greater, or they are equal and the first position is greater. -/
def swaps (a b ia ib : EReal) : BitVec 1 := Ideal.cmp .ogt a b ||| (Ideal.cmp .oeq a b &&& Ideal.cmp .ogt ia ib)

/-- A number and a position (as a number) standing for a pair of the two. -/
def At (r i : EReal) (p : EReal ×ₗ Fin 8) : Prop := r = (ofLex p).1 ∧ i = num (ofLex p).2

/-- An exchange of numbers and positions is one of pairs. -/
theorem at_swap {ra ia rb ib : EReal} {p q : EReal ×ₗ Fin 8} (ha : At ra ia p) (hb : At rb ib q) :
    At (min ra rb) (Scalar.select (swaps ra rb ia ib) ib ia) (min p q) ∧ At (max ra rb) (Scalar.select (swaps ra rb ia ib) ia ib) (max p q) := by
  obtain ⟨rfl, rfl⟩ := ha
  obtain ⟨rfl, rfl⟩ := hb
  induction p using Lex.rec with | _ p =>
  induction q using Lex.rec with | _ q =>
  obtain ⟨a, i⟩ := p
  obtain ⟨b, j⟩ := q
  simp only [ofLex_toLex]
  rcases lt_trichotomy a b with h | h | h
  · have hpq : toLex (a, i) < toLex (b, j) := Prod.Lex.toLex_lt_toLex.mpr (.inl h)
    rw [min_eq_left hpq.le, max_eq_right hpq.le, min_eq_left h.le, max_eq_right h.le]
    have : swaps a b (num i) (num j) = 0#1 := by
      simp [swaps, Ideal.cmp, h.not_gt, h.ne]
    rw [this]
    exact ⟨⟨rfl, rfl⟩, ⟨rfl, rfl⟩⟩
  · subst h
    rcases le_or_gt i j with hij | hij
    · have hpq : toLex (a, i) ≤ toLex (a, j) := Prod.Lex.toLex_le_toLex.mpr (.inr ⟨rfl, hij⟩)
      rw [min_eq_left hpq, max_eq_right hpq, min_self, max_self]
      have : swaps a a (num i) (num j) = 0#1 := by
        have : ¬ num j < num i := by rw [num_lt]; exact not_lt.mpr hij
        simp [swaps, Ideal.cmp, this]
      rw [this]
      exact ⟨⟨rfl, rfl⟩, ⟨rfl, rfl⟩⟩
    · have hpq : toLex (a, j) ≤ toLex (a, i) := Prod.Lex.toLex_le_toLex.mpr (.inr ⟨rfl, hij.le⟩)
      rw [min_eq_right hpq, max_eq_left hpq, min_self, max_self]
      have : swaps a a (num i) (num j) = 1#1 := by
        have : num j < num i := by rw [num_lt]; exact hij
        simp [swaps, Ideal.cmp, this]
      rw [this]
      exact ⟨⟨rfl, rfl⟩, ⟨rfl, rfl⟩⟩
  · have hpq : toLex (b, j) < toLex (a, i) := Prod.Lex.toLex_lt_toLex.mpr (.inl h)
    rw [min_eq_right hpq.le, max_eq_left hpq.le, min_eq_right h.le, max_eq_left h.le]
    have : swaps a b (num i) (num j) = 1#1 := by
      simp [swaps, Ideal.cmp, h, h.ne']
    rw [this]
    exact ⟨⟨rfl, rfl⟩, ⟨rfl, rfl⟩⟩

/-- An exchange, from the equations of what it leaves. -/
theorem at_step {ra ia rb ib lo hi il ih : EReal} {p q : EReal ×ₗ Fin 8} (ha : At ra ia p) (hb : At rb ib q)
    (e1 : lo = min ra rb) (e2 : hi = max ra rb) (e3 : il = Scalar.select (swaps ra rb ia ib) ib ia)
    (e4 : ih = Scalar.select (swaps ra rb ia ib) ia ib) : At lo il (min p q) ∧ At hi ih (max p q) := by
  rw [e1, e2, e3, e4]; exact at_swap ha hb

theorem pair01 {α : Type} [LinearOrder α] (a0 a1 a2 a3 a4 a5 a6 a7 : α) : Cmpx.apply ⟨0, 1, by decide⟩ ![a0, a1, a2, a3, a4, a5, a6, a7] = ![min a0 a1, max a0 a1, a2, a3, a4, a5, a6, a7] := by
  funext k; fin_cases k <;> rfl
theorem pair23 {α : Type} [LinearOrder α] (a0 a1 a2 a3 a4 a5 a6 a7 : α) : Cmpx.apply ⟨2, 3, by decide⟩ ![a0, a1, a2, a3, a4, a5, a6, a7] = ![a0, a1, min a2 a3, max a2 a3, a4, a5, a6, a7] := by
  funext k; fin_cases k <;> rfl
theorem pair45 {α : Type} [LinearOrder α] (a0 a1 a2 a3 a4 a5 a6 a7 : α) : Cmpx.apply ⟨4, 5, by decide⟩ ![a0, a1, a2, a3, a4, a5, a6, a7] = ![a0, a1, a2, a3, min a4 a5, max a4 a5, a6, a7] := by
  funext k; fin_cases k <;> rfl
theorem pair67 {α : Type} [LinearOrder α] (a0 a1 a2 a3 a4 a5 a6 a7 : α) : Cmpx.apply ⟨6, 7, by decide⟩ ![a0, a1, a2, a3, a4, a5, a6, a7] = ![a0, a1, a2, a3, a4, a5, min a6 a7, max a6 a7] := by
  funext k; fin_cases k <;> rfl
theorem pair02 {α : Type} [LinearOrder α] (a0 a1 a2 a3 a4 a5 a6 a7 : α) : Cmpx.apply ⟨0, 2, by decide⟩ ![a0, a1, a2, a3, a4, a5, a6, a7] = ![min a0 a2, a1, max a0 a2, a3, a4, a5, a6, a7] := by
  funext k; fin_cases k <;> rfl
theorem pair13 {α : Type} [LinearOrder α] (a0 a1 a2 a3 a4 a5 a6 a7 : α) : Cmpx.apply ⟨1, 3, by decide⟩ ![a0, a1, a2, a3, a4, a5, a6, a7] = ![a0, min a1 a3, a2, max a1 a3, a4, a5, a6, a7] := by
  funext k; fin_cases k <;> rfl
theorem pair46 {α : Type} [LinearOrder α] (a0 a1 a2 a3 a4 a5 a6 a7 : α) : Cmpx.apply ⟨4, 6, by decide⟩ ![a0, a1, a2, a3, a4, a5, a6, a7] = ![a0, a1, a2, a3, min a4 a6, a5, max a4 a6, a7] := by
  funext k; fin_cases k <;> rfl
theorem pair57 {α : Type} [LinearOrder α] (a0 a1 a2 a3 a4 a5 a6 a7 : α) : Cmpx.apply ⟨5, 7, by decide⟩ ![a0, a1, a2, a3, a4, a5, a6, a7] = ![a0, a1, a2, a3, a4, min a5 a7, a6, max a5 a7] := by
  funext k; fin_cases k <;> rfl
theorem pair12 {α : Type} [LinearOrder α] (a0 a1 a2 a3 a4 a5 a6 a7 : α) : Cmpx.apply ⟨1, 2, by decide⟩ ![a0, a1, a2, a3, a4, a5, a6, a7] = ![a0, min a1 a2, max a1 a2, a3, a4, a5, a6, a7] := by
  funext k; fin_cases k <;> rfl
theorem pair56 {α : Type} [LinearOrder α] (a0 a1 a2 a3 a4 a5 a6 a7 : α) : Cmpx.apply ⟨5, 6, by decide⟩ ![a0, a1, a2, a3, a4, a5, a6, a7] = ![a0, a1, a2, a3, a4, min a5 a6, max a5 a6, a7] := by
  funext k; fin_cases k <;> rfl
theorem pair04 {α : Type} [LinearOrder α] (a0 a1 a2 a3 a4 a5 a6 a7 : α) : Cmpx.apply ⟨0, 4, by decide⟩ ![a0, a1, a2, a3, a4, a5, a6, a7] = ![min a0 a4, a1, a2, a3, max a0 a4, a5, a6, a7] := by
  funext k; fin_cases k <;> rfl
theorem pair15 {α : Type} [LinearOrder α] (a0 a1 a2 a3 a4 a5 a6 a7 : α) : Cmpx.apply ⟨1, 5, by decide⟩ ![a0, a1, a2, a3, a4, a5, a6, a7] = ![a0, min a1 a5, a2, a3, a4, max a1 a5, a6, a7] := by
  funext k; fin_cases k <;> rfl
theorem pair26 {α : Type} [LinearOrder α] (a0 a1 a2 a3 a4 a5 a6 a7 : α) : Cmpx.apply ⟨2, 6, by decide⟩ ![a0, a1, a2, a3, a4, a5, a6, a7] = ![a0, a1, min a2 a6, a3, a4, a5, max a2 a6, a7] := by
  funext k; fin_cases k <;> rfl
theorem pair37 {α : Type} [LinearOrder α] (a0 a1 a2 a3 a4 a5 a6 a7 : α) : Cmpx.apply ⟨3, 7, by decide⟩ ![a0, a1, a2, a3, a4, a5, a6, a7] = ![a0, a1, a2, min a3 a7, a4, a5, a6, max a3 a7] := by
  funext k; fin_cases k <;> rfl
theorem pair24 {α : Type} [LinearOrder α] (a0 a1 a2 a3 a4 a5 a6 a7 : α) : Cmpx.apply ⟨2, 4, by decide⟩ ![a0, a1, a2, a3, a4, a5, a6, a7] = ![a0, a1, min a2 a4, a3, max a2 a4, a5, a6, a7] := by
  funext k; fin_cases k <;> rfl
theorem pair35 {α : Type} [LinearOrder α] (a0 a1 a2 a3 a4 a5 a6 a7 : α) : Cmpx.apply ⟨3, 5, by decide⟩ ![a0, a1, a2, a3, a4, a5, a6, a7] = ![a0, a1, a2, min a3 a5, a4, max a3 a5, a6, a7] := by
  funext k; fin_cases k <;> rfl
theorem pair34 {α : Type} [LinearOrder α] (a0 a1 a2 a3 a4 a5 a6 a7 : α) : Cmpx.apply ⟨3, 4, by decide⟩ ![a0, a1, a2, a3, a4, a5, a6, a7] = ![a0, a1, a2, min a3 a4, max a3 a4, a5, a6, a7] := by
  funext k; fin_cases k <;> rfl

/-- The exchanges one after another on numbers and positions: what they leave stands for the sorted pairs. -/
theorem at_steps {x0 x1 x2 x3 x4 x5 x6 x7 i0 i1 i2 i3 i4 i5 i6 i7 l0 u0 m0 n0 l1 u1 m1 n1 l2 u2 m2 n2 l3 u3 m3 n3 l4 u4 m4 n4 l5 u5 m5 n5 l6 u6 m6 n6 l7 u7 m7 n7 l8 u8 m8 n8 l9 u9 m9 n9 l10 u10 m10 n10 l11 u11 m11 n11 l12 u12 m12 n12 l13 u13 m13 n13 l14 u14 m14 n14 l15 u15 m15 n15 l16 u16 m16 n16 l17 u17 m17 n17 l18 u18 m18 n18 : EReal} (p0 p1 p2 p3 p4 p5 p6 p7 : EReal ×ₗ Fin 8)
    (h0 : At x0 i0 p0) (h1 : At x1 i1 p1) (h2 : At x2 i2 p2) (h3 : At x3 i3 p3) (h4 : At x4 i4 p4) (h5 : At x5 i5 p5) (h6 : At x6 i6 p6) (h7 : At x7 i7 p7)
    (e0 : l0 = min x0 x1) (f0 : u0 = max x0 x1) (g0 : m0 = Scalar.select (swaps x0 x1 i0 i1) i1 i0) (d0 : n0 = Scalar.select (swaps x0 x1 i0 i1) i0 i1)
    (e1 : l1 = min x2 x3) (f1 : u1 = max x2 x3) (g1 : m1 = Scalar.select (swaps x2 x3 i2 i3) i3 i2) (d1 : n1 = Scalar.select (swaps x2 x3 i2 i3) i2 i3)
    (e2 : l2 = min x4 x5) (f2 : u2 = max x4 x5) (g2 : m2 = Scalar.select (swaps x4 x5 i4 i5) i5 i4) (d2 : n2 = Scalar.select (swaps x4 x5 i4 i5) i4 i5)
    (e3 : l3 = min x6 x7) (f3 : u3 = max x6 x7) (g3 : m3 = Scalar.select (swaps x6 x7 i6 i7) i7 i6) (d3 : n3 = Scalar.select (swaps x6 x7 i6 i7) i6 i7)
    (e4 : l4 = min l0 l1) (f4 : u4 = max l0 l1) (g4 : m4 = Scalar.select (swaps l0 l1 m0 m1) m1 m0) (d4 : n4 = Scalar.select (swaps l0 l1 m0 m1) m0 m1)
    (e5 : l5 = min u0 u1) (f5 : u5 = max u0 u1) (g5 : m5 = Scalar.select (swaps u0 u1 n0 n1) n1 n0) (d5 : n5 = Scalar.select (swaps u0 u1 n0 n1) n0 n1)
    (e6 : l6 = min l2 l3) (f6 : u6 = max l2 l3) (g6 : m6 = Scalar.select (swaps l2 l3 m2 m3) m3 m2) (d6 : n6 = Scalar.select (swaps l2 l3 m2 m3) m2 m3)
    (e7 : l7 = min u2 u3) (f7 : u7 = max u2 u3) (g7 : m7 = Scalar.select (swaps u2 u3 n2 n3) n3 n2) (d7 : n7 = Scalar.select (swaps u2 u3 n2 n3) n2 n3)
    (e8 : l8 = min l5 u4) (f8 : u8 = max l5 u4) (g8 : m8 = Scalar.select (swaps l5 u4 m5 n4) n4 m5) (d8 : n8 = Scalar.select (swaps l5 u4 m5 n4) m5 n4)
    (e9 : l9 = min l7 u6) (f9 : u9 = max l7 u6) (g9 : m9 = Scalar.select (swaps l7 u6 m7 n6) n6 m7) (d9 : n9 = Scalar.select (swaps l7 u6 m7 n6) m7 n6)
    (e10 : l10 = min l4 l6) (f10 : u10 = max l4 l6) (g10 : m10 = Scalar.select (swaps l4 l6 m4 m6) m6 m4) (d10 : n10 = Scalar.select (swaps l4 l6 m4 m6) m4 m6)
    (e11 : l11 = min l8 l9) (f11 : u11 = max l8 l9) (g11 : m11 = Scalar.select (swaps l8 l9 m8 m9) m9 m8) (d11 : n11 = Scalar.select (swaps l8 l9 m8 m9) m8 m9)
    (e12 : l12 = min u8 u9) (f12 : u12 = max u8 u9) (g12 : m12 = Scalar.select (swaps u8 u9 n8 n9) n9 n8) (d12 : n12 = Scalar.select (swaps u8 u9 n8 n9) n8 n9)
    (e13 : l13 = min u5 u7) (f13 : u13 = max u5 u7) (g13 : m13 = Scalar.select (swaps u5 u7 n5 n7) n7 n5) (d13 : n13 = Scalar.select (swaps u5 u7 n5 n7) n5 n7)
    (e14 : l14 = min l12 u10) (f14 : u14 = max l12 u10) (g14 : m14 = Scalar.select (swaps l12 u10 m12 n10) n10 m12) (d14 : n14 = Scalar.select (swaps l12 u10 m12 n10) m12 n10)
    (e15 : l15 = min l13 u11) (f15 : u15 = max l13 u11) (g15 : m15 = Scalar.select (swaps l13 u11 m13 n11) n11 m13) (d15 : n15 = Scalar.select (swaps l13 u11 m13 n11) m13 n11)
    (e16 : l16 = min l11 l14) (f16 : u16 = max l11 l14) (g16 : m16 = Scalar.select (swaps l11 l14 m11 m14) m14 m11) (d16 : n16 = Scalar.select (swaps l11 l14 m11 m14) m11 m14)
    (e17 : l17 = min l15 u14) (f17 : u17 = max l15 u14) (g17 : m17 = Scalar.select (swaps l15 u14 m15 n14) n14 m15) (d17 : n17 = Scalar.select (swaps l15 u14 m15 n14) m15 n14)
    (e18 : l18 = min u15 u12) (f18 : u18 = max u15 u12) (g18 : m18 = Scalar.select (swaps u15 u12 n15 n12) n12 n15) (d18 : n18 = Scalar.select (swaps u15 u12 n15 n12) n15 n12)
    : ∀ k : Fin 8, At ((![l10, l16, u16, l17, u17, l18, u18, u13] : Fin 8 → EReal) k) ((![m10, m16, n16, m17, n17, m18, n18, n13] : Fin 8 → EReal) k) (net.apply ![p0, p1, p2, p3, p4, p5, p6, p7] k) := by
  unfold net
  have q0 := at_step h0 h1 e0 f0 g0 d0
  rw [Network.apply_cons, pair01]
  generalize min p0 p1 = y0, max p0 p1 = z0 at q0 ⊢
  have q1 := at_step h2 h3 e1 f1 g1 d1
  rw [Network.apply_cons, pair23]
  generalize min p2 p3 = y1, max p2 p3 = z1 at q1 ⊢
  have q2 := at_step h4 h5 e2 f2 g2 d2
  rw [Network.apply_cons, pair45]
  generalize min p4 p5 = y2, max p4 p5 = z2 at q2 ⊢
  have q3 := at_step h6 h7 e3 f3 g3 d3
  rw [Network.apply_cons, pair67]
  generalize min p6 p7 = y3, max p6 p7 = z3 at q3 ⊢
  have q4 := at_step q0.1 q1.1 e4 f4 g4 d4
  rw [Network.apply_cons, pair02]
  generalize min y0 y1 = y4, max y0 y1 = z4 at q4 ⊢
  have q5 := at_step q0.2 q1.2 e5 f5 g5 d5
  rw [Network.apply_cons, pair13]
  generalize min z0 z1 = y5, max z0 z1 = z5 at q5 ⊢
  have q6 := at_step q2.1 q3.1 e6 f6 g6 d6
  rw [Network.apply_cons, pair46]
  generalize min y2 y3 = y6, max y2 y3 = z6 at q6 ⊢
  have q7 := at_step q2.2 q3.2 e7 f7 g7 d7
  rw [Network.apply_cons, pair57]
  generalize min z2 z3 = y7, max z2 z3 = z7 at q7 ⊢
  have q8 := at_step q5.1 q4.2 e8 f8 g8 d8
  rw [Network.apply_cons, pair12]
  generalize min y5 z4 = y8, max y5 z4 = z8 at q8 ⊢
  have q9 := at_step q7.1 q6.2 e9 f9 g9 d9
  rw [Network.apply_cons, pair56]
  generalize min y7 z6 = y9, max y7 z6 = z9 at q9 ⊢
  have q10 := at_step q4.1 q6.1 e10 f10 g10 d10
  rw [Network.apply_cons, pair04]
  generalize min y4 y6 = y10, max y4 y6 = z10 at q10 ⊢
  have q11 := at_step q8.1 q9.1 e11 f11 g11 d11
  rw [Network.apply_cons, pair15]
  generalize min y8 y9 = y11, max y8 y9 = z11 at q11 ⊢
  have q12 := at_step q8.2 q9.2 e12 f12 g12 d12
  rw [Network.apply_cons, pair26]
  generalize min z8 z9 = y12, max z8 z9 = z12 at q12 ⊢
  have q13 := at_step q5.2 q7.2 e13 f13 g13 d13
  rw [Network.apply_cons, pair37]
  generalize min z5 z7 = y13, max z5 z7 = z13 at q13 ⊢
  have q14 := at_step q12.1 q10.2 e14 f14 g14 d14
  rw [Network.apply_cons, pair24]
  generalize min y12 z10 = y14, max y12 z10 = z14 at q14 ⊢
  have q15 := at_step q13.1 q11.2 e15 f15 g15 d15
  rw [Network.apply_cons, pair35]
  generalize min y13 z11 = y15, max y13 z11 = z15 at q15 ⊢
  have q16 := at_step q11.1 q14.1 e16 f16 g16 d16
  rw [Network.apply_cons, pair12]
  generalize min y11 y14 = y16, max y11 y14 = z16 at q16 ⊢
  have q17 := at_step q15.1 q14.2 e17 f17 g17 d17
  rw [Network.apply_cons, pair34]
  generalize min y15 z14 = y17, max y15 z14 = z17 at q17 ⊢
  have q18 := at_step q15.2 q12.2 e18 f18 g18 d18
  rw [Network.apply_cons, pair56]
  generalize min z15 z12 = y18, max z15 z12 = z18 at q18 ⊢
  intro k
  fin_cases k
  · exact q10.1
  · exact q16.1
  · exact q16.2
  · exact q17.1
  · exact q17.2
  · exact q18.1
  · exact q18.2
  · exact q13.2

/-- Eight numbers with their positions after the exchanges: the numbers in ascending order and where each came from. -/
theorem sorted_steps {x0 x1 x2 x3 x4 x5 x6 x7 i0 i1 i2 i3 i4 i5 i6 i7 l0 u0 m0 n0 l1 u1 m1 n1 l2 u2 m2 n2 l3 u3 m3 n3 l4 u4 m4 n4 l5 u5 m5 n5 l6 u6 m6 n6 l7 u7 m7 n7 l8 u8 m8 n8 l9 u9 m9 n9 l10 u10 m10 n10 l11 u11 m11 n11 l12 u12 m12 n12 l13 u13 m13 n13 l14 u14 m14 n14 l15 u15 m15 n15 l16 u16 m16 n16 l17 u17 m17 n17 l18 u18 m18 n18 : EReal} (v : Fin 8 → EReal)
    (h0 : x0 = v 0) (h1 : x1 = v 1) (h2 : x2 = v 2) (h3 : x3 = v 3) (h4 : x4 = v 4) (h5 : x5 = v 5) (h6 : x6 = v 6) (h7 : x7 = v 7)
    (k0 : i0 = num 0) (k1 : i1 = num 1) (k2 : i2 = num 2) (k3 : i3 = num 3) (k4 : i4 = num 4) (k5 : i5 = num 5) (k6 : i6 = num 6) (k7 : i7 = num 7)
    (e0 : l0 = min x0 x1) (f0 : u0 = max x0 x1) (g0 : m0 = Scalar.select (swaps x0 x1 i0 i1) i1 i0) (d0 : n0 = Scalar.select (swaps x0 x1 i0 i1) i0 i1)
    (e1 : l1 = min x2 x3) (f1 : u1 = max x2 x3) (g1 : m1 = Scalar.select (swaps x2 x3 i2 i3) i3 i2) (d1 : n1 = Scalar.select (swaps x2 x3 i2 i3) i2 i3)
    (e2 : l2 = min x4 x5) (f2 : u2 = max x4 x5) (g2 : m2 = Scalar.select (swaps x4 x5 i4 i5) i5 i4) (d2 : n2 = Scalar.select (swaps x4 x5 i4 i5) i4 i5)
    (e3 : l3 = min x6 x7) (f3 : u3 = max x6 x7) (g3 : m3 = Scalar.select (swaps x6 x7 i6 i7) i7 i6) (d3 : n3 = Scalar.select (swaps x6 x7 i6 i7) i6 i7)
    (e4 : l4 = min l0 l1) (f4 : u4 = max l0 l1) (g4 : m4 = Scalar.select (swaps l0 l1 m0 m1) m1 m0) (d4 : n4 = Scalar.select (swaps l0 l1 m0 m1) m0 m1)
    (e5 : l5 = min u0 u1) (f5 : u5 = max u0 u1) (g5 : m5 = Scalar.select (swaps u0 u1 n0 n1) n1 n0) (d5 : n5 = Scalar.select (swaps u0 u1 n0 n1) n0 n1)
    (e6 : l6 = min l2 l3) (f6 : u6 = max l2 l3) (g6 : m6 = Scalar.select (swaps l2 l3 m2 m3) m3 m2) (d6 : n6 = Scalar.select (swaps l2 l3 m2 m3) m2 m3)
    (e7 : l7 = min u2 u3) (f7 : u7 = max u2 u3) (g7 : m7 = Scalar.select (swaps u2 u3 n2 n3) n3 n2) (d7 : n7 = Scalar.select (swaps u2 u3 n2 n3) n2 n3)
    (e8 : l8 = min l5 u4) (f8 : u8 = max l5 u4) (g8 : m8 = Scalar.select (swaps l5 u4 m5 n4) n4 m5) (d8 : n8 = Scalar.select (swaps l5 u4 m5 n4) m5 n4)
    (e9 : l9 = min l7 u6) (f9 : u9 = max l7 u6) (g9 : m9 = Scalar.select (swaps l7 u6 m7 n6) n6 m7) (d9 : n9 = Scalar.select (swaps l7 u6 m7 n6) m7 n6)
    (e10 : l10 = min l4 l6) (f10 : u10 = max l4 l6) (g10 : m10 = Scalar.select (swaps l4 l6 m4 m6) m6 m4) (d10 : n10 = Scalar.select (swaps l4 l6 m4 m6) m4 m6)
    (e11 : l11 = min l8 l9) (f11 : u11 = max l8 l9) (g11 : m11 = Scalar.select (swaps l8 l9 m8 m9) m9 m8) (d11 : n11 = Scalar.select (swaps l8 l9 m8 m9) m8 m9)
    (e12 : l12 = min u8 u9) (f12 : u12 = max u8 u9) (g12 : m12 = Scalar.select (swaps u8 u9 n8 n9) n9 n8) (d12 : n12 = Scalar.select (swaps u8 u9 n8 n9) n8 n9)
    (e13 : l13 = min u5 u7) (f13 : u13 = max u5 u7) (g13 : m13 = Scalar.select (swaps u5 u7 n5 n7) n7 n5) (d13 : n13 = Scalar.select (swaps u5 u7 n5 n7) n5 n7)
    (e14 : l14 = min l12 u10) (f14 : u14 = max l12 u10) (g14 : m14 = Scalar.select (swaps l12 u10 m12 n10) n10 m12) (d14 : n14 = Scalar.select (swaps l12 u10 m12 n10) m12 n10)
    (e15 : l15 = min l13 u11) (f15 : u15 = max l13 u11) (g15 : m15 = Scalar.select (swaps l13 u11 m13 n11) n11 m13) (d15 : n15 = Scalar.select (swaps l13 u11 m13 n11) m13 n11)
    (e16 : l16 = min l11 l14) (f16 : u16 = max l11 l14) (g16 : m16 = Scalar.select (swaps l11 l14 m11 m14) m14 m11) (d16 : n16 = Scalar.select (swaps l11 l14 m11 m14) m11 m14)
    (e17 : l17 = min l15 u14) (f17 : u17 = max l15 u14) (g17 : m17 = Scalar.select (swaps l15 u14 m15 n14) n14 m15) (d17 : n17 = Scalar.select (swaps l15 u14 m15 n14) m15 n14)
    (e18 : l18 = min u15 u12) (f18 : u18 = max u15 u12) (g18 : m18 = Scalar.select (swaps u15 u12 n15 n12) n12 n15) (d18 : n18 = Scalar.select (swaps u15 u12 n15 n12) n15 n12)
    : (∀ k : Fin 8, (![l10, l16, u16, l17, u17, l18, u18, u13] : Fin 8 → EReal) k = v (order v k)) ∧ ∀ k : Fin 8, (![m10, m16, n16, m17, n17, m18, n18, n13] : Fin 8 → EReal) k = num (order v k) := by
  have e : ![key v 0, key v 1, key v 2, key v 3, key v 4, key v 5, key v 6, key v 7] = key v := by funext k; fin_cases k <;> rfl
  have a := at_steps (key v 0) (key v 1) (key v 2) (key v 3) (key v 4) (key v 5) (key v 6) (key v 7) ⟨h0, k0⟩ ⟨h1, k1⟩ ⟨h2, k2⟩ ⟨h3, k3⟩ ⟨h4, k4⟩ ⟨h5, k5⟩ ⟨h6, k6⟩ ⟨h7, k7⟩
    e0 f0 g0 d0 e1 f1 g1 d1 e2 f2 g2 d2 e3 f3 g3 d3 e4 f4 g4 d4 e5 f5 g5 d5 e6 f6 g6 d6 e7 f7 g7 d7 e8 f8 g8 d8 e9 f9 g9 d9 e10 f10 g10 d10 e11 f11 g11 d11 e12 f12 g12 d12 e13 f13 g13 d13 e14 f14 g14 d14 e15 f15 g15 d15 e16 f16 g16 d16 e17 f17 g17 d17 e18 f18 g18 d18
  rw [e] at a
  constructor <;> intro k
  · have := (a k).1; rwa [net_key] at this
  · have := (a k).2; rwa [net_key] at this

end Cert.Group

end
-- ==== Proof.GroupMath.lean ====
/-
  The arithmetic of the second level: the two ways to write a sigmoid, the two ways to tell which cluster a value belongs to, and
  dividing by a number or multiplying by its inverse.
-/
module

public import proofs.«01_k».proof.Proof.GroupSort
public import Mathlib.Analysis.SpecialFunctions.Log.Basic
public import Mathlib.Analysis.SpecialFunctions.Trigonometric.Basic

@[expose] public section

set_option maxRecDepth 16384

noncomputable section

namespace Cert.Group

open Idealize.ShloMosaic

/-- The number a word of thirty-two bits stands for. -/
abbrev lit (w : BitVec 32) : EReal := Ideal.ofBits .f32 w

theorem lit0 : lit 0x00000000#32 = 0 := by simp [lit, Ideal.ofBits, Ideal.ieee]
theorem lit1 : lit 0x3F800000#32 = 1 := by
  simp [lit, Ideal.ofBits, Ideal.ieee, -EReal.coe_mul]
  norm_num
theorem litHalf : lit 0x3F000000#32 = ((1 / 2 : ℝ) : EReal) := by
  simp [lit, Ideal.ofBits, Ideal.ieee, -EReal.coe_mul]; try norm_num
theorem litHundred : lit 0x42C80000#32 = ((100 : ℝ) : EReal) := by
  simp [lit, Ideal.ofBits, Ideal.ieee, -EReal.coe_mul]; try norm_num
theorem litTiny : ∃ r : ℝ, lit 0x24E69595#32 = (r : EReal) := by
  simp only [lit, Ideal.ofBits, Ideal.ieee]
  norm_num [-EReal.coe_mul]
  try exact ⟨_, rfl⟩

/-! ## Sigmoids -/

/-- The sigmoid as a quotient. -/
def sig (x : EReal) : EReal := Ideal.div 1 (1 + Ideal.exp (-x))

theorem sig_coe (r : ℝ) : sig r = ((1 / (1 + Real.exp (-r)) : ℝ) : EReal) := by
  have h : (1 + Real.exp (-r) : ℝ) ≠ 0 := by positivity
  unfold sig
  rw [← EReal.coe_neg, Ideal.exp_coe, ← EReal.coe_one, ← EReal.coe_add, Ideal.div_coe h, ← EReal.coe_mul, one_mul]

theorem sig_top : sig ⊤ = 1 := by
  unfold sig
  rw [EReal.neg_top, Ideal.exp_bot, add_zero, ← EReal.coe_one, Ideal.div_coe one_ne_zero, ← EReal.coe_mul]
  norm_num

theorem sig_bot : sig ⊥ = 0 := by
  unfold sig
  rw [EReal.neg_bot, Ideal.exp_top, ← EReal.coe_one, EReal.coe_add_top, Ideal.div, if_neg EReal.top_ne_zero, EReal.inv_top, mul_zero]

/-- A sigmoid is a real number. -/
theorem sig_real (x : EReal) : ∃ r : ℝ, sig x = (r : EReal) := by
  induction x with
  | bot => exact ⟨0, sig_bot⟩
  | top => exact ⟨1, sig_top⟩
  | coe r => exact ⟨_, sig_coe r⟩

/-- The sigmoid as a hyperbolic tangent is the same. -/
theorem sig_tanh (x : EReal) : lit 0x3F000000#32 * Ideal.tanh (lit 0x3F000000#32 * x) + lit 0x3F000000#32 = sig x := by
  rw [litHalf]
  induction x with
  | bot =>
    rw [sig_bot, EReal.coe_mul_bot_of_pos (by norm_num), Ideal.tanh_bot, mul_neg, mul_one, ← EReal.coe_neg, ← EReal.coe_add]
    norm_num
  | top =>
    rw [sig_top, EReal.coe_mul_top_of_pos (by norm_num), Ideal.tanh_top, mul_one, ← EReal.coe_add]
    norm_num
  | coe r =>
    rw [sig_coe, ← EReal.coe_mul, Ideal.tanh_coe, ← EReal.coe_mul, ← EReal.coe_add, EReal.coe_eq_coe_iff, Real.tanh_eq_sinh_div_cosh,
      Real.sinh_eq, Real.cosh_eq]
    have e1 : Real.exp (-r) = Real.exp (-(1 / 2 * r)) * Real.exp (-(1 / 2 * r)) := by rw [← Real.exp_add]; congr 1; ring
    have e2 : Real.exp (1 / 2 * r) * Real.exp (-(1 / 2 * r)) = 1 := by rw [← Real.exp_add]; simp
    rw [e1]
    generalize Real.exp (-(1 / 2 * r)) = b at e2 ⊢
    have hb : 0 < b := by
      by_contra h
      have := Real.exp_pos (1 / 2 * r)
      nlinarith
    have ha : Real.exp (1 / 2 * r) = b⁻¹ := eq_inv_of_mul_eq_one_left e2
    rw [ha]
    field_simp
    ring

/-! ## Quotients -/

/-- Dividing by a number other than zero is multiplying by the quotient of one by it. -/
theorem div_by {g : EReal} (hg : g ≠ 0) (x : EReal) : Ideal.div x g = x * Ideal.div 1 g := by
  rw [Ideal.div, Ideal.div, if_neg hg, if_neg hg, one_mul]

/-- Dividing by a hundredth is multiplying by a hundred. -/
theorem div_hundredth (x : EReal) : Ideal.div x ((1 / 100 : ℝ) : EReal) = x * lit 0x42C80000#32 := by
  rw [litHundred, Ideal.div_coe (by norm_num)]
  norm_num

/-! ## Clusters -/

/-- Whether a value at distance `y` from a cluster's centre belongs to the cluster, as zero or one: a bell curve rounded. -/
def near (y : EReal) : EReal :=
  Ideal.liftRound Ideal.roundHalfEven (Ideal.exp (Ideal.div (-(Ideal.sqrt (y * y))) ((18 / 25 : ℝ) : EReal)))

/-- The same as a comparison. -/
def close (y : EReal) : BitVec 1 := Ideal.cmp .ogt (0 - max y (-y)) (((-((18 / 25) * Real.log 2)) : ℝ) : EReal)

theorem near_coe (r : ℝ) : near r = ((Ideal.roundHalfEven (Real.exp (-|r| / (18 / 25))) : ℝ) : EReal) := by
  unfold near
  rw [← EReal.coe_mul, Ideal.sqrt_coe, if_neg (not_lt.mpr (mul_self_nonneg r)), Real.sqrt_mul_self_eq_abs, ← EReal.coe_neg,
    Ideal.div_coe (by norm_num), ← EReal.coe_mul, Ideal.exp_coe, Ideal.liftRound_coe]
  congr 4
  ring

theorem close_coe (r : ℝ) : close r = BitVec.ofBool (decide (-((18 / 25) * Real.log 2) < -|r|)) := by
  unfold close
  have e : max (r : EReal) ((-r : ℝ) : EReal) = ((|r| : ℝ) : EReal) := (EReal.coe_strictMono.monotone.map_max (a := r) (b := -r)).symm
  rw [← EReal.coe_neg, e, ← EReal.coe_zero, ← EReal.coe_sub, zero_sub]
  simp only [Ideal.cmp, EReal.coe_lt_coe_iff]

theorem roundUnit {u : ℝ} (h0 : 0 < u) (h1 : u ≤ 1) : Ideal.roundHalfEven u = if 1 / 2 < u then 1 else 0 := by
  rcases h1.eq_or_lt with rfl | h
  · simp [Ideal.roundHalfEven]; norm_num
  · have f : ⌊u⌋ = 0 := Int.floor_eq_zero_iff.mpr ⟨h0.le, h⟩
    unfold Ideal.roundHalfEven
    simp only [f, Int.cast_zero, sub_zero, Even.zero, if_true, zero_add]
    by_cases a : u < 1 / 2
    · rw [if_pos a, if_neg (by linarith)]
    · rw [if_neg a]

/-- Keeping a value or zero by the comparison is multiplying it by the rounded curve. -/
theorem select_near (r : ℝ) (x : EReal) : Scalar.select (close r) x (0 : EReal) = x * near r := by
  have hu : Real.exp (-|r| / (18 / 25)) ≤ 1 := Real.exp_le_one_iff.mpr (div_nonpos_of_nonpos_of_nonneg (by simp) (by norm_num))
  rw [close_coe, near_coe, roundUnit (Real.exp_pos _) hu]
  have iff : (-((18 / 25) * Real.log 2) < -|r|) ↔ 1 / 2 < Real.exp (-|r| / (18 / 25)) := by
    rw [← Real.log_lt_iff_lt_exp (by norm_num), one_div, Real.log_inv, lt_div_iff₀ (by norm_num)]
    constructor <;> intro h <;> linarith
  by_cases h : -((18 / 25) * Real.log 2) < -|r|
  · rw [decide_eq_true h, if_pos (iff.mp h)]
    simp [Scalar.select]
  · rw [decide_eq_false h, if_neg (fun h' => h (iff.mpr h'))]
    simp [Scalar.select]

/-! ## The last step -/

/-- The quantised multiple of the step. -/
def quant (s x : EReal) : EReal :=
  s * min (lit 0x41000000#32) (max (lit 0xC1000000#32) (Ideal.liftRound Ideal.roundHalfEven (Ideal.div x s)))

/-- It is the same with a product by the quotient of one by the step: for a step of zero both are zero. -/
theorem quant_eq (s x : EReal) : quant s x
    = s * min (lit 0x41000000#32) (max (lit 0xC1000000#32) (Ideal.liftRound Ideal.roundHalfEven (x * Ideal.div 1 s))) := by
  unfold quant
  by_cases h : s = 0
  · rw [h, zero_mul, zero_mul]
  · rw [div_by h]

end Cert.Group

end
-- ==== Proof.GroupColumn.lean ====
/-
  What the second level does to one column of eight weights, and that the kernel's way of computing it gives the same.
-/
module

public import proofs.«01_k».proof.Proof.GroupMath

@[expose] public section

set_option maxRecDepth 16384

noncomputable section

namespace Cert.Group

open Idealize.ShloMosaic

/-- The small number the quotients and distances are shifted by. -/
abbrev tiny : EReal := lit 0x24E69595#32

/-- The centres of the four clusters. -/
def centre : Fin 4 → EReal := ![lit 0x00000000#32, lit 0x3F800000#32, lit 0x40000000#32, lit 0x40400000#32]

theorem centre_real (c : Fin 4) : ∃ r : ℝ, centre c = (r : EReal) := by
  fin_cases c
  · exact ⟨0, by simp [centre, Ideal.ofBits, Ideal.ieee]⟩
  all_goals
    simp [centre, lit, Ideal.ofBits, Ideal.ieee, -EReal.coe_mul]

/-- How far two neighbours of the sorted column are split: the sigmoid of their gap over the greatest gap, less the threshold. -/
def split (v : Fin 8 → EReal) (th g : EReal) (k : Fin 7) : EReal :=
  sig (Ideal.div (Ideal.div (v (order v k.succ) - v (order v k.castSucc)) g - th) ((1 / 100 : ℝ) : EReal))

/-- The splits before a place, summed. -/
def splits (v : Fin 8 → EReal) (th g : EReal) (a : Fin 8) : EReal := ∑ k : Fin 7, if k.val < a.val then split v th g k else 0

/-- They sum to a real number. -/
theorem splits_real (v : Fin 8 → EReal) (th g : EReal) (a : Fin 8) : ∃ r : ℝ, splits v th g a = (r : EReal) := by
  have h : ∀ k : Fin 7, ∃ r : ℝ, (if k.val < a.val then split v th g k else 0) = (r : EReal) := fun k => by
    split_ifs
    · exact sig_real _
    · exact ⟨0, rfl⟩
  choose f hf using h
  exact ⟨f 0 + f 1 + f 2 + f 3 + f 4 + f 5 + f 6, by simp only [splits, hf, Fin.sum_univ_seven, EReal.coe_add]⟩

/-- Whether the number at a place belongs to a cluster, as zero or one. -/
def member (C : Fin 8 → EReal) (c : Fin 4) (a : Fin 8) : EReal := near (C a - centre c + tiny)

/-- A cluster's mean. -/
def mean (S C : Fin 8 → EReal) (c : Fin 4) : EReal :=
  Ideal.div (∑ a, S a * member C c a) ((∑ a, member C c a) + tiny)

/-- The mean of the cluster the number at a place belongs to. -/
def grouped (S C : Fin 8 → EReal) (a : Fin 8) : EReal :=
  0 + member C 0 a * mean S C 0 + member C 1 a * mean S C 1 + member C 2 a * mean S C 2 + member C 3 a * mean S C 3

/-- The place a row of the column has in the sorted column. -/
def place (v : Fin 8 → EReal) (i : Fin 8) : Fin 8 :=
  (Equiv.ofBijective (order v) (Finite.injective_iff_bijective.mp (order_injective v))).symm i

theorem order_place (v : Fin 8 → EReal) (i : Fin 8) : order v (place v i) = i :=
  (Equiv.ofBijective (order v) (Finite.injective_iff_bijective.mp (order_injective v))).apply_symm_apply i

/-- The total of a row with its second level: `v` the column of errors, `th` the threshold, `g` the greatest gap, `s` the step, `t`
    the total before. -/
def level (v : Fin 8 → EReal) (th g s t : EReal) (i : Fin 8) : EReal :=
  t + quant s (grouped (fun a => v (order v a)) (splits v th g) (place v i))

/-! ## The kernel's way -/

/-- The split as the kernel computes it. -/
def splitK (a b rg th : EReal) : EReal :=
  lit 0x3F000000#32 * Ideal.tanh (lit 0x3F000000#32 * (((b - a) * rg - th) * lit 0x42C80000#32)) + lit 0x3F000000#32

theorem splitK_eq {v : Fin 8 → EReal} {th g : EReal} (hg : g ≠ 0) (k : Fin 7) :
    splitK (v (order v k.castSucc)) (v (order v k.succ)) (Ideal.div 1 g) th = split v th g k := by
  unfold splitK split
  rw [sig_tanh, div_hundredth, div_by hg (v (order v k.succ) - v (order v k.castSucc))]

/-- The running sums of the kernel's splits are the sums of the splits. -/
theorem splits_steps {x0 x1 x2 x3 x4 x5 x6 x7 c0 c1 c2 c3 c4 c5 c6 c7 : EReal} {v : Fin 8 → EReal} {th g rg : EReal} (hg : g ≠ 0) (hr : rg = Ideal.div 1 g)
    (hx : ∀ k : Fin 8, (![x0, x1, x2, x3, x4, x5, x6, x7] : Fin 8 → EReal) k = v (order v k)) (e0 : c0 = lit 0x00000000#32)
    (e1 : c1 = c0 + splitK x0 x1 rg th)
    (e2 : c2 = c1 + splitK x1 x2 rg th)
    (e3 : c3 = c2 + splitK x2 x3 rg th)
    (e4 : c4 = c3 + splitK x3 x4 rg th)
    (e5 : c5 = c4 + splitK x4 x5 rg th)
    (e6 : c6 = c5 + splitK x5 x6 rg th)
    (e7 : c7 = c6 + splitK x6 x7 rg th)
    : ∀ k : Fin 8, (![c0, c1, c2, c3, c4, c5, c6, c7] : Fin 8 → EReal) k = splits v th g k := by
  have k0 : x0 = v (order v 0) := hx 0
  have k1 : x1 = v (order v 1) := hx 1
  have k2 : x2 = v (order v 2) := hx 2
  have k3 : x3 = v (order v 3) := hx 3
  have k4 : x4 = v (order v 4) := hx 4
  have k5 : x5 = v (order v 5) := hx 5
  have k6 : x6 = v (order v 6) := hx 6
  have k7 : x7 = v (order v 7) := hx 7
  have s1 : splitK x0 x1 rg th = split v th g 0 := by rw [k0, k1, hr]; exact splitK_eq hg 0
  rw [s1] at e1
  have s2 : splitK x1 x2 rg th = split v th g 1 := by rw [k1, k2, hr]; exact splitK_eq hg 1
  rw [s2] at e2
  have s3 : splitK x2 x3 rg th = split v th g 2 := by rw [k2, k3, hr]; exact splitK_eq hg 2
  rw [s3] at e3
  have s4 : splitK x3 x4 rg th = split v th g 3 := by rw [k3, k4, hr]; exact splitK_eq hg 3
  rw [s4] at e4
  have s5 : splitK x4 x5 rg th = split v th g 4 := by rw [k4, k5, hr]; exact splitK_eq hg 4
  rw [s5] at e5
  have s6 : splitK x5 x6 rg th = split v th g 5 := by rw [k5, k6, hr]; exact splitK_eq hg 5
  rw [s6] at e6
  have s7 : splitK x6 x7 rg th = split v th g 6 := by rw [k6, k7, hr]; exact splitK_eq hg 6
  rw [s7] at e7
  rw [lit0] at e0
  intro k
  fin_cases k
  · show c0 = _
    simp [splits, Fin.sum_univ_seven, e0]
  · show c1 = _
    simp [splits, Fin.sum_univ_seven, e0, e1]
  · show c2 = _
    simp [splits, Fin.sum_univ_seven, e0, e1, e2]
  · show c3 = _
    simp [splits, Fin.sum_univ_seven, e0, e1, e2, e3]
  · show c4 = _
    simp [splits, Fin.sum_univ_seven, e0, e1, e2, e3, e4]
  · show c5 = _
    simp [splits, Fin.sum_univ_seven, e0, e1, e2, e3, e4, e5]
  · show c6 = _
    simp [splits, Fin.sum_univ_seven, e0, e1, e2, e3, e4, e5, e6]
  · show c7 = _
    simp [splits, Fin.sum_univ_seven, e0, e1, e2, e3, e4, e5, e6, e7]

/-- The kernel's comparison for a cluster. -/
def closeK (cut y : EReal) : BitVec 1 := Ideal.cmp .ogt (lit 0x00000000#32 - max y (-y)) cut

/-- The number the kernel compares with. -/
abbrev cutValue : EReal := (((-((18 / 25) * Real.log 2)) : ℝ) : EReal)

/-- Keeping a value or zero by it is multiplying by the membership. -/
theorem select_member {C : Fin 8 → EReal} (hC : ∀ a, ∃ r : ℝ, C a = (r : EReal)) (c : Fin 4) (a : Fin 8) (x : EReal) {cut : EReal} (h : cut = cutValue) :
    Scalar.select (closeK cut (C a - centre c + tiny)) x (lit 0x00000000#32) = x * member C c a := by
  obtain ⟨r, hr⟩ := hC a
  obtain ⟨m, hm⟩ := centre_real c
  obtain ⟨e, he⟩ := litTiny
  replace he : tiny = (e : EReal) := he
  unfold member closeK
  rw [h, hr, hm, he, lit0, ← EReal.coe_sub, ← EReal.coe_add]
  exact select_near _ x

/-- The kernel's mean of a cluster is the cluster's mean. -/
theorem mean_steps {x0 x1 x2 x3 x4 x5 x6 x7 c0 c1 c2 c3 c4 c5 c6 c7 M mu cut : EReal} {m0 m1 m2 m3 m4 m5 m6 m7 : BitVec 1} {S C : Fin 8 → EReal} (c : Fin 4)
    (hC : ∀ a, ∃ r : ℝ, C a = (r : EReal)) (hx : ∀ k : Fin 8, (![x0, x1, x2, x3, x4, x5, x6, x7] : Fin 8 → EReal) k = S k) (hc : ∀ k : Fin 8, (![c0, c1, c2, c3, c4, c5, c6, c7] : Fin 8 → EReal) k = C k)
    (h : cut = cutValue) (hmu : mu = centre c)
    (e0 : m0 = closeK cut (c0 - mu + tiny)) (e1 : m1 = closeK cut (c1 - mu + tiny)) (e2 : m2 = closeK cut (c2 - mu + tiny)) (e3 : m3 = closeK cut (c3 - mu + tiny)) (e4 : m4 = closeK cut (c4 - mu + tiny)) (e5 : m5 = closeK cut (c5 - mu + tiny)) (e6 : m6 = closeK cut (c6 - mu + tiny)) (e7 : m7 = closeK cut (c7 - mu + tiny))
    (eM : M = Ideal.div (((((((Scalar.select m0 x0 (lit 0x00000000#32) + Scalar.select m1 x1 (lit 0x00000000#32)) + Scalar.select m2 x2 (lit 0x00000000#32)) + Scalar.select m3 x3 (lit 0x00000000#32)) + Scalar.select m4 x4 (lit 0x00000000#32)) + Scalar.select m5 x5 (lit 0x00000000#32)) + Scalar.select m6 x6 (lit 0x00000000#32)) + Scalar.select m7 x7 (lit 0x00000000#32))
      ((((((((Scalar.select m0 (lit 0x3F800000#32) (lit 0x00000000#32) + Scalar.select m1 (lit 0x3F800000#32) (lit 0x00000000#32)) + Scalar.select m2 (lit 0x3F800000#32) (lit 0x00000000#32)) + Scalar.select m3 (lit 0x3F800000#32) (lit 0x00000000#32)) + Scalar.select m4 (lit 0x3F800000#32) (lit 0x00000000#32)) + Scalar.select m5 (lit 0x3F800000#32) (lit 0x00000000#32)) + Scalar.select m6 (lit 0x3F800000#32) (lit 0x00000000#32)) + Scalar.select m7 (lit 0x3F800000#32) (lit 0x00000000#32)) + tiny)) : M = mean S C c := by
  have k0 : x0 = S 0 := hx 0
  have n0 : c0 = C 0 := hc 0
  rw [n0, hmu] at e0
  have k1 : x1 = S 1 := hx 1
  have n1 : c1 = C 1 := hc 1
  rw [n1, hmu] at e1
  have k2 : x2 = S 2 := hx 2
  have n2 : c2 = C 2 := hc 2
  rw [n2, hmu] at e2
  have k3 : x3 = S 3 := hx 3
  have n3 : c3 = C 3 := hc 3
  rw [n3, hmu] at e3
  have k4 : x4 = S 4 := hx 4
  have n4 : c4 = C 4 := hc 4
  rw [n4, hmu] at e4
  have k5 : x5 = S 5 := hx 5
  have n5 : c5 = C 5 := hc 5
  rw [n5, hmu] at e5
  have k6 : x6 = S 6 := hx 6
  have n6 : c6 = C 6 := hc 6
  rw [n6, hmu] at e6
  have k7 : x7 = S 7 := hx 7
  have n7 : c7 = C 7 := hc 7
  rw [n7, hmu] at e7
  rw [eM, e0, e1, e2, e3, e4, e5, e6, e7, k0, k1, k2, k3, k4, k5, k6, k7]
  simp only [select_member hC c _ _ h]
  rw [lit1]
  simp only [one_mul]
  unfold mean
  rw [Fin.sum_univ_eight, Fin.sum_univ_eight]

/-- The kernel's sum over the clusters is the mean of the cluster a place belongs to. -/
theorem grouped_steps {x w1 w2 w3 w4 M0 M1 M2 M3 n0 n1 n2 n3 cut : EReal} {m0 m1 m2 m3 : BitVec 1} {S C : Fin 8 → EReal} (a : Fin 8)
    (hC : ∀ a, ∃ r : ℝ, C a = (r : EReal)) (hx : x = C a) (h : cut = cutValue)
    (f0 : n0 = centre 0) (f1 : n1 = centre 1) (f2 : n2 = centre 2) (f3 : n3 = centre 3)
    (h0 : M0 = mean S C 0) (h1 : M1 = mean S C 1) (h2 : M2 = mean S C 2) (h3 : M3 = mean S C 3)
    (e0 : m0 = closeK cut (x - n0 + tiny)) (e1 : m1 = closeK cut (x - n1 + tiny)) (e2 : m2 = closeK cut (x - n2 + tiny)) (e3 : m3 = closeK cut (x - n3 + tiny))
    (d1 : w1 = lit 0x00000000#32 + Scalar.select m0 M0 (lit 0x00000000#32)) (d2 : w2 = w1 + Scalar.select m1 M1 (lit 0x00000000#32))
    (d3 : w3 = w2 + Scalar.select m2 M2 (lit 0x00000000#32)) (d4 : w4 = w3 + Scalar.select m3 M3 (lit 0x00000000#32)) : w4 = grouped S C a := by
  rw [d4, d3, d2, d1, e0, e1, e2, e3, hx, f0, f1, f2, f3, select_member hC 0 a _ h, select_member hC 1 a _ h, select_member hC 2 a _ h,
    select_member hC 3 a _ h, h0, h1, h2, h3, lit0]
  unfold grouped
  simp only [mul_comm]

/-- Keeping a value where a place holds a row. -/
theorem select_row (a i : Fin 8) (x : EReal) : Scalar.select (Ideal.cmp .oeq (num a) (num i)) x (lit 0x00000000#32) = if a = i then x else 0 := by
  rw [lit0]
  by_cases h : a = i
  · simp [Ideal.cmp, h, Scalar.select]
  · have : ¬ num a = num i := fun e => h ((num_inj a i).mp e)
    simp [Ideal.cmp, h, this, Scalar.select]

/-- The kernel's total of a row is the row's total with its second level. -/
theorem level_steps {p0 p1 p2 p3 p4 p5 p6 p7 w0 w1 w2 w3 w4 w5 w6 w7 n rs b s t out th g : EReal} {v : Fin 8 → EReal} (i : Fin 8) (hn : n = num i)
    (hp : ∀ k : Fin 8, (![p0, p1, p2, p3, p4, p5, p6, p7] : Fin 8 → EReal) k = num (order v k))
    (hw : ∀ k : Fin 8, (![w0, w1, w2, w3, w4, w5, w6, w7] : Fin 8 → EReal) k = grouped (fun a => v (order v a)) (splits v th g) k) (hr : rs = Ideal.div 1 s)
    (eb : b = min (lit 0x41000000#32) (max (lit 0xC1000000#32) (Ideal.liftRound Ideal.roundHalfEven
      ((((((((Scalar.select (Ideal.cmp .oeq p0 n) w0 (lit 0x00000000#32) + Scalar.select (Ideal.cmp .oeq p1 n) w1 (lit 0x00000000#32)) + Scalar.select (Ideal.cmp .oeq p2 n) w2 (lit 0x00000000#32)) + Scalar.select (Ideal.cmp .oeq p3 n) w3 (lit 0x00000000#32)) + Scalar.select (Ideal.cmp .oeq p4 n) w4 (lit 0x00000000#32)) + Scalar.select (Ideal.cmp .oeq p5 n) w5 (lit 0x00000000#32)) + Scalar.select (Ideal.cmp .oeq p6 n) w6 (lit 0x00000000#32)) + Scalar.select (Ideal.cmp .oeq p7 n) w7 (lit 0x00000000#32)) * rs))))
    (eo : out = t + s * b) : out = level v th g s t i := by
  have k0 : p0 = num (order v 0) := hp 0
  have n0 : w0 = grouped (fun a => v (order v a)) (splits v th g) 0 := hw 0
  have k1 : p1 = num (order v 1) := hp 1
  have n1 : w1 = grouped (fun a => v (order v a)) (splits v th g) 1 := hw 1
  have k2 : p2 = num (order v 2) := hp 2
  have n2 : w2 = grouped (fun a => v (order v a)) (splits v th g) 2 := hw 2
  have k3 : p3 = num (order v 3) := hp 3
  have n3 : w3 = grouped (fun a => v (order v a)) (splits v th g) 3 := hw 3
  have k4 : p4 = num (order v 4) := hp 4
  have n4 : w4 = grouped (fun a => v (order v a)) (splits v th g) 4 := hw 4
  have k5 : p5 = num (order v 5) := hp 5
  have n5 : w5 = grouped (fun a => v (order v a)) (splits v th g) 5 := hw 5
  have k6 : p6 = num (order v 6) := hp 6
  have n6 : w6 = grouped (fun a => v (order v a)) (splits v th g) 6 := hw 6
  have k7 : p7 = num (order v 7) := hp 7
  have n7 : w7 = grouped (fun a => v (order v a)) (splits v th g) 7 := hw 7
  rw [k0, k1, k2, k3, k4, k5, k6, k7, n0, n1, n2, n3, n4, n5, n6, n7, hn, hr] at eb
  simp only [select_row] at eb
  have sum : ∀ G : Fin 8 → EReal, ((((((((if order v 0 = i then G 0 else 0) + (if order v 1 = i then G 1 else 0)) + (if order v 2 = i then G 2 else 0)) + (if order v 3 = i then G 3 else 0)) + (if order v 4 = i then G 4 else 0)) + (if order v 5 = i then G 5 else 0)) + (if order v 6 = i then G 6 else 0)) + (if order v 7 = i then G 7 else 0)) = G (place v i) := fun G => by
    rw [← Fin.sum_univ_eight fun a => if order v a = i then G a else 0]
    rw [Finset.sum_eq_single (place v i) (fun a _ h => if_neg fun e => h (order_injective v (e.trans (order_place v i).symm))) (fun h => absurd (Finset.mem_univ _) h)]
    exact if_pos (order_place v i)
  rw [sum] at eb
  rw [eo, eb]
  unfold level
  rw [quant_eq]

end Cert.Group

end
-- ==== Proof.GroupChunk.lean ====
/-
  What one trip of the second level computes: every column of its chunk gets its second level.
-/
module

public import proofs.«01_k».proof.Proof.GroupTrace
public import proofs.«01_k».proof.Proof.GroupColumn

@[expose] public section

set_option maxRecDepth 16384

noncomputable section

open Idealize.ShloMosaic Idealize.ShloMosaic.TcCoe Idealize.SL.Sem

namespace Cert.Kernel4Ideal.Group

open Cert.Kernel4Ideal Cert.Kernel4Ideal.Gen
open Cert.Group

/-- Where in a chunk's slab the entry of a row of the chunk is. -/
def back (i : S16x256.Idx) : S1x16x256.Idx := Shape.reshapeEquiv shapeCasts_S1x16x256_S16x256 i

/-- The constant the kernel compares with is the named one. -/
theorem cut_eq : (Named.named (F := Ideal) κ "cut" (φ := .f32) 0xBEFF8593#32 : EReal) = cutValue :=
  IdealRules.named_const.ideal_named_scalar _ _ _ _ rfl

/-- The words for the first eight numbers. -/
theorem num_words : lit 0x00000000#32 = num 0 ∧ lit 0x3F800000#32 = num 1 ∧ lit 0x40000000#32 = num 2 ∧ lit 0x40400000#32 = num 3
    ∧ lit 0x40800000#32 = num 4 ∧ lit 0x40A00000#32 = num 5 ∧ lit 0x40C00000#32 = num 6 ∧ lit 0x40E00000#32 = num 7 := by
  refine ⟨?_, ?_, ?_, ?_, ?_, ?_, ?_, ?_⟩
  all_goals
    simp [num, lit, Ideal.ofBits, Ideal.ieee, -EReal.coe_mul]
    try norm_num

namespace Chunk

variable (L : Chunk) (i : S16x256.Idx)

/-- The column of errors of an entry, and its threshold. -/
def col : Fin 8 → EReal := fun a => L.b a (back i) - L.t a (back i)
def bar : EReal := Cert.Group.sig (L.thr i)

/-- The column in ascending order and where each number came from. -/
theorem sorted : (∀ k : Fin 8, (![(L.v192 i : EReal), (L.v246 i : EReal), (L.v247 i : EReal), (L.v255 i : EReal), (L.v256 i : EReal), (L.v264 i : EReal), (L.v265 i : EReal), (L.v220 i : EReal)] : Fin 8 → EReal) k = L.col i (order (L.col i) k)) ∧ ∀ k : Fin 8, (![(L.v194 i : EReal), (L.v248 i : EReal), (L.v249 i : EReal), (L.v257 i : EReal), (L.v258 i : EReal), (L.v266 i : EReal), (L.v267 i : EReal), (L.v222 i : EReal)] : Fin 8 → EReal) k = num (order (L.col i) k) :=
  sorted_steps (L.col i)
    (x0 := (L.v72 i : EReal)) (x1 := (L.v73 i : EReal)) (x2 := (L.v74 i : EReal)) (x3 := (L.v75 i : EReal)) (x4 := (L.v76 i : EReal)) (x5 := (L.v77 i : EReal)) (x6 := (L.v78 i : EReal)) (x7 := (L.v79 i : EReal))
    (i0 := (L.v89 i : EReal)) (i1 := (L.v90 i : EReal)) (i2 := (L.v91 i : EReal)) (i3 := (L.v92 i : EReal)) (i4 := (L.v93 i : EReal)) (i5 := (L.v94 i : EReal)) (i6 := (L.v95 i : EReal)) (i7 := (L.v96 i : EReal))
    (l0 := (L.v102 i : EReal)) (u0 := (L.v103 i : EReal)) (m0 := (L.v104 i : EReal)) (n0 := (L.v105 i : EReal))
    (l1 := (L.v111 i : EReal)) (u1 := (L.v112 i : EReal)) (m1 := (L.v113 i : EReal)) (n1 := (L.v114 i : EReal))
    (l2 := (L.v120 i : EReal)) (u2 := (L.v121 i : EReal)) (m2 := (L.v122 i : EReal)) (n2 := (L.v123 i : EReal))
    (l3 := (L.v129 i : EReal)) (u3 := (L.v130 i : EReal)) (m3 := (L.v131 i : EReal)) (n3 := (L.v132 i : EReal))
    (l4 := (L.v138 i : EReal)) (u4 := (L.v139 i : EReal)) (m4 := (L.v140 i : EReal)) (n4 := (L.v141 i : EReal))
    (l5 := (L.v147 i : EReal)) (u5 := (L.v148 i : EReal)) (m5 := (L.v149 i : EReal)) (n5 := (L.v150 i : EReal))
    (l6 := (L.v156 i : EReal)) (u6 := (L.v157 i : EReal)) (m6 := (L.v158 i : EReal)) (n6 := (L.v159 i : EReal))
    (l7 := (L.v165 i : EReal)) (u7 := (L.v166 i : EReal)) (m7 := (L.v167 i : EReal)) (n7 := (L.v168 i : EReal))
    (l8 := (L.v174 i : EReal)) (u8 := (L.v175 i : EReal)) (m8 := (L.v176 i : EReal)) (n8 := (L.v177 i : EReal))
    (l9 := (L.v183 i : EReal)) (u9 := (L.v184 i : EReal)) (m9 := (L.v185 i : EReal)) (n9 := (L.v186 i : EReal))
    (l10 := (L.v192 i : EReal)) (u10 := (L.v193 i : EReal)) (m10 := (L.v194 i : EReal)) (n10 := (L.v195 i : EReal))
    (l11 := (L.v201 i : EReal)) (u11 := (L.v202 i : EReal)) (m11 := (L.v203 i : EReal)) (n11 := (L.v204 i : EReal))
    (l12 := (L.v210 i : EReal)) (u12 := (L.v211 i : EReal)) (m12 := (L.v212 i : EReal)) (n12 := (L.v213 i : EReal))
    (l13 := (L.v219 i : EReal)) (u13 := (L.v220 i : EReal)) (m13 := (L.v221 i : EReal)) (n13 := (L.v222 i : EReal))
    (l14 := (L.v228 i : EReal)) (u14 := (L.v229 i : EReal)) (m14 := (L.v230 i : EReal)) (n14 := (L.v231 i : EReal))
    (l15 := (L.v237 i : EReal)) (u15 := (L.v238 i : EReal)) (m15 := (L.v239 i : EReal)) (n15 := (L.v240 i : EReal))
    (l16 := (L.v246 i : EReal)) (u16 := (L.v247 i : EReal)) (m16 := (L.v248 i : EReal)) (n16 := (L.v249 i : EReal))
    (l17 := (L.v255 i : EReal)) (u17 := (L.v256 i : EReal)) (m17 := (L.v257 i : EReal)) (n17 := (L.v258 i : EReal))
    (l18 := (L.v264 i : EReal)) (u18 := (L.v265 i : EReal)) (m18 := (L.v266 i : EReal)) (n18 := (L.v267 i : EReal))
    rfl rfl rfl rfl rfl rfl rfl rfl
    num_words.1 num_words.2.1 num_words.2.2.1 num_words.2.2.2.1 num_words.2.2.2.2.1 num_words.2.2.2.2.2.1 num_words.2.2.2.2.2.2.1 num_words.2.2.2.2.2.2.2
    rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl

/-- The threshold. -/
theorem bar_eq : (L.v88 i : EReal) = L.bar i := sig_tanh (L.thr i)

/-- The running sums of the splits. -/
theorem running (hg : L.gap ≠ (0 : EReal)) : ∀ k : Fin 8, (![(L.v269 i : EReal), (L.v283 i : EReal), (L.v297 i : EReal), (L.v311 i : EReal), (L.v325 i : EReal), (L.v339 i : EReal), (L.v353 i : EReal), (L.v367 i : EReal)] : Fin 8 → EReal) k = splits (L.col i) (L.bar i) L.gap k :=
  splits_steps (v := L.col i) (th := L.bar i) (g := L.gap) (rg := (L.v268 : EReal)) hg
    (congrArg (fun x : EReal => Ideal.div x L.gap) lit1) (L.sorted i).1 rfl
    (by rw [← bar_eq]; rfl) (by rw [← bar_eq]; rfl) (by rw [← bar_eq]; rfl) (by rw [← bar_eq]; rfl) (by rw [← bar_eq]; rfl) (by rw [← bar_eq]; rfl) (by rw [← bar_eq]; rfl)

/-- The sums are real. -/
theorem real (k : Fin 8) : ∃ r : ℝ, splits (L.col i) (L.bar i) L.gap k = (r : EReal) := splits_real _ _ _ k

/-- The mean of cluster 0. -/
theorem mean0 (hg : L.gap ≠ (0 : EReal)) : (L.v474 i : EReal) = mean (fun a => L.col i (order (L.col i) a)) (splits (L.col i) (L.bar i) L.gap) 0 :=
  mean_steps 0 (L.real i) (L.sorted i).1 (L.running i hg) cut_eq (mu := lit 0x00000000#32) rfl
    (m0 := L.v378 i) (m1 := L.v387 i) (m2 := L.v396 i) (m3 := L.v405 i) (m4 := L.v414 i) (m5 := L.v423 i) (m6 := L.v432 i) (m7 := L.v441 i)
    rfl rfl rfl rfl rfl rfl rfl rfl rfl

/-- The mean of cluster 1. -/
theorem mean1 (hg : L.gap ≠ (0 : EReal)) : (L.v595 i : EReal) = mean (fun a => L.col i (order (L.col i) a)) (splits (L.col i) (L.bar i) L.gap) 1 :=
  mean_steps 1 (L.real i) (L.sorted i).1 (L.running i hg) cut_eq (mu := lit 0x3F800000#32) rfl
    (m0 := L.v499 i) (m1 := L.v508 i) (m2 := L.v517 i) (m3 := L.v526 i) (m4 := L.v535 i) (m5 := L.v544 i) (m6 := L.v553 i) (m7 := L.v562 i)
    rfl rfl rfl rfl rfl rfl rfl rfl rfl

/-- The mean of cluster 2. -/
theorem mean2 (hg : L.gap ≠ (0 : EReal)) : (L.v716 i : EReal) = mean (fun a => L.col i (order (L.col i) a)) (splits (L.col i) (L.bar i) L.gap) 2 :=
  mean_steps 2 (L.real i) (L.sorted i).1 (L.running i hg) cut_eq (mu := lit 0x40000000#32) rfl
    (m0 := L.v620 i) (m1 := L.v629 i) (m2 := L.v638 i) (m3 := L.v647 i) (m4 := L.v656 i) (m5 := L.v665 i) (m6 := L.v674 i) (m7 := L.v683 i)
    rfl rfl rfl rfl rfl rfl rfl rfl rfl

/-- The mean of cluster 3. -/
theorem mean3 (hg : L.gap ≠ (0 : EReal)) : (L.v837 i : EReal) = mean (fun a => L.col i (order (L.col i) a)) (splits (L.col i) (L.bar i) L.gap) 3 :=
  mean_steps 3 (L.real i) (L.sorted i).1 (L.running i hg) cut_eq (mu := lit 0x40400000#32) rfl
    (m0 := L.v741 i) (m1 := L.v750 i) (m2 := L.v759 i) (m3 := L.v768 i) (m4 := L.v777 i) (m5 := L.v786 i) (m6 := L.v795 i) (m7 := L.v804 i)
    rfl rfl rfl rfl rfl rfl rfl rfl rfl

/-- The mean of the cluster the number at place 0 belongs to. -/
theorem grouped0 (hg : L.gap ≠ (0 : EReal)) : (L.v839 i : EReal) = grouped (fun a => L.col i (order (L.col i) a)) (splits (L.col i) (L.bar i) L.gap) 0 :=
  grouped_steps 0 (L.real i) (L.running i hg 0) cut_eq
    (n0 := lit 0x00000000#32) (n1 := lit 0x3F800000#32) (n2 := lit 0x40000000#32) (n3 := lit 0x40400000#32) rfl rfl rfl rfl
    (L.mean0 i hg) (L.mean1 i hg) (L.mean2 i hg) (L.mean3 i hg)
    (m0 := L.v378 i) (m1 := L.v499 i) (m2 := L.v620 i) (m3 := L.v741 i) (w1 := (L.v476 i : EReal)) (w2 := (L.v597 i : EReal)) (w3 := (L.v718 i : EReal))
    rfl rfl rfl rfl rfl rfl rfl rfl

/-- The mean of the cluster the number at place 1 belongs to. -/
theorem grouped1 (hg : L.gap ≠ (0 : EReal)) : (L.v841 i : EReal) = grouped (fun a => L.col i (order (L.col i) a)) (splits (L.col i) (L.bar i) L.gap) 1 :=
  grouped_steps 1 (L.real i) (L.running i hg 1) cut_eq
    (n0 := lit 0x00000000#32) (n1 := lit 0x3F800000#32) (n2 := lit 0x40000000#32) (n3 := lit 0x40400000#32) rfl rfl rfl rfl
    (L.mean0 i hg) (L.mean1 i hg) (L.mean2 i hg) (L.mean3 i hg)
    (m0 := L.v387 i) (m1 := L.v508 i) (m2 := L.v629 i) (m3 := L.v750 i) (w1 := (L.v478 i : EReal)) (w2 := (L.v599 i : EReal)) (w3 := (L.v720 i : EReal))
    rfl rfl rfl rfl rfl rfl rfl rfl

/-- The mean of the cluster the number at place 2 belongs to. -/
theorem grouped2 (hg : L.gap ≠ (0 : EReal)) : (L.v843 i : EReal) = grouped (fun a => L.col i (order (L.col i) a)) (splits (L.col i) (L.bar i) L.gap) 2 :=
  grouped_steps 2 (L.real i) (L.running i hg 2) cut_eq
    (n0 := lit 0x00000000#32) (n1 := lit 0x3F800000#32) (n2 := lit 0x40000000#32) (n3 := lit 0x40400000#32) rfl rfl rfl rfl
    (L.mean0 i hg) (L.mean1 i hg) (L.mean2 i hg) (L.mean3 i hg)
    (m0 := L.v396 i) (m1 := L.v517 i) (m2 := L.v638 i) (m3 := L.v759 i) (w1 := (L.v480 i : EReal)) (w2 := (L.v601 i : EReal)) (w3 := (L.v722 i : EReal))
    rfl rfl rfl rfl rfl rfl rfl rfl

/-- The mean of the cluster the number at place 3 belongs to. -/
theorem grouped3 (hg : L.gap ≠ (0 : EReal)) : (L.v845 i : EReal) = grouped (fun a => L.col i (order (L.col i) a)) (splits (L.col i) (L.bar i) L.gap) 3 :=
  grouped_steps 3 (L.real i) (L.running i hg 3) cut_eq
    (n0 := lit 0x00000000#32) (n1 := lit 0x3F800000#32) (n2 := lit 0x40000000#32) (n3 := lit 0x40400000#32) rfl rfl rfl rfl
    (L.mean0 i hg) (L.mean1 i hg) (L.mean2 i hg) (L.mean3 i hg)
    (m0 := L.v405 i) (m1 := L.v526 i) (m2 := L.v647 i) (m3 := L.v768 i) (w1 := (L.v482 i : EReal)) (w2 := (L.v603 i : EReal)) (w3 := (L.v724 i : EReal))
    rfl rfl rfl rfl rfl rfl rfl rfl

/-- The mean of the cluster the number at place 4 belongs to. -/
theorem grouped4 (hg : L.gap ≠ (0 : EReal)) : (L.v847 i : EReal) = grouped (fun a => L.col i (order (L.col i) a)) (splits (L.col i) (L.bar i) L.gap) 4 :=
  grouped_steps 4 (L.real i) (L.running i hg 4) cut_eq
    (n0 := lit 0x00000000#32) (n1 := lit 0x3F800000#32) (n2 := lit 0x40000000#32) (n3 := lit 0x40400000#32) rfl rfl rfl rfl
    (L.mean0 i hg) (L.mean1 i hg) (L.mean2 i hg) (L.mean3 i hg)
    (m0 := L.v414 i) (m1 := L.v535 i) (m2 := L.v656 i) (m3 := L.v777 i) (w1 := (L.v484 i : EReal)) (w2 := (L.v605 i : EReal)) (w3 := (L.v726 i : EReal))
    rfl rfl rfl rfl rfl rfl rfl rfl

/-- The mean of the cluster the number at place 5 belongs to. -/
theorem grouped5 (hg : L.gap ≠ (0 : EReal)) : (L.v849 i : EReal) = grouped (fun a => L.col i (order (L.col i) a)) (splits (L.col i) (L.bar i) L.gap) 5 :=
  grouped_steps 5 (L.real i) (L.running i hg 5) cut_eq
    (n0 := lit 0x00000000#32) (n1 := lit 0x3F800000#32) (n2 := lit 0x40000000#32) (n3 := lit 0x40400000#32) rfl rfl rfl rfl
    (L.mean0 i hg) (L.mean1 i hg) (L.mean2 i hg) (L.mean3 i hg)
    (m0 := L.v423 i) (m1 := L.v544 i) (m2 := L.v665 i) (m3 := L.v786 i) (w1 := (L.v486 i : EReal)) (w2 := (L.v607 i : EReal)) (w3 := (L.v728 i : EReal))
    rfl rfl rfl rfl rfl rfl rfl rfl

/-- The mean of the cluster the number at place 6 belongs to. -/
theorem grouped6 (hg : L.gap ≠ (0 : EReal)) : (L.v851 i : EReal) = grouped (fun a => L.col i (order (L.col i) a)) (splits (L.col i) (L.bar i) L.gap) 6 :=
  grouped_steps 6 (L.real i) (L.running i hg 6) cut_eq
    (n0 := lit 0x00000000#32) (n1 := lit 0x3F800000#32) (n2 := lit 0x40000000#32) (n3 := lit 0x40400000#32) rfl rfl rfl rfl
    (L.mean0 i hg) (L.mean1 i hg) (L.mean2 i hg) (L.mean3 i hg)
    (m0 := L.v432 i) (m1 := L.v553 i) (m2 := L.v674 i) (m3 := L.v795 i) (w1 := (L.v488 i : EReal)) (w2 := (L.v609 i : EReal)) (w3 := (L.v730 i : EReal))
    rfl rfl rfl rfl rfl rfl rfl rfl

/-- The mean of the cluster the number at place 7 belongs to. -/
theorem grouped7 (hg : L.gap ≠ (0 : EReal)) : (L.v853 i : EReal) = grouped (fun a => L.col i (order (L.col i) a)) (splits (L.col i) (L.bar i) L.gap) 7 :=
  grouped_steps 7 (L.real i) (L.running i hg 7) cut_eq
    (n0 := lit 0x00000000#32) (n1 := lit 0x3F800000#32) (n2 := lit 0x40000000#32) (n3 := lit 0x40400000#32) rfl rfl rfl rfl
    (L.mean0 i hg) (L.mean1 i hg) (L.mean2 i hg) (L.mean3 i hg)
    (m0 := L.v441 i) (m1 := L.v562 i) (m2 := L.v683 i) (m3 := L.v804 i) (w1 := (L.v490 i : EReal)) (w2 := (L.v611 i : EReal)) (w3 := (L.v732 i : EReal))
    rfl rfl rfl rfl rfl rfl rfl rfl

/-- They are these of all the places. -/
theorem groupedAll (hg : L.gap ≠ (0 : EReal)) : ∀ k : Fin 8, (![(L.v839 i : EReal), (L.v841 i : EReal), (L.v843 i : EReal), (L.v845 i : EReal), (L.v847 i : EReal), (L.v849 i : EReal), (L.v851 i : EReal), (L.v853 i : EReal)] : Fin 8 → EReal) k
    = grouped (fun a => L.col i (order (L.col i) a)) (splits (L.col i) (L.bar i) L.gap) k := by
  intro k
  fin_cases k
  · exact L.grouped0 i hg
  · exact L.grouped1 i hg
  · exact L.grouped2 i hg
  · exact L.grouped3 i hg
  · exact L.grouped4 i hg
  · exact L.grouped5 i hg
  · exact L.grouped6 i hg
  · exact L.grouped7 i hg

/-- What is stored of a row: the total with the step times the quantised mean. -/
def stored (t bit : FVec Ideal S16x256 .f32) : FVec Ideal S1x16x256 .bf16 :=
  shapeCast S1x16x256 (truncf .bf16 (addf t (mulf (broadcast S16x256 L.step) bit)) bitsLt_bf16_f32) shapeCasts_S16x256_S1x16x256

/-- The entry of the chunk that a stored entry is. -/
def there (j : S1x16x256.Idx) : S16x256.Idx := Shape.reshapeEquiv shapeCasts_S16x256_S1x16x256 j

theorem back_there (j : S1x16x256.Idx) : back (there j) = j :=
  (Shape.reshapeEquiv_reshapeEquiv _ _ j).trans (Shape.reshapeEquiv_self _ j)

/-- Row 0 is stored with its second level. -/
theorem row0 (hg : L.gap ≠ (0 : EReal)) (j : S1x16x256.Idx) : (L.stored L.v50 L.v900 j : EReal)
    = level (L.col (there j)) (L.bar (there j)) L.gap L.step (L.t 0 j) 0 :=
  level_steps (s := L.step) (t := L.t 0 j) (n := lit 0x00000000#32) (rs := (L.v854 : EReal)) (b := (L.v900 (there j) : EReal)) 0
    num_words.1 (L.sorted (there j)).2 (L.groupedAll (there j) hg)
    (congrArg (fun x : EReal => Ideal.div x L.step) lit1) rfl
    (congrArg (fun x => (L.t 0 x + L.step * L.v900 (there j) : EReal)) (back_there j))

/-- Row 1 is stored with its second level. -/
theorem row1 (hg : L.gap ≠ (0 : EReal)) (j : S1x16x256.Idx) : (L.stored L.v53 L.v946 j : EReal)
    = level (L.col (there j)) (L.bar (there j)) L.gap L.step (L.t 1 j) 1 :=
  level_steps (s := L.step) (t := L.t 1 j) (n := lit 0x3F800000#32) (rs := (L.v854 : EReal)) (b := (L.v946 (there j) : EReal)) 1
    num_words.2.1 (L.sorted (there j)).2 (L.groupedAll (there j) hg)
    (congrArg (fun x : EReal => Ideal.div x L.step) lit1) rfl
    (congrArg (fun x => (L.t 1 x + L.step * L.v946 (there j) : EReal)) (back_there j))

/-- Row 2 is stored with its second level. -/
theorem row2 (hg : L.gap ≠ (0 : EReal)) (j : S1x16x256.Idx) : (L.stored L.v56 L.v992 j : EReal)
    = level (L.col (there j)) (L.bar (there j)) L.gap L.step (L.t 2 j) 2 :=
  level_steps (s := L.step) (t := L.t 2 j) (n := lit 0x40000000#32) (rs := (L.v854 : EReal)) (b := (L.v992 (there j) : EReal)) 2
    num_words.2.2.1 (L.sorted (there j)).2 (L.groupedAll (there j) hg)
    (congrArg (fun x : EReal => Ideal.div x L.step) lit1) rfl
    (congrArg (fun x => (L.t 2 x + L.step * L.v992 (there j) : EReal)) (back_there j))

/-- Row 3 is stored with its second level. -/
theorem row3 (hg : L.gap ≠ (0 : EReal)) (j : S1x16x256.Idx) : (L.stored L.v59 L.v1038 j : EReal)
    = level (L.col (there j)) (L.bar (there j)) L.gap L.step (L.t 3 j) 3 :=
  level_steps (s := L.step) (t := L.t 3 j) (n := lit 0x40400000#32) (rs := (L.v854 : EReal)) (b := (L.v1038 (there j) : EReal)) 3
    num_words.2.2.2.1 (L.sorted (there j)).2 (L.groupedAll (there j) hg)
    (congrArg (fun x : EReal => Ideal.div x L.step) lit1) rfl
    (congrArg (fun x => (L.t 3 x + L.step * L.v1038 (there j) : EReal)) (back_there j))

/-- Row 4 is stored with its second level. -/
theorem row4 (hg : L.gap ≠ (0 : EReal)) (j : S1x16x256.Idx) : (L.stored L.v62 L.v1084 j : EReal)
    = level (L.col (there j)) (L.bar (there j)) L.gap L.step (L.t 4 j) 4 :=
  level_steps (s := L.step) (t := L.t 4 j) (n := lit 0x40800000#32) (rs := (L.v854 : EReal)) (b := (L.v1084 (there j) : EReal)) 4
    num_words.2.2.2.2.1 (L.sorted (there j)).2 (L.groupedAll (there j) hg)
    (congrArg (fun x : EReal => Ideal.div x L.step) lit1) rfl
    (congrArg (fun x => (L.t 4 x + L.step * L.v1084 (there j) : EReal)) (back_there j))

/-- Row 5 is stored with its second level. -/
theorem row5 (hg : L.gap ≠ (0 : EReal)) (j : S1x16x256.Idx) : (L.stored L.v65 L.v1130 j : EReal)
    = level (L.col (there j)) (L.bar (there j)) L.gap L.step (L.t 5 j) 5 :=
  level_steps (s := L.step) (t := L.t 5 j) (n := lit 0x40A00000#32) (rs := (L.v854 : EReal)) (b := (L.v1130 (there j) : EReal)) 5
    num_words.2.2.2.2.2.1 (L.sorted (there j)).2 (L.groupedAll (there j) hg)
    (congrArg (fun x : EReal => Ideal.div x L.step) lit1) rfl
    (congrArg (fun x => (L.t 5 x + L.step * L.v1130 (there j) : EReal)) (back_there j))

/-- Row 6 is stored with its second level. -/
theorem row6 (hg : L.gap ≠ (0 : EReal)) (j : S1x16x256.Idx) : (L.stored L.v68 L.v1176 j : EReal)
    = level (L.col (there j)) (L.bar (there j)) L.gap L.step (L.t 6 j) 6 :=
  level_steps (s := L.step) (t := L.t 6 j) (n := lit 0x40C00000#32) (rs := (L.v854 : EReal)) (b := (L.v1176 (there j) : EReal)) 6
    num_words.2.2.2.2.2.2.1 (L.sorted (there j)).2 (L.groupedAll (there j) hg)
    (congrArg (fun x : EReal => Ideal.div x L.step) lit1) rfl
    (congrArg (fun x => (L.t 6 x + L.step * L.v1176 (there j) : EReal)) (back_there j))

/-- Row 7 is stored with its second level. -/
theorem row7 (hg : L.gap ≠ (0 : EReal)) (j : S1x16x256.Idx) : (L.stored L.v71 L.v1222 j : EReal)
    = level (L.col (there j)) (L.bar (there j)) L.gap L.step (L.t 7 j) 7 :=
  level_steps (s := L.step) (t := L.t 7 j) (n := lit 0x40E00000#32) (rs := (L.v854 : EReal)) (b := (L.v1222 (there j) : EReal)) 7
    num_words.2.2.2.2.2.2.2 (L.sorted (there j)).2 (L.groupedAll (there j) hg)
    (congrArg (fun x : EReal => Ideal.div x L.step) lit1) rfl
    (congrArg (fun x => (L.t 7 x + L.step * L.v1222 (there j) : EReal)) (back_there j))

end Chunk

end Cert.Kernel4Ideal.Group

end
-- ==== Proof.GroupPieces.lean ====
/-
  What one trip of the second level's quantiser reads.
-/
module

public import proofs.«01_k».proof.Proof.Gen.Kernel4Ideal.Loops
public import proofs.«01_k».proof.Proof.GroupChunk

@[expose] public section

set_option maxRecDepth 65536

noncomputable section

open Idealize.ShloMosaic Idealize.ShloMosaic.TcCoe Idealize.SL.Sem

namespace Cert.Kernel4Ideal.Group

open Cert.Kernel4Ideal Cert.Kernel4Ideal.Gen
open Cert.Group (level)

/-- Where in a block an entry of chunk `n` of slice `a` lies, -/
def at3 (a : Fin 8) (n : ℕ) (j : S1x16x256.Idx) : S8x256x256.Idx :=
  ValueIdx.ix3 a ⟨(16 * n + (j 1).val) % 256, Nat.mod_lt _ (by decide)⟩ (j 2)
/-- and where its threshold lies. -/
def at2 (n : ℕ) (i : S16x256.Idx) : S256x256.Idx :=
  ValueIdx.ix2 ⟨(16 * n + (i 0).val) % 256, Nat.mod_lt _ (by decide)⟩ (i 1)

/-- Chunk `n` of a block of weights, totals and thresholds. -/
def chunk (x t : FVec Ideal S8x256x256 .f32) (th : FVec Ideal S256x256 .f32) (s g : Ideal .f32) (n : ℕ) : Chunk :=
  ⟨fun a j => x (at3 a n j), fun a j => t (at3 a n j), fun i => th (at2 n i), s, g⟩

/-- A chunk read is the chunk. -/
theorem read3 {arg : Memref sig .tc .vmem S8x256x256 .f32} (harg : arg.IsWhole) (x : FVec Ideal S8x256x256 .f32)
    (o : Fin 3 → ℕ) (a : Fin 8) (n : ℕ) (ho : o = ![a.val, 16 * n, 0]) (hn : n < 16)
    (inb : ∀ b, o b + S1x16x256.size b ≤ S8x256x256.size b) :
    View.readAt (Elt Ideal) arg.view (Rect.unit (s := S8x256x256) o S1x16x256.size inb).toLoadRect (harg.unread x) = fun j => x (at3 a n j) := by
  subst ho
  funext y
  refine (congrFun (harg.read_unread (Val := Elt Ideal) x) _).trans ?_
  refine congrArg x (funext fun b => Fin.ext ?_)
  have h0 : (y 0).val < 1 := (y 0).isLt
  have h1 : (y 1).val < 16 := (y 1).isLt
  match b with
  | ⟨0, _⟩ => show a.val + 1 * (y 0).val = a.val; omega
  | ⟨1, _⟩ => show 16 * n + 1 * (y 1).val = (16 * n + (y 1).val) % 256; omega
  | ⟨2, _⟩ => show 0 + 1 * (y 2).val = (y 2).val; omega

/-- So is a chunk of thresholds. -/
theorem read2 {arg : Memref sig .tc .vmem S256x256 .f32} (harg : arg.IsWhole) (x : FVec Ideal S256x256 .f32)
    (o : Fin 2 → ℕ) (n : ℕ) (ho : o = ![16 * n, 0]) (hn : n < 16)
    (inb : ∀ b, o b + S16x256.size b ≤ S256x256.size b) :
    View.readAt (Elt Ideal) arg.view (Rect.unit (s := S256x256) o S16x256.size inb).toLoadRect (harg.unread x) = fun i => x (at2 n i) := by
  subst ho
  funext y
  refine (congrFun (harg.read_unread (Val := Elt Ideal) x) _).trans ?_
  refine congrArg x (funext fun b => Fin.ext ?_)
  have h0 : (y 0).val < 16 := (y 0).isLt
  match b with
  | ⟨0, _⟩ => show 16 * n + 1 * (y 0).val = (16 * n + (y 0).val) % 256; omega
  | ⟨1, _⟩ => show 0 + 1 * (y 1).val = (y 1).val; omega

end Cert.Kernel4Ideal.Group

end
-- ==== Proof.GroupTripK.lean ====
/-
  Every value a trip over a block of `K` computes is the chunk's, and so are the eight chunks it stores.
-/
module

public import proofs.«01_k».proof.Proof.GroupPieces

@[expose] public section

set_option maxRecDepth 65536

noncomputable section

open Idealize.ShloMosaic Idealize.ShloMosaic.TcCoe Idealize.SL.Sem

namespace Cert.Kernel4Ideal.Group

open Cert.Kernel4Ideal Cert.Kernel4Ideal.Gen Cert.Kernel4Ideal.Gen.trip_k0_t1

/-- A trip over a block of `K`: where it is, what it reads from and what lies there. -/
structure TripK where
  i : grid0.Coords
  w : Memref sig .tc .vmem S8x256x256 .f32
  hw : w.IsWhole
  u : Memref sig .tc .vmem S8x256x256 .f32
  hu : u.IsWhole
  r : Memref sig .tc .vmem S256x256 .f32
  hr : r.IsWhole
  h : k0_cond1 i = 1#1
  x : FVec Ideal S8x256x256 .f32
  t : FVec Ideal S8x256x256 .f32
  th : FVec Ideal S256x256 .f32
  a1 : Ideal .f32
  a2 : Ideal .f32
  a5 : Ideal .f32
  a6 : Ideal .f32
  g1 : Ideal .f32
  g2 : Ideal .f32
  k : Fin k0_t1_loop.trips

namespace TripK

variable (q : TripK)

/-- What lies there, as the memory has it. -/
abbrev X := q.hw.unread (Val := Elt Ideal) q.x
abbrev T := q.hu.unread (Val := Elt Ideal) q.t
abbrev H := q.hr.unread (Val := Elt Ideal) q.th

/-- What the trip reads, -/
def L : Chunk :=
  ⟨![View.readAt (Elt Ideal) q.w.view (Rect.unit (s := S8x256x256) (k0_off1 q.k) S1x16x256.size (k0_off1_inb q.i q.k q.h)).toLoadRect q.X,
     View.readAt (Elt Ideal) q.w.view (Rect.unit (s := S8x256x256) (k0_off2 q.k) S1x16x256.size (k0_off2_inb q.i q.k q.h)).toLoadRect q.X,
     View.readAt (Elt Ideal) q.w.view (Rect.unit (s := S8x256x256) (k0_off3 q.k) S1x16x256.size (k0_off3_inb q.i q.k q.h)).toLoadRect q.X,
     View.readAt (Elt Ideal) q.w.view (Rect.unit (s := S8x256x256) (k0_off4 q.k) S1x16x256.size (k0_off4_inb q.i q.k q.h)).toLoadRect q.X,
     View.readAt (Elt Ideal) q.w.view (Rect.unit (s := S8x256x256) (k0_off5 q.k) S1x16x256.size (k0_off5_inb q.i q.k q.h)).toLoadRect q.X,
     View.readAt (Elt Ideal) q.w.view (Rect.unit (s := S8x256x256) (k0_off6 q.k) S1x16x256.size (k0_off6_inb q.i q.k q.h)).toLoadRect q.X,
     View.readAt (Elt Ideal) q.w.view (Rect.unit (s := S8x256x256) (k0_off7 q.k) S1x16x256.size (k0_off7_inb q.i q.k q.h)).toLoadRect q.X,
     View.readAt (Elt Ideal) q.w.view (Rect.unit (s := S8x256x256) (k0_off8 q.k) S1x16x256.size (k0_off8_inb q.i q.k q.h)).toLoadRect q.X],
   ![View.readAt (Elt Ideal) q.u.view (Rect.unit (s := S8x256x256) (k0_off1 q.k) S1x16x256.size (k0_off1_inb q.i q.k q.h)).toLoadRect q.T,
     View.readAt (Elt Ideal) q.u.view (Rect.unit (s := S8x256x256) (k0_off2 q.k) S1x16x256.size (k0_off2_inb q.i q.k q.h)).toLoadRect q.T,
     View.readAt (Elt Ideal) q.u.view (Rect.unit (s := S8x256x256) (k0_off3 q.k) S1x16x256.size (k0_off3_inb q.i q.k q.h)).toLoadRect q.T,
     View.readAt (Elt Ideal) q.u.view (Rect.unit (s := S8x256x256) (k0_off4 q.k) S1x16x256.size (k0_off4_inb q.i q.k q.h)).toLoadRect q.T,
     View.readAt (Elt Ideal) q.u.view (Rect.unit (s := S8x256x256) (k0_off5 q.k) S1x16x256.size (k0_off5_inb q.i q.k q.h)).toLoadRect q.T,
     View.readAt (Elt Ideal) q.u.view (Rect.unit (s := S8x256x256) (k0_off6 q.k) S1x16x256.size (k0_off6_inb q.i q.k q.h)).toLoadRect q.T,
     View.readAt (Elt Ideal) q.u.view (Rect.unit (s := S8x256x256) (k0_off7 q.k) S1x16x256.size (k0_off7_inb q.i q.k q.h)).toLoadRect q.T,
     View.readAt (Elt Ideal) q.u.view (Rect.unit (s := S8x256x256) (k0_off8 q.k) S1x16x256.size (k0_off8_inb q.i q.k q.h)).toLoadRect q.T],
   View.readAt (Elt Ideal) q.r.view (Rect.unit (s := S256x256) (k0_off9 q.k) S16x256.size (k0_off9_inb q.i q.k q.h)).toLoadRect q.H, k0_pay1 (F := Ideal) q.i q.a1 q.a2 q.a5 q.a6, k0_pay2 (F := Ideal) q.i q.g1 q.g2⟩

theorem trips : k0_t1_loop.trips = 16 := by decide +kernel

/-- which is the chunk. -/
theorem L_eq : q.L = chunk q.x q.t q.th (k0_pay1 (F := Ideal) q.i q.a1 q.a2 q.a5 q.a6) (k0_pay2 (F := Ideal) q.i q.g1 q.g2) q.k.val := by
  have hk : q.k.val < 16 := lt_of_lt_of_eq q.k.isLt trips
  unfold L chunk
  congr 1
  · funext a
    match a with
    | ⟨0, _⟩ => exact read3 q.hw q.x _ 0 q.k.val (k0_off1_eq q.k) hk _
    | ⟨1, _⟩ => exact read3 q.hw q.x _ 1 q.k.val (k0_off2_eq q.k) hk _
    | ⟨2, _⟩ => exact read3 q.hw q.x _ 2 q.k.val (k0_off3_eq q.k) hk _
    | ⟨3, _⟩ => exact read3 q.hw q.x _ 3 q.k.val (k0_off4_eq q.k) hk _
    | ⟨4, _⟩ => exact read3 q.hw q.x _ 4 q.k.val (k0_off5_eq q.k) hk _
    | ⟨5, _⟩ => exact read3 q.hw q.x _ 5 q.k.val (k0_off6_eq q.k) hk _
    | ⟨6, _⟩ => exact read3 q.hw q.x _ 6 q.k.val (k0_off7_eq q.k) hk _
    | ⟨7, _⟩ => exact read3 q.hw q.x _ 7 q.k.val (k0_off8_eq q.k) hk _
  · funext a
    match a with
    | ⟨0, _⟩ => exact read3 q.hu q.t _ 0 q.k.val (k0_off1_eq q.k) hk _
    | ⟨1, _⟩ => exact read3 q.hu q.t _ 1 q.k.val (k0_off2_eq q.k) hk _
    | ⟨2, _⟩ => exact read3 q.hu q.t _ 2 q.k.val (k0_off3_eq q.k) hk _
    | ⟨3, _⟩ => exact read3 q.hu q.t _ 3 q.k.val (k0_off4_eq q.k) hk _
    | ⟨4, _⟩ => exact read3 q.hu q.t _ 4 q.k.val (k0_off5_eq q.k) hk _
    | ⟨5, _⟩ => exact read3 q.hu q.t _ 5 q.k.val (k0_off6_eq q.k) hk _
    | ⟨6, _⟩ => exact read3 q.hu q.t _ 6 q.k.val (k0_off7_eq q.k) hk _
    | ⟨7, _⟩ => exact read3 q.hu q.t _ 7 q.k.val (k0_off8_eq q.k) hk _
  · exact read2 q.hr q.th _ q.k.val (k0_off9_eq q.k) hk _

/-! Value by value, over the ones before it. -/

theorem e26 : sl.v26 (F := Ideal) q.i q.w q.h q.X q.k = q.L.v26 := by
  unfold Chunk.v26; rfl
theorem e29 : sl.v29 (F := Ideal) q.i q.w q.h q.X q.k = q.L.v29 := by
  unfold Chunk.v29; rfl
theorem e32 : sl.v32 (F := Ideal) q.i q.w q.h q.X q.k = q.L.v32 := by
  unfold Chunk.v32; rfl
theorem e35 : sl.v35 (F := Ideal) q.i q.w q.h q.X q.k = q.L.v35 := by
  unfold Chunk.v35; rfl
theorem e38 : sl.v38 (F := Ideal) q.i q.w q.h q.X q.k = q.L.v38 := by
  unfold Chunk.v38; rfl
theorem e41 : sl.v41 (F := Ideal) q.i q.w q.h q.X q.k = q.L.v41 := by
  unfold Chunk.v41; rfl
theorem e44 : sl.v44 (F := Ideal) q.i q.w q.h q.X q.k = q.L.v44 := by
  unfold Chunk.v44; rfl
theorem e47 : sl.v47 (F := Ideal) q.i q.w q.h q.X q.k = q.L.v47 := by
  unfold Chunk.v47; rfl
theorem e50 : sl.v50 (F := Ideal) q.i q.u q.h q.T q.k = q.L.v50 := by
  unfold Chunk.v50; rfl
theorem e53 : sl.v53 (F := Ideal) q.i q.u q.h q.T q.k = q.L.v53 := by
  unfold Chunk.v53; rfl
theorem e56 : sl.v56 (F := Ideal) q.i q.u q.h q.T q.k = q.L.v56 := by
  unfold Chunk.v56; rfl
theorem e59 : sl.v59 (F := Ideal) q.i q.u q.h q.T q.k = q.L.v59 := by
  unfold Chunk.v59; rfl
theorem e62 : sl.v62 (F := Ideal) q.i q.u q.h q.T q.k = q.L.v62 := by
  unfold Chunk.v62; rfl
theorem e65 : sl.v65 (F := Ideal) q.i q.u q.h q.T q.k = q.L.v65 := by
  unfold Chunk.v65; rfl
theorem e68 : sl.v68 (F := Ideal) q.i q.u q.h q.T q.k = q.L.v68 := by
  unfold Chunk.v68; rfl
theorem e71 : sl.v71 (F := Ideal) q.i q.u q.h q.T q.k = q.L.v71 := by
  unfold Chunk.v71; rfl
theorem e72 : sl.v72 (F := Ideal) q.i q.w q.u q.h q.X q.T q.k = q.L.v72 := by
  unfold Chunk.v72; rw [← q.e26, ← q.e50]; rfl
theorem e73 : sl.v73 (F := Ideal) q.i q.w q.u q.h q.X q.T q.k = q.L.v73 := by
  unfold Chunk.v73; rw [← q.e29, ← q.e53]; rfl
theorem e74 : sl.v74 (F := Ideal) q.i q.w q.u q.h q.X q.T q.k = q.L.v74 := by
  unfold Chunk.v74; rw [← q.e32, ← q.e56]; rfl
theorem e75 : sl.v75 (F := Ideal) q.i q.w q.u q.h q.X q.T q.k = q.L.v75 := by
  unfold Chunk.v75; rw [← q.e35]; rfl
theorem e76 : sl.v76 (F := Ideal) q.i q.w q.u q.h q.X q.T q.k = q.L.v76 := by
  unfold Chunk.v76; rw [← q.e38]; rfl
theorem e77 : sl.v77 (F := Ideal) q.i q.w q.u q.h q.X q.T q.k = q.L.v77 := by
  unfold Chunk.v77; rw [← q.e41]; rfl
theorem e78 : sl.v78 (F := Ideal) q.i q.w q.u q.h q.X q.T q.k = q.L.v78 := by
  unfold Chunk.v78; rw [← q.e44]; rfl
theorem e79 : sl.v79 (F := Ideal) q.i q.w q.u q.h q.X q.T q.k = q.L.v79 := by
  unfold Chunk.v79; rw [← q.e47]; rfl
theorem e88 : sl.v88 (F := Ideal) q.i q.r q.h q.H q.k = q.L.v88 := by
  unfold Chunk.v88; rfl
theorem e89 : sl.v89 (F := Ideal) = q.L.v89 := by
  unfold Chunk.v89; rfl
theorem e90 : sl.v90 (F := Ideal) = q.L.v90 := by
  unfold Chunk.v90; rfl
theorem e91 : sl.v91 (F := Ideal) = q.L.v91 := by
  unfold Chunk.v91; rfl
theorem e92 : sl.v92 (F := Ideal) = q.L.v92 := by
  unfold Chunk.v92; rfl
theorem e93 : sl.v93 (F := Ideal) = q.L.v93 := by
  unfold Chunk.v93; rfl
theorem e94 : sl.v94 (F := Ideal) = q.L.v94 := by
  unfold Chunk.v94; rfl
theorem e95 : sl.v95 (F := Ideal) = q.L.v95 := by
  unfold Chunk.v95; rfl
theorem e96 : sl.v96 (F := Ideal) = q.L.v96 := by
  unfold Chunk.v96; rfl
theorem e101 : sl.v101 (F := Ideal) q.i q.w q.u q.h q.X q.T q.k = q.L.v101 := by
  unfold Chunk.v101; rw [← q.e72, ← q.e73, ← q.e89, ← q.e90]; rfl
theorem e102 : sl.v102 (F := Ideal) q.i q.w q.u q.h q.X q.T q.k = q.L.v102 := by
  unfold Chunk.v102; rw [← q.e72, ← q.e73]; rfl
theorem e103 : sl.v103 (F := Ideal) q.i q.w q.u q.h q.X q.T q.k = q.L.v103 := by
  unfold Chunk.v103; rw [← q.e72, ← q.e73]; rfl
theorem e104 : sl.v104 (F := Ideal) q.i q.w q.u q.h q.X q.T q.k = q.L.v104 := by
  unfold Chunk.v104; rw [← q.e72, ← q.e73, ← q.e89, ← q.e90]; rfl
theorem e105 : sl.v105 (F := Ideal) q.i q.w q.u q.h q.X q.T q.k = q.L.v105 := by
  unfold Chunk.v105; rw [← q.e72, ← q.e73, ← q.e89, ← q.e90]; rfl
theorem e110 : sl.v110 (F := Ideal) q.i q.w q.u q.h q.X q.T q.k = q.L.v110 := by
  unfold Chunk.v110; rw [← q.e74, ← q.e75, ← q.e91, ← q.e92]; rfl
theorem e111 : sl.v111 (F := Ideal) q.i q.w q.u q.h q.X q.T q.k = q.L.v111 := by
  unfold Chunk.v111; rw [← q.e74, ← q.e75]; rfl
theorem e112 : sl.v112 (F := Ideal) q.i q.w q.u q.h q.X q.T q.k = q.L.v112 := by
  unfold Chunk.v112; rw [← q.e74, ← q.e75]; rfl
theorem e113 : sl.v113 (F := Ideal) q.i q.w q.u q.h q.X q.T q.k = q.L.v113 := by
  unfold Chunk.v113; rw [← q.e74, ← q.e75, ← q.e91, ← q.e92]; rfl
theorem e114 : sl.v114 (F := Ideal) q.i q.w q.u q.h q.X q.T q.k = q.L.v114 := by
  unfold Chunk.v114; rw [← q.e74, ← q.e75, ← q.e91, ← q.e92]; rfl
theorem e119 : sl.v119 (F := Ideal) q.i q.w q.u q.h q.X q.T q.k = q.L.v119 := by
  unfold Chunk.v119; rw [← q.e76, ← q.e77, ← q.e93, ← q.e94]; rfl
theorem e120 : sl.v120 (F := Ideal) q.i q.w q.u q.h q.X q.T q.k = q.L.v120 := by
  unfold Chunk.v120; rw [← q.e76, ← q.e77]; rfl
theorem e121 : sl.v121 (F := Ideal) q.i q.w q.u q.h q.X q.T q.k = q.L.v121 := by
  unfold Chunk.v121; rw [← q.e76, ← q.e77]; rfl
theorem e122 : sl.v122 (F := Ideal) q.i q.w q.u q.h q.X q.T q.k = q.L.v122 := by
  unfold Chunk.v122; rw [← q.e76, ← q.e77, ← q.e93, ← q.e94]; rfl
theorem e123 : sl.v123 (F := Ideal) q.i q.w q.u q.h q.X q.T q.k = q.L.v123 := by
  unfold Chunk.v123; rw [← q.e76, ← q.e77, ← q.e93, ← q.e94]; rfl
theorem e128 : sl.v128 (F := Ideal) q.i q.w q.u q.h q.X q.T q.k = q.L.v128 := by
  unfold Chunk.v128; rw [← q.e78, ← q.e79, ← q.e95, ← q.e96]; rfl
theorem e129 : sl.v129 (F := Ideal) q.i q.w q.u q.h q.X q.T q.k = q.L.v129 := by
  unfold Chunk.v129; rw [← q.e78, ← q.e79]; rfl
theorem e130 : sl.v130 (F := Ideal) q.i q.w q.u q.h q.X q.T q.k = q.L.v130 := by
  unfold Chunk.v130; rw [← q.e78, ← q.e79]; rfl
theorem e131 : sl.v131 (F := Ideal) q.i q.w q.u q.h q.X q.T q.k = q.L.v131 := by
  unfold Chunk.v131; rw [← q.e78, ← q.e79, ← q.e95, ← q.e96]; rfl
theorem e132 : sl.v132 (F := Ideal) q.i q.w q.u q.h q.X q.T q.k = q.L.v132 := by
  unfold Chunk.v132; rw [← q.e78, ← q.e79, ← q.e95, ← q.e96]; rfl
theorem e137 : sl.v137 (F := Ideal) q.i q.w q.u q.h q.X q.T q.k = q.L.v137 := by
  unfold Chunk.v137; rw [← q.e72, ← q.e73, ← q.e74, ← q.e75, ← q.e89, ← q.e90, ← q.e91, ← q.e92]; rfl
theorem e138 : sl.v138 (F := Ideal) q.i q.w q.u q.h q.X q.T q.k = q.L.v138 := by
  unfold Chunk.v138; rw [← q.e72, ← q.e73, ← q.e74, ← q.e75]; rfl
theorem e139 : sl.v139 (F := Ideal) q.i q.w q.u q.h q.X q.T q.k = q.L.v139 := by
  unfold Chunk.v139; rw [← q.e72, ← q.e73, ← q.e74, ← q.e75]; rfl
theorem e140 : sl.v140 (F := Ideal) q.i q.w q.u q.h q.X q.T q.k = q.L.v140 := by
  unfold Chunk.v140; rw [← q.e72, ← q.e73, ← q.e74, ← q.e75, ← q.e89, ← q.e90, ← q.e91, ← q.e92]; rfl
theorem e141 : sl.v141 (F := Ideal) q.i q.w q.u q.h q.X q.T q.k = q.L.v141 := by
  unfold Chunk.v141; rw [← q.e72, ← q.e73, ← q.e74, ← q.e75, ← q.e89, ← q.e90, ← q.e91, ← q.e92]; rfl
theorem e146 : sl.v146 (F := Ideal) q.i q.w q.u q.h q.X q.T q.k = q.L.v146 := by
  unfold Chunk.v146; rw [← q.e72, ← q.e73, ← q.e74, ← q.e75, ← q.e89, ← q.e90, ← q.e91, ← q.e92]; rfl
theorem e147 : sl.v147 (F := Ideal) q.i q.w q.u q.h q.X q.T q.k = q.L.v147 := by
  unfold Chunk.v147; rw [← q.e72, ← q.e73, ← q.e74, ← q.e75]; rfl
theorem e148 : sl.v148 (F := Ideal) q.i q.w q.u q.h q.X q.T q.k = q.L.v148 := by
  unfold Chunk.v148; rw [← q.e72, ← q.e73, ← q.e74, ← q.e75]; rfl
theorem e149 : sl.v149 (F := Ideal) q.i q.w q.u q.h q.X q.T q.k = q.L.v149 := by
  unfold Chunk.v149; rw [← q.e72, ← q.e73, ← q.e74, ← q.e75, ← q.e89, ← q.e90, ← q.e91, ← q.e92]; rfl
theorem e150 : sl.v150 (F := Ideal) q.i q.w q.u q.h q.X q.T q.k = q.L.v150 := by
  unfold Chunk.v150; rw [← q.e72, ← q.e73, ← q.e74, ← q.e75, ← q.e89, ← q.e90, ← q.e91, ← q.e92]; rfl
theorem e155 : sl.v155 (F := Ideal) q.i q.w q.u q.h q.X q.T q.k = q.L.v155 := by
  unfold Chunk.v155; rw [← q.e76, ← q.e77, ← q.e78, ← q.e79, ← q.e93, ← q.e94, ← q.e95, ← q.e96]; rfl
theorem e156 : sl.v156 (F := Ideal) q.i q.w q.u q.h q.X q.T q.k = q.L.v156 := by
  unfold Chunk.v156; rw [← q.e76, ← q.e77, ← q.e78, ← q.e79]; rfl
theorem e157 : sl.v157 (F := Ideal) q.i q.w q.u q.h q.X q.T q.k = q.L.v157 := by
  unfold Chunk.v157; rw [← q.e120, ← q.e129]; rfl
theorem e158 : sl.v158 (F := Ideal) q.i q.w q.u q.h q.X q.T q.k = q.L.v158 := by
  unfold Chunk.v158; rw [← q.e122, ← q.e131, ← q.e155]; rfl
theorem e159 : sl.v159 (F := Ideal) q.i q.w q.u q.h q.X q.T q.k = q.L.v159 := by
  unfold Chunk.v159; rw [← q.e122, ← q.e131, ← q.e155]; rfl
theorem e164 : sl.v164 (F := Ideal) q.i q.w q.u q.h q.X q.T q.k = q.L.v164 := by
  unfold Chunk.v164; rw [← q.e121, ← q.e123, ← q.e130, ← q.e132]; rfl
theorem e165 : sl.v165 (F := Ideal) q.i q.w q.u q.h q.X q.T q.k = q.L.v165 := by
  unfold Chunk.v165; rw [← q.e121, ← q.e130]; rfl
theorem e166 : sl.v166 (F := Ideal) q.i q.w q.u q.h q.X q.T q.k = q.L.v166 := by
  unfold Chunk.v166; rw [← q.e121, ← q.e130]; rfl
theorem e167 : sl.v167 (F := Ideal) q.i q.w q.u q.h q.X q.T q.k = q.L.v167 := by
  unfold Chunk.v167; rw [← q.e121, ← q.e123, ← q.e130, ← q.e132]; rfl
theorem e168 : sl.v168 (F := Ideal) q.i q.w q.u q.h q.X q.T q.k = q.L.v168 := by
  unfold Chunk.v168; rw [← q.e121, ← q.e123, ← q.e130, ← q.e132]; rfl
theorem e173 : sl.v173 (F := Ideal) q.i q.w q.u q.h q.X q.T q.k = q.L.v173 := by
  unfold Chunk.v173; rw [← q.e139, ← q.e141, ← q.e147, ← q.e149]; rfl
theorem e174 : sl.v174 (F := Ideal) q.i q.w q.u q.h q.X q.T q.k = q.L.v174 := by
  unfold Chunk.v174; rw [← q.e139, ← q.e147]; rfl
theorem e175 : sl.v175 (F := Ideal) q.i q.w q.u q.h q.X q.T q.k = q.L.v175 := by
  unfold Chunk.v175; rw [← q.e139, ← q.e147]; rfl
theorem e176 : sl.v176 (F := Ideal) q.i q.w q.u q.h q.X q.T q.k = q.L.v176 := by
  unfold Chunk.v176; rw [← q.e139, ← q.e141, ← q.e147, ← q.e149]; rfl
theorem e177 : sl.v177 (F := Ideal) q.i q.w q.u q.h q.X q.T q.k = q.L.v177 := by
  unfold Chunk.v177; rw [← q.e139, ← q.e141, ← q.e147, ← q.e149]; rfl
theorem e182 : sl.v182 (F := Ideal) q.i q.w q.u q.h q.X q.T q.k = q.L.v182 := by
  unfold Chunk.v182; rw [← q.e120, ← q.e121, ← q.e122, ← q.e123, ← q.e129, ← q.e130, ← q.e131, ← q.e132, ← q.e155]; rfl
theorem e183 : sl.v183 (F := Ideal) q.i q.w q.u q.h q.X q.T q.k = q.L.v183 := by
  unfold Chunk.v183; rw [← q.e120, ← q.e121, ← q.e129, ← q.e130]; rfl
theorem e184 : sl.v184 (F := Ideal) q.i q.w q.u q.h q.X q.T q.k = q.L.v184 := by
  unfold Chunk.v184; rw [← q.e120, ← q.e121, ← q.e129, ← q.e130]; rfl
theorem e185 : sl.v185 (F := Ideal) q.i q.w q.u q.h q.X q.T q.k = q.L.v185 := by
  unfold Chunk.v185; rw [← q.e120, ← q.e121, ← q.e122, ← q.e123, ← q.e129, ← q.e130, ← q.e131, ← q.e132, ← q.e155]; rfl
theorem e186 : sl.v186 (F := Ideal) q.i q.w q.u q.h q.X q.T q.k = q.L.v186 := by
  unfold Chunk.v186; rw [← q.e120, ← q.e121, ← q.e122, ← q.e123, ← q.e129, ← q.e130, ← q.e131, ← q.e132, ← q.e155]; rfl
theorem e191 : sl.v191 (F := Ideal) q.i q.w q.u q.h q.X q.T q.k = q.L.v191 := by
  unfold Chunk.v191; rw [← q.e122, ← q.e131, ← q.e138, ← q.e140, ← q.e155, ← q.e156]; rfl
theorem e192 : sl.v192 (F := Ideal) q.i q.w q.u q.h q.X q.T q.k = q.L.v192 := by
  unfold Chunk.v192; rw [← q.e138, ← q.e156]; rfl
theorem e193 : sl.v193 (F := Ideal) q.i q.w q.u q.h q.X q.T q.k = q.L.v193 := by
  unfold Chunk.v193; rw [← q.e138, ← q.e156]; rfl
theorem e194 : sl.v194 (F := Ideal) q.i q.w q.u q.h q.X q.T q.k = q.L.v194 := by
  unfold Chunk.v194; rw [← q.e122, ← q.e131, ← q.e138, ← q.e140, ← q.e155, ← q.e156]; rfl
theorem e195 : sl.v195 (F := Ideal) q.i q.w q.u q.h q.X q.T q.k = q.L.v195 := by
  unfold Chunk.v195; rw [← q.e122, ← q.e131, ← q.e138, ← q.e140, ← q.e155, ← q.e156]; rfl
theorem e200 : sl.v200 (F := Ideal) q.i q.w q.u q.h q.X q.T q.k = q.L.v200 := by
  unfold Chunk.v200; rw [← q.e120, ← q.e121, ← q.e122, ← q.e123, ← q.e129, ← q.e130, ← q.e131, ← q.e132, ← q.e139, ← q.e141, ← q.e147, ← q.e149, ← q.e155]; rfl
theorem e201 : sl.v201 (F := Ideal) q.i q.w q.u q.h q.X q.T q.k = q.L.v201 := by
  unfold Chunk.v201; rw [← q.e120, ← q.e121, ← q.e129, ← q.e130, ← q.e139, ← q.e147]; rfl
theorem e202 : sl.v202 (F := Ideal) q.i q.w q.u q.h q.X q.T q.k = q.L.v202 := by
  unfold Chunk.v202; rw [← q.e120, ← q.e121, ← q.e129, ← q.e130, ← q.e139, ← q.e147]; rfl
theorem e203 : sl.v203 (F := Ideal) q.i q.w q.u q.h q.X q.T q.k = q.L.v203 := by
  unfold Chunk.v203; rw [← q.e120, ← q.e121, ← q.e122, ← q.e123, ← q.e129, ← q.e130, ← q.e131, ← q.e132, ← q.e139, ← q.e141, ← q.e147, ← q.e149, ← q.e155]; rfl
theorem e204 : sl.v204 (F := Ideal) q.i q.w q.u q.h q.X q.T q.k = q.L.v204 := by
  unfold Chunk.v204; rw [← q.e120, ← q.e121, ← q.e122, ← q.e123, ← q.e129, ← q.e130, ← q.e131, ← q.e132, ← q.e139, ← q.e141, ← q.e147, ← q.e149, ← q.e155]; rfl
theorem e209 : sl.v209 (F := Ideal) q.i q.w q.u q.h q.X q.T q.k = q.L.v209 := by
  unfold Chunk.v209; rw [← q.e120, ← q.e121, ← q.e122, ← q.e123, ← q.e129, ← q.e130, ← q.e131, ← q.e132, ← q.e139, ← q.e141, ← q.e147, ← q.e149, ← q.e155]; rfl
theorem e210 : sl.v210 (F := Ideal) q.i q.w q.u q.h q.X q.T q.k = q.L.v210 := by
  unfold Chunk.v210; rw [← q.e120, ← q.e121, ← q.e129, ← q.e130, ← q.e139, ← q.e147]; rfl
theorem e211 : sl.v211 (F := Ideal) q.i q.w q.u q.h q.X q.T q.k = q.L.v211 := by
  unfold Chunk.v211; rw [← q.e120, ← q.e121, ← q.e129, ← q.e130, ← q.e139, ← q.e147]; rfl
theorem e212 : sl.v212 (F := Ideal) q.i q.w q.u q.h q.X q.T q.k = q.L.v212 := by
  unfold Chunk.v212; rw [← q.e120, ← q.e121, ← q.e122, ← q.e123, ← q.e129, ← q.e130, ← q.e131, ← q.e132, ← q.e139, ← q.e141, ← q.e147, ← q.e149, ← q.e155]; rfl
theorem e213 : sl.v213 (F := Ideal) q.i q.w q.u q.h q.X q.T q.k = q.L.v213 := by
  unfold Chunk.v213; rw [← q.e120, ← q.e121, ← q.e122, ← q.e123, ← q.e129, ← q.e130, ← q.e131, ← q.e132, ← q.e139, ← q.e141, ← q.e147, ← q.e149, ← q.e155]; rfl
theorem e214 : sl.v214 (F := Ideal) q.i q.w q.u q.h q.X q.T q.k = q.L.v214 := by
  unfold Chunk.v214; rw [← q.e121, ← q.e130, ← q.e148]; rfl
theorem e215 : sl.v215 (F := Ideal) q.i q.w q.u q.h q.X q.T q.k = q.L.v215 := by
  unfold Chunk.v215; rw [← q.e121, ← q.e130, ← q.e148]; rfl
theorem e216 : sl.v216 (F := Ideal) q.i q.w q.u q.h q.X q.T q.k = q.L.v216 := by
  unfold Chunk.v216; rw [← q.e121, ← q.e123, ← q.e130, ← q.e132, ← q.e150]; rfl
theorem e218 : sl.v218 (F := Ideal) q.i q.w q.u q.h q.X q.T q.k = q.L.v218 := by
  unfold Chunk.v218; rw [← q.e214, ← q.e215, ← q.e216]; rfl
theorem e219 : sl.v219 (F := Ideal) q.i q.w q.u q.h q.X q.T q.k = q.L.v219 := by
  unfold Chunk.v219; rw [← q.e148, ← q.e166]; rfl
theorem e220 : sl.v220 (F := Ideal) q.i q.w q.u q.h q.X q.T q.k = q.L.v220 := by
  unfold Chunk.v220; rw [← q.e148, ← q.e166]; rfl
theorem e221 : sl.v221 (F := Ideal) q.i q.w q.u q.h q.X q.T q.k = q.L.v221 := by
  unfold Chunk.v221; rw [← q.e150, ← q.e168, ← q.e214, ← q.e215, ← q.e216]; rfl
theorem e222 : sl.v222 (F := Ideal) q.i q.w q.u q.h q.X q.T q.k = q.L.v222 := by
  unfold Chunk.v222; rw [← q.e150, ← q.e168, ← q.e214, ← q.e215, ← q.e216]; rfl
theorem e227 : sl.v227 (F := Ideal) q.i q.w q.u q.h q.X q.T q.k = q.L.v227 := by
  unfold Chunk.v227; rw [← q.e193, ← q.e195, ← q.e210, ← q.e212]; rfl
theorem e228 : sl.v228 (F := Ideal) q.i q.w q.u q.h q.X q.T q.k = q.L.v228 := by
  unfold Chunk.v228; rw [← q.e193, ← q.e210]; rfl
theorem e229 : sl.v229 (F := Ideal) q.i q.w q.u q.h q.X q.T q.k = q.L.v229 := by
  unfold Chunk.v229; rw [← q.e193, ← q.e210]; rfl
theorem e230 : sl.v230 (F := Ideal) q.i q.w q.u q.h q.X q.T q.k = q.L.v230 := by
  unfold Chunk.v230; rw [← q.e193, ← q.e195, ← q.e210, ← q.e212]; rfl
theorem e231 : sl.v231 (F := Ideal) q.i q.w q.u q.h q.X q.T q.k = q.L.v231 := by
  unfold Chunk.v231; rw [← q.e193, ← q.e195, ← q.e210, ← q.e212]; rfl
theorem e236 : sl.v236 (F := Ideal) q.i q.w q.u q.h q.X q.T q.k = q.L.v236 := by
  unfold Chunk.v236; rw [← q.e148, ← q.e150, ← q.e166, ← q.e168, ← q.e202, ← q.e204, ← q.e214, ← q.e215, ← q.e216]; rfl
theorem e237 : sl.v237 (F := Ideal) q.i q.w q.u q.h q.X q.T q.k = q.L.v237 := by
  unfold Chunk.v237; rw [← q.e148, ← q.e166, ← q.e202]; rfl
theorem e238 : sl.v238 (F := Ideal) q.i q.w q.u q.h q.X q.T q.k = q.L.v238 := by
  unfold Chunk.v238; rw [← q.e148, ← q.e166, ← q.e202]; rfl
theorem e239 : sl.v239 (F := Ideal) q.i q.w q.u q.h q.X q.T q.k = q.L.v239 := by
  unfold Chunk.v239; rw [← q.e148, ← q.e150, ← q.e166, ← q.e168, ← q.e202, ← q.e204, ← q.e214, ← q.e215, ← q.e216]; rfl
theorem e240 : sl.v240 (F := Ideal) q.i q.w q.u q.h q.X q.T q.k = q.L.v240 := by
  unfold Chunk.v240; rw [← q.e148, ← q.e150, ← q.e166, ← q.e168, ← q.e202, ← q.e204, ← q.e214, ← q.e215, ← q.e216]; rfl
theorem e245 : sl.v245 (F := Ideal) q.i q.w q.u q.h q.X q.T q.k = q.L.v245 := by
  unfold Chunk.v245; rw [← q.e193, ← q.e195, ← q.e201, ← q.e203, ← q.e210, ← q.e212]; rfl
theorem e246 : sl.v246 (F := Ideal) q.i q.w q.u q.h q.X q.T q.k = q.L.v246 := by
  unfold Chunk.v246; rw [← q.e193, ← q.e201, ← q.e210]; rfl
theorem e247 : sl.v247 (F := Ideal) q.i q.w q.u q.h q.X q.T q.k = q.L.v247 := by
  unfold Chunk.v247; rw [← q.e193, ← q.e201, ← q.e210]; rfl
theorem e248 : sl.v248 (F := Ideal) q.i q.w q.u q.h q.X q.T q.k = q.L.v248 := by
  unfold Chunk.v248; rw [← q.e193, ← q.e195, ← q.e201, ← q.e203, ← q.e210, ← q.e212]; rfl
theorem e249 : sl.v249 (F := Ideal) q.i q.w q.u q.h q.X q.T q.k = q.L.v249 := by
  unfold Chunk.v249; rw [← q.e193, ← q.e195, ← q.e201, ← q.e203, ← q.e210, ← q.e212]; rfl
theorem e254 : sl.v254 (F := Ideal) q.i q.w q.u q.h q.X q.T q.k = q.L.v254 := by
  unfold Chunk.v254; rw [← q.e148, ← q.e150, ← q.e166, ← q.e168, ← q.e193, ← q.e195, ← q.e202, ← q.e204, ← q.e210, ← q.e212, ← q.e214, ← q.e215, ← q.e216]; rfl
theorem e255 : sl.v255 (F := Ideal) q.i q.w q.u q.h q.X q.T q.k = q.L.v255 := by
  unfold Chunk.v255; rw [← q.e148, ← q.e166, ← q.e193, ← q.e202, ← q.e210]; rfl
theorem e256 : sl.v256 (F := Ideal) q.i q.w q.u q.h q.X q.T q.k = q.L.v256 := by
  unfold Chunk.v256; rw [← q.e148, ← q.e166, ← q.e193, ← q.e202, ← q.e210]; rfl
theorem e257 : sl.v257 (F := Ideal) q.i q.w q.u q.h q.X q.T q.k = q.L.v257 := by
  unfold Chunk.v257; rw [← q.e148, ← q.e150, ← q.e166, ← q.e168, ← q.e193, ← q.e195, ← q.e202, ← q.e204, ← q.e210, ← q.e212, ← q.e214, ← q.e215, ← q.e216]; rfl
theorem e258 : sl.v258 (F := Ideal) q.i q.w q.u q.h q.X q.T q.k = q.L.v258 := by
  unfold Chunk.v258; rw [← q.e148, ← q.e150, ← q.e166, ← q.e168, ← q.e193, ← q.e195, ← q.e202, ← q.e204, ← q.e210, ← q.e212, ← q.e214, ← q.e215, ← q.e216]; rfl
theorem e263 : sl.v263 (F := Ideal) q.i q.w q.u q.h q.X q.T q.k = q.L.v263 := by
  unfold Chunk.v263; rw [← q.e148, ← q.e150, ← q.e166, ← q.e168, ← q.e202, ← q.e204, ← q.e211, ← q.e213, ← q.e214, ← q.e215, ← q.e216]; rfl
theorem e264 : sl.v264 (F := Ideal) q.i q.w q.u q.h q.X q.T q.k = q.L.v264 := by
  unfold Chunk.v264; rw [← q.e148, ← q.e166, ← q.e202, ← q.e211]; rfl
theorem e265 : sl.v265 (F := Ideal) q.i q.w q.u q.h q.X q.T q.k = q.L.v265 := by
  unfold Chunk.v265; rw [← q.e148, ← q.e166, ← q.e202, ← q.e211]; rfl
theorem e266 : sl.v266 (F := Ideal) q.i q.w q.u q.h q.X q.T q.k = q.L.v266 := by
  unfold Chunk.v266; rw [← q.e148, ← q.e150, ← q.e166, ← q.e168, ← q.e202, ← q.e204, ← q.e211, ← q.e213, ← q.e214, ← q.e215, ← q.e216]; rfl
theorem e267 : sl.v267 (F := Ideal) q.i q.w q.u q.h q.X q.T q.k = q.L.v267 := by
  unfold Chunk.v267; rw [← q.e148, ← q.e150, ← q.e166, ← q.e168, ← q.e202, ← q.e204, ← q.e211, ← q.e213, ← q.e214, ← q.e215, ← q.e216]; rfl
theorem e268 : sl.v268 (F := Ideal) q.i q.g1 q.g2 = q.L.v268 := by
  unfold Chunk.v268; rfl
theorem e273 : sl.v273 (F := Ideal) q.i q.w q.u q.r q.g1 q.g2 q.h q.X q.T q.H q.k = q.L.v273 := by
  unfold Chunk.v273; rw [← q.e88, ← q.e192, ← q.e193, ← q.e201, ← q.e210]; rfl
theorem e283 : sl.v283 (F := Ideal) q.i q.w q.u q.r q.g1 q.g2 q.h q.X q.T q.H q.k = q.L.v283 := by
  unfold Chunk.v283 Chunk.v269; rw [← q.e273]; rfl
theorem e297 : sl.v297 (F := Ideal) q.i q.w q.u q.r q.g1 q.g2 q.h q.X q.T q.H q.k = q.L.v297 := by
  unfold Chunk.v297 Chunk.v269; rw [← q.e88, ← q.e246, ← q.e247, ← q.e268, ← q.e273]; rfl
theorem e311 : sl.v311 (F := Ideal) q.i q.w q.u q.r q.g1 q.g2 q.h q.X q.T q.H q.k = q.L.v311 := by
  unfold Chunk.v311 Chunk.v269; rw [← q.e88, ← q.e246, ← q.e247, ← q.e255, ← q.e268, ← q.e273]; rfl
theorem e320 : sl.v320 (F := Ideal) q.i q.w q.u q.r q.g1 q.g2 q.h q.X q.T q.H q.k = q.L.v320 := by
  unfold Chunk.v320; rw [← q.e88, ← q.e255, ← q.e256, ← q.e268]; rfl
theorem e325 : sl.v325 (F := Ideal) q.i q.w q.u q.r q.g1 q.g2 q.h q.X q.T q.H q.k = q.L.v325 := by
  unfold Chunk.v325; rw [← q.e311, ← q.e320]; rfl
theorem e339 : sl.v339 (F := Ideal) q.i q.w q.u q.r q.g1 q.g2 q.h q.X q.T q.H q.k = q.L.v339 := by
  unfold Chunk.v339; rw [← q.e88, ← q.e256, ← q.e264, ← q.e268, ← q.e311, ← q.e320]; rfl
theorem e353 : sl.v353 (F := Ideal) q.i q.w q.u q.r q.g1 q.g2 q.h q.X q.T q.H q.k = q.L.v353 := by
  unfold Chunk.v353; rw [← q.e88, ← q.e256, ← q.e264, ← q.e265, ← q.e268, ← q.e311, ← q.e320]; rfl
theorem e366 : sl.v366 (F := Ideal) q.i q.w q.u q.r q.g1 q.g2 q.h q.X q.T q.H q.k = q.L.v366 := by
  unfold Chunk.v366; rw [← q.e88, ← q.e220, ← q.e265, ← q.e268]; rfl
theorem e367 : sl.r (F := Ideal) q.i q.w q.u q.r q.g1 q.g2 q.h q.X q.T q.H q.k = q.L.v367 := by
  unfold Chunk.v367; rw [← q.e353, ← q.e366]; rfl
theorem e378 : sl.r_1 (F := Ideal) = q.L.v378 := by
  unfold Chunk.v378 Chunk.v269; rfl
theorem e387 : sl.r_2 (F := Ideal) q.i q.w q.u q.r q.g1 q.g2 q.h q.X q.T q.H q.k = q.L.v387 := by
  unfold Chunk.v387; rw [← q.e283]; rfl
theorem e396 : sl.r_3 (F := Ideal) q.i q.w q.u q.r q.g1 q.g2 q.h q.X q.T q.H q.k = q.L.v396 := by
  unfold Chunk.v396; rw [← q.e297]; rfl
theorem e405 : sl.r_4 (F := Ideal) q.i q.w q.u q.r q.g1 q.g2 q.h q.X q.T q.H q.k = q.L.v405 := by
  unfold Chunk.v405; rw [← q.e311]; rfl
theorem e407 : sl.r_5 (F := Ideal) q.i q.w q.u q.r q.g1 q.g2 q.h q.X q.T q.H q.k = q.L.v407 := by
  unfold Chunk.v407; rw [← q.e325]; rfl
theorem e414 : sl.r_6 (F := Ideal) q.i q.w q.u q.r q.g1 q.g2 q.h q.X q.T q.H q.k = q.L.v414 := by
  unfold Chunk.v414; rw [← q.e407]; rfl
theorem e423 : sl.r_7 (F := Ideal) q.i q.w q.u q.r q.g1 q.g2 q.h q.X q.T q.H q.k = q.L.v423 := by
  unfold Chunk.v423; rw [← q.e339]; rfl
theorem e432 : sl.r_8 (F := Ideal) q.i q.w q.u q.r q.g1 q.g2 q.h q.X q.T q.H q.k = q.L.v432 := by
  unfold Chunk.v432; rw [← q.e353]; rfl
theorem e441 : sl.r_9 (F := Ideal) q.i q.w q.u q.r q.g1 q.g2 q.h q.X q.T q.H q.k = q.L.v441 := by
  unfold Chunk.v441; rw [← q.e367]; rfl
theorem e449 : sl.r_10 (F := Ideal) q.i q.w q.u q.r q.g1 q.g2 q.h q.X q.T q.H q.k = q.L.v449 := by
  unfold Chunk.v449 Chunk.v368; rw [← q.e192, ← q.e246, ← q.e247, ← q.e378, ← q.e387, ← q.e396]; rfl
theorem e451 : sl.r_11 (F := Ideal) q.i q.w q.u q.r q.g1 q.g2 q.h q.X q.T q.H q.k = q.L.v451 := by
  unfold Chunk.v451 Chunk.v368 Chunk.v369; rw [← q.e378, ← q.e387, ← q.e396]; rfl
theorem e452 : sl.r_12 (F := Ideal) q.i q.w q.u q.r q.g1 q.g2 q.h q.X q.T q.H q.k = q.L.v452 := by
  unfold Chunk.v452 Chunk.v368; rw [← q.e255, ← q.e405]; rfl
theorem e476 : sl.r_13 (F := Ideal) q.i q.w q.u q.r q.g1 q.g2 q.h q.X q.T q.H q.k = q.L.v476 := by
  unfold Chunk.v476 Chunk.v368 Chunk.v369; rw [← q.e220, ← q.e256, ← q.e264, ← q.e265, ← q.e378, ← q.e405, ← q.e414, ← q.e423, ← q.e432, ← q.e441, ← q.e449, ← q.e451, ← q.e452]; rfl
theorem e478 : sl.r_14 (F := Ideal) q.i q.w q.u q.r q.g1 q.g2 q.h q.X q.T q.H q.k = q.L.v478 := by
  unfold Chunk.v478 Chunk.v368 Chunk.v369; rw [← q.e220, ← q.e256, ← q.e264, ← q.e265, ← q.e387, ← q.e405, ← q.e414, ← q.e423, ← q.e432, ← q.e441, ← q.e449, ← q.e451, ← q.e452]; rfl
theorem e480 : sl.r_15 (F := Ideal) q.i q.w q.u q.r q.g1 q.g2 q.h q.X q.T q.H q.k = q.L.v480 := by
  unfold Chunk.v480 Chunk.v368 Chunk.v369; rw [← q.e220, ← q.e256, ← q.e264, ← q.e265, ← q.e396, ← q.e405, ← q.e414, ← q.e423, ← q.e432, ← q.e441, ← q.e449, ← q.e451, ← q.e452]; rfl
theorem e482 : sl.r_16 (F := Ideal) q.i q.w q.u q.r q.g1 q.g2 q.h q.X q.T q.H q.k = q.L.v482 := by
  unfold Chunk.v482 Chunk.v368 Chunk.v369; rw [← q.e220, ← q.e256, ← q.e264, ← q.e265, ← q.e405, ← q.e414, ← q.e423, ← q.e432, ← q.e441, ← q.e449, ← q.e451, ← q.e452]; rfl
theorem e484 : sl.r_17 (F := Ideal) q.i q.w q.u q.r q.g1 q.g2 q.h q.X q.T q.H q.k = q.L.v484 := by
  unfold Chunk.v484 Chunk.v368 Chunk.v369; rw [← q.e220, ← q.e256, ← q.e264, ← q.e265, ← q.e405, ← q.e414, ← q.e423, ← q.e432, ← q.e441, ← q.e449, ← q.e451, ← q.e452]; rfl
theorem e486 : sl.r_18 (F := Ideal) q.i q.w q.u q.r q.g1 q.g2 q.h q.X q.T q.H q.k = q.L.v486 := by
  unfold Chunk.v486 Chunk.v368 Chunk.v369; rw [← q.e220, ← q.e256, ← q.e264, ← q.e265, ← q.e405, ← q.e414, ← q.e423, ← q.e432, ← q.e441, ← q.e449, ← q.e451, ← q.e452]; rfl
theorem e488 : sl.r_19 (F := Ideal) q.i q.w q.u q.r q.g1 q.g2 q.h q.X q.T q.H q.k = q.L.v488 := by
  unfold Chunk.v488 Chunk.v368 Chunk.v369; rw [← q.e220, ← q.e256, ← q.e264, ← q.e265, ← q.e405, ← q.e414, ← q.e423, ← q.e432, ← q.e441, ← q.e449, ← q.e451, ← q.e452]; rfl
theorem e490 : sl.r_20 (F := Ideal) q.i q.w q.u q.r q.g1 q.g2 q.h q.X q.T q.H q.k = q.L.v490 := by
  unfold Chunk.v490 Chunk.v368 Chunk.v369; rw [← q.e220, ← q.e256, ← q.e264, ← q.e265, ← q.e405, ← q.e414, ← q.e423, ← q.e432, ← q.e441, ← q.e449, ← q.e451, ← q.e452]; rfl
theorem e499 : sl.r_21 (F := Ideal) = q.L.v499 := by
  unfold Chunk.v499 Chunk.v269; rfl
theorem e504 : sl.r_22 (F := Ideal) q.i q.w q.u q.r q.g1 q.g2 q.h q.X q.T q.H q.k = q.L.v504 := by
  unfold Chunk.v504; rw [← q.e283]; rfl
theorem e508 : sl.r_23 (F := Ideal) q.i q.w q.u q.r q.g1 q.g2 q.h q.X q.T q.H q.k = q.L.v508 := by
  unfold Chunk.v508; rw [← q.e504]; rfl
theorem e517 : sl.r_24 (F := Ideal) q.i q.w q.u q.r q.g1 q.g2 q.h q.X q.T q.H q.k = q.L.v517 := by
  unfold Chunk.v517; rw [← q.e297]; rfl
theorem e526 : sl.r_25 (F := Ideal) q.i q.w q.u q.r q.g1 q.g2 q.h q.X q.T q.H q.k = q.L.v526 := by
  unfold Chunk.v526; rw [← q.e311]; rfl
theorem e535 : sl.r_26 (F := Ideal) q.i q.w q.u q.r q.g1 q.g2 q.h q.X q.T q.H q.k = q.L.v535 := by
  unfold Chunk.v535; rw [← q.e325]; rfl
theorem e544 : sl.r_27 (F := Ideal) q.i q.w q.u q.r q.g1 q.g2 q.h q.X q.T q.H q.k = q.L.v544 := by
  unfold Chunk.v544; rw [← q.e339]; rfl
theorem e546 : sl.r_28 (F := Ideal) q.i q.w q.u q.r q.g1 q.g2 q.h q.X q.T q.H q.k = q.L.v546 := by
  unfold Chunk.v546; rw [← q.e353]; rfl
theorem e553 : sl.r_29 (F := Ideal) q.i q.w q.u q.r q.g1 q.g2 q.h q.X q.T q.H q.k = q.L.v553 := by
  unfold Chunk.v553; rw [← q.e546]; rfl
theorem e562 : sl.r_30 (F := Ideal) q.i q.w q.u q.r q.g1 q.g2 q.h q.X q.T q.H q.k = q.L.v562 := by
  unfold Chunk.v562; rw [← q.e367]; rfl
theorem e595 : sl.r_31 (F := Ideal) q.i q.w q.u q.r q.g1 q.g2 q.h q.X q.T q.H q.k = q.L.v595 := by
  unfold Chunk.v595 Chunk.v368 Chunk.v369; rw [← q.e192, ← q.e220, ← q.e246, ← q.e247, ← q.e255, ← q.e256, ← q.e264, ← q.e265, ← q.e367, ← q.e499, ← q.e508, ← q.e517, ← q.e526, ← q.e535, ← q.e544, ← q.e546]; rfl
theorem e597 : sl.r_32 (F := Ideal) q.i q.w q.u q.r q.g1 q.g2 q.h q.X q.T q.H q.k = q.L.v597 := by
  unfold Chunk.v597 Chunk.v368 Chunk.v369; rw [← q.e192, ← q.e220, ← q.e246, ← q.e247, ← q.e255, ← q.e256, ← q.e264, ← q.e265, ← q.e367, ← q.e476, ← q.e499, ← q.e508, ← q.e517, ← q.e526, ← q.e535, ← q.e544, ← q.e546]; rfl
theorem e598 : sl.r_33 (F := Ideal) q.i q.w q.u q.r q.g1 q.g2 q.h q.X q.T q.H q.k = q.L.v598 := by
  unfold Chunk.v598 Chunk.v368 Chunk.v369; rw [← q.e192, ← q.e220, ← q.e246, ← q.e247, ← q.e255, ← q.e256, ← q.e264, ← q.e265, ← q.e367, ← q.e499, ← q.e508, ← q.e517, ← q.e526, ← q.e535, ← q.e544, ← q.e546]; rfl
theorem e599 : sl.r_34 (F := Ideal) q.i q.w q.u q.r q.g1 q.g2 q.h q.X q.T q.H q.k = q.L.v599 := by
  unfold Chunk.v599; rw [← q.e478, ← q.e598]; rfl
theorem e601 : sl.r_35 (F := Ideal) q.i q.w q.u q.r q.g1 q.g2 q.h q.X q.T q.H q.k = q.L.v601 := by
  unfold Chunk.v601 Chunk.v368; rw [← q.e480, ← q.e517, ← q.e595]; rfl
theorem e603 : sl.r_36 (F := Ideal) q.i q.w q.u q.r q.g1 q.g2 q.h q.X q.T q.H q.k = q.L.v603 := by
  unfold Chunk.v603 Chunk.v368; rw [← q.e482, ← q.e526, ← q.e595]; rfl
theorem e605 : sl.r_37 (F := Ideal) q.i q.w q.u q.r q.g1 q.g2 q.h q.X q.T q.H q.k = q.L.v605 := by
  unfold Chunk.v605 Chunk.v368; rw [← q.e484, ← q.e535, ← q.e595]; rfl
theorem e607 : sl.r_38 (F := Ideal) q.i q.w q.u q.r q.g1 q.g2 q.h q.X q.T q.H q.k = q.L.v607 := by
  unfold Chunk.v607 Chunk.v368; rw [← q.e486, ← q.e544, ← q.e595]; rfl
theorem e609 : sl.r_39 (F := Ideal) q.i q.w q.u q.r q.g1 q.g2 q.h q.X q.T q.H q.k = q.L.v609 := by
  unfold Chunk.v609 Chunk.v368; rw [← q.e488, ← q.e553, ← q.e595]; rfl
theorem e611 : sl.r_40 (F := Ideal) q.i q.w q.u q.r q.g1 q.g2 q.h q.X q.T q.H q.k = q.L.v611 := by
  unfold Chunk.v611 Chunk.v368; rw [← q.e490, ← q.e562, ← q.e595]; rfl
theorem e620 : sl.r_41 (F := Ideal) = q.L.v620 := by
  unfold Chunk.v620 Chunk.v269; rfl
theorem e629 : sl.r_42 (F := Ideal) q.i q.w q.u q.r q.g1 q.g2 q.h q.X q.T q.H q.k = q.L.v629 := by
  unfold Chunk.v629; rw [← q.e283]; rfl
theorem e638 : sl.r_43 (F := Ideal) q.i q.w q.u q.r q.g1 q.g2 q.h q.X q.T q.H q.k = q.L.v638 := by
  unfold Chunk.v638; rw [← q.e297]; rfl
theorem e643 : sl.r_44 (F := Ideal) q.i q.w q.u q.r q.g1 q.g2 q.h q.X q.T q.H q.k = q.L.v643 := by
  unfold Chunk.v643; rw [← q.e311]; rfl
theorem e647 : sl.r_45 (F := Ideal) q.i q.w q.u q.r q.g1 q.g2 q.h q.X q.T q.H q.k = q.L.v647 := by
  unfold Chunk.v647; rw [← q.e643]; rfl
theorem e656 : sl.r_46 (F := Ideal) q.i q.w q.u q.r q.g1 q.g2 q.h q.X q.T q.H q.k = q.L.v656 := by
  unfold Chunk.v656; rw [← q.e325]; rfl
theorem e665 : sl.r_47 (F := Ideal) q.i q.w q.u q.r q.g1 q.g2 q.h q.X q.T q.H q.k = q.L.v665 := by
  unfold Chunk.v665; rw [← q.e339]; rfl
theorem e674 : sl.r_48 (F := Ideal) q.i q.w q.u q.r q.g1 q.g2 q.h q.X q.T q.H q.k = q.L.v674 := by
  unfold Chunk.v674; rw [← q.e353]; rfl
theorem e683 : sl.r_49 (F := Ideal) q.i q.w q.u q.r q.g1 q.g2 q.h q.X q.T q.H q.k = q.L.v683 := by
  unfold Chunk.v683; rw [← q.e367]; rfl
theorem e684 : sl.r_50 (F := Ideal) q.i q.w q.u q.h q.X q.T q.k = q.L.v684 := by
  unfold Chunk.v684 Chunk.v368; rw [← q.e192, ← q.e620]; rfl
theorem e685 : sl.r_51 (F := Ideal) = q.L.v685 := by
  unfold Chunk.v685 Chunk.v368 Chunk.v369; rw [← q.e620]; rfl
theorem e686 : sl.r_52 (F := Ideal) q.i q.w q.u q.r q.g1 q.g2 q.h q.X q.T q.H q.k = q.L.v686 := by
  unfold Chunk.v686 Chunk.v368; rw [← q.e246, ← q.e629]; rfl
theorem e718 : sl.r_53 (F := Ideal) q.i q.w q.u q.r q.g1 q.g2 q.h q.X q.T q.H q.k = q.L.v718 := by
  unfold Chunk.v718 Chunk.v368 Chunk.v369; rw [← q.e220, ← q.e247, ← q.e255, ← q.e256, ← q.e264, ← q.e265, ← q.e597, ← q.e620, ← q.e629, ← q.e638, ← q.e647, ← q.e656, ← q.e665, ← q.e674, ← q.e683, ← q.e684, ← q.e685, ← q.e686]; rfl
theorem e720 : sl.r_54 (F := Ideal) q.i q.w q.u q.r q.g1 q.g2 q.h q.X q.T q.H q.k = q.L.v720 := by
  unfold Chunk.v720 Chunk.v368 Chunk.v369; rw [← q.e220, ← q.e247, ← q.e255, ← q.e256, ← q.e264, ← q.e265, ← q.e599, ← q.e629, ← q.e638, ← q.e647, ← q.e656, ← q.e665, ← q.e674, ← q.e683, ← q.e684, ← q.e685, ← q.e686]; rfl
theorem e722 : sl.r_55 (F := Ideal) q.i q.w q.u q.r q.g1 q.g2 q.h q.X q.T q.H q.k = q.L.v722 := by
  unfold Chunk.v722 Chunk.v368 Chunk.v369; rw [← q.e220, ← q.e247, ← q.e255, ← q.e256, ← q.e264, ← q.e265, ← q.e601, ← q.e629, ← q.e638, ← q.e647, ← q.e656, ← q.e665, ← q.e674, ← q.e683, ← q.e684, ← q.e685, ← q.e686]; rfl
theorem e724 : sl.r_56 (F := Ideal) q.i q.w q.u q.r q.g1 q.g2 q.h q.X q.T q.H q.k = q.L.v724 := by
  unfold Chunk.v724 Chunk.v368 Chunk.v369; rw [← q.e220, ← q.e247, ← q.e255, ← q.e256, ← q.e264, ← q.e265, ← q.e603, ← q.e629, ← q.e638, ← q.e647, ← q.e656, ← q.e665, ← q.e674, ← q.e683, ← q.e684, ← q.e685, ← q.e686]; rfl
theorem e726 : sl.r_57 (F := Ideal) q.i q.w q.u q.r q.g1 q.g2 q.h q.X q.T q.H q.k = q.L.v726 := by
  unfold Chunk.v726 Chunk.v368 Chunk.v369; rw [← q.e220, ← q.e247, ← q.e255, ← q.e256, ← q.e264, ← q.e265, ← q.e605, ← q.e629, ← q.e638, ← q.e647, ← q.e656, ← q.e665, ← q.e674, ← q.e683, ← q.e684, ← q.e685, ← q.e686]; rfl
theorem e728 : sl.r_58 (F := Ideal) q.i q.w q.u q.r q.g1 q.g2 q.h q.X q.T q.H q.k = q.L.v728 := by
  unfold Chunk.v728 Chunk.v368 Chunk.v369; rw [← q.e220, ← q.e247, ← q.e255, ← q.e256, ← q.e264, ← q.e265, ← q.e607, ← q.e629, ← q.e638, ← q.e647, ← q.e656, ← q.e665, ← q.e674, ← q.e683, ← q.e684, ← q.e685, ← q.e686]; rfl
theorem e730 : sl.r_59 (F := Ideal) q.i q.w q.u q.r q.g1 q.g2 q.h q.X q.T q.H q.k = q.L.v730 := by
  unfold Chunk.v730 Chunk.v368 Chunk.v369; rw [← q.e220, ← q.e247, ← q.e255, ← q.e256, ← q.e264, ← q.e265, ← q.e609, ← q.e629, ← q.e638, ← q.e647, ← q.e656, ← q.e665, ← q.e674, ← q.e683, ← q.e684, ← q.e685, ← q.e686]; rfl
theorem e732 : sl.r_60 (F := Ideal) q.i q.w q.u q.r q.g1 q.g2 q.h q.X q.T q.H q.k = q.L.v732 := by
  unfold Chunk.v732 Chunk.v368 Chunk.v369; rw [← q.e220, ← q.e247, ← q.e255, ← q.e256, ← q.e264, ← q.e265, ← q.e611, ← q.e629, ← q.e638, ← q.e647, ← q.e656, ← q.e665, ← q.e674, ← q.e683, ← q.e684, ← q.e685, ← q.e686]; rfl
theorem e741 : sl.r_61 (F := Ideal) = q.L.v741 := by
  unfold Chunk.v741 Chunk.v269; rfl
theorem e750 : sl.r_62 (F := Ideal) q.i q.w q.u q.r q.g1 q.g2 q.h q.X q.T q.H q.k = q.L.v750 := by
  unfold Chunk.v750; rw [← q.e283]; rfl
theorem e759 : sl.r_63 (F := Ideal) q.i q.w q.u q.r q.g1 q.g2 q.h q.X q.T q.H q.k = q.L.v759 := by
  unfold Chunk.v759; rw [← q.e297]; rfl
theorem e768 : sl.r_64 (F := Ideal) q.i q.w q.u q.r q.g1 q.g2 q.h q.X q.T q.H q.k = q.L.v768 := by
  unfold Chunk.v768; rw [← q.e311]; rfl
theorem e777 : sl.r_65 (F := Ideal) q.i q.w q.u q.r q.g1 q.g2 q.h q.X q.T q.H q.k = q.L.v777 := by
  unfold Chunk.v777; rw [← q.e325]; rfl
theorem e782 : sl.r_66 (F := Ideal) q.i q.w q.u q.r q.g1 q.g2 q.h q.X q.T q.H q.k = q.L.v782 := by
  unfold Chunk.v782; rw [← q.e339]; rfl
theorem e786 : sl.r_67 (F := Ideal) q.i q.w q.u q.r q.g1 q.g2 q.h q.X q.T q.H q.k = q.L.v786 := by
  unfold Chunk.v786; rw [← q.e782]; rfl
theorem e795 : sl.r_68 (F := Ideal) q.i q.w q.u q.r q.g1 q.g2 q.h q.X q.T q.H q.k = q.L.v795 := by
  unfold Chunk.v795; rw [← q.e353]; rfl
theorem e804 : sl.r_69 (F := Ideal) q.i q.w q.u q.r q.g1 q.g2 q.h q.X q.T q.H q.k = q.L.v804 := by
  unfold Chunk.v804; rw [← q.e367]; rfl
theorem e830 : sl.r_70 (F := Ideal) q.i q.w q.u q.r q.g1 q.g2 q.h q.X q.T q.H q.k = q.L.v830 := by
  unfold Chunk.v830 Chunk.v368 Chunk.v369; rw [← q.e353, ← q.e741, ← q.e750, ← q.e759, ← q.e768, ← q.e777, ← q.e782]; rfl
theorem e832 : sl.r_71 (F := Ideal) q.i q.w q.u q.r q.g1 q.g2 q.h q.X q.T q.H q.k = q.L.v832 := by
  unfold Chunk.v832 Chunk.v368; rw [← q.e192, ← q.e220, ← q.e246, ← q.e247, ← q.e255, ← q.e256, ← q.e264, ← q.e265, ← q.e353, ← q.e367, ← q.e741, ← q.e750, ← q.e759, ← q.e768, ← q.e777, ← q.e782]; rfl
theorem e833 : sl.r_72 (F := Ideal) q.i q.w q.u q.r q.g1 q.g2 q.h q.X q.T q.H q.k = q.L.v833 := by
  unfold Chunk.v833 Chunk.v368 Chunk.v369; rw [← q.e367]; rfl
theorem e837 : sl.v837 (F := Ideal) q.i q.w q.u q.r q.g1 q.g2 q.h q.X q.T q.H q.k = q.L.v837 := by
  unfold Chunk.v837; rw [← q.e830, ← q.e832, ← q.e833]; rfl
theorem e839 : sl.v839 (F := Ideal) q.i q.w q.u q.r q.g1 q.g2 q.h q.X q.T q.H q.k = q.L.v839 := by
  unfold Chunk.v839 Chunk.v368; rw [← q.e718, ← q.e741, ← q.e830, ← q.e832, ← q.e833]; rfl
theorem e841 : sl.v841 (F := Ideal) q.i q.w q.u q.r q.g1 q.g2 q.h q.X q.T q.H q.k = q.L.v841 := by
  unfold Chunk.v841 Chunk.v368; rw [← q.e720, ← q.e750, ← q.e830, ← q.e832, ← q.e833]; rfl
theorem e843 : sl.v843 (F := Ideal) q.i q.w q.u q.r q.g1 q.g2 q.h q.X q.T q.H q.k = q.L.v843 := by
  unfold Chunk.v843 Chunk.v368; rw [← q.e722, ← q.e759, ← q.e830, ← q.e832, ← q.e833]; rfl
theorem e845 : sl.v845 (F := Ideal) q.i q.w q.u q.r q.g1 q.g2 q.h q.X q.T q.H q.k = q.L.v845 := by
  unfold Chunk.v845 Chunk.v368; rw [← q.e724, ← q.e768, ← q.e830, ← q.e832, ← q.e833]; rfl
theorem e847 : sl.v847 (F := Ideal) q.i q.w q.u q.r q.g1 q.g2 q.h q.X q.T q.H q.k = q.L.v847 := by
  unfold Chunk.v847 Chunk.v368; rw [← q.e726, ← q.e777, ← q.e830, ← q.e832, ← q.e833]; rfl
theorem e849 : sl.v849 (F := Ideal) q.i q.w q.u q.r q.g1 q.g2 q.h q.X q.T q.H q.k = q.L.v849 := by
  unfold Chunk.v849 Chunk.v368; rw [← q.e728, ← q.e786, ← q.e830, ← q.e832, ← q.e833]; rfl
theorem e851 : sl.v851 (F := Ideal) q.i q.w q.u q.r q.g1 q.g2 q.h q.X q.T q.H q.k = q.L.v851 := by
  unfold Chunk.v851 Chunk.v368; rw [← q.e730, ← q.e795, ← q.e830, ← q.e832, ← q.e833]; rfl
theorem e853 : sl.v853 (F := Ideal) q.i q.w q.u q.r q.g1 q.g2 q.h q.X q.T q.H q.k = q.L.v853 := by
  unfold Chunk.v853 Chunk.v368; rw [← q.e732, ← q.e804, ← q.e830, ← q.e832, ← q.e833]; rfl
theorem e854 : sl.v854 (F := Ideal) q.i q.a1 q.a2 q.a5 q.a6 = q.L.v854 := by
  unfold Chunk.v854; rfl
theorem e878 : sl.v878 (F := Ideal) q.i q.w q.u q.r q.g1 q.g2 q.h q.X q.T q.H q.k = q.L.v878 := by
  unfold Chunk.v878 Chunk.v368; rw [← q.e194, ← q.e248, ← q.e249, ← q.e257, ← q.e258, ← q.e718, ← q.e720, ← q.e722, ← q.e724, ← q.e726, ← q.e741, ← q.e750, ← q.e759, ← q.e768, ← q.e777, ← q.e830, ← q.e832, ← q.e833]; rfl
theorem e880 : sl.v880 (F := Ideal) q.i q.w q.u q.h q.X q.T q.k = q.L.v880 := by
  unfold Chunk.v880; rw [← q.e266]; rfl
theorem e900 : sl.v900 (F := Ideal) q.i q.w q.u q.r q.a1 q.a2 q.a5 q.a6 q.g1 q.g2 q.h q.X q.T q.H q.k = q.L.v900 := by
  unfold Chunk.v900; rw [← q.e222, ← q.e267, ← q.e849, ← q.e851, ← q.e853, ← q.e854, ← q.e878, ← q.e880]; rfl
theorem e919 : sl.v919 (F := Ideal) q.i q.w q.u q.r q.g1 q.g2 q.h q.X q.T q.H q.k = q.L.v919 := by
  unfold Chunk.v919; rw [← q.e194, ← q.e248, ← q.e249, ← q.e257, ← q.e839, ← q.e841, ← q.e843, ← q.e845]; rfl
theorem e923 : sl.v923 (F := Ideal) q.i q.w q.u q.r q.g1 q.g2 q.h q.X q.T q.H q.k = q.L.v923 := by
  unfold Chunk.v923; rw [← q.e258, ← q.e847]; rfl
theorem e946 : sl.v946 (F := Ideal) q.i q.w q.u q.r q.a1 q.a2 q.a5 q.a6 q.g1 q.g2 q.h q.X q.T q.H q.k = q.L.v946 := by
  unfold Chunk.v946; rw [← q.e222, ← q.e266, ← q.e267, ← q.e849, ← q.e851, ← q.e853, ← q.e854, ← q.e919, ← q.e923]; rfl
theorem e965 : sl.v965 (F := Ideal) q.i q.w q.u q.r q.g1 q.g2 q.h q.X q.T q.H q.k = q.L.v965 := by
  unfold Chunk.v965; rw [← q.e194, ← q.e248, ← q.e249, ← q.e257, ← q.e839, ← q.e841, ← q.e843, ← q.e845]; rfl
theorem e992 : sl.v992 (F := Ideal) q.i q.w q.u q.r q.a1 q.a2 q.a5 q.a6 q.g1 q.g2 q.h q.X q.T q.H q.k = q.L.v992 := by
  unfold Chunk.v992 Chunk.v966; rw [← q.e222, ← q.e258, ← q.e266, ← q.e267, ← q.e847, ← q.e849, ← q.e851, ← q.e853, ← q.e854, ← q.e965]; rfl
theorem e1006 : sl.v1006 (F := Ideal) q.i q.w q.u q.r q.g1 q.g2 q.h q.X q.T q.H q.k = q.L.v1006 := by
  unfold Chunk.v1006; rw [← q.e194, ← q.e248, ← q.e249, ← q.e839, ← q.e841, ← q.e843]; rfl
theorem e1008 : sl.v1008 (F := Ideal) q.i q.w q.u q.h q.X q.T q.k = q.L.v1008 := by
  unfold Chunk.v1008; rw [← q.e257]; rfl
theorem e1038 : sl.v1038 (F := Ideal) q.i q.w q.u q.r q.a1 q.a2 q.a5 q.a6 q.g1 q.g2 q.h q.X q.T q.H q.k = q.L.v1038 := by
  unfold Chunk.v1038 Chunk.v1009; rw [← q.e222, ← q.e258, ← q.e266, ← q.e267, ← q.e845, ← q.e847, ← q.e849, ← q.e851, ← q.e853, ← q.e854, ← q.e1006, ← q.e1008]; rfl
theorem e1052 : sl.v1052 (F := Ideal) q.i q.w q.u q.r q.g1 q.g2 q.h q.X q.T q.H q.k = q.L.v1052 := by
  unfold Chunk.v1052; rw [← q.e194, ← q.e248, ← q.e249, ← q.e839, ← q.e841, ← q.e843]; rfl
theorem e1084 : sl.v1084 (F := Ideal) q.i q.w q.u q.r q.a1 q.a2 q.a5 q.a6 q.g1 q.g2 q.h q.X q.T q.H q.k = q.L.v1084 := by
  unfold Chunk.v1084; rw [← q.e222, ← q.e257, ← q.e258, ← q.e266, ← q.e267, ← q.e845, ← q.e847, ← q.e849, ← q.e851, ← q.e853, ← q.e854, ← q.e1052]; rfl
theorem e1093 : sl.v1093 (F := Ideal) q.i q.w q.u q.r q.g1 q.g2 q.h q.X q.T q.H q.k = q.L.v1093 := by
  unfold Chunk.v1093; rw [← q.e194, ← q.e248, ← q.e839, ← q.e841]; rfl
theorem e1095 : sl.v1095 (F := Ideal) q.i q.w q.u q.h q.X q.T q.k = q.L.v1095 := by
  unfold Chunk.v1095; rw [← q.e249]; rfl
theorem e1130 : sl.v1130 (F := Ideal) q.i q.w q.u q.r q.a1 q.a2 q.a5 q.a6 q.g1 q.g2 q.h q.X q.T q.H q.k = q.L.v1130 := by
  unfold Chunk.v1130; rw [← q.e222, ← q.e257, ← q.e258, ← q.e266, ← q.e267, ← q.e843, ← q.e845, ← q.e847, ← q.e849, ← q.e851, ← q.e853, ← q.e854, ← q.e1093, ← q.e1095]; rfl
theorem e1139 : sl.v1139 (F := Ideal) q.i q.w q.u q.r q.g1 q.g2 q.h q.X q.T q.H q.k = q.L.v1139 := by
  unfold Chunk.v1139; rw [← q.e194, ← q.e248, ← q.e839, ← q.e841]; rfl
theorem e1176 : sl.v1176 (F := Ideal) q.i q.w q.u q.r q.a1 q.a2 q.a5 q.a6 q.g1 q.g2 q.h q.X q.T q.H q.k = q.L.v1176 := by
  unfold Chunk.v1176; rw [← q.e222, ← q.e249, ← q.e257, ← q.e258, ← q.e266, ← q.e267, ← q.e843, ← q.e845, ← q.e847, ← q.e849, ← q.e851, ← q.e853, ← q.e854, ← q.e1139]; rfl
theorem e1180 : sl.v1180 (F := Ideal) q.i q.w q.u q.r q.g1 q.g2 q.h q.X q.T q.H q.k = q.L.v1180 := by
  unfold Chunk.v1180; rw [← q.e194, ← q.e839]; rfl
theorem e1182 : sl.v1182 (F := Ideal) q.i q.w q.u q.h q.X q.T q.k = q.L.v1182 := by
  unfold Chunk.v1182; rw [← q.e248]; rfl
theorem e1222 : sl.v1222 (F := Ideal) q.i q.w q.u q.r q.a1 q.a2 q.a5 q.a6 q.g1 q.g2 q.h q.X q.T q.H q.k = q.L.v1222 := by
  unfold Chunk.v1222; rw [← q.e222, ← q.e249, ← q.e257, ← q.e258, ← q.e266, ← q.e267, ← q.e841, ← q.e843, ← q.e845, ← q.e847, ← q.e849, ← q.e851, ← q.e853, ← q.e854, ← q.e1180, ← q.e1182]; rfl
theorem e1226 : sl.v1226 (F := Ideal) q.i q.w q.u q.r q.a1 q.a2 q.a5 q.a6 q.g1 q.g2 q.h q.X q.T q.H q.k = q.L.v1226 := by
  unfold Chunk.v1226; rw [← q.e50, ← q.e900]; rfl
theorem e1230 : sl.v1230 (F := Ideal) q.i q.w q.u q.r q.a1 q.a2 q.a5 q.a6 q.g1 q.g2 q.h q.X q.T q.H q.k = q.L.v1230 := by
  unfold Chunk.v1230; rw [← q.e1226]; rfl
theorem e1238 : sl.v1238 (F := Ideal) q.i q.w q.u q.r q.a1 q.a2 q.a5 q.a6 q.g1 q.g2 q.h q.X q.T q.H q.k = q.L.v1238 := by
  unfold Chunk.v1238; rw [← q.e53, ← q.e946]; rfl
theorem e1246 : sl.v1246 (F := Ideal) q.i q.w q.u q.r q.a1 q.a2 q.a5 q.a6 q.g1 q.g2 q.h q.X q.T q.H q.k = q.L.v1246 := by
  unfold Chunk.v1246; rw [← q.e56, ← q.e992]; rfl
theorem e1254 : sl.v1254 (F := Ideal) q.i q.w q.u q.r q.a1 q.a2 q.a5 q.a6 q.g1 q.g2 q.h q.X q.T q.H q.k = q.L.v1254 := by
  unfold Chunk.v1254; rw [← q.e59, ← q.e1038]; rfl
theorem e1262 : sl.v1262 (F := Ideal) q.i q.w q.u q.r q.a1 q.a2 q.a5 q.a6 q.g1 q.g2 q.h q.X q.T q.H q.k = q.L.v1262 := by
  unfold Chunk.v1262; rw [← q.e62, ← q.e1084]; rfl
theorem e1270 : sl.v1270 (F := Ideal) q.i q.w q.u q.r q.a1 q.a2 q.a5 q.a6 q.g1 q.g2 q.h q.X q.T q.H q.k = q.L.v1270 := by
  unfold Chunk.v1270; rw [← q.e65, ← q.e1130]; rfl

/-- What the trip stores. -/
theorem stores (𝒱 : Variants) (c : Dev nD) (bd : Option 𝒱.V) (i : grid0.Coords) (arg1 : Memref sig .tc .vmem S8x256x256 .f32) (harg1 : arg1.IsWhole) (arg2 : Memref sig .tc .vmem S8x256x256 .f32) (harg2 : arg2.IsWhole) (arg3 : Memref sig .tc .vmem S8x256x256 .f32) (harg3 : arg3.IsWhole) (arg4 : Memref sig .tc .smem S1x2 .f32) (harg4 : arg4.IsWhole) (arg5 : Memref sig .tc .smem S1x2 .f32) (harg5 : arg5.IsWhole) (arg6 : Memref sig .tc .smem S1x2 .f32) (harg6 : arg6.IsWhole) (arg7 : Memref sig .tc .vmem S256x256 .f32) (harg7 : arg7.IsWhole) (arg8 : Memref sig .tc .vmem S8x256x256 .bf16) (harg8 : arg8.IsWhole) (v1 : Elt Ideal .f32) (v2 : Elt Ideal .f32) (v5 : Elt Ideal .f32) (v6 : Elt Ideal .f32) (v13 : Elt Ideal .f32) (v14 : Elt Ideal .f32) (k0_h1 : k0_cond1 i = 1#1)
    (x t : FVec Ideal S8x256x256 .f32) (th : FVec Ideal S256x256 .f32) (k : Fin k0_t1_loop.trips) (q : TripK)
    (hq : q = ⟨i, arg1, harg1, arg3, harg3, arg7, harg7, k0_h1, x, t, th, v1, v2, v5, v6, v13, v14, k⟩) :
    tripL_k0_t1 (F := Ideal) 𝒱 c bd i arg1 harg1 arg2 harg2 arg3 harg3 arg4 harg4 arg5 harg5 arg6 harg6 arg7 harg7 arg8 harg8 v1 v2 v5 v6 v13 v14 k0_h1 (harg1.unread x) (harg3.unread t) (harg7.unread th) k =
      [⟨Rect.unit (s := S8x256x256) (k0_off8 k) S1x16x256.size (k0_off8_inb i k k0_h1), q.L.stored q.L.v71 q.L.v1222⟩,
       ⟨Rect.unit (s := S8x256x256) (k0_off7 k) S1x16x256.size (k0_off7_inb i k k0_h1), q.L.stored q.L.v68 q.L.v1176⟩,
       ⟨Rect.unit (s := S8x256x256) (k0_off6 k) S1x16x256.size (k0_off6_inb i k k0_h1), q.L.stored q.L.v65 q.L.v1130⟩,
       ⟨Rect.unit (s := S8x256x256) (k0_off5 k) S1x16x256.size (k0_off5_inb i k k0_h1), q.L.stored q.L.v62 q.L.v1084⟩,
       ⟨Rect.unit (s := S8x256x256) (k0_off4 k) S1x16x256.size (k0_off4_inb i k k0_h1), q.L.stored q.L.v59 q.L.v1038⟩,
       ⟨Rect.unit (s := S8x256x256) (k0_off3 k) S1x16x256.size (k0_off3_inb i k k0_h1), q.L.stored q.L.v56 q.L.v992⟩,
       ⟨Rect.unit (s := S8x256x256) (k0_off2 k) S1x16x256.size (k0_off2_inb i k k0_h1), q.L.stored q.L.v53 q.L.v946⟩,
       ⟨Rect.unit (s := S8x256x256) (k0_off1 k) S1x16x256.size (k0_off1_inb i k k0_h1), q.L.stored q.L.v50 q.L.v900⟩] := by
  rw [← q.e50, ← q.e900, ← q.e53, ← q.e946, ← q.e56, ← q.e992, ← q.e59, ← q.e1038, ← q.e62, ← q.e1084, ← q.e65, ← q.e1130, ← q.e68, ← q.e1176, ← q.e71, ← q.e1222]
  subst hq
  unfold tripL_k0_t1 trip_k0_t1
  rfl

end TripK

end Cert.Kernel4Ideal.Group

end
-- ==== Proof.GroupTripV.lean ====
/-
  Every value a trip over a block of `V` computes is the chunk's, and so are the eight chunks it stores.
-/
module

public import proofs.«01_k».proof.Proof.GroupPieces

@[expose] public section

set_option maxRecDepth 65536

noncomputable section

open Idealize.ShloMosaic Idealize.ShloMosaic.TcCoe Idealize.SL.Sem

namespace Cert.Kernel4Ideal.Group

open Cert.Kernel4Ideal Cert.Kernel4Ideal.Gen Cert.Kernel4Ideal.Gen.trip_k0_t2

/-- A trip over a block of `V`: where it is, what it reads from and what lies there. -/
structure TripV where
  i : grid0.Coords
  w : Memref sig .tc .vmem S8x256x256 .f32
  hw : w.IsWhole
  u : Memref sig .tc .vmem S8x256x256 .f32
  hu : u.IsWhole
  r : Memref sig .tc .vmem S256x256 .f32
  hr : r.IsWhole
  h : k0_cond2 i = 1#1
  x : FVec Ideal S8x256x256 .f32
  t : FVec Ideal S8x256x256 .f32
  th : FVec Ideal S256x256 .f32
  a1 : Ideal .f32
  a2 : Ideal .f32
  a5 : Ideal .f32
  a6 : Ideal .f32
  g1 : Ideal .f32
  g2 : Ideal .f32
  k : Fin k0_t2_loop.trips

namespace TripV

variable (q : TripV)

/-- What lies there, as the memory has it. -/
abbrev X := q.hw.unread (Val := Elt Ideal) q.x
abbrev T := q.hu.unread (Val := Elt Ideal) q.t
abbrev H := q.hr.unread (Val := Elt Ideal) q.th

/-- What the trip reads, -/
def L : Chunk :=
  ⟨![View.readAt (Elt Ideal) q.w.view (Rect.unit (s := S8x256x256) (k0_off10 q.k) S1x16x256.size (k0_off10_inb q.i q.k q.h)).toLoadRect q.X,
     View.readAt (Elt Ideal) q.w.view (Rect.unit (s := S8x256x256) (k0_off11 q.k) S1x16x256.size (k0_off11_inb q.i q.k q.h)).toLoadRect q.X,
     View.readAt (Elt Ideal) q.w.view (Rect.unit (s := S8x256x256) (k0_off12 q.k) S1x16x256.size (k0_off12_inb q.i q.k q.h)).toLoadRect q.X,
     View.readAt (Elt Ideal) q.w.view (Rect.unit (s := S8x256x256) (k0_off13 q.k) S1x16x256.size (k0_off13_inb q.i q.k q.h)).toLoadRect q.X,
     View.readAt (Elt Ideal) q.w.view (Rect.unit (s := S8x256x256) (k0_off14 q.k) S1x16x256.size (k0_off14_inb q.i q.k q.h)).toLoadRect q.X,
     View.readAt (Elt Ideal) q.w.view (Rect.unit (s := S8x256x256) (k0_off15 q.k) S1x16x256.size (k0_off15_inb q.i q.k q.h)).toLoadRect q.X,
     View.readAt (Elt Ideal) q.w.view (Rect.unit (s := S8x256x256) (k0_off16 q.k) S1x16x256.size (k0_off16_inb q.i q.k q.h)).toLoadRect q.X,
     View.readAt (Elt Ideal) q.w.view (Rect.unit (s := S8x256x256) (k0_off17 q.k) S1x16x256.size (k0_off17_inb q.i q.k q.h)).toLoadRect q.X],
   ![View.readAt (Elt Ideal) q.u.view (Rect.unit (s := S8x256x256) (k0_off10 q.k) S1x16x256.size (k0_off10_inb q.i q.k q.h)).toLoadRect q.T,
     View.readAt (Elt Ideal) q.u.view (Rect.unit (s := S8x256x256) (k0_off11 q.k) S1x16x256.size (k0_off11_inb q.i q.k q.h)).toLoadRect q.T,
     View.readAt (Elt Ideal) q.u.view (Rect.unit (s := S8x256x256) (k0_off12 q.k) S1x16x256.size (k0_off12_inb q.i q.k q.h)).toLoadRect q.T,
     View.readAt (Elt Ideal) q.u.view (Rect.unit (s := S8x256x256) (k0_off13 q.k) S1x16x256.size (k0_off13_inb q.i q.k q.h)).toLoadRect q.T,
     View.readAt (Elt Ideal) q.u.view (Rect.unit (s := S8x256x256) (k0_off14 q.k) S1x16x256.size (k0_off14_inb q.i q.k q.h)).toLoadRect q.T,
     View.readAt (Elt Ideal) q.u.view (Rect.unit (s := S8x256x256) (k0_off15 q.k) S1x16x256.size (k0_off15_inb q.i q.k q.h)).toLoadRect q.T,
     View.readAt (Elt Ideal) q.u.view (Rect.unit (s := S8x256x256) (k0_off16 q.k) S1x16x256.size (k0_off16_inb q.i q.k q.h)).toLoadRect q.T,
     View.readAt (Elt Ideal) q.u.view (Rect.unit (s := S8x256x256) (k0_off17 q.k) S1x16x256.size (k0_off17_inb q.i q.k q.h)).toLoadRect q.T],
   View.readAt (Elt Ideal) q.r.view (Rect.unit (s := S256x256) (k0_off18 q.k) S16x256.size (k0_off18_inb q.i q.k q.h)).toLoadRect q.H, k0_pay1 (F := Ideal) q.i q.a1 q.a2 q.a5 q.a6, k0_pay2 (F := Ideal) q.i q.g1 q.g2⟩

theorem trips : k0_t2_loop.trips = 16 := by decide +kernel

/-- which is the chunk. -/
theorem L_eq : q.L = chunk q.x q.t q.th (k0_pay1 (F := Ideal) q.i q.a1 q.a2 q.a5 q.a6) (k0_pay2 (F := Ideal) q.i q.g1 q.g2) q.k.val := by
  have hk : q.k.val < 16 := lt_of_lt_of_eq q.k.isLt trips
  unfold L chunk
  congr 1
  · funext a
    match a with
    | ⟨0, _⟩ => exact read3 q.hw q.x _ 0 q.k.val (k0_off10_eq q.k) hk _
    | ⟨1, _⟩ => exact read3 q.hw q.x _ 1 q.k.val (k0_off11_eq q.k) hk _
    | ⟨2, _⟩ => exact read3 q.hw q.x _ 2 q.k.val (k0_off12_eq q.k) hk _
    | ⟨3, _⟩ => exact read3 q.hw q.x _ 3 q.k.val (k0_off13_eq q.k) hk _
    | ⟨4, _⟩ => exact read3 q.hw q.x _ 4 q.k.val (k0_off14_eq q.k) hk _
    | ⟨5, _⟩ => exact read3 q.hw q.x _ 5 q.k.val (k0_off15_eq q.k) hk _
    | ⟨6, _⟩ => exact read3 q.hw q.x _ 6 q.k.val (k0_off16_eq q.k) hk _
    | ⟨7, _⟩ => exact read3 q.hw q.x _ 7 q.k.val (k0_off17_eq q.k) hk _
  · funext a
    match a with
    | ⟨0, _⟩ => exact read3 q.hu q.t _ 0 q.k.val (k0_off10_eq q.k) hk _
    | ⟨1, _⟩ => exact read3 q.hu q.t _ 1 q.k.val (k0_off11_eq q.k) hk _
    | ⟨2, _⟩ => exact read3 q.hu q.t _ 2 q.k.val (k0_off12_eq q.k) hk _
    | ⟨3, _⟩ => exact read3 q.hu q.t _ 3 q.k.val (k0_off13_eq q.k) hk _
    | ⟨4, _⟩ => exact read3 q.hu q.t _ 4 q.k.val (k0_off14_eq q.k) hk _
    | ⟨5, _⟩ => exact read3 q.hu q.t _ 5 q.k.val (k0_off15_eq q.k) hk _
    | ⟨6, _⟩ => exact read3 q.hu q.t _ 6 q.k.val (k0_off16_eq q.k) hk _
    | ⟨7, _⟩ => exact read3 q.hu q.t _ 7 q.k.val (k0_off17_eq q.k) hk _
  · exact read2 q.hr q.th _ q.k.val (k0_off18_eq q.k) hk _

/-! Value by value, over the ones before it. -/

theorem e26 : sl.v26 (F := Ideal) q.i q.w q.h q.X q.k = q.L.v26 := by
  unfold Chunk.v26; rfl
theorem e29 : sl.v29 (F := Ideal) q.i q.w q.h q.X q.k = q.L.v29 := by
  unfold Chunk.v29; rfl
theorem e32 : sl.v32 (F := Ideal) q.i q.w q.h q.X q.k = q.L.v32 := by
  unfold Chunk.v32; rfl
theorem e35 : sl.v35 (F := Ideal) q.i q.w q.h q.X q.k = q.L.v35 := by
  unfold Chunk.v35; rfl
theorem e38 : sl.v38 (F := Ideal) q.i q.w q.h q.X q.k = q.L.v38 := by
  unfold Chunk.v38; rfl
theorem e41 : sl.v41 (F := Ideal) q.i q.w q.h q.X q.k = q.L.v41 := by
  unfold Chunk.v41; rfl
theorem e44 : sl.v44 (F := Ideal) q.i q.w q.h q.X q.k = q.L.v44 := by
  unfold Chunk.v44; rfl
theorem e47 : sl.v47 (F := Ideal) q.i q.w q.h q.X q.k = q.L.v47 := by
  unfold Chunk.v47; rfl
theorem e50 : sl.v50 (F := Ideal) q.i q.u q.h q.T q.k = q.L.v50 := by
  unfold Chunk.v50; rfl
theorem e53 : sl.v53 (F := Ideal) q.i q.u q.h q.T q.k = q.L.v53 := by
  unfold Chunk.v53; rfl
theorem e56 : sl.v56 (F := Ideal) q.i q.u q.h q.T q.k = q.L.v56 := by
  unfold Chunk.v56; rfl
theorem e59 : sl.v59 (F := Ideal) q.i q.u q.h q.T q.k = q.L.v59 := by
  unfold Chunk.v59; rfl
theorem e62 : sl.v62 (F := Ideal) q.i q.u q.h q.T q.k = q.L.v62 := by
  unfold Chunk.v62; rfl
theorem e65 : sl.v65 (F := Ideal) q.i q.u q.h q.T q.k = q.L.v65 := by
  unfold Chunk.v65; rfl
theorem e68 : sl.v68 (F := Ideal) q.i q.u q.h q.T q.k = q.L.v68 := by
  unfold Chunk.v68; rfl
theorem e71 : sl.v71 (F := Ideal) q.i q.u q.h q.T q.k = q.L.v71 := by
  unfold Chunk.v71; rfl
theorem e72 : sl.v72 (F := Ideal) q.i q.w q.u q.h q.X q.T q.k = q.L.v72 := by
  unfold Chunk.v72; rw [← q.e26, ← q.e50]; rfl
theorem e73 : sl.v73 (F := Ideal) q.i q.w q.u q.h q.X q.T q.k = q.L.v73 := by
  unfold Chunk.v73; rw [← q.e29, ← q.e53]; rfl
theorem e74 : sl.v74 (F := Ideal) q.i q.w q.u q.h q.X q.T q.k = q.L.v74 := by
  unfold Chunk.v74; rw [← q.e32, ← q.e56]; rfl
theorem e75 : sl.v75 (F := Ideal) q.i q.w q.u q.h q.X q.T q.k = q.L.v75 := by
  unfold Chunk.v75; rw [← q.e35]; rfl
theorem e76 : sl.v76 (F := Ideal) q.i q.w q.u q.h q.X q.T q.k = q.L.v76 := by
  unfold Chunk.v76; rw [← q.e38]; rfl
theorem e77 : sl.v77 (F := Ideal) q.i q.w q.u q.h q.X q.T q.k = q.L.v77 := by
  unfold Chunk.v77; rw [← q.e41]; rfl
theorem e78 : sl.v78 (F := Ideal) q.i q.w q.u q.h q.X q.T q.k = q.L.v78 := by
  unfold Chunk.v78; rw [← q.e44]; rfl
theorem e79 : sl.v79 (F := Ideal) q.i q.w q.u q.h q.X q.T q.k = q.L.v79 := by
  unfold Chunk.v79; rw [← q.e47]; rfl
theorem e88 : sl.v88 (F := Ideal) q.i q.r q.h q.H q.k = q.L.v88 := by
  unfold Chunk.v88; rfl
theorem e89 : sl.v89 (F := Ideal) = q.L.v89 := by
  unfold Chunk.v89; rfl
theorem e90 : sl.v90 (F := Ideal) = q.L.v90 := by
  unfold Chunk.v90; rfl
theorem e91 : sl.v91 (F := Ideal) = q.L.v91 := by
  unfold Chunk.v91; rfl
theorem e92 : sl.v92 (F := Ideal) = q.L.v92 := by
  unfold Chunk.v92; rfl
theorem e93 : sl.v93 (F := Ideal) = q.L.v93 := by
  unfold Chunk.v93; rfl
theorem e94 : sl.v94 (F := Ideal) = q.L.v94 := by
  unfold Chunk.v94; rfl
theorem e95 : sl.v95 (F := Ideal) = q.L.v95 := by
  unfold Chunk.v95; rfl
theorem e96 : sl.v96 (F := Ideal) = q.L.v96 := by
  unfold Chunk.v96; rfl
theorem e101 : sl.v101 (F := Ideal) q.i q.w q.u q.h q.X q.T q.k = q.L.v101 := by
  unfold Chunk.v101; rw [← q.e72, ← q.e73, ← q.e89, ← q.e90]; rfl
theorem e102 : sl.v102 (F := Ideal) q.i q.w q.u q.h q.X q.T q.k = q.L.v102 := by
  unfold Chunk.v102; rw [← q.e72, ← q.e73]; rfl
theorem e103 : sl.v103 (F := Ideal) q.i q.w q.u q.h q.X q.T q.k = q.L.v103 := by
  unfold Chunk.v103; rw [← q.e72, ← q.e73]; rfl
theorem e104 : sl.v104 (F := Ideal) q.i q.w q.u q.h q.X q.T q.k = q.L.v104 := by
  unfold Chunk.v104; rw [← q.e72, ← q.e73, ← q.e89, ← q.e90]; rfl
theorem e105 : sl.v105 (F := Ideal) q.i q.w q.u q.h q.X q.T q.k = q.L.v105 := by
  unfold Chunk.v105; rw [← q.e72, ← q.e73, ← q.e89, ← q.e90]; rfl
theorem e110 : sl.v110 (F := Ideal) q.i q.w q.u q.h q.X q.T q.k = q.L.v110 := by
  unfold Chunk.v110; rw [← q.e74, ← q.e75, ← q.e91, ← q.e92]; rfl
theorem e111 : sl.v111 (F := Ideal) q.i q.w q.u q.h q.X q.T q.k = q.L.v111 := by
  unfold Chunk.v111; rw [← q.e74, ← q.e75]; rfl
theorem e112 : sl.v112 (F := Ideal) q.i q.w q.u q.h q.X q.T q.k = q.L.v112 := by
  unfold Chunk.v112; rw [← q.e74, ← q.e75]; rfl
theorem e113 : sl.v113 (F := Ideal) q.i q.w q.u q.h q.X q.T q.k = q.L.v113 := by
  unfold Chunk.v113; rw [← q.e74, ← q.e75, ← q.e91, ← q.e92]; rfl
theorem e114 : sl.v114 (F := Ideal) q.i q.w q.u q.h q.X q.T q.k = q.L.v114 := by
  unfold Chunk.v114; rw [← q.e74, ← q.e75, ← q.e91, ← q.e92]; rfl
theorem e119 : sl.v119 (F := Ideal) q.i q.w q.u q.h q.X q.T q.k = q.L.v119 := by
  unfold Chunk.v119; rw [← q.e76, ← q.e77, ← q.e93, ← q.e94]; rfl
theorem e120 : sl.v120 (F := Ideal) q.i q.w q.u q.h q.X q.T q.k = q.L.v120 := by
  unfold Chunk.v120; rw [← q.e76, ← q.e77]; rfl
theorem e121 : sl.v121 (F := Ideal) q.i q.w q.u q.h q.X q.T q.k = q.L.v121 := by
  unfold Chunk.v121; rw [← q.e76, ← q.e77]; rfl
theorem e122 : sl.v122 (F := Ideal) q.i q.w q.u q.h q.X q.T q.k = q.L.v122 := by
  unfold Chunk.v122; rw [← q.e76, ← q.e77, ← q.e93, ← q.e94]; rfl
theorem e123 : sl.v123 (F := Ideal) q.i q.w q.u q.h q.X q.T q.k = q.L.v123 := by
  unfold Chunk.v123; rw [← q.e76, ← q.e77, ← q.e93, ← q.e94]; rfl
theorem e128 : sl.v128 (F := Ideal) q.i q.w q.u q.h q.X q.T q.k = q.L.v128 := by
  unfold Chunk.v128; rw [← q.e78, ← q.e79, ← q.e95, ← q.e96]; rfl
theorem e129 : sl.v129 (F := Ideal) q.i q.w q.u q.h q.X q.T q.k = q.L.v129 := by
  unfold Chunk.v129; rw [← q.e78, ← q.e79]; rfl
theorem e130 : sl.v130 (F := Ideal) q.i q.w q.u q.h q.X q.T q.k = q.L.v130 := by
  unfold Chunk.v130; rw [← q.e78, ← q.e79]; rfl
theorem e131 : sl.v131 (F := Ideal) q.i q.w q.u q.h q.X q.T q.k = q.L.v131 := by
  unfold Chunk.v131; rw [← q.e78, ← q.e79, ← q.e95, ← q.e96]; rfl
theorem e132 : sl.v132 (F := Ideal) q.i q.w q.u q.h q.X q.T q.k = q.L.v132 := by
  unfold Chunk.v132; rw [← q.e78, ← q.e79, ← q.e95, ← q.e96]; rfl
theorem e137 : sl.v137 (F := Ideal) q.i q.w q.u q.h q.X q.T q.k = q.L.v137 := by
  unfold Chunk.v137; rw [← q.e72, ← q.e73, ← q.e74, ← q.e75, ← q.e89, ← q.e90, ← q.e91, ← q.e92]; rfl
theorem e138 : sl.v138 (F := Ideal) q.i q.w q.u q.h q.X q.T q.k = q.L.v138 := by
  unfold Chunk.v138; rw [← q.e72, ← q.e73, ← q.e74, ← q.e75]; rfl
theorem e139 : sl.v139 (F := Ideal) q.i q.w q.u q.h q.X q.T q.k = q.L.v139 := by
  unfold Chunk.v139; rw [← q.e72, ← q.e73, ← q.e74, ← q.e75]; rfl
theorem e140 : sl.v140 (F := Ideal) q.i q.w q.u q.h q.X q.T q.k = q.L.v140 := by
  unfold Chunk.v140; rw [← q.e72, ← q.e73, ← q.e74, ← q.e75, ← q.e89, ← q.e90, ← q.e91, ← q.e92]; rfl
theorem e141 : sl.v141 (F := Ideal) q.i q.w q.u q.h q.X q.T q.k = q.L.v141 := by
  unfold Chunk.v141; rw [← q.e72, ← q.e73, ← q.e74, ← q.e75, ← q.e89, ← q.e90, ← q.e91, ← q.e92]; rfl
theorem e146 : sl.v146 (F := Ideal) q.i q.w q.u q.h q.X q.T q.k = q.L.v146 := by
  unfold Chunk.v146; rw [← q.e72, ← q.e73, ← q.e74, ← q.e75, ← q.e89, ← q.e90, ← q.e91, ← q.e92]; rfl
theorem e147 : sl.v147 (F := Ideal) q.i q.w q.u q.h q.X q.T q.k = q.L.v147 := by
  unfold Chunk.v147; rw [← q.e72, ← q.e73, ← q.e74, ← q.e75]; rfl
theorem e148 : sl.v148 (F := Ideal) q.i q.w q.u q.h q.X q.T q.k = q.L.v148 := by
  unfold Chunk.v148; rw [← q.e72, ← q.e73, ← q.e74, ← q.e75]; rfl
theorem e149 : sl.v149 (F := Ideal) q.i q.w q.u q.h q.X q.T q.k = q.L.v149 := by
  unfold Chunk.v149; rw [← q.e72, ← q.e73, ← q.e74, ← q.e75, ← q.e89, ← q.e90, ← q.e91, ← q.e92]; rfl
theorem e150 : sl.v150 (F := Ideal) q.i q.w q.u q.h q.X q.T q.k = q.L.v150 := by
  unfold Chunk.v150; rw [← q.e72, ← q.e73, ← q.e74, ← q.e75, ← q.e89, ← q.e90, ← q.e91, ← q.e92]; rfl
theorem e155 : sl.v155 (F := Ideal) q.i q.w q.u q.h q.X q.T q.k = q.L.v155 := by
  unfold Chunk.v155; rw [← q.e76, ← q.e77, ← q.e78, ← q.e79, ← q.e93, ← q.e94, ← q.e95, ← q.e96]; rfl
theorem e156 : sl.v156 (F := Ideal) q.i q.w q.u q.h q.X q.T q.k = q.L.v156 := by
  unfold Chunk.v156; rw [← q.e76, ← q.e77, ← q.e78, ← q.e79]; rfl
theorem e157 : sl.v157 (F := Ideal) q.i q.w q.u q.h q.X q.T q.k = q.L.v157 := by
  unfold Chunk.v157; rw [← q.e120, ← q.e129]; rfl
theorem e158 : sl.v158 (F := Ideal) q.i q.w q.u q.h q.X q.T q.k = q.L.v158 := by
  unfold Chunk.v158; rw [← q.e122, ← q.e131, ← q.e155]; rfl
theorem e159 : sl.v159 (F := Ideal) q.i q.w q.u q.h q.X q.T q.k = q.L.v159 := by
  unfold Chunk.v159; rw [← q.e122, ← q.e131, ← q.e155]; rfl
theorem e164 : sl.v164 (F := Ideal) q.i q.w q.u q.h q.X q.T q.k = q.L.v164 := by
  unfold Chunk.v164; rw [← q.e121, ← q.e123, ← q.e130, ← q.e132]; rfl
theorem e165 : sl.v165 (F := Ideal) q.i q.w q.u q.h q.X q.T q.k = q.L.v165 := by
  unfold Chunk.v165; rw [← q.e121, ← q.e130]; rfl
theorem e166 : sl.v166 (F := Ideal) q.i q.w q.u q.h q.X q.T q.k = q.L.v166 := by
  unfold Chunk.v166; rw [← q.e121, ← q.e130]; rfl
theorem e167 : sl.v167 (F := Ideal) q.i q.w q.u q.h q.X q.T q.k = q.L.v167 := by
  unfold Chunk.v167; rw [← q.e121, ← q.e123, ← q.e130, ← q.e132]; rfl
theorem e168 : sl.v168 (F := Ideal) q.i q.w q.u q.h q.X q.T q.k = q.L.v168 := by
  unfold Chunk.v168; rw [← q.e121, ← q.e123, ← q.e130, ← q.e132]; rfl
theorem e173 : sl.v173 (F := Ideal) q.i q.w q.u q.h q.X q.T q.k = q.L.v173 := by
  unfold Chunk.v173; rw [← q.e139, ← q.e141, ← q.e147, ← q.e149]; rfl
theorem e174 : sl.v174 (F := Ideal) q.i q.w q.u q.h q.X q.T q.k = q.L.v174 := by
  unfold Chunk.v174; rw [← q.e139, ← q.e147]; rfl
theorem e175 : sl.v175 (F := Ideal) q.i q.w q.u q.h q.X q.T q.k = q.L.v175 := by
  unfold Chunk.v175; rw [← q.e139, ← q.e147]; rfl
theorem e176 : sl.v176 (F := Ideal) q.i q.w q.u q.h q.X q.T q.k = q.L.v176 := by
  unfold Chunk.v176; rw [← q.e139, ← q.e141, ← q.e147, ← q.e149]; rfl
theorem e177 : sl.v177 (F := Ideal) q.i q.w q.u q.h q.X q.T q.k = q.L.v177 := by
  unfold Chunk.v177; rw [← q.e139, ← q.e141, ← q.e147, ← q.e149]; rfl
theorem e182 : sl.v182 (F := Ideal) q.i q.w q.u q.h q.X q.T q.k = q.L.v182 := by
  unfold Chunk.v182; rw [← q.e120, ← q.e121, ← q.e122, ← q.e123, ← q.e129, ← q.e130, ← q.e131, ← q.e132, ← q.e155]; rfl
theorem e183 : sl.v183 (F := Ideal) q.i q.w q.u q.h q.X q.T q.k = q.L.v183 := by
  unfold Chunk.v183; rw [← q.e120, ← q.e121, ← q.e129, ← q.e130]; rfl
theorem e184 : sl.v184 (F := Ideal) q.i q.w q.u q.h q.X q.T q.k = q.L.v184 := by
  unfold Chunk.v184; rw [← q.e120, ← q.e121, ← q.e129, ← q.e130]; rfl
theorem e185 : sl.v185 (F := Ideal) q.i q.w q.u q.h q.X q.T q.k = q.L.v185 := by
  unfold Chunk.v185; rw [← q.e120, ← q.e121, ← q.e122, ← q.e123, ← q.e129, ← q.e130, ← q.e131, ← q.e132, ← q.e155]; rfl
theorem e186 : sl.v186 (F := Ideal) q.i q.w q.u q.h q.X q.T q.k = q.L.v186 := by
  unfold Chunk.v186; rw [← q.e120, ← q.e121, ← q.e122, ← q.e123, ← q.e129, ← q.e130, ← q.e131, ← q.e132, ← q.e155]; rfl
theorem e191 : sl.v191 (F := Ideal) q.i q.w q.u q.h q.X q.T q.k = q.L.v191 := by
  unfold Chunk.v191; rw [← q.e122, ← q.e131, ← q.e138, ← q.e140, ← q.e155, ← q.e156]; rfl
theorem e192 : sl.v192 (F := Ideal) q.i q.w q.u q.h q.X q.T q.k = q.L.v192 := by
  unfold Chunk.v192; rw [← q.e138, ← q.e156]; rfl
theorem e193 : sl.v193 (F := Ideal) q.i q.w q.u q.h q.X q.T q.k = q.L.v193 := by
  unfold Chunk.v193; rw [← q.e138, ← q.e156]; rfl
theorem e194 : sl.v194 (F := Ideal) q.i q.w q.u q.h q.X q.T q.k = q.L.v194 := by
  unfold Chunk.v194; rw [← q.e122, ← q.e131, ← q.e138, ← q.e140, ← q.e155, ← q.e156]; rfl
theorem e195 : sl.v195 (F := Ideal) q.i q.w q.u q.h q.X q.T q.k = q.L.v195 := by
  unfold Chunk.v195; rw [← q.e122, ← q.e131, ← q.e138, ← q.e140, ← q.e155, ← q.e156]; rfl
theorem e200 : sl.v200 (F := Ideal) q.i q.w q.u q.h q.X q.T q.k = q.L.v200 := by
  unfold Chunk.v200; rw [← q.e120, ← q.e121, ← q.e122, ← q.e123, ← q.e129, ← q.e130, ← q.e131, ← q.e132, ← q.e139, ← q.e141, ← q.e147, ← q.e149, ← q.e155]; rfl
theorem e201 : sl.v201 (F := Ideal) q.i q.w q.u q.h q.X q.T q.k = q.L.v201 := by
  unfold Chunk.v201; rw [← q.e120, ← q.e121, ← q.e129, ← q.e130, ← q.e139, ← q.e147]; rfl
theorem e202 : sl.v202 (F := Ideal) q.i q.w q.u q.h q.X q.T q.k = q.L.v202 := by
  unfold Chunk.v202; rw [← q.e120, ← q.e121, ← q.e129, ← q.e130, ← q.e139, ← q.e147]; rfl
theorem e203 : sl.v203 (F := Ideal) q.i q.w q.u q.h q.X q.T q.k = q.L.v203 := by
  unfold Chunk.v203; rw [← q.e120, ← q.e121, ← q.e122, ← q.e123, ← q.e129, ← q.e130, ← q.e131, ← q.e132, ← q.e139, ← q.e141, ← q.e147, ← q.e149, ← q.e155]; rfl
theorem e204 : sl.v204 (F := Ideal) q.i q.w q.u q.h q.X q.T q.k = q.L.v204 := by
  unfold Chunk.v204; rw [← q.e120, ← q.e121, ← q.e122, ← q.e123, ← q.e129, ← q.e130, ← q.e131, ← q.e132, ← q.e139, ← q.e141, ← q.e147, ← q.e149, ← q.e155]; rfl
theorem e209 : sl.v209 (F := Ideal) q.i q.w q.u q.h q.X q.T q.k = q.L.v209 := by
  unfold Chunk.v209; rw [← q.e120, ← q.e121, ← q.e122, ← q.e123, ← q.e129, ← q.e130, ← q.e131, ← q.e132, ← q.e139, ← q.e141, ← q.e147, ← q.e149, ← q.e155]; rfl
theorem e210 : sl.v210 (F := Ideal) q.i q.w q.u q.h q.X q.T q.k = q.L.v210 := by
  unfold Chunk.v210; rw [← q.e120, ← q.e121, ← q.e129, ← q.e130, ← q.e139, ← q.e147]; rfl
theorem e211 : sl.v211 (F := Ideal) q.i q.w q.u q.h q.X q.T q.k = q.L.v211 := by
  unfold Chunk.v211; rw [← q.e120, ← q.e121, ← q.e129, ← q.e130, ← q.e139, ← q.e147]; rfl
theorem e212 : sl.v212 (F := Ideal) q.i q.w q.u q.h q.X q.T q.k = q.L.v212 := by
  unfold Chunk.v212; rw [← q.e120, ← q.e121, ← q.e122, ← q.e123, ← q.e129, ← q.e130, ← q.e131, ← q.e132, ← q.e139, ← q.e141, ← q.e147, ← q.e149, ← q.e155]; rfl
theorem e213 : sl.v213 (F := Ideal) q.i q.w q.u q.h q.X q.T q.k = q.L.v213 := by
  unfold Chunk.v213; rw [← q.e120, ← q.e121, ← q.e122, ← q.e123, ← q.e129, ← q.e130, ← q.e131, ← q.e132, ← q.e139, ← q.e141, ← q.e147, ← q.e149, ← q.e155]; rfl
theorem e214 : sl.v214 (F := Ideal) q.i q.w q.u q.h q.X q.T q.k = q.L.v214 := by
  unfold Chunk.v214; rw [← q.e121, ← q.e130, ← q.e148]; rfl
theorem e215 : sl.v215 (F := Ideal) q.i q.w q.u q.h q.X q.T q.k = q.L.v215 := by
  unfold Chunk.v215; rw [← q.e121, ← q.e130, ← q.e148]; rfl
theorem e216 : sl.v216 (F := Ideal) q.i q.w q.u q.h q.X q.T q.k = q.L.v216 := by
  unfold Chunk.v216; rw [← q.e121, ← q.e123, ← q.e130, ← q.e132, ← q.e150]; rfl
theorem e218 : sl.v218 (F := Ideal) q.i q.w q.u q.h q.X q.T q.k = q.L.v218 := by
  unfold Chunk.v218; rw [← q.e214, ← q.e215, ← q.e216]; rfl
theorem e219 : sl.v219 (F := Ideal) q.i q.w q.u q.h q.X q.T q.k = q.L.v219 := by
  unfold Chunk.v219; rw [← q.e148, ← q.e166]; rfl
theorem e220 : sl.v220 (F := Ideal) q.i q.w q.u q.h q.X q.T q.k = q.L.v220 := by
  unfold Chunk.v220; rw [← q.e148, ← q.e166]; rfl
theorem e221 : sl.v221 (F := Ideal) q.i q.w q.u q.h q.X q.T q.k = q.L.v221 := by
  unfold Chunk.v221; rw [← q.e150, ← q.e168, ← q.e214, ← q.e215, ← q.e216]; rfl
theorem e222 : sl.v222 (F := Ideal) q.i q.w q.u q.h q.X q.T q.k = q.L.v222 := by
  unfold Chunk.v222; rw [← q.e150, ← q.e168, ← q.e214, ← q.e215, ← q.e216]; rfl
theorem e227 : sl.v227 (F := Ideal) q.i q.w q.u q.h q.X q.T q.k = q.L.v227 := by
  unfold Chunk.v227; rw [← q.e193, ← q.e195, ← q.e210, ← q.e212]; rfl
theorem e228 : sl.v228 (F := Ideal) q.i q.w q.u q.h q.X q.T q.k = q.L.v228 := by
  unfold Chunk.v228; rw [← q.e193, ← q.e210]; rfl
theorem e229 : sl.v229 (F := Ideal) q.i q.w q.u q.h q.X q.T q.k = q.L.v229 := by
  unfold Chunk.v229; rw [← q.e193, ← q.e210]; rfl
theorem e230 : sl.v230 (F := Ideal) q.i q.w q.u q.h q.X q.T q.k = q.L.v230 := by
  unfold Chunk.v230; rw [← q.e193, ← q.e195, ← q.e210, ← q.e212]; rfl
theorem e231 : sl.v231 (F := Ideal) q.i q.w q.u q.h q.X q.T q.k = q.L.v231 := by
  unfold Chunk.v231; rw [← q.e193, ← q.e195, ← q.e210, ← q.e212]; rfl
theorem e236 : sl.v236 (F := Ideal) q.i q.w q.u q.h q.X q.T q.k = q.L.v236 := by
  unfold Chunk.v236; rw [← q.e148, ← q.e150, ← q.e166, ← q.e168, ← q.e202, ← q.e204, ← q.e214, ← q.e215, ← q.e216]; rfl
theorem e237 : sl.v237 (F := Ideal) q.i q.w q.u q.h q.X q.T q.k = q.L.v237 := by
  unfold Chunk.v237; rw [← q.e148, ← q.e166, ← q.e202]; rfl
theorem e238 : sl.v238 (F := Ideal) q.i q.w q.u q.h q.X q.T q.k = q.L.v238 := by
  unfold Chunk.v238; rw [← q.e148, ← q.e166, ← q.e202]; rfl
theorem e239 : sl.v239 (F := Ideal) q.i q.w q.u q.h q.X q.T q.k = q.L.v239 := by
  unfold Chunk.v239; rw [← q.e148, ← q.e150, ← q.e166, ← q.e168, ← q.e202, ← q.e204, ← q.e214, ← q.e215, ← q.e216]; rfl
theorem e240 : sl.v240 (F := Ideal) q.i q.w q.u q.h q.X q.T q.k = q.L.v240 := by
  unfold Chunk.v240; rw [← q.e148, ← q.e150, ← q.e166, ← q.e168, ← q.e202, ← q.e204, ← q.e214, ← q.e215, ← q.e216]; rfl
theorem e245 : sl.v245 (F := Ideal) q.i q.w q.u q.h q.X q.T q.k = q.L.v245 := by
  unfold Chunk.v245; rw [← q.e193, ← q.e195, ← q.e201, ← q.e203, ← q.e210, ← q.e212]; rfl
theorem e246 : sl.v246 (F := Ideal) q.i q.w q.u q.h q.X q.T q.k = q.L.v246 := by
  unfold Chunk.v246; rw [← q.e193, ← q.e201, ← q.e210]; rfl
theorem e247 : sl.v247 (F := Ideal) q.i q.w q.u q.h q.X q.T q.k = q.L.v247 := by
  unfold Chunk.v247; rw [← q.e193, ← q.e201, ← q.e210]; rfl
theorem e248 : sl.v248 (F := Ideal) q.i q.w q.u q.h q.X q.T q.k = q.L.v248 := by
  unfold Chunk.v248; rw [← q.e193, ← q.e195, ← q.e201, ← q.e203, ← q.e210, ← q.e212]; rfl
theorem e249 : sl.v249 (F := Ideal) q.i q.w q.u q.h q.X q.T q.k = q.L.v249 := by
  unfold Chunk.v249; rw [← q.e193, ← q.e195, ← q.e201, ← q.e203, ← q.e210, ← q.e212]; rfl
theorem e254 : sl.v254 (F := Ideal) q.i q.w q.u q.h q.X q.T q.k = q.L.v254 := by
  unfold Chunk.v254; rw [← q.e148, ← q.e150, ← q.e166, ← q.e168, ← q.e193, ← q.e195, ← q.e202, ← q.e204, ← q.e210, ← q.e212, ← q.e214, ← q.e215, ← q.e216]; rfl
theorem e255 : sl.v255 (F := Ideal) q.i q.w q.u q.h q.X q.T q.k = q.L.v255 := by
  unfold Chunk.v255; rw [← q.e148, ← q.e166, ← q.e193, ← q.e202, ← q.e210]; rfl
theorem e256 : sl.v256 (F := Ideal) q.i q.w q.u q.h q.X q.T q.k = q.L.v256 := by
  unfold Chunk.v256; rw [← q.e148, ← q.e166, ← q.e193, ← q.e202, ← q.e210]; rfl
theorem e257 : sl.v257 (F := Ideal) q.i q.w q.u q.h q.X q.T q.k = q.L.v257 := by
  unfold Chunk.v257; rw [← q.e148, ← q.e150, ← q.e166, ← q.e168, ← q.e193, ← q.e195, ← q.e202, ← q.e204, ← q.e210, ← q.e212, ← q.e214, ← q.e215, ← q.e216]; rfl
theorem e258 : sl.v258 (F := Ideal) q.i q.w q.u q.h q.X q.T q.k = q.L.v258 := by
  unfold Chunk.v258; rw [← q.e148, ← q.e150, ← q.e166, ← q.e168, ← q.e193, ← q.e195, ← q.e202, ← q.e204, ← q.e210, ← q.e212, ← q.e214, ← q.e215, ← q.e216]; rfl
theorem e263 : sl.v263 (F := Ideal) q.i q.w q.u q.h q.X q.T q.k = q.L.v263 := by
  unfold Chunk.v263; rw [← q.e148, ← q.e150, ← q.e166, ← q.e168, ← q.e202, ← q.e204, ← q.e211, ← q.e213, ← q.e214, ← q.e215, ← q.e216]; rfl
theorem e264 : sl.v264 (F := Ideal) q.i q.w q.u q.h q.X q.T q.k = q.L.v264 := by
  unfold Chunk.v264; rw [← q.e148, ← q.e166, ← q.e202, ← q.e211]; rfl
theorem e265 : sl.v265 (F := Ideal) q.i q.w q.u q.h q.X q.T q.k = q.L.v265 := by
  unfold Chunk.v265; rw [← q.e148, ← q.e166, ← q.e202, ← q.e211]; rfl
theorem e266 : sl.v266 (F := Ideal) q.i q.w q.u q.h q.X q.T q.k = q.L.v266 := by
  unfold Chunk.v266; rw [← q.e148, ← q.e150, ← q.e166, ← q.e168, ← q.e202, ← q.e204, ← q.e211, ← q.e213, ← q.e214, ← q.e215, ← q.e216]; rfl
theorem e267 : sl.v267 (F := Ideal) q.i q.w q.u q.h q.X q.T q.k = q.L.v267 := by
  unfold Chunk.v267; rw [← q.e148, ← q.e150, ← q.e166, ← q.e168, ← q.e202, ← q.e204, ← q.e211, ← q.e213, ← q.e214, ← q.e215, ← q.e216]; rfl
theorem e268 : sl.v268 (F := Ideal) q.i q.g1 q.g2 = q.L.v268 := by
  unfold Chunk.v268; rfl
theorem e273 : sl.v273 (F := Ideal) q.i q.w q.u q.r q.g1 q.g2 q.h q.X q.T q.H q.k = q.L.v273 := by
  unfold Chunk.v273; rw [← q.e88, ← q.e192, ← q.e193, ← q.e201, ← q.e210]; rfl
theorem e283 : sl.v283 (F := Ideal) q.i q.w q.u q.r q.g1 q.g2 q.h q.X q.T q.H q.k = q.L.v283 := by
  unfold Chunk.v283 Chunk.v269; rw [← q.e273]; rfl
theorem e297 : sl.v297 (F := Ideal) q.i q.w q.u q.r q.g1 q.g2 q.h q.X q.T q.H q.k = q.L.v297 := by
  unfold Chunk.v297 Chunk.v269; rw [← q.e88, ← q.e246, ← q.e247, ← q.e268, ← q.e273]; rfl
theorem e311 : sl.v311 (F := Ideal) q.i q.w q.u q.r q.g1 q.g2 q.h q.X q.T q.H q.k = q.L.v311 := by
  unfold Chunk.v311 Chunk.v269; rw [← q.e88, ← q.e246, ← q.e247, ← q.e255, ← q.e268, ← q.e273]; rfl
theorem e320 : sl.v320 (F := Ideal) q.i q.w q.u q.r q.g1 q.g2 q.h q.X q.T q.H q.k = q.L.v320 := by
  unfold Chunk.v320; rw [← q.e88, ← q.e255, ← q.e256, ← q.e268]; rfl
theorem e325 : sl.v325 (F := Ideal) q.i q.w q.u q.r q.g1 q.g2 q.h q.X q.T q.H q.k = q.L.v325 := by
  unfold Chunk.v325; rw [← q.e311, ← q.e320]; rfl
theorem e339 : sl.v339 (F := Ideal) q.i q.w q.u q.r q.g1 q.g2 q.h q.X q.T q.H q.k = q.L.v339 := by
  unfold Chunk.v339; rw [← q.e88, ← q.e256, ← q.e264, ← q.e268, ← q.e311, ← q.e320]; rfl
theorem e353 : sl.v353 (F := Ideal) q.i q.w q.u q.r q.g1 q.g2 q.h q.X q.T q.H q.k = q.L.v353 := by
  unfold Chunk.v353; rw [← q.e88, ← q.e256, ← q.e264, ← q.e265, ← q.e268, ← q.e311, ← q.e320]; rfl
theorem e366 : sl.v366 (F := Ideal) q.i q.w q.u q.r q.g1 q.g2 q.h q.X q.T q.H q.k = q.L.v366 := by
  unfold Chunk.v366; rw [← q.e88, ← q.e220, ← q.e265, ← q.e268]; rfl
theorem e367 : sl.r (F := Ideal) q.i q.w q.u q.r q.g1 q.g2 q.h q.X q.T q.H q.k = q.L.v367 := by
  unfold Chunk.v367; rw [← q.e353, ← q.e366]; rfl
theorem e378 : sl.r_1 (F := Ideal) = q.L.v378 := by
  unfold Chunk.v378 Chunk.v269; rfl
theorem e387 : sl.r_2 (F := Ideal) q.i q.w q.u q.r q.g1 q.g2 q.h q.X q.T q.H q.k = q.L.v387 := by
  unfold Chunk.v387; rw [← q.e283]; rfl
theorem e396 : sl.r_3 (F := Ideal) q.i q.w q.u q.r q.g1 q.g2 q.h q.X q.T q.H q.k = q.L.v396 := by
  unfold Chunk.v396; rw [← q.e297]; rfl
theorem e405 : sl.r_4 (F := Ideal) q.i q.w q.u q.r q.g1 q.g2 q.h q.X q.T q.H q.k = q.L.v405 := by
  unfold Chunk.v405; rw [← q.e311]; rfl
theorem e407 : sl.r_5 (F := Ideal) q.i q.w q.u q.r q.g1 q.g2 q.h q.X q.T q.H q.k = q.L.v407 := by
  unfold Chunk.v407; rw [← q.e325]; rfl
theorem e414 : sl.r_6 (F := Ideal) q.i q.w q.u q.r q.g1 q.g2 q.h q.X q.T q.H q.k = q.L.v414 := by
  unfold Chunk.v414; rw [← q.e407]; rfl
theorem e423 : sl.r_7 (F := Ideal) q.i q.w q.u q.r q.g1 q.g2 q.h q.X q.T q.H q.k = q.L.v423 := by
  unfold Chunk.v423; rw [← q.e339]; rfl
theorem e432 : sl.r_8 (F := Ideal) q.i q.w q.u q.r q.g1 q.g2 q.h q.X q.T q.H q.k = q.L.v432 := by
  unfold Chunk.v432; rw [← q.e353]; rfl
theorem e441 : sl.r_9 (F := Ideal) q.i q.w q.u q.r q.g1 q.g2 q.h q.X q.T q.H q.k = q.L.v441 := by
  unfold Chunk.v441; rw [← q.e367]; rfl
theorem e449 : sl.r_10 (F := Ideal) q.i q.w q.u q.r q.g1 q.g2 q.h q.X q.T q.H q.k = q.L.v449 := by
  unfold Chunk.v449 Chunk.v368; rw [← q.e192, ← q.e246, ← q.e247, ← q.e378, ← q.e387, ← q.e396]; rfl
theorem e451 : sl.r_11 (F := Ideal) q.i q.w q.u q.r q.g1 q.g2 q.h q.X q.T q.H q.k = q.L.v451 := by
  unfold Chunk.v451 Chunk.v368 Chunk.v369; rw [← q.e378, ← q.e387, ← q.e396]; rfl
theorem e452 : sl.r_12 (F := Ideal) q.i q.w q.u q.r q.g1 q.g2 q.h q.X q.T q.H q.k = q.L.v452 := by
  unfold Chunk.v452 Chunk.v368; rw [← q.e255, ← q.e405]; rfl
theorem e476 : sl.r_13 (F := Ideal) q.i q.w q.u q.r q.g1 q.g2 q.h q.X q.T q.H q.k = q.L.v476 := by
  unfold Chunk.v476 Chunk.v368 Chunk.v369; rw [← q.e220, ← q.e256, ← q.e264, ← q.e265, ← q.e378, ← q.e405, ← q.e414, ← q.e423, ← q.e432, ← q.e441, ← q.e449, ← q.e451, ← q.e452]; rfl
theorem e478 : sl.r_14 (F := Ideal) q.i q.w q.u q.r q.g1 q.g2 q.h q.X q.T q.H q.k = q.L.v478 := by
  unfold Chunk.v478 Chunk.v368 Chunk.v369; rw [← q.e220, ← q.e256, ← q.e264, ← q.e265, ← q.e387, ← q.e405, ← q.e414, ← q.e423, ← q.e432, ← q.e441, ← q.e449, ← q.e451, ← q.e452]; rfl
theorem e480 : sl.r_15 (F := Ideal) q.i q.w q.u q.r q.g1 q.g2 q.h q.X q.T q.H q.k = q.L.v480 := by
  unfold Chunk.v480 Chunk.v368 Chunk.v369; rw [← q.e220, ← q.e256, ← q.e264, ← q.e265, ← q.e396, ← q.e405, ← q.e414, ← q.e423, ← q.e432, ← q.e441, ← q.e449, ← q.e451, ← q.e452]; rfl
theorem e482 : sl.r_16 (F := Ideal) q.i q.w q.u q.r q.g1 q.g2 q.h q.X q.T q.H q.k = q.L.v482 := by
  unfold Chunk.v482 Chunk.v368 Chunk.v369; rw [← q.e220, ← q.e256, ← q.e264, ← q.e265, ← q.e405, ← q.e414, ← q.e423, ← q.e432, ← q.e441, ← q.e449, ← q.e451, ← q.e452]; rfl
theorem e484 : sl.r_17 (F := Ideal) q.i q.w q.u q.r q.g1 q.g2 q.h q.X q.T q.H q.k = q.L.v484 := by
  unfold Chunk.v484 Chunk.v368 Chunk.v369; rw [← q.e220, ← q.e256, ← q.e264, ← q.e265, ← q.e405, ← q.e414, ← q.e423, ← q.e432, ← q.e441, ← q.e449, ← q.e451, ← q.e452]; rfl
theorem e486 : sl.r_18 (F := Ideal) q.i q.w q.u q.r q.g1 q.g2 q.h q.X q.T q.H q.k = q.L.v486 := by
  unfold Chunk.v486 Chunk.v368 Chunk.v369; rw [← q.e220, ← q.e256, ← q.e264, ← q.e265, ← q.e405, ← q.e414, ← q.e423, ← q.e432, ← q.e441, ← q.e449, ← q.e451, ← q.e452]; rfl
theorem e488 : sl.r_19 (F := Ideal) q.i q.w q.u q.r q.g1 q.g2 q.h q.X q.T q.H q.k = q.L.v488 := by
  unfold Chunk.v488 Chunk.v368 Chunk.v369; rw [← q.e220, ← q.e256, ← q.e264, ← q.e265, ← q.e405, ← q.e414, ← q.e423, ← q.e432, ← q.e441, ← q.e449, ← q.e451, ← q.e452]; rfl
theorem e490 : sl.r_20 (F := Ideal) q.i q.w q.u q.r q.g1 q.g2 q.h q.X q.T q.H q.k = q.L.v490 := by
  unfold Chunk.v490 Chunk.v368 Chunk.v369; rw [← q.e220, ← q.e256, ← q.e264, ← q.e265, ← q.e405, ← q.e414, ← q.e423, ← q.e432, ← q.e441, ← q.e449, ← q.e451, ← q.e452]; rfl
theorem e499 : sl.r_21 (F := Ideal) = q.L.v499 := by
  unfold Chunk.v499 Chunk.v269; rfl
theorem e504 : sl.r_22 (F := Ideal) q.i q.w q.u q.r q.g1 q.g2 q.h q.X q.T q.H q.k = q.L.v504 := by
  unfold Chunk.v504; rw [← q.e283]; rfl
theorem e508 : sl.r_23 (F := Ideal) q.i q.w q.u q.r q.g1 q.g2 q.h q.X q.T q.H q.k = q.L.v508 := by
  unfold Chunk.v508; rw [← q.e504]; rfl
theorem e517 : sl.r_24 (F := Ideal) q.i q.w q.u q.r q.g1 q.g2 q.h q.X q.T q.H q.k = q.L.v517 := by
  unfold Chunk.v517; rw [← q.e297]; rfl
theorem e526 : sl.r_25 (F := Ideal) q.i q.w q.u q.r q.g1 q.g2 q.h q.X q.T q.H q.k = q.L.v526 := by
  unfold Chunk.v526; rw [← q.e311]; rfl
theorem e535 : sl.r_26 (F := Ideal) q.i q.w q.u q.r q.g1 q.g2 q.h q.X q.T q.H q.k = q.L.v535 := by
  unfold Chunk.v535; rw [← q.e325]; rfl
theorem e544 : sl.r_27 (F := Ideal) q.i q.w q.u q.r q.g1 q.g2 q.h q.X q.T q.H q.k = q.L.v544 := by
  unfold Chunk.v544; rw [← q.e339]; rfl
theorem e546 : sl.r_28 (F := Ideal) q.i q.w q.u q.r q.g1 q.g2 q.h q.X q.T q.H q.k = q.L.v546 := by
  unfold Chunk.v546; rw [← q.e353]; rfl
theorem e553 : sl.r_29 (F := Ideal) q.i q.w q.u q.r q.g1 q.g2 q.h q.X q.T q.H q.k = q.L.v553 := by
  unfold Chunk.v553; rw [← q.e546]; rfl
theorem e562 : sl.r_30 (F := Ideal) q.i q.w q.u q.r q.g1 q.g2 q.h q.X q.T q.H q.k = q.L.v562 := by
  unfold Chunk.v562; rw [← q.e367]; rfl
theorem e595 : sl.r_31 (F := Ideal) q.i q.w q.u q.r q.g1 q.g2 q.h q.X q.T q.H q.k = q.L.v595 := by
  unfold Chunk.v595 Chunk.v368 Chunk.v369; rw [← q.e192, ← q.e220, ← q.e246, ← q.e247, ← q.e255, ← q.e256, ← q.e264, ← q.e265, ← q.e367, ← q.e499, ← q.e508, ← q.e517, ← q.e526, ← q.e535, ← q.e544, ← q.e546]; rfl
theorem e597 : sl.r_32 (F := Ideal) q.i q.w q.u q.r q.g1 q.g2 q.h q.X q.T q.H q.k = q.L.v597 := by
  unfold Chunk.v597 Chunk.v368 Chunk.v369; rw [← q.e192, ← q.e220, ← q.e246, ← q.e247, ← q.e255, ← q.e256, ← q.e264, ← q.e265, ← q.e367, ← q.e476, ← q.e499, ← q.e508, ← q.e517, ← q.e526, ← q.e535, ← q.e544, ← q.e546]; rfl
theorem e598 : sl.r_33 (F := Ideal) q.i q.w q.u q.r q.g1 q.g2 q.h q.X q.T q.H q.k = q.L.v598 := by
  unfold Chunk.v598 Chunk.v368 Chunk.v369; rw [← q.e192, ← q.e220, ← q.e246, ← q.e247, ← q.e255, ← q.e256, ← q.e264, ← q.e265, ← q.e367, ← q.e499, ← q.e508, ← q.e517, ← q.e526, ← q.e535, ← q.e544, ← q.e546]; rfl
theorem e599 : sl.r_34 (F := Ideal) q.i q.w q.u q.r q.g1 q.g2 q.h q.X q.T q.H q.k = q.L.v599 := by
  unfold Chunk.v599; rw [← q.e478, ← q.e598]; rfl
theorem e601 : sl.r_35 (F := Ideal) q.i q.w q.u q.r q.g1 q.g2 q.h q.X q.T q.H q.k = q.L.v601 := by
  unfold Chunk.v601 Chunk.v368; rw [← q.e480, ← q.e517, ← q.e595]; rfl
theorem e603 : sl.r_36 (F := Ideal) q.i q.w q.u q.r q.g1 q.g2 q.h q.X q.T q.H q.k = q.L.v603 := by
  unfold Chunk.v603 Chunk.v368; rw [← q.e482, ← q.e526, ← q.e595]; rfl
theorem e605 : sl.r_37 (F := Ideal) q.i q.w q.u q.r q.g1 q.g2 q.h q.X q.T q.H q.k = q.L.v605 := by
  unfold Chunk.v605 Chunk.v368; rw [← q.e484, ← q.e535, ← q.e595]; rfl
theorem e607 : sl.r_38 (F := Ideal) q.i q.w q.u q.r q.g1 q.g2 q.h q.X q.T q.H q.k = q.L.v607 := by
  unfold Chunk.v607 Chunk.v368; rw [← q.e486, ← q.e544, ← q.e595]; rfl
theorem e609 : sl.r_39 (F := Ideal) q.i q.w q.u q.r q.g1 q.g2 q.h q.X q.T q.H q.k = q.L.v609 := by
  unfold Chunk.v609 Chunk.v368; rw [← q.e488, ← q.e553, ← q.e595]; rfl
theorem e611 : sl.r_40 (F := Ideal) q.i q.w q.u q.r q.g1 q.g2 q.h q.X q.T q.H q.k = q.L.v611 := by
  unfold Chunk.v611 Chunk.v368; rw [← q.e490, ← q.e562, ← q.e595]; rfl
theorem e620 : sl.r_41 (F := Ideal) = q.L.v620 := by
  unfold Chunk.v620 Chunk.v269; rfl
theorem e629 : sl.r_42 (F := Ideal) q.i q.w q.u q.r q.g1 q.g2 q.h q.X q.T q.H q.k = q.L.v629 := by
  unfold Chunk.v629; rw [← q.e283]; rfl
theorem e638 : sl.r_43 (F := Ideal) q.i q.w q.u q.r q.g1 q.g2 q.h q.X q.T q.H q.k = q.L.v638 := by
  unfold Chunk.v638; rw [← q.e297]; rfl
theorem e643 : sl.r_44 (F := Ideal) q.i q.w q.u q.r q.g1 q.g2 q.h q.X q.T q.H q.k = q.L.v643 := by
  unfold Chunk.v643; rw [← q.e311]; rfl
theorem e647 : sl.r_45 (F := Ideal) q.i q.w q.u q.r q.g1 q.g2 q.h q.X q.T q.H q.k = q.L.v647 := by
  unfold Chunk.v647; rw [← q.e643]; rfl
theorem e656 : sl.r_46 (F := Ideal) q.i q.w q.u q.r q.g1 q.g2 q.h q.X q.T q.H q.k = q.L.v656 := by
  unfold Chunk.v656; rw [← q.e325]; rfl
theorem e665 : sl.r_47 (F := Ideal) q.i q.w q.u q.r q.g1 q.g2 q.h q.X q.T q.H q.k = q.L.v665 := by
  unfold Chunk.v665; rw [← q.e339]; rfl
theorem e674 : sl.r_48 (F := Ideal) q.i q.w q.u q.r q.g1 q.g2 q.h q.X q.T q.H q.k = q.L.v674 := by
  unfold Chunk.v674; rw [← q.e353]; rfl
theorem e683 : sl.r_49 (F := Ideal) q.i q.w q.u q.r q.g1 q.g2 q.h q.X q.T q.H q.k = q.L.v683 := by
  unfold Chunk.v683; rw [← q.e367]; rfl
theorem e684 : sl.r_50 (F := Ideal) q.i q.w q.u q.h q.X q.T q.k = q.L.v684 := by
  unfold Chunk.v684 Chunk.v368; rw [← q.e192, ← q.e620]; rfl
theorem e685 : sl.r_51 (F := Ideal) = q.L.v685 := by
  unfold Chunk.v685 Chunk.v368 Chunk.v369; rw [← q.e620]; rfl
theorem e686 : sl.r_52 (F := Ideal) q.i q.w q.u q.r q.g1 q.g2 q.h q.X q.T q.H q.k = q.L.v686 := by
  unfold Chunk.v686 Chunk.v368; rw [← q.e246, ← q.e629]; rfl
theorem e718 : sl.r_53 (F := Ideal) q.i q.w q.u q.r q.g1 q.g2 q.h q.X q.T q.H q.k = q.L.v718 := by
  unfold Chunk.v718 Chunk.v368 Chunk.v369; rw [← q.e220, ← q.e247, ← q.e255, ← q.e256, ← q.e264, ← q.e265, ← q.e597, ← q.e620, ← q.e629, ← q.e638, ← q.e647, ← q.e656, ← q.e665, ← q.e674, ← q.e683, ← q.e684, ← q.e685, ← q.e686]; rfl
theorem e720 : sl.r_54 (F := Ideal) q.i q.w q.u q.r q.g1 q.g2 q.h q.X q.T q.H q.k = q.L.v720 := by
  unfold Chunk.v720 Chunk.v368 Chunk.v369; rw [← q.e220, ← q.e247, ← q.e255, ← q.e256, ← q.e264, ← q.e265, ← q.e599, ← q.e629, ← q.e638, ← q.e647, ← q.e656, ← q.e665, ← q.e674, ← q.e683, ← q.e684, ← q.e685, ← q.e686]; rfl
theorem e722 : sl.r_55 (F := Ideal) q.i q.w q.u q.r q.g1 q.g2 q.h q.X q.T q.H q.k = q.L.v722 := by
  unfold Chunk.v722 Chunk.v368 Chunk.v369; rw [← q.e220, ← q.e247, ← q.e255, ← q.e256, ← q.e264, ← q.e265, ← q.e601, ← q.e629, ← q.e638, ← q.e647, ← q.e656, ← q.e665, ← q.e674, ← q.e683, ← q.e684, ← q.e685, ← q.e686]; rfl
theorem e724 : sl.r_56 (F := Ideal) q.i q.w q.u q.r q.g1 q.g2 q.h q.X q.T q.H q.k = q.L.v724 := by
  unfold Chunk.v724 Chunk.v368 Chunk.v369; rw [← q.e220, ← q.e247, ← q.e255, ← q.e256, ← q.e264, ← q.e265, ← q.e603, ← q.e629, ← q.e638, ← q.e647, ← q.e656, ← q.e665, ← q.e674, ← q.e683, ← q.e684, ← q.e685, ← q.e686]; rfl
theorem e726 : sl.r_57 (F := Ideal) q.i q.w q.u q.r q.g1 q.g2 q.h q.X q.T q.H q.k = q.L.v726 := by
  unfold Chunk.v726 Chunk.v368 Chunk.v369; rw [← q.e220, ← q.e247, ← q.e255, ← q.e256, ← q.e264, ← q.e265, ← q.e605, ← q.e629, ← q.e638, ← q.e647, ← q.e656, ← q.e665, ← q.e674, ← q.e683, ← q.e684, ← q.e685, ← q.e686]; rfl
theorem e728 : sl.r_58 (F := Ideal) q.i q.w q.u q.r q.g1 q.g2 q.h q.X q.T q.H q.k = q.L.v728 := by
  unfold Chunk.v728 Chunk.v368 Chunk.v369; rw [← q.e220, ← q.e247, ← q.e255, ← q.e256, ← q.e264, ← q.e265, ← q.e607, ← q.e629, ← q.e638, ← q.e647, ← q.e656, ← q.e665, ← q.e674, ← q.e683, ← q.e684, ← q.e685, ← q.e686]; rfl
theorem e730 : sl.r_59 (F := Ideal) q.i q.w q.u q.r q.g1 q.g2 q.h q.X q.T q.H q.k = q.L.v730 := by
  unfold Chunk.v730 Chunk.v368 Chunk.v369; rw [← q.e220, ← q.e247, ← q.e255, ← q.e256, ← q.e264, ← q.e265, ← q.e609, ← q.e629, ← q.e638, ← q.e647, ← q.e656, ← q.e665, ← q.e674, ← q.e683, ← q.e684, ← q.e685, ← q.e686]; rfl
theorem e732 : sl.r_60 (F := Ideal) q.i q.w q.u q.r q.g1 q.g2 q.h q.X q.T q.H q.k = q.L.v732 := by
  unfold Chunk.v732 Chunk.v368 Chunk.v369; rw [← q.e220, ← q.e247, ← q.e255, ← q.e256, ← q.e264, ← q.e265, ← q.e611, ← q.e629, ← q.e638, ← q.e647, ← q.e656, ← q.e665, ← q.e674, ← q.e683, ← q.e684, ← q.e685, ← q.e686]; rfl
theorem e741 : sl.r_61 (F := Ideal) = q.L.v741 := by
  unfold Chunk.v741 Chunk.v269; rfl
theorem e750 : sl.r_62 (F := Ideal) q.i q.w q.u q.r q.g1 q.g2 q.h q.X q.T q.H q.k = q.L.v750 := by
  unfold Chunk.v750; rw [← q.e283]; rfl
theorem e759 : sl.r_63 (F := Ideal) q.i q.w q.u q.r q.g1 q.g2 q.h q.X q.T q.H q.k = q.L.v759 := by
  unfold Chunk.v759; rw [← q.e297]; rfl
theorem e768 : sl.r_64 (F := Ideal) q.i q.w q.u q.r q.g1 q.g2 q.h q.X q.T q.H q.k = q.L.v768 := by
  unfold Chunk.v768; rw [← q.e311]; rfl
theorem e777 : sl.r_65 (F := Ideal) q.i q.w q.u q.r q.g1 q.g2 q.h q.X q.T q.H q.k = q.L.v777 := by
  unfold Chunk.v777; rw [← q.e325]; rfl
theorem e782 : sl.r_66 (F := Ideal) q.i q.w q.u q.r q.g1 q.g2 q.h q.X q.T q.H q.k = q.L.v782 := by
  unfold Chunk.v782; rw [← q.e339]; rfl
theorem e786 : sl.r_67 (F := Ideal) q.i q.w q.u q.r q.g1 q.g2 q.h q.X q.T q.H q.k = q.L.v786 := by
  unfold Chunk.v786; rw [← q.e782]; rfl
theorem e795 : sl.r_68 (F := Ideal) q.i q.w q.u q.r q.g1 q.g2 q.h q.X q.T q.H q.k = q.L.v795 := by
  unfold Chunk.v795; rw [← q.e353]; rfl
theorem e804 : sl.r_69 (F := Ideal) q.i q.w q.u q.r q.g1 q.g2 q.h q.X q.T q.H q.k = q.L.v804 := by
  unfold Chunk.v804; rw [← q.e367]; rfl
theorem e830 : sl.r_70 (F := Ideal) q.i q.w q.u q.r q.g1 q.g2 q.h q.X q.T q.H q.k = q.L.v830 := by
  unfold Chunk.v830 Chunk.v368 Chunk.v369; rw [← q.e353, ← q.e741, ← q.e750, ← q.e759, ← q.e768, ← q.e777, ← q.e782]; rfl
theorem e832 : sl.r_71 (F := Ideal) q.i q.w q.u q.r q.g1 q.g2 q.h q.X q.T q.H q.k = q.L.v832 := by
  unfold Chunk.v832 Chunk.v368; rw [← q.e192, ← q.e220, ← q.e246, ← q.e247, ← q.e255, ← q.e256, ← q.e264, ← q.e265, ← q.e353, ← q.e367, ← q.e741, ← q.e750, ← q.e759, ← q.e768, ← q.e777, ← q.e782]; rfl
theorem e833 : sl.r_72 (F := Ideal) q.i q.w q.u q.r q.g1 q.g2 q.h q.X q.T q.H q.k = q.L.v833 := by
  unfold Chunk.v833 Chunk.v368 Chunk.v369; rw [← q.e367]; rfl
theorem e837 : sl.v837 (F := Ideal) q.i q.w q.u q.r q.g1 q.g2 q.h q.X q.T q.H q.k = q.L.v837 := by
  unfold Chunk.v837; rw [← q.e830, ← q.e832, ← q.e833]; rfl
theorem e839 : sl.v839 (F := Ideal) q.i q.w q.u q.r q.g1 q.g2 q.h q.X q.T q.H q.k = q.L.v839 := by
  unfold Chunk.v839 Chunk.v368; rw [← q.e718, ← q.e741, ← q.e830, ← q.e832, ← q.e833]; rfl
theorem e841 : sl.v841 (F := Ideal) q.i q.w q.u q.r q.g1 q.g2 q.h q.X q.T q.H q.k = q.L.v841 := by
  unfold Chunk.v841 Chunk.v368; rw [← q.e720, ← q.e750, ← q.e830, ← q.e832, ← q.e833]; rfl
theorem e843 : sl.v843 (F := Ideal) q.i q.w q.u q.r q.g1 q.g2 q.h q.X q.T q.H q.k = q.L.v843 := by
  unfold Chunk.v843 Chunk.v368; rw [← q.e722, ← q.e759, ← q.e830, ← q.e832, ← q.e833]; rfl
theorem e845 : sl.v845 (F := Ideal) q.i q.w q.u q.r q.g1 q.g2 q.h q.X q.T q.H q.k = q.L.v845 := by
  unfold Chunk.v845 Chunk.v368; rw [← q.e724, ← q.e768, ← q.e830, ← q.e832, ← q.e833]; rfl
theorem e847 : sl.v847 (F := Ideal) q.i q.w q.u q.r q.g1 q.g2 q.h q.X q.T q.H q.k = q.L.v847 := by
  unfold Chunk.v847 Chunk.v368; rw [← q.e726, ← q.e777, ← q.e830, ← q.e832, ← q.e833]; rfl
theorem e849 : sl.v849 (F := Ideal) q.i q.w q.u q.r q.g1 q.g2 q.h q.X q.T q.H q.k = q.L.v849 := by
  unfold Chunk.v849 Chunk.v368; rw [← q.e728, ← q.e786, ← q.e830, ← q.e832, ← q.e833]; rfl
theorem e851 : sl.v851 (F := Ideal) q.i q.w q.u q.r q.g1 q.g2 q.h q.X q.T q.H q.k = q.L.v851 := by
  unfold Chunk.v851 Chunk.v368; rw [← q.e730, ← q.e795, ← q.e830, ← q.e832, ← q.e833]; rfl
theorem e853 : sl.v853 (F := Ideal) q.i q.w q.u q.r q.g1 q.g2 q.h q.X q.T q.H q.k = q.L.v853 := by
  unfold Chunk.v853 Chunk.v368; rw [← q.e732, ← q.e804, ← q.e830, ← q.e832, ← q.e833]; rfl
theorem e854 : sl.v854 (F := Ideal) q.i q.a1 q.a2 q.a5 q.a6 = q.L.v854 := by
  unfold Chunk.v854; rfl
theorem e878 : sl.v878 (F := Ideal) q.i q.w q.u q.r q.g1 q.g2 q.h q.X q.T q.H q.k = q.L.v878 := by
  unfold Chunk.v878 Chunk.v368; rw [← q.e194, ← q.e248, ← q.e249, ← q.e257, ← q.e258, ← q.e718, ← q.e720, ← q.e722, ← q.e724, ← q.e726, ← q.e741, ← q.e750, ← q.e759, ← q.e768, ← q.e777, ← q.e830, ← q.e832, ← q.e833]; rfl
theorem e880 : sl.v880 (F := Ideal) q.i q.w q.u q.h q.X q.T q.k = q.L.v880 := by
  unfold Chunk.v880; rw [← q.e266]; rfl
theorem e900 : sl.v900 (F := Ideal) q.i q.w q.u q.r q.a1 q.a2 q.a5 q.a6 q.g1 q.g2 q.h q.X q.T q.H q.k = q.L.v900 := by
  unfold Chunk.v900; rw [← q.e222, ← q.e267, ← q.e849, ← q.e851, ← q.e853, ← q.e854, ← q.e878, ← q.e880]; rfl
theorem e919 : sl.v919 (F := Ideal) q.i q.w q.u q.r q.g1 q.g2 q.h q.X q.T q.H q.k = q.L.v919 := by
  unfold Chunk.v919; rw [← q.e194, ← q.e248, ← q.e249, ← q.e257, ← q.e839, ← q.e841, ← q.e843, ← q.e845]; rfl
theorem e923 : sl.v923 (F := Ideal) q.i q.w q.u q.r q.g1 q.g2 q.h q.X q.T q.H q.k = q.L.v923 := by
  unfold Chunk.v923; rw [← q.e258, ← q.e847]; rfl
theorem e946 : sl.v946 (F := Ideal) q.i q.w q.u q.r q.a1 q.a2 q.a5 q.a6 q.g1 q.g2 q.h q.X q.T q.H q.k = q.L.v946 := by
  unfold Chunk.v946; rw [← q.e222, ← q.e266, ← q.e267, ← q.e849, ← q.e851, ← q.e853, ← q.e854, ← q.e919, ← q.e923]; rfl
theorem e965 : sl.v965 (F := Ideal) q.i q.w q.u q.r q.g1 q.g2 q.h q.X q.T q.H q.k = q.L.v965 := by
  unfold Chunk.v965; rw [← q.e194, ← q.e248, ← q.e249, ← q.e257, ← q.e839, ← q.e841, ← q.e843, ← q.e845]; rfl
theorem e992 : sl.v992 (F := Ideal) q.i q.w q.u q.r q.a1 q.a2 q.a5 q.a6 q.g1 q.g2 q.h q.X q.T q.H q.k = q.L.v992 := by
  unfold Chunk.v992 Chunk.v966; rw [← q.e222, ← q.e258, ← q.e266, ← q.e267, ← q.e847, ← q.e849, ← q.e851, ← q.e853, ← q.e854, ← q.e965]; rfl
theorem e1006 : sl.v1006 (F := Ideal) q.i q.w q.u q.r q.g1 q.g2 q.h q.X q.T q.H q.k = q.L.v1006 := by
  unfold Chunk.v1006; rw [← q.e194, ← q.e248, ← q.e249, ← q.e839, ← q.e841, ← q.e843]; rfl
theorem e1008 : sl.v1008 (F := Ideal) q.i q.w q.u q.h q.X q.T q.k = q.L.v1008 := by
  unfold Chunk.v1008; rw [← q.e257]; rfl
theorem e1038 : sl.v1038 (F := Ideal) q.i q.w q.u q.r q.a1 q.a2 q.a5 q.a6 q.g1 q.g2 q.h q.X q.T q.H q.k = q.L.v1038 := by
  unfold Chunk.v1038 Chunk.v1009; rw [← q.e222, ← q.e258, ← q.e266, ← q.e267, ← q.e845, ← q.e847, ← q.e849, ← q.e851, ← q.e853, ← q.e854, ← q.e1006, ← q.e1008]; rfl
theorem e1052 : sl.v1052 (F := Ideal) q.i q.w q.u q.r q.g1 q.g2 q.h q.X q.T q.H q.k = q.L.v1052 := by
  unfold Chunk.v1052; rw [← q.e194, ← q.e248, ← q.e249, ← q.e839, ← q.e841, ← q.e843]; rfl
theorem e1084 : sl.v1084 (F := Ideal) q.i q.w q.u q.r q.a1 q.a2 q.a5 q.a6 q.g1 q.g2 q.h q.X q.T q.H q.k = q.L.v1084 := by
  unfold Chunk.v1084; rw [← q.e222, ← q.e257, ← q.e258, ← q.e266, ← q.e267, ← q.e845, ← q.e847, ← q.e849, ← q.e851, ← q.e853, ← q.e854, ← q.e1052]; rfl
theorem e1093 : sl.v1093 (F := Ideal) q.i q.w q.u q.r q.g1 q.g2 q.h q.X q.T q.H q.k = q.L.v1093 := by
  unfold Chunk.v1093; rw [← q.e194, ← q.e248, ← q.e839, ← q.e841]; rfl
theorem e1095 : sl.v1095 (F := Ideal) q.i q.w q.u q.h q.X q.T q.k = q.L.v1095 := by
  unfold Chunk.v1095; rw [← q.e249]; rfl
theorem e1130 : sl.v1130 (F := Ideal) q.i q.w q.u q.r q.a1 q.a2 q.a5 q.a6 q.g1 q.g2 q.h q.X q.T q.H q.k = q.L.v1130 := by
  unfold Chunk.v1130; rw [← q.e222, ← q.e257, ← q.e258, ← q.e266, ← q.e267, ← q.e843, ← q.e845, ← q.e847, ← q.e849, ← q.e851, ← q.e853, ← q.e854, ← q.e1093, ← q.e1095]; rfl
theorem e1139 : sl.v1139 (F := Ideal) q.i q.w q.u q.r q.g1 q.g2 q.h q.X q.T q.H q.k = q.L.v1139 := by
  unfold Chunk.v1139; rw [← q.e194, ← q.e248, ← q.e839, ← q.e841]; rfl
theorem e1176 : sl.v1176 (F := Ideal) q.i q.w q.u q.r q.a1 q.a2 q.a5 q.a6 q.g1 q.g2 q.h q.X q.T q.H q.k = q.L.v1176 := by
  unfold Chunk.v1176; rw [← q.e222, ← q.e249, ← q.e257, ← q.e258, ← q.e266, ← q.e267, ← q.e843, ← q.e845, ← q.e847, ← q.e849, ← q.e851, ← q.e853, ← q.e854, ← q.e1139]; rfl
theorem e1180 : sl.v1180 (F := Ideal) q.i q.w q.u q.r q.g1 q.g2 q.h q.X q.T q.H q.k = q.L.v1180 := by
  unfold Chunk.v1180; rw [← q.e194, ← q.e839]; rfl
theorem e1182 : sl.v1182 (F := Ideal) q.i q.w q.u q.h q.X q.T q.k = q.L.v1182 := by
  unfold Chunk.v1182; rw [← q.e248]; rfl
theorem e1222 : sl.v1222 (F := Ideal) q.i q.w q.u q.r q.a1 q.a2 q.a5 q.a6 q.g1 q.g2 q.h q.X q.T q.H q.k = q.L.v1222 := by
  unfold Chunk.v1222; rw [← q.e222, ← q.e249, ← q.e257, ← q.e258, ← q.e266, ← q.e267, ← q.e841, ← q.e843, ← q.e845, ← q.e847, ← q.e849, ← q.e851, ← q.e853, ← q.e854, ← q.e1180, ← q.e1182]; rfl
theorem e1226 : sl.v1226 (F := Ideal) q.i q.w q.u q.r q.a1 q.a2 q.a5 q.a6 q.g1 q.g2 q.h q.X q.T q.H q.k = q.L.v1226 := by
  unfold Chunk.v1226; rw [← q.e50, ← q.e900]; rfl
theorem e1230 : sl.v1230 (F := Ideal) q.i q.w q.u q.r q.a1 q.a2 q.a5 q.a6 q.g1 q.g2 q.h q.X q.T q.H q.k = q.L.v1230 := by
  unfold Chunk.v1230; rw [← q.e1226]; rfl
theorem e1238 : sl.v1238 (F := Ideal) q.i q.w q.u q.r q.a1 q.a2 q.a5 q.a6 q.g1 q.g2 q.h q.X q.T q.H q.k = q.L.v1238 := by
  unfold Chunk.v1238; rw [← q.e53, ← q.e946]; rfl
theorem e1246 : sl.v1246 (F := Ideal) q.i q.w q.u q.r q.a1 q.a2 q.a5 q.a6 q.g1 q.g2 q.h q.X q.T q.H q.k = q.L.v1246 := by
  unfold Chunk.v1246; rw [← q.e56, ← q.e992]; rfl
theorem e1254 : sl.v1254 (F := Ideal) q.i q.w q.u q.r q.a1 q.a2 q.a5 q.a6 q.g1 q.g2 q.h q.X q.T q.H q.k = q.L.v1254 := by
  unfold Chunk.v1254; rw [← q.e59, ← q.e1038]; rfl
theorem e1262 : sl.v1262 (F := Ideal) q.i q.w q.u q.r q.a1 q.a2 q.a5 q.a6 q.g1 q.g2 q.h q.X q.T q.H q.k = q.L.v1262 := by
  unfold Chunk.v1262; rw [← q.e62, ← q.e1084]; rfl
theorem e1270 : sl.v1270 (F := Ideal) q.i q.w q.u q.r q.a1 q.a2 q.a5 q.a6 q.g1 q.g2 q.h q.X q.T q.H q.k = q.L.v1270 := by
  unfold Chunk.v1270; rw [← q.e65, ← q.e1130]; rfl

/-- What the trip stores. -/
theorem stores (𝒱 : Variants) (c : Dev nD) (bd : Option 𝒱.V) (i : grid0.Coords) (arg1 : Memref sig .tc .vmem S8x256x256 .f32) (harg1 : arg1.IsWhole) (arg2 : Memref sig .tc .vmem S8x256x256 .f32) (harg2 : arg2.IsWhole) (arg3 : Memref sig .tc .vmem S8x256x256 .f32) (harg3 : arg3.IsWhole) (arg4 : Memref sig .tc .smem S1x2 .f32) (harg4 : arg4.IsWhole) (arg5 : Memref sig .tc .smem S1x2 .f32) (harg5 : arg5.IsWhole) (arg6 : Memref sig .tc .smem S1x2 .f32) (harg6 : arg6.IsWhole) (arg7 : Memref sig .tc .vmem S256x256 .f32) (harg7 : arg7.IsWhole) (arg8 : Memref sig .tc .vmem S8x256x256 .bf16) (harg8 : arg8.IsWhole) (v1 : Elt Ideal .f32) (v2 : Elt Ideal .f32) (v5 : Elt Ideal .f32) (v6 : Elt Ideal .f32) (v13 : Elt Ideal .f32) (v14 : Elt Ideal .f32) (k0_h2 : k0_cond2 i = 1#1)
    (x t : FVec Ideal S8x256x256 .f32) (th : FVec Ideal S256x256 .f32) (k : Fin k0_t2_loop.trips) (q : TripV)
    (hq : q = ⟨i, arg2, harg2, arg3, harg3, arg7, harg7, k0_h2, x, t, th, v1, v2, v5, v6, v13, v14, k⟩) :
    tripL_k0_t2 (F := Ideal) 𝒱 c bd i arg1 harg1 arg2 harg2 arg3 harg3 arg4 harg4 arg5 harg5 arg6 harg6 arg7 harg7 arg8 harg8 v1 v2 v5 v6 v13 v14 k0_h2 (harg2.unread x) (harg3.unread t) (harg7.unread th) k =
      [⟨Rect.unit (s := S8x256x256) (k0_off17 k) S1x16x256.size (k0_off17_inb i k k0_h2), q.L.stored q.L.v71 q.L.v1222⟩,
       ⟨Rect.unit (s := S8x256x256) (k0_off16 k) S1x16x256.size (k0_off16_inb i k k0_h2), q.L.stored q.L.v68 q.L.v1176⟩,
       ⟨Rect.unit (s := S8x256x256) (k0_off15 k) S1x16x256.size (k0_off15_inb i k k0_h2), q.L.stored q.L.v65 q.L.v1130⟩,
       ⟨Rect.unit (s := S8x256x256) (k0_off14 k) S1x16x256.size (k0_off14_inb i k k0_h2), q.L.stored q.L.v62 q.L.v1084⟩,
       ⟨Rect.unit (s := S8x256x256) (k0_off13 k) S1x16x256.size (k0_off13_inb i k k0_h2), q.L.stored q.L.v59 q.L.v1038⟩,
       ⟨Rect.unit (s := S8x256x256) (k0_off12 k) S1x16x256.size (k0_off12_inb i k k0_h2), q.L.stored q.L.v56 q.L.v992⟩,
       ⟨Rect.unit (s := S8x256x256) (k0_off11 k) S1x16x256.size (k0_off11_inb i k k0_h2), q.L.stored q.L.v53 q.L.v946⟩,
       ⟨Rect.unit (s := S8x256x256) (k0_off10 k) S1x16x256.size (k0_off10_inb i k k0_h2), q.L.stored q.L.v50 q.L.v900⟩] := by
  rw [← q.e50, ← q.e900, ← q.e53, ← q.e946, ← q.e56, ← q.e992, ← q.e59, ← q.e1038, ← q.e62, ← q.e1084, ← q.e65, ← q.e1130, ← q.e68, ← q.e1176, ← q.e71, ← q.e1222]
  subst hq
  unfold tripL_k0_t2 trip_k0_t2
  rfl

end TripV

end Cert.Kernel4Ideal.Group

end
-- ==== Proof.GroupBlock.lean ====
/-
  What a point of the second level's quantiser leaves: the second level of every weight of its block.
-/
module

public import proofs.«01_k».proof.Proof.GroupTripK
public import proofs.«01_k».proof.Proof.GroupTripV
public import proofs.«01_k».proof.Proof.Gen.Kernel4Ideal.Frame

@[expose] public section

set_option maxRecDepth 65536

noncomputable section

open Idealize.ShloMosaic Idealize.ShloMosaic.TcCoe Idealize.SL.Sem

namespace Cert.Kernel4Ideal.Group

open Cert.Kernel4Ideal Cert.Kernel4Ideal.Gen
open Cert.Group (level)

/-- The second levels of a block of weights `x` with totals `t` and thresholds `th`, for step `s` and gap `g`. -/
def levels (x t : FVec Ideal S8x256x256 .f32) (th : FVec Ideal S256x256 .f32) (s g : EReal) (y : S8x256x256.Idx) : EReal :=
  level (fun a => x (ix3 a (y 1) (y 2)) - t (ix3 a (y 1) (y 2))) (Cert.Group.sig (th (ix2 (y 1) (y 2)))) g s (t y) (y 0)

/-- An entry of a row, in the chunk. -/
theorem there_eq (j : S1x16x256.Idx) : Chunk.there j = ix2 (j 1) (j 2) := by
  have h0 : (j 0).val < 1 := (j 0).isLt
  unfold Chunk.there
  refine Shape.reshapeEquiv_eq_of_rowMajor _ ((Shape.rowMajor_val_two (d := ![16, 256]) (ix2 (j 1) (j 2))).trans (Eq.trans ?_ (Shape.rowMajor_val_three j).symm))
  show (j 1).val * 256 + (j 2).val = ((j 0).val * 16 + (j 1).val) * 256 + (j 2).val
  omega

/-- What a row of a chunk is stored with, by its place in the block. -/
theorem piece (x t : FVec Ideal S8x256x256 .f32) (th : FVec Ideal S256x256 .f32) (s g : Ideal .f32) (a : Fin 8) (n : ℕ) (hn : n < 16)
    (L : Chunk) (hL : L = chunk x t th s g n) (off : Fin 3 → ℕ) (ho : off = ![a.val, 16 * n, 0])
    (inb : ∀ b, off b + S1x16x256.size b ≤ S8x256x256.size b) (v : S1x16x256.Idx → EReal)
    (hv : ∀ j, v j = level (L.col (Chunk.there j)) (L.bar (Chunk.there j)) L.gap L.step (L.t a j) a) (j : S1x16x256.Idx) :
    v j = levels x t th s g ((Rect.unit (s := S8x256x256) off S1x16x256.size inb).emb j) := by
  have e : (Rect.unit (s := S8x256x256) off S1x16x256.size inb).emb j = at3 a n j := by
    subst ho
    have h0 : (j 0).val < 1 := (j 0).isLt
    have h1 : (j 1).val < 16 := (j 1).isLt
    funext b
    match b with
    | ⟨0, _⟩ => exact Fin.ext (by show a.val + 1 * (j 0).val = a.val; omega)
    | ⟨1, _⟩ => exact Fin.ext (by show 16 * n + 1 * (j 1).val = (16 * n + (j 1).val) % 256; omega)
    | ⟨2, _⟩ => exact Fin.ext (by show 0 + 1 * (j 2).val = (j 2).val; omega)
  rw [hv j, e]
  subst hL
  have c : (chunk x t th s g n).col (Chunk.there j) = fun b => x (at3 b n j) - t (at3 b n j) := by
    unfold Chunk.col
    rw [Chunk.back_there]
    rfl
  have b : (chunk x t th s g n).bar (Chunk.there j) = Cert.Group.sig (th (at2 n (ix2 (j 1) (j 2)))) := by
    unfold Chunk.bar
    rw [there_eq]
    rfl
  rw [c, b]
  rfl

/-- What a point reads of a small argument -/
abbrev cell0 {arg : Memref sig .tc .smem S1x2 .f32} (harg : arg.IsWhole) (x : FVec Ideal S1x2 .f32) : Elt Ideal .f32 :=
  View.readAt (Elt Ideal) arg.view (Rect.unit (s := S1x2) ![0, 0] S1x1.size inb_S1x2_S1x1_0_0).toLoadRect (harg.unread x) (Shape.Idx.first (show 0 < S1x1.numel by decide))
abbrev cell1 {arg : Memref sig .tc .smem S1x2 .f32} (harg : arg.IsWhole) (x : FVec Ideal S1x2 .f32) : Elt Ideal .f32 :=
  View.readAt (Elt Ideal) arg.view (Rect.unit (s := S1x2) ![0, 1] S1x1.size inb_S1x2_S1x1_0_1).toLoadRect (harg.unread x) (Shape.Idx.first (show 0 < S1x1.numel by decide))

/-- is its two cells. -/
theorem cells {arg : Memref sig .tc .smem S1x2 .f32} (harg : arg.IsWhole) (x : FVec Ideal S1x2 .f32) :
    cell0 harg x = x (ix2 0 0)
    ∧ cell1 harg x = x (ix2 0 1) := by
  constructor <;>
  · refine (congrFun (harg.read_unread (Val := Elt Ideal) x) _).trans ?_
    refine congrArg x (funext fun b => Fin.ext ?_)
    match b with
    | ⟨0, _⟩ => rfl
    | ⟨1, _⟩ => rfl

/-- Every piece the trips over a block of `K` store has the second levels. -/
theorem piecesK (𝒱 : Variants) (c : Dev nD) (bd : Option 𝒱.V) (i : grid0.Coords) (arg1 : Memref sig .tc .vmem S8x256x256 .f32) (harg1 : arg1.IsWhole) (arg2 : Memref sig .tc .vmem S8x256x256 .f32) (harg2 : arg2.IsWhole) (arg3 : Memref sig .tc .vmem S8x256x256 .f32) (harg3 : arg3.IsWhole) (arg4 : Memref sig .tc .smem S1x2 .f32) (harg4 : arg4.IsWhole) (arg5 : Memref sig .tc .smem S1x2 .f32) (harg5 : arg5.IsWhole) (arg6 : Memref sig .tc .smem S1x2 .f32) (harg6 : arg6.IsWhole) (arg7 : Memref sig .tc .vmem S256x256 .f32) (harg7 : arg7.IsWhole) (arg8 : Memref sig .tc .vmem S8x256x256 .bf16) (harg8 : arg8.IsWhole) (v1 : Elt Ideal .f32) (v2 : Elt Ideal .f32) (v5 : Elt Ideal .f32) (v6 : Elt Ideal .f32) (v13 : Elt Ideal .f32) (v14 : Elt Ideal .f32) (k0_h1 : k0_cond1 i = 1#1) (x t : FVec Ideal S8x256x256 .f32) (th : FVec Ideal S256x256 .f32)
    (hg : (k0_pay2 (F := Ideal) i v13 v14 : EReal) ≠ 0) :
    ∀ n, n ≤ 16 → ∀ p ∈ pb_k0_t1 (F := Ideal) 𝒱 c bd i arg1 harg1 arg2 harg2 arg3 harg3 arg4 harg4 arg5 harg5 arg6 harg6 arg7 harg7 arg8 harg8 v1 v2 v5 v6 v13 v14 k0_h1 (harg1.unread x) (harg3.unread t) (harg7.unread th) n, ∀ j : p.1.shape.Idx, (p.2 j : EReal) = levels x t th (k0_pay1 (F := Ideal) i v1 v2 v5 v6) (k0_pay2 (F := Ideal) i v13 v14) (p.1.emb j)
  | 0, _, p, hp => by simp [pb_k0_t1] at hp
  | n + 1, hn, p, hp => by
    have hk : n < k0_t1_loop.trips := lt_of_lt_of_eq hn TripK.trips.symm
    have e := pb_k0_t1_succ (F := Ideal) 𝒱 c bd i arg1 harg1 arg2 harg2 arg3 harg3 arg4 harg4 arg5 harg5 arg6 harg6 arg7 harg7 arg8 harg8 v1 v2 v5 v6 v13 v14 k0_h1 (harg1.unread x) (harg3.unread t) (harg7.unread th) ⟨n, hk⟩
    have st := TripK.stores 𝒱 c bd i arg1 harg1 arg2 harg2 arg3 harg3 arg4 harg4 arg5 harg5 arg6 harg6 arg7 harg7 arg8 harg8 v1 v2 v5 v6 v13 v14 k0_h1 x t th ⟨n, hk⟩ _ rfl
    have hL := TripK.L_eq ⟨i, arg1, harg1, arg3, harg3, arg7, harg7, k0_h1, x, t, th, v1, v2, v5, v6, v13, v14, ⟨n, hk⟩⟩
    have hG : (TripK.L ⟨i, arg1, harg1, arg3, harg3, arg7, harg7, k0_h1, x, t, th, v1, v2, v5, v6, v13, v14, ⟨n, hk⟩⟩).gap ≠ (0 : EReal) := by
      rw [hL]; exact hg
    replace hp := (congrArg (p ∈ ·) e).mp hp
    rcases List.mem_append.mp hp with hp | hp
    · rw [st] at hp
      simp only [List.mem_cons, List.not_mem_nil, or_false] at hp
      rcases hp with rfl | rfl | rfl | rfl | rfl | rfl | rfl | rfl
      · exact piece x t th _ _ 7 n (by omega) _ hL _ (k0_off8_eq ⟨n, hk⟩) (k0_off8_inb i ⟨n, hk⟩ k0_h1) _ (Chunk.row7 _ hG)
      · exact piece x t th _ _ 6 n (by omega) _ hL _ (k0_off7_eq ⟨n, hk⟩) (k0_off7_inb i ⟨n, hk⟩ k0_h1) _ (Chunk.row6 _ hG)
      · exact piece x t th _ _ 5 n (by omega) _ hL _ (k0_off6_eq ⟨n, hk⟩) (k0_off6_inb i ⟨n, hk⟩ k0_h1) _ (Chunk.row5 _ hG)
      · exact piece x t th _ _ 4 n (by omega) _ hL _ (k0_off5_eq ⟨n, hk⟩) (k0_off5_inb i ⟨n, hk⟩ k0_h1) _ (Chunk.row4 _ hG)
      · exact piece x t th _ _ 3 n (by omega) _ hL _ (k0_off4_eq ⟨n, hk⟩) (k0_off4_inb i ⟨n, hk⟩ k0_h1) _ (Chunk.row3 _ hG)
      · exact piece x t th _ _ 2 n (by omega) _ hL _ (k0_off3_eq ⟨n, hk⟩) (k0_off3_inb i ⟨n, hk⟩ k0_h1) _ (Chunk.row2 _ hG)
      · exact piece x t th _ _ 1 n (by omega) _ hL _ (k0_off2_eq ⟨n, hk⟩) (k0_off2_inb i ⟨n, hk⟩ k0_h1) _ (Chunk.row1 _ hG)
      · exact piece x t th _ _ 0 n (by omega) _ hL _ (k0_off1_eq ⟨n, hk⟩) (k0_off1_inb i ⟨n, hk⟩ k0_h1) _ (Chunk.row0 _ hG)
    · exact piecesK 𝒱 c bd i arg1 harg1 arg2 harg2 arg3 harg3 arg4 harg4 arg5 harg5 arg6 harg6 arg7 harg7 arg8 harg8 v1 v2 v5 v6 v13 v14 k0_h1 x t th hg n (by omega) p hp

/-- What a point of `K` leaves. -/
theorem outK (c : Dev nD) (i : grid0.Coords) (arg1 : Memref sig .tc .vmem S8x256x256 .f32) (harg1 : arg1.IsWhole) (arg2 : Memref sig .tc .vmem S8x256x256 .f32) (harg2 : arg2.IsWhole) (arg3 : Memref sig .tc .vmem S8x256x256 .f32) (harg3 : arg3.IsWhole) (arg4 : Memref sig .tc .smem S1x2 .f32) (harg4 : arg4.IsWhole) (arg5 : Memref sig .tc .smem S1x2 .f32) (harg5 : arg5.IsWhole) (arg6 : Memref sig .tc .smem S1x2 .f32) (harg6 : arg6.IsWhole) (arg7 : Memref sig .tc .vmem S256x256 .f32) (harg7 : arg7.IsWhole) (arg8 : Memref sig .tc .vmem S8x256x256 .bf16) (harg8 : arg8.IsWhole) (hc0 : cond0_0 i) (hc1 : ¬cond0_1 i)
    (x0 x1 x2 : FVec Ideal S8x256x256 .f32) (x3 x4 x5 : FVec Ideal S1x2 .f32) (x6 : FVec Ideal S256x256 .f32)
    (hg : (k0_pay2 (F := Ideal) i (x5 (ix2 0 0)) (x5 (ix2 0 1)) : EReal) ≠ 0) (y : S8x256x256.Idx) :
    (out0_A_7 (F := Ideal) c i arg1 harg1 arg2 harg2 arg3 harg3 arg4 harg4 arg5 harg5 arg6 harg6 arg7 harg7 arg8 harg8 hc0 hc1 x0 x1 x2 x3 x4 x5 x6 y : EReal)
      = levels x0 x2 x6 (k0_pay1 (F := Ideal) i (x3 (ix2 0 0)) (x3 (ix2 0 1)) (x4 (ix2 0 0)) (x4 (ix2 0 1))) (k0_pay2 (F := Ideal) i (x5 (ix2 0 0)) (x5 (ix2 0 1))) y := by
  have hcov := cover0_A_7 (F := Ideal) c i arg1 harg1 arg2 harg2 arg3 harg3 arg4 harg4 arg5 harg5 arg6 harg6 arg7 harg7 arg8 harg8 hc0 hc1 x0 x1 x2 x3 x4 x5 x6
  unfold out0_A_7
  rw [View.read_writes_eq_canon _ _ _ hcov]
  refine View.canon_apply_of_pieces (Val := Elt Ideal) (e := .bf16) (S := S8x256x256)
    (levels x0 x2 x6 (k0_pay1 (F := Ideal) i (x3 (ix2 0 0)) (x3 (ix2 0 1)) (x4 (ix2 0 0)) (x4 (ix2 0 1))) (k0_pay2 (F := Ideal) i (x5 (ix2 0 0)) (x5 (ix2 0 1)))) _ ?_ y (hcov y)
  have c3 := cells harg4 x3
  have c4 := cells harg5 x4
  have c5 := cells harg6 x5
  have P := piecesK Variants.none c none i arg1 harg1 arg2 harg2 arg3 harg3 arg4 harg4 arg5 harg5 arg6 harg6 arg7 harg7 arg8 harg8 (cell0 harg4 x3) (cell1 harg4 x3) (cell0 harg5 x4) (cell1 harg5 x4) (cell0 harg6 x5) (cell1 harg6 x5)
    hc0 x0 x2 x6 (by rw [c5.1, c5.2]; exact hg) (Scf.trips k0_t1_loop.lb k0_t1_loop.ub k0_t1_loop.st) (by decide +kernel)
  rw [← c3.1, ← c3.2, ← c4.1, ← c4.2, ← c5.1, ← c5.2]
  exact P

/-- Every piece the trips over a block of `V` store has the second levels. -/
theorem piecesV (𝒱 : Variants) (c : Dev nD) (bd : Option 𝒱.V) (i : grid0.Coords) (arg1 : Memref sig .tc .vmem S8x256x256 .f32) (harg1 : arg1.IsWhole) (arg2 : Memref sig .tc .vmem S8x256x256 .f32) (harg2 : arg2.IsWhole) (arg3 : Memref sig .tc .vmem S8x256x256 .f32) (harg3 : arg3.IsWhole) (arg4 : Memref sig .tc .smem S1x2 .f32) (harg4 : arg4.IsWhole) (arg5 : Memref sig .tc .smem S1x2 .f32) (harg5 : arg5.IsWhole) (arg6 : Memref sig .tc .smem S1x2 .f32) (harg6 : arg6.IsWhole) (arg7 : Memref sig .tc .vmem S256x256 .f32) (harg7 : arg7.IsWhole) (arg8 : Memref sig .tc .vmem S8x256x256 .bf16) (harg8 : arg8.IsWhole) (v1 : Elt Ideal .f32) (v2 : Elt Ideal .f32) (v5 : Elt Ideal .f32) (v6 : Elt Ideal .f32) (v13 : Elt Ideal .f32) (v14 : Elt Ideal .f32) (k0_h2 : k0_cond2 i = 1#1) (x t : FVec Ideal S8x256x256 .f32) (th : FVec Ideal S256x256 .f32)
    (hg : (k0_pay2 (F := Ideal) i v13 v14 : EReal) ≠ 0) :
    ∀ n, n ≤ 16 → ∀ p ∈ pb_k0_t2 (F := Ideal) 𝒱 c bd i arg1 harg1 arg2 harg2 arg3 harg3 arg4 harg4 arg5 harg5 arg6 harg6 arg7 harg7 arg8 harg8 v1 v2 v5 v6 v13 v14 k0_h2 (harg2.unread x) (harg3.unread t) (harg7.unread th) n, ∀ j : p.1.shape.Idx, (p.2 j : EReal) = levels x t th (k0_pay1 (F := Ideal) i v1 v2 v5 v6) (k0_pay2 (F := Ideal) i v13 v14) (p.1.emb j)
  | 0, _, p, hp => by simp [pb_k0_t2] at hp
  | n + 1, hn, p, hp => by
    have hk : n < k0_t2_loop.trips := lt_of_lt_of_eq hn TripV.trips.symm
    have e := pb_k0_t2_succ (F := Ideal) 𝒱 c bd i arg1 harg1 arg2 harg2 arg3 harg3 arg4 harg4 arg5 harg5 arg6 harg6 arg7 harg7 arg8 harg8 v1 v2 v5 v6 v13 v14 k0_h2 (harg2.unread x) (harg3.unread t) (harg7.unread th) ⟨n, hk⟩
    have st := TripV.stores 𝒱 c bd i arg1 harg1 arg2 harg2 arg3 harg3 arg4 harg4 arg5 harg5 arg6 harg6 arg7 harg7 arg8 harg8 v1 v2 v5 v6 v13 v14 k0_h2 x t th ⟨n, hk⟩ _ rfl
    have hL := TripV.L_eq ⟨i, arg2, harg2, arg3, harg3, arg7, harg7, k0_h2, x, t, th, v1, v2, v5, v6, v13, v14, ⟨n, hk⟩⟩
    have hG : (TripV.L ⟨i, arg2, harg2, arg3, harg3, arg7, harg7, k0_h2, x, t, th, v1, v2, v5, v6, v13, v14, ⟨n, hk⟩⟩).gap ≠ (0 : EReal) := by
      rw [hL]; exact hg
    replace hp := (congrArg (p ∈ ·) e).mp hp
    rcases List.mem_append.mp hp with hp | hp
    · rw [st] at hp
      simp only [List.mem_cons, List.not_mem_nil, or_false] at hp
      rcases hp with rfl | rfl | rfl | rfl | rfl | rfl | rfl | rfl
      · exact piece x t th _ _ 7 n (by omega) _ hL _ (k0_off17_eq ⟨n, hk⟩) (k0_off17_inb i ⟨n, hk⟩ k0_h2) _ (Chunk.row7 _ hG)
      · exact piece x t th _ _ 6 n (by omega) _ hL _ (k0_off16_eq ⟨n, hk⟩) (k0_off16_inb i ⟨n, hk⟩ k0_h2) _ (Chunk.row6 _ hG)
      · exact piece x t th _ _ 5 n (by omega) _ hL _ (k0_off15_eq ⟨n, hk⟩) (k0_off15_inb i ⟨n, hk⟩ k0_h2) _ (Chunk.row5 _ hG)
      · exact piece x t th _ _ 4 n (by omega) _ hL _ (k0_off14_eq ⟨n, hk⟩) (k0_off14_inb i ⟨n, hk⟩ k0_h2) _ (Chunk.row4 _ hG)
      · exact piece x t th _ _ 3 n (by omega) _ hL _ (k0_off13_eq ⟨n, hk⟩) (k0_off13_inb i ⟨n, hk⟩ k0_h2) _ (Chunk.row3 _ hG)
      · exact piece x t th _ _ 2 n (by omega) _ hL _ (k0_off12_eq ⟨n, hk⟩) (k0_off12_inb i ⟨n, hk⟩ k0_h2) _ (Chunk.row2 _ hG)
      · exact piece x t th _ _ 1 n (by omega) _ hL _ (k0_off11_eq ⟨n, hk⟩) (k0_off11_inb i ⟨n, hk⟩ k0_h2) _ (Chunk.row1 _ hG)
      · exact piece x t th _ _ 0 n (by omega) _ hL _ (k0_off10_eq ⟨n, hk⟩) (k0_off10_inb i ⟨n, hk⟩ k0_h2) _ (Chunk.row0 _ hG)
    · exact piecesV 𝒱 c bd i arg1 harg1 arg2 harg2 arg3 harg3 arg4 harg4 arg5 harg5 arg6 harg6 arg7 harg7 arg8 harg8 v1 v2 v5 v6 v13 v14 k0_h2 x t th hg n (by omega) p hp

/-- What a point of `V` leaves. -/
theorem outV (c : Dev nD) (i : grid0.Coords) (arg1 : Memref sig .tc .vmem S8x256x256 .f32) (harg1 : arg1.IsWhole) (arg2 : Memref sig .tc .vmem S8x256x256 .f32) (harg2 : arg2.IsWhole) (arg3 : Memref sig .tc .vmem S8x256x256 .f32) (harg3 : arg3.IsWhole) (arg4 : Memref sig .tc .smem S1x2 .f32) (harg4 : arg4.IsWhole) (arg5 : Memref sig .tc .smem S1x2 .f32) (harg5 : arg5.IsWhole) (arg6 : Memref sig .tc .smem S1x2 .f32) (harg6 : arg6.IsWhole) (arg7 : Memref sig .tc .vmem S256x256 .f32) (harg7 : arg7.IsWhole) (arg8 : Memref sig .tc .vmem S8x256x256 .bf16) (harg8 : arg8.IsWhole) (hc0 : ¬cond0_0 i) (hc1 : cond0_1 i)
    (x0 x1 x2 : FVec Ideal S8x256x256 .f32) (x3 x4 x5 : FVec Ideal S1x2 .f32) (x6 : FVec Ideal S256x256 .f32)
    (hg : (k0_pay2 (F := Ideal) i (x5 (ix2 0 0)) (x5 (ix2 0 1)) : EReal) ≠ 0) (y : S8x256x256.Idx) :
    (out0_B_7 (F := Ideal) c i arg1 harg1 arg2 harg2 arg3 harg3 arg4 harg4 arg5 harg5 arg6 harg6 arg7 harg7 arg8 harg8 hc0 hc1 x0 x1 x2 x3 x4 x5 x6 y : EReal)
      = levels x1 x2 x6 (k0_pay1 (F := Ideal) i (x3 (ix2 0 0)) (x3 (ix2 0 1)) (x4 (ix2 0 0)) (x4 (ix2 0 1))) (k0_pay2 (F := Ideal) i (x5 (ix2 0 0)) (x5 (ix2 0 1))) y := by
  have hcov := cover0_B_7 (F := Ideal) c i arg1 harg1 arg2 harg2 arg3 harg3 arg4 harg4 arg5 harg5 arg6 harg6 arg7 harg7 arg8 harg8 hc0 hc1 x0 x1 x2 x3 x4 x5 x6
  unfold out0_B_7
  rw [View.read_writes_eq_canon _ _ _ hcov]
  refine View.canon_apply_of_pieces (Val := Elt Ideal) (e := .bf16) (S := S8x256x256)
    (levels x1 x2 x6 (k0_pay1 (F := Ideal) i (x3 (ix2 0 0)) (x3 (ix2 0 1)) (x4 (ix2 0 0)) (x4 (ix2 0 1))) (k0_pay2 (F := Ideal) i (x5 (ix2 0 0)) (x5 (ix2 0 1)))) _ ?_ y (hcov y)
  have c3 := cells harg4 x3
  have c4 := cells harg5 x4
  have c5 := cells harg6 x5
  have P := piecesV Variants.none c none i arg1 harg1 arg2 harg2 arg3 harg3 arg4 harg4 arg5 harg5 arg6 harg6 arg7 harg7 arg8 harg8 (cell0 harg4 x3) (cell1 harg4 x3) (cell0 harg5 x4) (cell1 harg5 x4) (cell0 harg6 x5) (cell1 harg6 x5)
    hc1 x1 x2 x6 (by rw [c5.1, c5.2]; exact hg) (Scf.trips k0_t2_loop.lb k0_t2_loop.ub k0_t2_loop.st) (by decide +kernel)
  rw [← c3.1, ← c3.2, ← c4.1, ← c4.2, ← c5.1, ← c5.2]
  exact P

end Cert.Kernel4Ideal.Group

end
-- ==== Proof.GroupArray.lean ====
/-
  What the second level's quantiser leaves in its result after the run.
-/
module

public import proofs.«01_k».proof.Proof.GroupBlock
public import proofs.«01_k».proof.Proof.Gen.Kernel4Ideal.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Group

open Cert.Kernel4Ideal Cert.Kernel4Ideal.Gen
open Cert.Group (level lit)

variable (m : (ℓ : Loc nD τ sig) → Buf (Elt Ideal) ℓ)

/-- The second level's step: a third of the range, a fifth of that, a seventeenth of that. -/
def stepOf (hi lo : EReal) : EReal := Ideal.div (Ideal.div (Ideal.div (hi - lo) (lit 0x40400000#32)) (lit 0x40A00000#32)) (lit 0x41880000#32)

/-- The totals with their second levels: rows below 1024 are of `K`, the others of `V`. -/
def result (K : FVec Ideal S8x262144 .f32) (W : FVec Ideal S8x131072 .f32) (T : FVec Ideal S8x1536x256 .f32) (mx mn gp : FVec Ideal S1x2 .f32)
    (th : FVec Ideal S1536x256 .f32) (i : S8x1536x256.Idx) : EReal :=
  if h : (i 1).val < 1024 then
    level (fun a => K (ix2 a ⟨(i 1).val * 256 + (i 2).val, by idx_bounds; omega⟩) - T (ix3 a (i 1) (i 2))) (Cert.Group.sig (th (ix2 (i 1) (i 2))))
      (gp (ix2 0 0)) (stepOf (mx (ix2 0 0)) (mn (ix2 0 0))) (T i) (i 0)
  else
    level (fun a => W (ix2 a ⟨((i 1).val - 1024) * 256 + (i 2).val, by idx_bounds; omega⟩) - T (ix3 a (i 1) (i 2))) (Cert.Group.sig (th (ix2 (i 1) (i 2))))
      (gp (ix2 0 1)) (stepOf (mx (ix2 0 1)) (mn (ix2 0 1))) (T i) (i 0)

/-- Its rows of `K`, -/
theorem result_key (K : FVec Ideal S8x262144 .f32) (W : FVec Ideal S8x131072 .f32) (T : FVec Ideal S8x1536x256 .f32) (mx mn gp : FVec Ideal S1x2 .f32)
    (th : FVec Ideal S1536x256 .f32) (a : Fin 8) (r : Fin 1536) (l : Fin 256) (h : r.val < 1024) : result K W T mx mn gp th (ix3 a r l)
    = level (fun b => K (ix2 b ⟨r.val * 256 + l.val, by omega⟩) - T (ix3 b r l)) (Cert.Group.sig (th (ix2 r l)))
      (gp (ix2 0 0)) (stepOf (mx (ix2 0 0)) (mn (ix2 0 0))) (T (ix3 a r l)) a := dif_pos h

/-- and its rows of `V`. -/
theorem result_value (K : FVec Ideal S8x262144 .f32) (W : FVec Ideal S8x131072 .f32) (T : FVec Ideal S8x1536x256 .f32) (mx mn gp : FVec Ideal S1x2 .f32)
    (th : FVec Ideal S1536x256 .f32) (a : Fin 8) (r : Fin 1536) (l : Fin 256) (h : ¬ r.val < 1024) : result K W T mx mn gp th (ix3 a r l)
    = level (fun b => W (ix2 b ⟨(r.val - 1024) * 256 + l.val, by omega⟩) - T (ix3 b r l)) (Cert.Group.sig (th (ix2 r l)))
      (gp (ix2 0 1)) (stepOf (mx (ix2 0 1)) (mn (ix2 0 1))) (T (ix3 a r l)) a := dif_neg h

/-- The windows' blocks. -/
theorem idx : ∀ t : Fin cfg0.N, win0_0.index t = ![0, min t.val 3, 0] ∧ win0_1.index t = ![0, t.val - 4, 0] ∧ win0_2.index t = ![0, t.val, 0]
    ∧ win0_3.index t = ![0, 0] ∧ win0_4.index t = ![0, 0] ∧ win0_5.index t = ![0, 0] ∧ win0_6.index t = ![t.val, 0] ∧ win0_7.index t = ![0, t.val, 0] :=
  (by decide +kernel : ∀ t : Fin grid0.N, _)

/-- Step and gap at the points of `K` are of the first entries, -/
theorem pays_key (t : Fin cfg0.N) (h : t.val < 4) (v1 v2 v5 v6 : Ideal .f32) :
    k0_pay1 (F := Ideal) (grid0.coords t) v1 v2 v5 v6 = stepOf v1 v5 ∧ k0_pay2 (F := Ideal) (grid0.coords t) v1 v2 = v1 := by
  have e : Scalar.cmpi .slt (BitVec.ofNat 32 (grid0.coords t 0).val) 4#32 = 1#1 :=
    (by decide +kernel : ∀ t : Fin grid0.N, t.val < 4 → Scalar.cmpi .slt (BitVec.ofNat 32 (grid0.coords t 0).val) 4#32 = 1#1) t h
  unfold k0_pay1 k0_pay2
  dsimp only
  rw [e]
  exact ⟨rfl, rfl⟩

/-- and at the points of `V` of the second. -/
theorem pays_value (t : Fin cfg0.N) (h : 4 ≤ t.val) (v1 v2 v5 v6 : Ideal .f32) :
    k0_pay1 (F := Ideal) (grid0.coords t) v1 v2 v5 v6 = stepOf v2 v6 ∧ k0_pay2 (F := Ideal) (grid0.coords t) v1 v2 = v2 := by
  have e : Scalar.cmpi .slt (BitVec.ofNat 32 (grid0.coords t 0).val) 4#32 = 0#1 :=
    (by decide +kernel : ∀ t : Fin grid0.N, 4 ≤ t.val → Scalar.cmpi .slt (BitVec.ofNat 32 (grid0.coords t 0).val) 4#32 = 0#1) t h
  unfold k0_pay1 k0_pay2
  dsimp only
  rw [e]
  exact ⟨rfl, rfl⟩

/-- The three small arguments as a point has them. -/
theorem small3 (c : Dev nD) (t : Fin cfg0.N) (j : S1x2.Idx) :
    (iblk m c 3 t : FVec Ideal S1x2 .f32) j = m ((c : Thread nD τ).loc main_arg3) j := by
  blk_point [iblk, V, idx t]
theorem small4 (c : Dev nD) (t : Fin cfg0.N) (j : S1x2.Idx) :
    (iblk m c 4 t : FVec Ideal S1x2 .f32) j = m ((c : Thread nD τ).loc main_arg4) j := by
  blk_point [iblk, V, idx t]
theorem small5 (c : Dev nD) (t : Fin cfg0.N) (j : S1x2.Idx) :
    (iblk m c 5 t : FVec Ideal S1x2 .f32) j = m ((c : Thread nD τ).loc main_arg5) j := by
  blk_point [iblk, V, idx t]

/-- An entry of a block of weights, -/
theorem weightsK (c : Dev nD) (t : Fin cfg0.N) (h : t.val < 4) (i : S8x256x256.Idx) : (iblk m c 0 t : FVec Ideal S8x256x256 .f32) i
    = m ((c : Thread nD τ).loc main_arg0) (ix2 (i 0) ⟨(t.val * 256 + (i 1).val) * 256 + (i 2).val, by idx_bounds; omega⟩) := by
  have hm : min t.val 3 = t.val := by omega
  blk_point [iblk, V, idx t, hm]
theorem weightsV (c : Dev nD) (t : Fin cfg0.N) (h : 4 ≤ t.val) (i : S8x256x256.Idx) : (iblk m c 1 t : FVec Ideal S8x256x256 .f32) i
    = m ((c : Thread nD τ).loc main_arg1) (ix2 (i 0) ⟨(t.val * 256 + (i 1).val - 1024) * 256 + (i 2).val, by
        have := t.isLt; have hN : cfg0.N = 6 := N_0; idx_bounds; omega⟩) := by
  have e : t.val * 256 + (i 1).val - 1024 = (t.val - 4) * 256 + (i 1).val := by omega
  simp only [e]
  blk_point [iblk, V, idx t]
/-- of a block of totals -/
theorem totals (c : Dev nD) (t : Fin cfg0.N) (i : S8x256x256.Idx) : (iblk m c 2 t : FVec Ideal S8x256x256 .f32) i
    = m ((c : Thread nD τ).loc main_arg2) (ix3 (i 0) ⟨t.val * 256 + (i 1).val, by
        have := t.isLt; have hN : cfg0.N = 6 := N_0; idx_bounds; omega⟩ (i 2)) := by
  blk_point [iblk, V, idx t]
/-- and of a block of thresholds. -/
theorem bars (c : Dev nD) (t : Fin cfg0.N) (i : S256x256.Idx) : (iblk m c 6 t : FVec Ideal S256x256 .f32) i
    = m ((c : Thread nD τ).loc main_arg6) (ix2 ⟨t.val * 256 + (i 0).val, by
        have := t.isLt; have hN : cfg0.N = 6 := N_0; idx_bounds; omega⟩ (i 1)) := by
  blk_point [iblk, V, idx t]

/-- Where an entry of a block of the result lies. -/
theorem lies (t : Fin cfg0.N) (G : S8x1536x256.Idx → EReal) (y : S8x256x256.Idx) : G ((win0_7.blk t).view.emb y)
    = G (ix3 (y 0) ⟨t.val * 256 + (y 1).val, by have := t.isLt; have hN : cfg0.N = 6 := N_0; idx_bounds; omega⟩ (y 2)) := by
  blk_point [idx t]

/-- After the run the result array holds the second levels. -/
theorem final (c : Dev nD) (hg : ∀ j, @Ne EReal (m ((c : Thread nD τ).loc main_arg5) j) 0) : (dats m 0 c).arrAt 7 (cfgs 0).N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 7 _ (by decide +kernel) fun t _ y => ?_
  blk_simp
  rw [after0_7]
  refine Eq.trans ?_ (lies t _ y).symm
  have hN : cfg0.N = 6 := N_0
  have ht := t.isLt
  have h1 : (y 1).val < 256 := (y 1).isLt
  by_cases h : t.val < 4
  · have h' : ¬ 4 ≤ t.val := by omega
    rw [outsAt0_A m c t h h']
    refine (outK c (grid0.coords t) _ _ _ _ _ _ _ _ _ _ _ _ _ _ _ _ _ _ _ _ _ _ _ _ _ ?_ y).trans ?_
    · rw [(pays_key t h _ _ 0 0).2, small5]; exact hg _
    rw [(pays_key t h _ _ _ _).1, (pays_key t h _ _ 0 0).2, small3, small4, small5]
    refine Eq.trans ?_ (result_key _ _ _ _ _ _ _ _ _ _ (show t.val * 256 + (y 1).val < 1024 by omega)).symm
    unfold levels
    simp only [weightsK m c t h, totals, bars]
    rfl
  · have h' : 4 ≤ t.val := by omega
    rw [outsAt0_B m c t h h']
    refine (outV c (grid0.coords t) _ _ _ _ _ _ _ _ _ _ _ _ _ _ _ _ _ _ _ _ _ _ _ _ _ ?_ y).trans ?_
    · rw [(pays_value t h' _ _ 0 0).2, small5]; exact hg _
    rw [(pays_value t h' _ _ _ _).1, (pays_value t h' _ _ 0 0).2, small3, small4, small5]
    refine Eq.trans ?_ (result_value _ _ _ _ _ _ _ _ _ _ (show ¬ t.val * 256 + (y 1).val < 1024 by omega)).symm
    unfold levels
    simp only [weightsV m c t h', totals, bars]
    rfl

end Cert.Kernel4Ideal.Group

end
-- ==== Proof.GroupRef.lean ====
/-
  What the reference of the second level's call is made of, on one column of eight weights: its two sorts, its running sum and its
  membership of a cluster.
-/
module

public import proofs.«01_k».proof.Proof.GroupColumn
public import proofs.«01_k».proof.Proof.Gen.Reference4Ideal.Read
public import Idealize.ShloMosaic.Lib.Pointwise

@[expose] public section

set_option maxRecDepth 16384

noncomputable section

namespace Cert.Group

open Idealize.ShloMosaic

/-- The first sort compares the numbers alone. -/
theorem before_first (l r : EReal × BitVec 32) :
    (Cert.Reference4Ideal.comparator_f32_i32_d0 (F := Ideal) l r == 1#1) = decide (l.1 < r.1) :=
  Cert.Sort8.before_iff l.1 r.1

/-- The second compares the positions alone. -/
theorem before_second (p q : Fin 8) (x y : EReal) :
    (Cert.Reference4Ideal.comparator_i32_f32_d0 (F := Ideal) (BitVec.ofNat 32 p.val, x) (BitVec.ofNat 32 q.val, y) == 1#1) = decide (p < q) :=
  (by decide : ∀ p q : Fin 8, (IntOp.cmpi .slt (BitVec.ofNat 32 p.val) (BitVec.ofNat 32 q.val) == 1#1) = decide (p < q)) p q

/-- Sorting by the positions the first sort left takes every row back to its place. -/
theorem unsort (v : Fin 8 → EReal) (a : Fin 8) : sortedFrom (fun k k' => decide (order v k < order v k')) a = place v a := by
  have inv := sortedFrom_noInversion (fun k k' => decide (order v k < order v k')) (fun k k' => decide (order v k < order v k'))
    (fun a b h => decide_eq_false (lt_asymm (of_decide_eq_true h))) (fun a b h => h)
    (fun a b c h1 h2 => decide_eq_false (not_lt.mpr ((not_lt.mp (of_decide_eq_false h2)).trans (not_lt.mp (of_decide_eq_false h1)))))
  have inj : Function.Injective fun k => order v (sortedFrom (fun k k' => decide (order v k < order v k')) k) :=
    (order_injective v).comp (sortedFrom_injective _)
  have mono : StrictMono fun k => order v (sortedFrom (fun k k' => decide (order v k < order v k')) k) := fun i j h =>
    lt_of_le_of_ne (not_lt.mp (of_decide_eq_false (inv i j h))) fun e => h.ne (inj e)
  exact order_injective v ((le_antisymm mono.apply_le mono.le_apply).trans (order_place v a).symm)

/-- A running sum over eight places, the first of them zero. -/
theorem scan_sum (xs : Fin 8 → EReal) (s : Fin 7 → EReal) (h0 : xs 0 = 0) (hs : ∀ k : Fin 7, xs k.succ = s k) (a : Fin 8) :
    (List.finRange 8).foldl (fun r n => r + (if h : 7 ≤ a.val + n.val then xs ⟨a.val + n.val - 7, by omega⟩ else 0)) 0
      = ∑ k : Fin 7, if k.val < a.val then s k else 0 := by
  have e1 : xs 1 = s 0 := hs 0
  have e2 : xs 2 = s 1 := hs 1
  have e3 : xs 3 = s 2 := hs 2
  have e4 : xs 4 = s 3 := hs 3
  have e5 : xs 5 = s 4 := hs 4
  have e6 : xs 6 = s 5 := hs 5
  have e7 : xs 7 = s 6 := hs 6
  rw [show List.finRange 8 = [0, 1, 2, 3, 4, 5, 6, 7] from by decide]
  simp only [List.foldl]
  fin_cases a <;> simp [h0, e1, e2, e3, e4, e5, e6, e7, Fin.sum_univ_seven]

/-- The membership as the reference computes it. -/
theorem near_steps (y : EReal) :
    Ideal.liftRound Ideal.roundHalfEven (Ideal.exp (Ideal.div (-(Ideal.sqrt (y * y)) * lit 0x41C80000#32) (lit 0x41900000#32))) = near y := by
  have e25 : lit 0x41C80000#32 = ((25 : ℝ) : EReal) := by
    simp [lit, Ideal.ofBits, Ideal.ieee, -EReal.coe_mul]; try norm_num
  have e18 : lit 0x41900000#32 = ((18 : ℝ) : EReal) := by
    simp [lit, Ideal.ofBits, Ideal.ieee, -EReal.coe_mul]; try norm_num
  have h1 : ((18 : ℝ) : EReal) ≠ 0 := by simp
  have h2 : ((18 / 25 : ℝ) : EReal) ≠ 0 := by
    rw [Ne, EReal.coe_eq_zero]; norm_num
  unfold near Ideal.div
  rw [e25, e18, if_neg h1, if_neg h2, mul_assoc, ← EReal.coe_inv, ← EReal.coe_inv, ← EReal.coe_mul]
  congr 4
  norm_num

end Cert.Group

end
-- ==== Proof.GroupRefK.lean ====
/-
  The reference of the second level's call, one value after another, for the weights of `K`.
-/
module

public import proofs.«01_k».proof.Proof.GroupRef

@[expose] public section

set_option maxRecDepth 16384

noncomputable section

open Idealize.ShloMosaic Idealize.ShloMosaic.TcCoe Idealize.SL.Sem

namespace Cert.Reference4Ideal.GroupK

open Cert.Reference4Ideal Cert.Reference4Ideal.Gen Cert.Reference4Ideal.Read
open Cert.Group (order place split splits member mean grouped level quant near lit tiny centre lit0)

/-- The row of a column's totals, -/
abbrev row (n : Fin 262144) : Fin 1536 := ⟨0 + n.val / 256, by omega⟩

/-- and where in the row. -/
abbrev lane (n : Fin 262144) : Fin 256 := ⟨n.val % 256, by omega⟩

section

variable (x : FVec Ideal S8x262144 .f32) (x2 : FVec Ideal S8x1536x256 .f32) (x3 x4 x5 : FVec Ideal S1x2 .f32) (x6 : FVec Ideal S1536x256 .f32)

/-- A column of errors: the weights less their totals. -/
def err (n : Fin 262144) : Fin 8 → EReal := fun a => x (ix2 a n) - x2 (ix3 a (row n) (lane n))

/-- A column's threshold. -/
def thr (n : Fin 262144) : EReal := Cert.Group.sig (x6 (ix2 (row n) (lane n)))

/-- The total of a weight, -/
theorem total (a : Fin 8) (n : Fin 262144) : val_main_v8 (F := Ideal) x2 (ix2 a n) = x2 (ix3 a (row n) (lane n)) := by
  rw [val_main_v8_apply, val_main_v7_apply]
  refine congrArg x2 (funext fun d => ?_)
  have h0 : a.val < 8 := a.isLt
  have h1 : n.val < 262144 := n.isLt
  match d with
  | ⟨0, _⟩ => exact Fin.ext (by show (a.val * 262144 + n.val) / 262144 = a.val; omega)
  | ⟨1, _⟩ => exact Fin.ext (by show (a.val * 262144 + n.val) / 256 % 1024 = 0 + n.val / 256; omega)
  | ⟨2, _⟩ => exact Fin.ext (by show (a.val * 262144 + n.val) % 256 = n.val % 256; omega)

/-- its error, -/
theorem errors (a : Fin 8) (n : Fin 262144) : val_main_v15 (F := Ideal) x x2 (ix2 a n) = err x x2 n a := by
  rw [val_main_v15_apply, total]
  rfl

theorem along (a k : Fin 8) (n : Fin 262144) : Shape.Idx.along (s := S8x262144) (ix2 a n) (0 : Fin 2) k = ix2 k n := by
  funext d
  match d with
  | ⟨0, _⟩ => rfl
  | ⟨1, _⟩ => rfl

/-- Where the sort takes a place from. -/
theorem taken (a : Fin 8) (n : Fin 262144) :
    sortedFrom (fun k k' : Fin 8 => comparator_f32_i32_d0 (F := Ideal)
      (val_main_v15 (F := Ideal) x x2 (Shape.Idx.along (s := S8x262144) (ix2 a n) (0 : Fin 2) k), val_main_v16 (F := Ideal) (Shape.Idx.along (s := S8x262144) (ix2 a n) (0 : Fin 2) k))
      (val_main_v15 (F := Ideal) x x2 (Shape.Idx.along (s := S8x262144) (ix2 a n) (0 : Fin 2) k'), val_main_v16 (F := Ideal) (Shape.Idx.along (s := S8x262144) (ix2 a n) (0 : Fin 2) k')) == 1#1) a
      = order (err x x2 n) a := by
  unfold order
  congr 1
  funext k k'
  rw [Cert.Group.before_first]
  dsimp only
  rw [along, along, errors, errors]

/-- the errors in ascending order -/
theorem sorted (a : Fin 8) (n : Fin 262144) : val_main_v17_0 (F := Ideal) x x2 (ix2 a n) = err x x2 n (order (err x x2 n) a) := by
  unfold val_main_v17_0 Host.sort2
  rw [dif_pos (by decide)]
  refine (congrArg (fun k => val_main_v15 (F := Ideal) x x2 (Shape.Idx.along (s := S8x262144) (ix2 a n) (0 : Fin 2) k)) (taken x x2 a n)).trans ?_
  exact (congrArg _ (along a _ n)).trans (errors x x2 _ n)

/-- and the rows they come from. -/
theorem rows (a : Fin 8) (n : Fin 262144) : val_main_v17_1 (F := Ideal) x x2 (ix2 a n) = BitVec.ofNat 32 (order (err x x2 n) a).val := by
  unfold val_main_v17_1 Host.sort2
  rw [dif_pos (by decide)]
  refine (congrArg (fun k => val_main_v16 (F := Ideal) (Shape.Idx.along (s := S8x262144) (ix2 a n) (0 : Fin 2) k)) (taken x x2 a n)).trans ?_
  exact (congrArg (val_main_v16 (F := Ideal)) (along a _ n)).trans (val_main_v16_apply _)

/-- A single entry read through a slice and a reshape. -/
theorem first (j : S1x1.Idx) : idx_main_v9 j = ix2 0 0 ∧ idx_main_v11 j = ix2 0 0 := by
  have h0 : (j 0).val < 1 := (j 0).isLt
  have h1 : (j 1).val < 1 := (j 1).isLt
  constructor <;>
  · funext d
    match d with
    | ⟨0, _⟩ => exact Fin.ext (by show (j 0).val = 0; omega)
    | ⟨1, _⟩ => exact Fin.ext (by show (j 1).val = 0; omega)

/-- The greatest gap, -/
theorem gap (i : S_.Idx) : val_main_v12 (F := Ideal) x5 i = x5 (ix2 0 0) := by
  unfold val_main_v12
  exact (val_main_v11_apply (F := Ideal) x5 (Shape.reshapeEquiv Cert.Reference4Ideal.Facts₀.shapeCasts_S1x1_S_ i)).trans (congrArg x5 (first _).2)

/-- the step -/
theorem step (i : S_.Idx) : val_main_v10 (F := Ideal) x3 x4 i
    = Ideal.div (Ideal.div (Ideal.div ((x3 (ix2 0 0) : EReal) - x4 (ix2 0 0)) (lit 0x40400000#32)) (lit 0x40A00000#32)) (lit 0x41880000#32) := by
  unfold val_main_v10
  refine (val_main_v9_apply (F := Ideal) x3 x4 (Shape.reshapeEquiv Cert.Reference4Ideal.Facts₀.shapeCasts_S1x1_S_ i)).trans ?_
  rw [(first _).1, val_main_v6_apply, val_main_v4_apply, val_main_v2_apply, val_main_v0_apply, val_main_v1_apply, val_main_v3_apply, val_main_v5_apply]
  rfl

/-- and the threshold. -/
theorem threshold (n : Fin 262144) : val_main_v28 (F := Ideal) x6 (ix1 n) = thr x6 n := by
  have e : val_main_v14 (F := Ideal) x6 (ix1 n) = x6 (ix2 (row n) (lane n)) := by
    rw [val_main_v14_apply, val_main_v13_apply]
    refine congrArg x6 (funext fun d => ?_)
    have h1 : n.val < 262144 := n.isLt
    match d with
    | ⟨0, _⟩ => exact Fin.ext (by show n.val / 256 = 0 + n.val / 256; omega)
    | ⟨1, _⟩ => rfl
  rw [val_main_v28_apply, val_main_v27_apply, val_main_v26_apply, val_main_v25_apply, val_main_v24_apply, val_main_v23_apply, e]
  unfold thr Cert.Group.sig
  rw [← Cert.Group.lit1]
  rfl

/-- How far neighbours are split, -/
theorem splitting (k : Fin 7) (n : Fin 262144) : val_main_v39 (F := Ideal) x x2 x5 x6 (ix2 k n) = split (err x x2 n) (thr x6 n) (x5 (ix2 0 0)) k := by
  have e1 : idx_main_v18 (ix2 k n) = ix2 k.succ n := by
    funext d
    match d with
    | ⟨0, _⟩ => exact Fin.ext (by show 1 + k.val = k.val + 1; omega)
    | ⟨1, _⟩ => rfl
  have e2 : idx_main_v19 (ix2 k n) = ix2 k.castSucc n := by
    funext d
    match d with
    | ⟨0, _⟩ => rfl
    | ⟨1, _⟩ => rfl
  have e3 : idx_main_v29 (idx_main_v30 (ix2 k n)) = ix1 n := by
    funext d
    match d with
    | ⟨0, _⟩ => rfl
  have e4 : val_main_v33 (F := Ideal) x x2 x5 x6 (ix2 k n)
      = (Ideal.div (err x x2 n (order (err x x2 n) k.succ) - err x x2 n (order (err x x2 n) k.castSucc)) (x5 (ix2 0 0)) - thr x6 n) * lit 0x42C80000#32 := by
    rw [val_main_v33_apply, val_main_v32_apply, val_main_v31_apply, val_main_v30_apply, val_main_v29_apply, e3, threshold, val_main_v22_apply,
      val_main_v21_apply, gap, val_main_v20_apply, val_main_v18_apply, val_main_v19_apply, e1, e2, sorted, sorted]
    rfl
  rw [val_main_v39_apply, val_main_v38_apply, val_main_v37_apply, val_main_v36_apply, val_main_v35_apply, val_main_v34_apply, e4]
  unfold split
  rw [Cert.Group.div_hundredth]
  unfold Cert.Group.sig
  rw [← Cert.Group.lit1]
  rfl

/-- with a zero before them, -/
theorem padded_zero (n : Fin 262144) : val_main_v41 (F := Ideal) x x2 x5 x6 (ix2 0 n) = 0 := by
  unfold val_main_v41
  refine (concatenate_pair_apply_left (s₁ := S1x262144) (s₂ := S7x262144) _ _ _ _ (show S8x262144.Idx from ix2 0 n) rfl (show S1x262144.Idx from ix2 0 n) fun b => ?_).trans ?_
  · match b with
    | ⟨0, _⟩ => rfl
    | ⟨1, _⟩ => rfl
  · rw [val_main_v40_apply]
    exact lit0

theorem padded_succ (k : Fin 7) (n : Fin 262144) : val_main_v41 (F := Ideal) x x2 x5 x6 (ix2 k.succ n) = split (err x x2 n) (thr x6 n) (x5 (ix2 0 0)) k := by
  unfold val_main_v41
  refine (concatenate_pair_apply_right (s₁ := S1x262144) (s₂ := S7x262144) _ _ _ _ (show S8x262144.Idx from ix2 k.succ n) rfl rfl (show S7x262144.Idx from ix2 k n) (fun b hb => ?_) ?_).trans (splitting x x2 x5 x6 k n)
  · match b with
    | ⟨0, _⟩ => exact absurd rfl hb
    | ⟨1, _⟩ => rfl
  · rfl

/-- summed up to a place. -/
theorem sums (a : Fin 8) (n : Fin 262144) : val_main_v42 (F := Ideal) x x2 x5 x6 (ix2 a n) = splits (err x x2 n) (thr x6 n) (x5 (ix2 0 0)) a := by
  have hz : ∀ i : S_.Idx, val_main_call0_call0_v0 (F := Ideal) i = (0 : EReal) := fun i => by
    rw [val_main_call0_call0_v0_apply]
    exact lit0
  have hc : ∀ k : Fin 8, (Shape.rowMajor (⟨2, ![8, 1]⟩ : Shape)).symm k = ix2 k 0 := fun k =>
    (Equiv.symm_apply_eq _).mpr (Fin.ext (by
      refine Eq.symm ((Shape.rowMajor_val_two (d := ![8, 1]) (ix2 k 0)).trans ?_)
      show k.val * 1 + 0 = k.val
      omega))
  refine Eq.trans ?_ (Cert.Group.scan_sum (fun a => val_main_v41 (F := Ideal) x x2 x5 x6 (ix2 a n)) _ (padded_zero x x2 x5 x6 n) (fun k => padded_succ x x2 x5 x6 k n) a)
  unfold val_main_v42
  show Host.reduceWindow (fun p q : EReal => p + q) ![8, 1] ![1, 1] ![7, 0] ![0, 0] (val_main_v41 (F := Ideal) x x2 x5 x6) (fun _ => val_main_call0_call0_v0 (F := Ideal) (Shape.Idx.first h_S_)) reduceWindows_S8x262144_S8x262144_w8s1p7_0_w1s1p0_0 h_S_ (ix2 a n) = _
  unfold Host.reduceWindow
  dsimp only
  rw [hz]
  refine congrArg (fun f => List.foldl f (0 : EReal) (List.finRange 8)) (funext fun r => funext fun k => congrArg (r + ·) ?_)
  have hk : k.val < 8 := k.isLt
  by_cases h : 7 ≤ a.val + k.val
  · rw [dif_pos h, dif_pos (fun b => by
      rw [hc k]
      match b with
      | ⟨0, _⟩ => exact ⟨by show 7 ≤ a.val * 1 + k.val; omega, by show a.val * 1 + k.val - 7 < 8; omega⟩
      | ⟨1, _⟩ => exact ⟨by show 0 ≤ n.val * 1 + 0; omega, by have := n.isLt; show n.val * 1 + 0 - 0 < 262144; omega⟩)]
    refine congrArg _ (funext fun b => Fin.ext ?_)
    match b with
    | ⟨0, _⟩ =>
      show a.val * 1 + ((Shape.rowMajor (⟨2, ![8, 1]⟩ : Shape)).symm k 0).val - 7 = a.val + k.val - 7
      rw [hc k]
      show a.val * 1 + k.val - 7 = a.val + k.val - 7
      omega
    | ⟨1, _⟩ =>
      show n.val * 1 + ((Shape.rowMajor (⟨2, ![8, 1]⟩ : Shape)).symm k 1).val - 0 = n.val
      rw [hc k]
      show n.val * 1 + 0 - 0 = n.val
      omega
  · rw [dif_neg h, dif_neg]
    intro hin
    have := (hin 0).1
    rw [hc k] at this
    replace this : 7 ≤ a.val * 1 + k.val := this
    omega

/-- The splits summed, of a column. -/
abbrev cum (n : Fin 262144) : Fin 8 → EReal := splits (err x x2 n) (thr x6 n) (x5 (ix2 0 0))

/-- The errors of a column in ascending order. -/
abbrev asc (n : Fin 262144) : Fin 8 → EReal := fun a => err x x2 n (order (err x x2 n) a)

/-- The membership of cluster 0, -/
theorem member0 (a : Fin 8) (n : Fin 262144) : val_main_v56 (F := Ideal) x x2 x5 x6 (ix2 a n) = member (cum x x2 x5 x6 n) 0 a := by
  unfold member
  rw [← Cert.Group.near_steps]
  rw [val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, sums]
  rfl

/-- its mean -/
theorem mean0 (n : Fin 262144) : val_main_v62 (F := Ideal) x x2 x5 x6 (ix1 n) = mean (asc x x2 n) (cum x x2 x5 x6 n) 0 := by
  have e1 : ∀ k : Fin 8, idx_main_v58 (ix1 n) k = ix2 k n := fun k => by
    funext d
    match d with
    | ⟨0, _⟩ => rfl
    | ⟨1, _⟩ => rfl
  have e2 : ∀ k : Fin 8, idx_main_v59 (ix1 n) k = ix2 k n := fun k => by
    funext d
    match d with
    | ⟨0, _⟩ => rfl
    | ⟨1, _⟩ => rfl
  have s1 : val_main_v58 (F := Ideal) x x2 x5 x6 (ix1 n) = ∑ k, asc x x2 n k * member (cum x x2 x5 x6 n) 0 k := by
    rw [val_main_v58_apply]
    refine (congrArg₂ (· + ·) lit0 (Finset.sum_congr rfl fun k _ => ?_)).trans (zero_add _)
    rw [e1, val_main_v57_apply, sorted, member0]
    rfl
  have s2 : val_main_v59 (F := Ideal) x x2 x5 x6 (ix1 n) = ∑ k, member (cum x x2 x5 x6 n) 0 k := by
    rw [val_main_v59_apply]
    refine (congrArg₂ (· + ·) lit0 (Finset.sum_congr rfl fun k _ => ?_)).trans (zero_add _)
    rw [e2, member0]
  rw [val_main_v62_apply, val_main_v61_apply, s1, s2, val_main_v60_apply]
  rfl

/-- and what it adds. -/
theorem part0 (a : Fin 8) (n : Fin 262144) : val_main_v65 (F := Ideal) x x2 x5 x6 (ix2 a n) = member (cum x x2 x5 x6 n) 0 a * mean (asc x x2 n) (cum x x2 x5 x6 n) 0 := by
  have e : idx_main_v63 (idx_main_v64 (ix2 a n)) = ix1 n := by
    funext d
    match d with
    | ⟨0, _⟩ => rfl
  rw [val_main_v65_apply, member0, val_main_v64_apply, val_main_v63_apply, e, mean0]
  rfl

/-- The membership of cluster 1, -/
theorem member1 (a : Fin 8) (n : Fin 262144) : val_main_v79 (F := Ideal) x x2 x5 x6 (ix2 a n) = member (cum x x2 x5 x6 n) 1 a := by
  unfold member
  rw [← Cert.Group.near_steps]
  rw [val_main_v79_apply, val_main_v78_apply, val_main_v77_apply, val_main_v76_apply, val_main_v75_apply, val_main_v74_apply, val_main_v73_apply, val_main_v72_apply, val_main_v71_apply, val_main_v70_apply, val_main_v69_apply, val_main_v68_apply, val_main_v67_apply, sums]
  rfl

/-- its mean -/
theorem mean1 (n : Fin 262144) : val_main_v85 (F := Ideal) x x2 x5 x6 (ix1 n) = mean (asc x x2 n) (cum x x2 x5 x6 n) 1 := by
  have e1 : ∀ k : Fin 8, idx_main_v81 (ix1 n) k = ix2 k n := fun k => by
    funext d
    match d with
    | ⟨0, _⟩ => rfl
    | ⟨1, _⟩ => rfl
  have e2 : ∀ k : Fin 8, idx_main_v82 (ix1 n) k = ix2 k n := fun k => by
    funext d
    match d with
    | ⟨0, _⟩ => rfl
    | ⟨1, _⟩ => rfl
  have s1 : val_main_v81 (F := Ideal) x x2 x5 x6 (ix1 n) = ∑ k, asc x x2 n k * member (cum x x2 x5 x6 n) 1 k := by
    rw [val_main_v81_apply]
    refine (congrArg₂ (· + ·) lit0 (Finset.sum_congr rfl fun k _ => ?_)).trans (zero_add _)
    rw [e1, val_main_v80_apply, sorted, member1]
    rfl
  have s2 : val_main_v82 (F := Ideal) x x2 x5 x6 (ix1 n) = ∑ k, member (cum x x2 x5 x6 n) 1 k := by
    rw [val_main_v82_apply]
    refine (congrArg₂ (· + ·) lit0 (Finset.sum_congr rfl fun k _ => ?_)).trans (zero_add _)
    rw [e2, member1]
  rw [val_main_v85_apply, val_main_v84_apply, s1, s2, val_main_v83_apply]
  rfl

/-- and what it adds. -/
theorem part1 (a : Fin 8) (n : Fin 262144) : val_main_v88 (F := Ideal) x x2 x5 x6 (ix2 a n) = member (cum x x2 x5 x6 n) 1 a * mean (asc x x2 n) (cum x x2 x5 x6 n) 1 := by
  have e : idx_main_v86 (idx_main_v87 (ix2 a n)) = ix1 n := by
    funext d
    match d with
    | ⟨0, _⟩ => rfl
  rw [val_main_v88_apply, member1, val_main_v87_apply, val_main_v86_apply, e, mean1]
  rfl

/-- The membership of cluster 2, -/
theorem member2 (a : Fin 8) (n : Fin 262144) : val_main_v102 (F := Ideal) x x2 x5 x6 (ix2 a n) = member (cum x x2 x5 x6 n) 2 a := by
  unfold member
  rw [← Cert.Group.near_steps]
  rw [val_main_v102_apply, val_main_v101_apply, val_main_v100_apply, val_main_v99_apply, val_main_v98_apply, val_main_v97_apply, val_main_v96_apply, val_main_v95_apply, val_main_v94_apply, val_main_v93_apply, val_main_v92_apply, val_main_v91_apply, val_main_v90_apply, sums]
  rfl

/-- its mean -/
theorem mean2 (n : Fin 262144) : val_main_v108 (F := Ideal) x x2 x5 x6 (ix1 n) = mean (asc x x2 n) (cum x x2 x5 x6 n) 2 := by
  have e1 : ∀ k : Fin 8, idx_main_v104 (ix1 n) k = ix2 k n := fun k => by
    funext d
    match d with
    | ⟨0, _⟩ => rfl
    | ⟨1, _⟩ => rfl
  have e2 : ∀ k : Fin 8, idx_main_v105 (ix1 n) k = ix2 k n := fun k => by
    funext d
    match d with
    | ⟨0, _⟩ => rfl
    | ⟨1, _⟩ => rfl
  have s1 : val_main_v104 (F := Ideal) x x2 x5 x6 (ix1 n) = ∑ k, asc x x2 n k * member (cum x x2 x5 x6 n) 2 k := by
    rw [val_main_v104_apply]
    refine (congrArg₂ (· + ·) lit0 (Finset.sum_congr rfl fun k _ => ?_)).trans (zero_add _)
    rw [e1, val_main_v103_apply, sorted, member2]
    rfl
  have s2 : val_main_v105 (F := Ideal) x x2 x5 x6 (ix1 n) = ∑ k, member (cum x x2 x5 x6 n) 2 k := by
    rw [val_main_v105_apply]
    refine (congrArg₂ (· + ·) lit0 (Finset.sum_congr rfl fun k _ => ?_)).trans (zero_add _)
    rw [e2, member2]
  rw [val_main_v108_apply, val_main_v107_apply, s1, s2, val_main_v106_apply]
  rfl

/-- and what it adds. -/
theorem part2 (a : Fin 8) (n : Fin 262144) : val_main_v111 (F := Ideal) x x2 x5 x6 (ix2 a n) = member (cum x x2 x5 x6 n) 2 a * mean (asc x x2 n) (cum x x2 x5 x6 n) 2 := by
  have e : idx_main_v109 (idx_main_v110 (ix2 a n)) = ix1 n := by
    funext d
    match d with
    | ⟨0, _⟩ => rfl
  rw [val_main_v111_apply, member2, val_main_v110_apply, val_main_v109_apply, e, mean2]
  rfl

/-- The membership of cluster 3, -/
theorem member3 (a : Fin 8) (n : Fin 262144) : val_main_v125 (F := Ideal) x x2 x5 x6 (ix2 a n) = member (cum x x2 x5 x6 n) 3 a := by
  unfold member
  rw [← Cert.Group.near_steps]
  rw [val_main_v125_apply, val_main_v124_apply, val_main_v123_apply, val_main_v122_apply, val_main_v121_apply, val_main_v120_apply, val_main_v119_apply, val_main_v118_apply, val_main_v117_apply, val_main_v116_apply, val_main_v115_apply, val_main_v114_apply, val_main_v113_apply, sums]
  rfl

/-- its mean -/
theorem mean3 (n : Fin 262144) : val_main_v131 (F := Ideal) x x2 x5 x6 (ix1 n) = mean (asc x x2 n) (cum x x2 x5 x6 n) 3 := by
  have e1 : ∀ k : Fin 8, idx_main_v127 (ix1 n) k = ix2 k n := fun k => by
    funext d
    match d with
    | ⟨0, _⟩ => rfl
    | ⟨1, _⟩ => rfl
  have e2 : ∀ k : Fin 8, idx_main_v128 (ix1 n) k = ix2 k n := fun k => by
    funext d
    match d with
    | ⟨0, _⟩ => rfl
    | ⟨1, _⟩ => rfl
  have s1 : val_main_v127 (F := Ideal) x x2 x5 x6 (ix1 n) = ∑ k, asc x x2 n k * member (cum x x2 x5 x6 n) 3 k := by
    rw [val_main_v127_apply]
    refine (congrArg₂ (· + ·) lit0 (Finset.sum_congr rfl fun k _ => ?_)).trans (zero_add _)
    rw [e1, val_main_v126_apply, sorted, member3]
    rfl
  have s2 : val_main_v128 (F := Ideal) x x2 x5 x6 (ix1 n) = ∑ k, member (cum x x2 x5 x6 n) 3 k := by
    rw [val_main_v128_apply]
    refine (congrArg₂ (· + ·) lit0 (Finset.sum_congr rfl fun k _ => ?_)).trans (zero_add _)
    rw [e2, member3]
  rw [val_main_v131_apply, val_main_v130_apply, s1, s2, val_main_v129_apply]
  rfl

/-- and what it adds. -/
theorem part3 (a : Fin 8) (n : Fin 262144) : val_main_v134 (F := Ideal) x x2 x5 x6 (ix2 a n) = member (cum x x2 x5 x6 n) 3 a * mean (asc x x2 n) (cum x x2 x5 x6 n) 3 := by
  have e : idx_main_v132 (idx_main_v133 (ix2 a n)) = ix1 n := by
    funext d
    match d with
    | ⟨0, _⟩ => rfl
  rw [val_main_v134_apply, member3, val_main_v133_apply, val_main_v132_apply, e, mean3]
  rfl

/-- The means of the clusters the places belong to, -/
theorem means (a : Fin 8) (n : Fin 262144) : val_main_v135 (F := Ideal) x x2 x5 x6 (ix2 a n) = grouped (asc x x2 n) (cum x x2 x5 x6 n) a := by
  rw [val_main_v135_apply, val_main_v112_apply, val_main_v89_apply, val_main_v66_apply, val_main_v43_apply, part0, part1, part2, part3]
  unfold grouped
  rw [← lit0]
  rfl

/-- taken back to the rows. -/
theorem unsorted (a : Fin 8) (n : Fin 262144) : val_main_v136_1 (F := Ideal) x x2 x5 x6 (ix2 a n)
    = grouped (asc x x2 n) (cum x x2 x5 x6 n) (place (err x x2 n) a) := by
  unfold val_main_v136_1 Host.sort2
  rw [dif_pos (by decide)]
  refine Eq.trans (congrArg (fun k => val_main_v135 (F := Ideal) x x2 x5 x6 (Shape.Idx.along (s := S8x262144) (ix2 a n) (0 : Fin 2) k)) (?_ : _ = place (err x x2 n) a))
    ((congrArg _ (along a _ n)).trans (means x x2 x5 x6 _ n))
  refine Eq.trans ?_ (Cert.Group.unsort (err x x2 n) a)
  refine congrArg (fun R => sortedFrom R a) (funext fun k => funext fun k' => ?_)
  refine Eq.trans ?_ (Cert.Group.before_second (order (err x x2 n) k) (order (err x x2 n) k')
    (val_main_v135 (F := Ideal) x x2 x5 x6 (Shape.Idx.along (s := S8x262144) (ix2 a n) (0 : Fin 2) k)) (val_main_v135 (F := Ideal) x x2 x5 x6 (Shape.Idx.along (s := S8x262144) (ix2 a n) (0 : Fin 2) k')))
  rw [← rows x x2 k n, ← rows x x2 k' n, ← along a k n, ← along a k' n]
  rfl

/-- The totals with the second level. -/
theorem levels (a : Fin 8) (n : Fin 262144) : val_main_v143 (F := Ideal) x x2 x3 x4 x5 x6 (ix2 a n)
    = level (err x x2 n) (thr x6 n) (x5 (ix2 0 0))
      (Ideal.div (Ideal.div (Ideal.div ((x3 (ix2 0 0) : EReal) - x4 (ix2 0 0)) (lit 0x40400000#32)) (lit 0x40A00000#32)) (lit 0x41880000#32))
      (x2 (ix3 a (row n) (lane n))) a := by
  rw [val_main_v143_apply, total, val_main_v142_apply, val_main_v141_apply, step, val_main_v140_apply, val_main_call6_v4_apply, val_main_call6_v2_apply,
    val_main_call6_v1_apply, val_main_v139_apply, val_main_v138_apply, val_main_v137_apply, step, unsorted]
  rfl

end

end Cert.Reference4Ideal.GroupK

end
-- ==== Proof.GroupRefV.lean ====
/-
  The reference of the second level's call, one value after another, for the weights of `V`.
-/
module

public import proofs.«01_k».proof.Proof.GroupRef

@[expose] public section

set_option maxRecDepth 16384

noncomputable section

open Idealize.ShloMosaic Idealize.ShloMosaic.TcCoe Idealize.SL.Sem

namespace Cert.Reference4Ideal.GroupV

open Cert.Reference4Ideal Cert.Reference4Ideal.Gen Cert.Reference4Ideal.Read
open Cert.Group (order place split splits member mean grouped level quant near lit tiny centre lit0)

/-- The row of a column's totals, -/
abbrev row (n : Fin 131072) : Fin 1536 := ⟨1024 + n.val / 256, by omega⟩

/-- and where in the row. -/
abbrev lane (n : Fin 131072) : Fin 256 := ⟨n.val % 256, by omega⟩

section

variable (x : FVec Ideal S8x131072 .f32) (x2 : FVec Ideal S8x1536x256 .f32) (x3 x4 x5 : FVec Ideal S1x2 .f32) (x6 : FVec Ideal S1536x256 .f32)

/-- A column of errors: the weights less their totals. -/
def err (n : Fin 131072) : Fin 8 → EReal := fun a => x (ix2 a n) - x2 (ix3 a (row n) (lane n))

/-- A column's threshold. -/
def thr (n : Fin 131072) : EReal := Cert.Group.sig (x6 (ix2 (row n) (lane n)))

/-- The total of a weight, -/
theorem total (a : Fin 8) (n : Fin 131072) : val_main_v145 (F := Ideal) x2 (ix2 a n) = x2 (ix3 a (row n) (lane n)) := by
  rw [val_main_v145_apply, val_main_v144_apply]
  refine congrArg x2 (funext fun d => ?_)
  have h0 : a.val < 8 := a.isLt
  have h1 : n.val < 131072 := n.isLt
  match d with
  | ⟨0, _⟩ => exact Fin.ext (by show (a.val * 131072 + n.val) / 131072 = a.val; omega)
  | ⟨1, _⟩ => exact Fin.ext (by show 1024 + (a.val * 131072 + n.val) / 256 % 512 = 1024 + n.val / 256; omega)
  | ⟨2, _⟩ => exact Fin.ext (by show (a.val * 131072 + n.val) % 256 = n.val % 256; omega)

/-- its error, -/
theorem errors (a : Fin 8) (n : Fin 131072) : val_main_v152 (F := Ideal) x x2 (ix2 a n) = err x x2 n a := by
  rw [val_main_v152_apply, total]
  rfl

theorem along (a k : Fin 8) (n : Fin 131072) : Shape.Idx.along (s := S8x131072) (ix2 a n) (0 : Fin 2) k = ix2 k n := by
  funext d
  match d with
  | ⟨0, _⟩ => rfl
  | ⟨1, _⟩ => rfl

/-- Where the sort takes a place from. -/
theorem taken (a : Fin 8) (n : Fin 131072) :
    sortedFrom (fun k k' : Fin 8 => comparator_f32_i32_d0 (F := Ideal)
      (val_main_v152 (F := Ideal) x x2 (Shape.Idx.along (s := S8x131072) (ix2 a n) (0 : Fin 2) k), val_main_v153 (F := Ideal) (Shape.Idx.along (s := S8x131072) (ix2 a n) (0 : Fin 2) k))
      (val_main_v152 (F := Ideal) x x2 (Shape.Idx.along (s := S8x131072) (ix2 a n) (0 : Fin 2) k'), val_main_v153 (F := Ideal) (Shape.Idx.along (s := S8x131072) (ix2 a n) (0 : Fin 2) k')) == 1#1) a
      = order (err x x2 n) a := by
  unfold order
  congr 1
  funext k k'
  rw [Cert.Group.before_first]
  dsimp only
  rw [along, along, errors, errors]

/-- the errors in ascending order -/
theorem sorted (a : Fin 8) (n : Fin 131072) : val_main_v154_0 (F := Ideal) x x2 (ix2 a n) = err x x2 n (order (err x x2 n) a) := by
  unfold val_main_v154_0 Host.sort2
  rw [dif_pos (by decide)]
  refine (congrArg (fun k => val_main_v152 (F := Ideal) x x2 (Shape.Idx.along (s := S8x131072) (ix2 a n) (0 : Fin 2) k)) (taken x x2 a n)).trans ?_
  exact (congrArg _ (along a _ n)).trans (errors x x2 _ n)

/-- and the rows they come from. -/
theorem rows (a : Fin 8) (n : Fin 131072) : val_main_v154_1 (F := Ideal) x x2 (ix2 a n) = BitVec.ofNat 32 (order (err x x2 n) a).val := by
  unfold val_main_v154_1 Host.sort2
  rw [dif_pos (by decide)]
  refine (congrArg (fun k => val_main_v153 (F := Ideal) (Shape.Idx.along (s := S8x131072) (ix2 a n) (0 : Fin 2) k)) (taken x x2 a n)).trans ?_
  exact (congrArg (val_main_v153 (F := Ideal)) (along a _ n)).trans (val_main_v153_apply _)

/-- A single entry read through a slice and a reshape. -/
theorem first (j : S1x1.Idx) : idx_main_v146 j = ix2 0 1 ∧ idx_main_v148 j = ix2 0 1 := by
  have h0 : (j 0).val < 1 := (j 0).isLt
  have h1 : (j 1).val < 1 := (j 1).isLt
  constructor <;>
  · funext d
    match d with
    | ⟨0, _⟩ => exact Fin.ext (by show (j 0).val = 0; omega)
    | ⟨1, _⟩ => exact Fin.ext (by show 1 + (j 1).val = 1; omega)

/-- The greatest gap, -/
theorem gap (i : S_.Idx) : val_main_v149 (F := Ideal) x5 i = x5 (ix2 0 1) := by
  unfold val_main_v149
  exact (val_main_v148_apply (F := Ideal) x5 (Shape.reshapeEquiv Cert.Reference4Ideal.Facts₀.shapeCasts_S1x1_S_ i)).trans (congrArg x5 (first _).2)

/-- the step -/
theorem step (i : S_.Idx) : val_main_v147 (F := Ideal) x3 x4 i
    = Ideal.div (Ideal.div (Ideal.div ((x3 (ix2 0 1) : EReal) - x4 (ix2 0 1)) (lit 0x40400000#32)) (lit 0x40A00000#32)) (lit 0x41880000#32) := by
  unfold val_main_v147
  refine (val_main_v146_apply (F := Ideal) x3 x4 (Shape.reshapeEquiv Cert.Reference4Ideal.Facts₀.shapeCasts_S1x1_S_ i)).trans ?_
  rw [(first _).1, val_main_v6_apply, val_main_v4_apply, val_main_v2_apply, val_main_v0_apply, val_main_v1_apply, val_main_v3_apply, val_main_v5_apply]
  rfl

/-- and the threshold. -/
theorem threshold (n : Fin 131072) : val_main_v165 (F := Ideal) x6 (ix1 n) = thr x6 n := by
  have e : val_main_v151 (F := Ideal) x6 (ix1 n) = x6 (ix2 (row n) (lane n)) := by
    rw [val_main_v151_apply, val_main_v150_apply]
    refine congrArg x6 (funext fun d => ?_)
    have h1 : n.val < 131072 := n.isLt
    match d with
    | ⟨0, _⟩ => exact Fin.ext (by show 1024 + n.val / 256 = 1024 + n.val / 256; omega)
    | ⟨1, _⟩ => rfl
  rw [val_main_v165_apply, val_main_v164_apply, val_main_v163_apply, val_main_v162_apply, val_main_v161_apply, val_main_v160_apply, e]
  unfold thr Cert.Group.sig
  rw [← Cert.Group.lit1]
  rfl

/-- How far neighbours are split, -/
theorem splitting (k : Fin 7) (n : Fin 131072) : val_main_v176 (F := Ideal) x x2 x5 x6 (ix2 k n) = split (err x x2 n) (thr x6 n) (x5 (ix2 0 1)) k := by
  have e1 : idx_main_v155 (ix2 k n) = ix2 k.succ n := by
    funext d
    match d with
    | ⟨0, _⟩ => exact Fin.ext (by show 1 + k.val = k.val + 1; omega)
    | ⟨1, _⟩ => rfl
  have e2 : idx_main_v156 (ix2 k n) = ix2 k.castSucc n := by
    funext d
    match d with
    | ⟨0, _⟩ => rfl
    | ⟨1, _⟩ => rfl
  have e3 : idx_main_v166 (idx_main_v167 (ix2 k n)) = ix1 n := by
    funext d
    match d with
    | ⟨0, _⟩ => rfl
  have e4 : val_main_v170 (F := Ideal) x x2 x5 x6 (ix2 k n)
      = (Ideal.div (err x x2 n (order (err x x2 n) k.succ) - err x x2 n (order (err x x2 n) k.castSucc)) (x5 (ix2 0 1)) - thr x6 n) * lit 0x42C80000#32 := by
    rw [val_main_v170_apply, val_main_v169_apply, val_main_v168_apply, val_main_v167_apply, val_main_v166_apply, e3, threshold, val_main_v159_apply,
      val_main_v158_apply, gap, val_main_v157_apply, val_main_v155_apply, val_main_v156_apply, e1, e2, sorted, sorted]
    rfl
  rw [val_main_v176_apply, val_main_v175_apply, val_main_v174_apply, val_main_v173_apply, val_main_v172_apply, val_main_v171_apply, e4]
  unfold split
  rw [Cert.Group.div_hundredth]
  unfold Cert.Group.sig
  rw [← Cert.Group.lit1]
  rfl

/-- with a zero before them, -/
theorem padded_zero (n : Fin 131072) : val_main_v178 (F := Ideal) x x2 x5 x6 (ix2 0 n) = 0 := by
  unfold val_main_v178
  refine (concatenate_pair_apply_left (s₁ := S1x131072) (s₂ := S7x131072) _ _ _ _ (show S8x131072.Idx from ix2 0 n) rfl (show S1x131072.Idx from ix2 0 n) fun b => ?_).trans ?_
  · match b with
    | ⟨0, _⟩ => rfl
    | ⟨1, _⟩ => rfl
  · rw [val_main_v177_apply]
    exact lit0

theorem padded_succ (k : Fin 7) (n : Fin 131072) : val_main_v178 (F := Ideal) x x2 x5 x6 (ix2 k.succ n) = split (err x x2 n) (thr x6 n) (x5 (ix2 0 1)) k := by
  unfold val_main_v178
  refine (concatenate_pair_apply_right (s₁ := S1x131072) (s₂ := S7x131072) _ _ _ _ (show S8x131072.Idx from ix2 k.succ n) rfl rfl (show S7x131072.Idx from ix2 k n) (fun b hb => ?_) ?_).trans (splitting x x2 x5 x6 k n)
  · match b with
    | ⟨0, _⟩ => exact absurd rfl hb
    | ⟨1, _⟩ => rfl
  · rfl

/-- summed up to a place. -/
theorem sums (a : Fin 8) (n : Fin 131072) : val_main_v179 (F := Ideal) x x2 x5 x6 (ix2 a n) = splits (err x x2 n) (thr x6 n) (x5 (ix2 0 1)) a := by
  have hz : ∀ i : S_.Idx, val_main_call7_call0_v0 (F := Ideal) i = (0 : EReal) := fun i => by
    rw [val_main_call7_call0_v0_apply]
    exact lit0
  have hc : ∀ k : Fin 8, (Shape.rowMajor (⟨2, ![8, 1]⟩ : Shape)).symm k = ix2 k 0 := fun k =>
    (Equiv.symm_apply_eq _).mpr (Fin.ext (by
      refine Eq.symm ((Shape.rowMajor_val_two (d := ![8, 1]) (ix2 k 0)).trans ?_)
      show k.val * 1 + 0 = k.val
      omega))
  refine Eq.trans ?_ (Cert.Group.scan_sum (fun a => val_main_v178 (F := Ideal) x x2 x5 x6 (ix2 a n)) _ (padded_zero x x2 x5 x6 n) (fun k => padded_succ x x2 x5 x6 k n) a)
  unfold val_main_v179
  show Host.reduceWindow (fun p q : EReal => p + q) ![8, 1] ![1, 1] ![7, 0] ![0, 0] (val_main_v178 (F := Ideal) x x2 x5 x6) (fun _ => val_main_call7_call0_v0 (F := Ideal) (Shape.Idx.first h_S_)) reduceWindows_S8x131072_S8x131072_w8s1p7_0_w1s1p0_0 h_S_ (ix2 a n) = _
  unfold Host.reduceWindow
  dsimp only
  rw [hz]
  refine congrArg (fun f => List.foldl f (0 : EReal) (List.finRange 8)) (funext fun r => funext fun k => congrArg (r + ·) ?_)
  have hk : k.val < 8 := k.isLt
  by_cases h : 7 ≤ a.val + k.val
  · rw [dif_pos h, dif_pos (fun b => by
      rw [hc k]
      match b with
      | ⟨0, _⟩ => exact ⟨by show 7 ≤ a.val * 1 + k.val; omega, by show a.val * 1 + k.val - 7 < 8; omega⟩
      | ⟨1, _⟩ => exact ⟨by show 0 ≤ n.val * 1 + 0; omega, by have := n.isLt; show n.val * 1 + 0 - 0 < 131072; omega⟩)]
    refine congrArg _ (funext fun b => Fin.ext ?_)
    match b with
    | ⟨0, _⟩ =>
      show a.val * 1 + ((Shape.rowMajor (⟨2, ![8, 1]⟩ : Shape)).symm k 0).val - 7 = a.val + k.val - 7
      rw [hc k]
      show a.val * 1 + k.val - 7 = a.val + k.val - 7
      omega
    | ⟨1, _⟩ =>
      show n.val * 1 + ((Shape.rowMajor (⟨2, ![8, 1]⟩ : Shape)).symm k 1).val - 0 = n.val
      rw [hc k]
      show n.val * 1 + 0 - 0 = n.val
      omega
  · rw [dif_neg h, dif_neg]
    intro hin
    have := (hin 0).1
    rw [hc k] at this
    replace this : 7 ≤ a.val * 1 + k.val := this
    omega

/-- The splits summed, of a column. -/
abbrev cum (n : Fin 131072) : Fin 8 → EReal := splits (err x x2 n) (thr x6 n) (x5 (ix2 0 1))

/-- The errors of a column in ascending order. -/
abbrev asc (n : Fin 131072) : Fin 8 → EReal := fun a => err x x2 n (order (err x x2 n) a)

/-- The membership of cluster 0, -/
theorem member0 (a : Fin 8) (n : Fin 131072) : val_main_v193 (F := Ideal) x x2 x5 x6 (ix2 a n) = member (cum x x2 x5 x6 n) 0 a := by
  unfold member
  rw [← Cert.Group.near_steps]
  rw [val_main_v193_apply, val_main_v192_apply, val_main_v191_apply, val_main_v190_apply, val_main_v189_apply, val_main_v188_apply, val_main_v187_apply, val_main_v186_apply, val_main_v185_apply, val_main_v184_apply, val_main_v183_apply, val_main_v182_apply, val_main_v181_apply, sums]
  rfl

/-- its mean -/
theorem mean0 (n : Fin 131072) : val_main_v199 (F := Ideal) x x2 x5 x6 (ix1 n) = mean (asc x x2 n) (cum x x2 x5 x6 n) 0 := by
  have e1 : ∀ k : Fin 8, idx_main_v195 (ix1 n) k = ix2 k n := fun k => by
    funext d
    match d with
    | ⟨0, _⟩ => rfl
    | ⟨1, _⟩ => rfl
  have e2 : ∀ k : Fin 8, idx_main_v196 (ix1 n) k = ix2 k n := fun k => by
    funext d
    match d with
    | ⟨0, _⟩ => rfl
    | ⟨1, _⟩ => rfl
  have s1 : val_main_v195 (F := Ideal) x x2 x5 x6 (ix1 n) = ∑ k, asc x x2 n k * member (cum x x2 x5 x6 n) 0 k := by
    rw [val_main_v195_apply]
    refine (congrArg₂ (· + ·) lit0 (Finset.sum_congr rfl fun k _ => ?_)).trans (zero_add _)
    rw [e1, val_main_v194_apply, sorted, member0]
    rfl
  have s2 : val_main_v196 (F := Ideal) x x2 x5 x6 (ix1 n) = ∑ k, member (cum x x2 x5 x6 n) 0 k := by
    rw [val_main_v196_apply]
    refine (congrArg₂ (· + ·) lit0 (Finset.sum_congr rfl fun k _ => ?_)).trans (zero_add _)
    rw [e2, member0]
  rw [val_main_v199_apply, val_main_v198_apply, s1, s2, val_main_v197_apply]
  rfl

/-- and what it adds. -/
theorem part0 (a : Fin 8) (n : Fin 131072) : val_main_v202 (F := Ideal) x x2 x5 x6 (ix2 a n) = member (cum x x2 x5 x6 n) 0 a * mean (asc x x2 n) (cum x x2 x5 x6 n) 0 := by
  have e : idx_main_v200 (idx_main_v201 (ix2 a n)) = ix1 n := by
    funext d
    match d with
    | ⟨0, _⟩ => rfl
  rw [val_main_v202_apply, member0, val_main_v201_apply, val_main_v200_apply, e, mean0]
  rfl

/-- The membership of cluster 1, -/
theorem member1 (a : Fin 8) (n : Fin 131072) : val_main_v216 (F := Ideal) x x2 x5 x6 (ix2 a n) = member (cum x x2 x5 x6 n) 1 a := by
  unfold member
  rw [← Cert.Group.near_steps]
  rw [val_main_v216_apply, val_main_v215_apply, val_main_v214_apply, val_main_v213_apply, val_main_v212_apply, val_main_v211_apply, val_main_v210_apply, val_main_v209_apply, val_main_v208_apply, val_main_v207_apply, val_main_v206_apply, val_main_v205_apply, val_main_v204_apply, sums]
  rfl

/-- its mean -/
theorem mean1 (n : Fin 131072) : val_main_v222 (F := Ideal) x x2 x5 x6 (ix1 n) = mean (asc x x2 n) (cum x x2 x5 x6 n) 1 := by
  have e1 : ∀ k : Fin 8, idx_main_v218 (ix1 n) k = ix2 k n := fun k => by
    funext d
    match d with
    | ⟨0, _⟩ => rfl
    | ⟨1, _⟩ => rfl
  have e2 : ∀ k : Fin 8, idx_main_v219 (ix1 n) k = ix2 k n := fun k => by
    funext d
    match d with
    | ⟨0, _⟩ => rfl
    | ⟨1, _⟩ => rfl
  have s1 : val_main_v218 (F := Ideal) x x2 x5 x6 (ix1 n) = ∑ k, asc x x2 n k * member (cum x x2 x5 x6 n) 1 k := by
    rw [val_main_v218_apply]
    refine (congrArg₂ (· + ·) lit0 (Finset.sum_congr rfl fun k _ => ?_)).trans (zero_add _)
    rw [e1, val_main_v217_apply, sorted, member1]
    rfl
  have s2 : val_main_v219 (F := Ideal) x x2 x5 x6 (ix1 n) = ∑ k, member (cum x x2 x5 x6 n) 1 k := by
    rw [val_main_v219_apply]
    refine (congrArg₂ (· + ·) lit0 (Finset.sum_congr rfl fun k _ => ?_)).trans (zero_add _)
    rw [e2, member1]
  rw [val_main_v222_apply, val_main_v221_apply, s1, s2, val_main_v220_apply]
  rfl

/-- and what it adds. -/
theorem part1 (a : Fin 8) (n : Fin 131072) : val_main_v225 (F := Ideal) x x2 x5 x6 (ix2 a n) = member (cum x x2 x5 x6 n) 1 a * mean (asc x x2 n) (cum x x2 x5 x6 n) 1 := by
  have e : idx_main_v223 (idx_main_v224 (ix2 a n)) = ix1 n := by
    funext d
    match d with
    | ⟨0, _⟩ => rfl
  rw [val_main_v225_apply, member1, val_main_v224_apply, val_main_v223_apply, e, mean1]
  rfl

/-- The membership of cluster 2, -/
theorem member2 (a : Fin 8) (n : Fin 131072) : val_main_v239 (F := Ideal) x x2 x5 x6 (ix2 a n) = member (cum x x2 x5 x6 n) 2 a := by
  unfold member
  rw [← Cert.Group.near_steps]
  rw [val_main_v239_apply, val_main_v238_apply, val_main_v237_apply, val_main_v236_apply, val_main_v235_apply, val_main_v234_apply, val_main_v233_apply, val_main_v232_apply, val_main_v231_apply, val_main_v230_apply, val_main_v229_apply, val_main_v228_apply, val_main_v227_apply, sums]
  rfl

/-- its mean -/
theorem mean2 (n : Fin 131072) : val_main_v245 (F := Ideal) x x2 x5 x6 (ix1 n) = mean (asc x x2 n) (cum x x2 x5 x6 n) 2 := by
  have e1 : ∀ k : Fin 8, idx_main_v241 (ix1 n) k = ix2 k n := fun k => by
    funext d
    match d with
    | ⟨0, _⟩ => rfl
    | ⟨1, _⟩ => rfl
  have e2 : ∀ k : Fin 8, idx_main_v242 (ix1 n) k = ix2 k n := fun k => by
    funext d
    match d with
    | ⟨0, _⟩ => rfl
    | ⟨1, _⟩ => rfl
  have s1 : val_main_v241 (F := Ideal) x x2 x5 x6 (ix1 n) = ∑ k, asc x x2 n k * member (cum x x2 x5 x6 n) 2 k := by
    rw [val_main_v241_apply]
    refine (congrArg₂ (· + ·) lit0 (Finset.sum_congr rfl fun k _ => ?_)).trans (zero_add _)
    rw [e1, val_main_v240_apply, sorted, member2]
    rfl
  have s2 : val_main_v242 (F := Ideal) x x2 x5 x6 (ix1 n) = ∑ k, member (cum x x2 x5 x6 n) 2 k := by
    rw [val_main_v242_apply]
    refine (congrArg₂ (· + ·) lit0 (Finset.sum_congr rfl fun k _ => ?_)).trans (zero_add _)
    rw [e2, member2]
  rw [val_main_v245_apply, val_main_v244_apply, s1, s2, val_main_v243_apply]
  rfl

/-- and what it adds. -/
theorem part2 (a : Fin 8) (n : Fin 131072) : val_main_v248 (F := Ideal) x x2 x5 x6 (ix2 a n) = member (cum x x2 x5 x6 n) 2 a * mean (asc x x2 n) (cum x x2 x5 x6 n) 2 := by
  have e : idx_main_v246 (idx_main_v247 (ix2 a n)) = ix1 n := by
    funext d
    match d with
    | ⟨0, _⟩ => rfl
  rw [val_main_v248_apply, member2, val_main_v247_apply, val_main_v246_apply, e, mean2]
  rfl

/-- The membership of cluster 3, -/
theorem member3 (a : Fin 8) (n : Fin 131072) : val_main_v262 (F := Ideal) x x2 x5 x6 (ix2 a n) = member (cum x x2 x5 x6 n) 3 a := by
  unfold member
  rw [← Cert.Group.near_steps]
  rw [val_main_v262_apply, val_main_v261_apply, val_main_v260_apply, val_main_v259_apply, val_main_v258_apply, val_main_v257_apply, val_main_v256_apply, val_main_v255_apply, val_main_v254_apply, val_main_v253_apply, val_main_v252_apply, val_main_v251_apply, val_main_v250_apply, sums]
  rfl

/-- its mean -/
theorem mean3 (n : Fin 131072) : val_main_v268 (F := Ideal) x x2 x5 x6 (ix1 n) = mean (asc x x2 n) (cum x x2 x5 x6 n) 3 := by
  have e1 : ∀ k : Fin 8, idx_main_v264 (ix1 n) k = ix2 k n := fun k => by
    funext d
    match d with
    | ⟨0, _⟩ => rfl
    | ⟨1, _⟩ => rfl
  have e2 : ∀ k : Fin 8, idx_main_v265 (ix1 n) k = ix2 k n := fun k => by
    funext d
    match d with
    | ⟨0, _⟩ => rfl
    | ⟨1, _⟩ => rfl
  have s1 : val_main_v264 (F := Ideal) x x2 x5 x6 (ix1 n) = ∑ k, asc x x2 n k * member (cum x x2 x5 x6 n) 3 k := by
    rw [val_main_v264_apply]
    refine (congrArg₂ (· + ·) lit0 (Finset.sum_congr rfl fun k _ => ?_)).trans (zero_add _)
    rw [e1, val_main_v263_apply, sorted, member3]
    rfl
  have s2 : val_main_v265 (F := Ideal) x x2 x5 x6 (ix1 n) = ∑ k, member (cum x x2 x5 x6 n) 3 k := by
    rw [val_main_v265_apply]
    refine (congrArg₂ (· + ·) lit0 (Finset.sum_congr rfl fun k _ => ?_)).trans (zero_add _)
    rw [e2, member3]
  rw [val_main_v268_apply, val_main_v267_apply, s1, s2, val_main_v266_apply]
  rfl

/-- and what it adds. -/
theorem part3 (a : Fin 8) (n : Fin 131072) : val_main_v271 (F := Ideal) x x2 x5 x6 (ix2 a n) = member (cum x x2 x5 x6 n) 3 a * mean (asc x x2 n) (cum x x2 x5 x6 n) 3 := by
  have e : idx_main_v269 (idx_main_v270 (ix2 a n)) = ix1 n := by
    funext d
    match d with
    | ⟨0, _⟩ => rfl
  rw [val_main_v271_apply, member3, val_main_v270_apply, val_main_v269_apply, e, mean3]
  rfl

/-- The means of the clusters the places belong to, -/
theorem means (a : Fin 8) (n : Fin 131072) : val_main_v272 (F := Ideal) x x2 x5 x6 (ix2 a n) = grouped (asc x x2 n) (cum x x2 x5 x6 n) a := by
  rw [val_main_v272_apply, val_main_v249_apply, val_main_v226_apply, val_main_v203_apply, val_main_v180_apply, part0, part1, part2, part3]
  unfold grouped
  rw [← lit0]
  rfl

/-- taken back to the rows. -/
theorem unsorted (a : Fin 8) (n : Fin 131072) : val_main_v273_1 (F := Ideal) x x2 x5 x6 (ix2 a n)
    = grouped (asc x x2 n) (cum x x2 x5 x6 n) (place (err x x2 n) a) := by
  unfold val_main_v273_1 Host.sort2
  rw [dif_pos (by decide)]
  refine Eq.trans (congrArg (fun k => val_main_v272 (F := Ideal) x x2 x5 x6 (Shape.Idx.along (s := S8x131072) (ix2 a n) (0 : Fin 2) k)) (?_ : _ = place (err x x2 n) a))
    ((congrArg _ (along a _ n)).trans (means x x2 x5 x6 _ n))
  refine Eq.trans ?_ (Cert.Group.unsort (err x x2 n) a)
  refine congrArg (fun R => sortedFrom R a) (funext fun k => funext fun k' => ?_)
  refine Eq.trans ?_ (Cert.Group.before_second (order (err x x2 n) k) (order (err x x2 n) k')
    (val_main_v272 (F := Ideal) x x2 x5 x6 (Shape.Idx.along (s := S8x131072) (ix2 a n) (0 : Fin 2) k)) (val_main_v272 (F := Ideal) x x2 x5 x6 (Shape.Idx.along (s := S8x131072) (ix2 a n) (0 : Fin 2) k')))
  rw [← rows x x2 k n, ← rows x x2 k' n, ← along a k n, ← along a k' n]
  rfl

/-- The totals with the second level. -/
theorem levels (a : Fin 8) (n : Fin 131072) : val_main_v280 (F := Ideal) x x2 x3 x4 x5 x6 (ix2 a n)
    = level (err x x2 n) (thr x6 n) (x5 (ix2 0 1))
      (Ideal.div (Ideal.div (Ideal.div ((x3 (ix2 0 1) : EReal) - x4 (ix2 0 1)) (lit 0x40400000#32)) (lit 0x40A00000#32)) (lit 0x41880000#32))
      (x2 (ix3 a (row n) (lane n))) a := by
  rw [val_main_v280_apply, total, val_main_v279_apply, val_main_v278_apply, step, val_main_v277_apply, val_main_call13_v4_apply, val_main_call13_v2_apply,
    val_main_call13_v1_apply, val_main_v276_apply, val_main_v275_apply, val_main_v274_apply, step, unsorted]
  rfl

end

end Cert.Reference4Ideal.GroupV

end
-- ==== Proof.GroupEnd.lean ====
/-
  The second level's result after the run, and that it is the reference's.
-/
module

public import proofs.«01_k».proof.Proof.GroupArray
public import proofs.«01_k».proof.Proof.GroupRefK
public import proofs.«01_k».proof.Proof.GroupRefV
public import proofs.«01_k».proof.Proof.Gen.Pre_nonzero4

@[expose] public section

set_option maxRecDepth 16384

noncomputable section

open Idealize.ShloMosaic Idealize.ShloMosaic.TcCoe Idealize.SL.Sem

namespace Cert.Pre_nonzero4.Args

open Cert.Pre_nonzero4 Cert.Pre_nonzero4.Gen

/-- The precondition says that no greatest gap is zero. -/
theorem nonzero (K : FVec Ideal S8x262144 .f32) (W : FVec Ideal S8x131072 .f32) (T : FVec Ideal S8x1536x256 .f32) (p q g : FVec Ideal S1x2 .f32)
    (th : FVec Ideal S1536x256 .f32) (h : Cert.Pre_nonzero4.fn (F := Ideal) K W T p q g th = fun _ => 1#1) (j : S1x2.Idx) : @Ne EReal (g j) 0 := by
  have h0 := congrFun h (fun a => a.elim0)
  unfold fn at h0
  dsimp only at h0
  have h1 : Ideal.cmp .une (g j) (Cert.Group.lit 0x00000000#32) = 1#1 := Host.reduce_andi_all _ _ _ _ _ h0 j
  rw [Cert.Group.lit0] at h1
  intro e
  rw [e] at h1
  simp [Ideal.cmp] at h1

end Cert.Pre_nonzero4.Args

namespace Cert.Reference4Ideal.Group

open Cert.Reference4Ideal Cert.Reference4Ideal.Gen Cert.Reference4Ideal.Read
open Cert.Kernel4Ideal.Group (result result_key result_value)

variable (K : FVec Ideal S8x262144 .f32) (W : FVec Ideal S8x131072 .f32) (x2 : FVec Ideal S8x1536x256 .f32) (x3 x4 x5 : FVec Ideal S1x2 .f32)
  (x6 : FVec Ideal S1536x256 .f32)

/-- The reference's rows of `K`, -/
theorem value_key (a : Fin 8) (r : Fin 1536) (l : Fin 256) (h : r.val < 1024) :
    val_main_v283 (F := Ideal) K W x2 x3 x4 x5 x6 (ix3 a r l) = result K W x2 x3 x4 x5 x6 (ix3 a r l) := by
  have ha : a.val < 8 := a.isLt
  have hl : l.val < 256 := l.isLt
  have e : idx_main_v281 (show S8x1024x256.Idx from ix3 a (⟨r.val, h⟩ : Fin 1024) l) = ix2 a (⟨r.val * 256 + l.val, by omega⟩ : Fin 262144) := by
    funext d
    match d with
    | ⟨0, _⟩ => exact Fin.ext (by show ((a.val * 1024 + r.val) * 256 + l.val) / 262144 = a.val; omega)
    | ⟨1, _⟩ => exact Fin.ext (by show ((a.val * 1024 + r.val) * 256 + l.val) % 262144 = r.val * 256 + l.val; omega)
  have er : GroupK.row (⟨r.val * 256 + l.val, by omega⟩ : Fin 262144) = r := Fin.ext (by show 0 + (r.val * 256 + l.val) / 256 = r.val; omega)
  have el : GroupK.lane (⟨r.val * 256 + l.val, by omega⟩ : Fin 262144) = l := Fin.ext (by show (r.val * 256 + l.val) % 256 = l.val; omega)
  rw [result_key K W x2 x3 x4 x5 x6 a r l h]
  unfold val_main_v283
  refine (concatenate_pair_apply_left (s₁ := S8x1024x256) (s₂ := S8x512x256) _ _ _ _ (show S8x1536x256.Idx from ix3 a r l) rfl
    (show S8x1024x256.Idx from ix3 a (⟨r.val, h⟩ : Fin 1024) l) fun b => ?_).trans ?_
  · match b with
    | ⟨0, _⟩ => rfl
    | ⟨1, _⟩ => rfl
    | ⟨2, _⟩ => rfl
  · rw [val_main_v281_apply, e, GroupK.levels]
    unfold GroupK.err GroupK.thr
    rw [er, el]
    rfl

/-- and of `V`. -/
theorem value_value (a : Fin 8) (r : Fin 1536) (l : Fin 256) (h : ¬ r.val < 1024) :
    val_main_v283 (F := Ideal) K W x2 x3 x4 x5 x6 (ix3 a r l) = result K W x2 x3 x4 x5 x6 (ix3 a r l) := by
  have ha : a.val < 8 := a.isLt
  have hl : l.val < 256 := l.isLt
  have hr : r.val < 1536 := r.isLt
  have e : idx_main_v282 (show S8x512x256.Idx from ix3 a (⟨r.val - 1024, by omega⟩ : Fin 512) l) = ix2 a (⟨(r.val - 1024) * 256 + l.val, by omega⟩ : Fin 131072) := by
    funext d
    match d with
    | ⟨0, _⟩ => exact Fin.ext (by show ((a.val * 512 + (r.val - 1024)) * 256 + l.val) / 131072 = a.val; omega)
    | ⟨1, _⟩ => exact Fin.ext (by show ((a.val * 512 + (r.val - 1024)) * 256 + l.val) % 131072 = (r.val - 1024) * 256 + l.val; omega)
  have er : GroupV.row (⟨(r.val - 1024) * 256 + l.val, by omega⟩ : Fin 131072) = r := Fin.ext (by show 1024 + ((r.val - 1024) * 256 + l.val) / 256 = r.val; omega)
  have el : GroupV.lane (⟨(r.val - 1024) * 256 + l.val, by omega⟩ : Fin 131072) = l := Fin.ext (by show ((r.val - 1024) * 256 + l.val) % 256 = l.val; omega)
  rw [result_value K W x2 x3 x4 x5 x6 a r l h]
  unfold val_main_v283
  refine (concatenate_pair_apply_right (s₁ := S8x1024x256) (s₂ := S8x512x256) _ _ _ _ (show S8x1536x256.Idx from ix3 a r l) rfl rfl
    (show S8x512x256.Idx from ix3 a (⟨r.val - 1024, by omega⟩ : Fin 512) l) (fun b hb => ?_) ?_).trans ?_
  · match b with
    | ⟨0, _⟩ => rfl
    | ⟨1, _⟩ => exact absurd rfl hb
    | ⟨2, _⟩ => rfl
  · show r.val - 1024 + 1024 = r.val
    omega
  · rw [val_main_v282_apply, e, GroupV.levels]
    unfold GroupV.err GroupV.thr
    rw [er, el]
    rfl

/-- The reference's result. -/
theorem value : val_main_v284 (F := Ideal) K W x2 x3 x4 x5 x6 = result K W x2 x3 x4 x5 x6 := by
  funext i
  have e : i = ix3 (i 0) (i 1) (i 2) := by
    funext d
    match d with
    | ⟨0, _⟩ => rfl
    | ⟨1, _⟩ => rfl
    | ⟨2, _⟩ => rfl
  rw [e]
  by_cases h : (i 1).val < 1024
  · exact value_key K W x2 x3 x4 x5 x6 (i 0) (i 1) (i 2) h
  · exact value_value K W x2 x3 x4 x5 x6 (i 0) (i 1) (i 2) h

end Cert.Reference4Ideal.Group

namespace Cert.Kernel4Ideal.Group

open Cert.Kernel4Ideal Cert.Kernel4Ideal.Gen
open Cert.Reference4Ideal.Read (val_main_v284)

variable (m : (ℓ : Loc nD τ sig) → Buf (Elt Ideal) ℓ)

/-- The run's result where no greatest gap is zero: the reference's value of the arguments, which end unchanged. -/
theorem run_values (hpre : ∀ c : Dev nD, Cert.Pre_nonzero4.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) = fun _ => 1#1)
    (ρ : Dev nD → PrngReg) : θ_run defs (onTc (τ := τ) (main (F := Ideal))) ⟨m, fun _ => 0, ρ⟩ (fun r => ∀ c : Dev nD,
      r.2.mem ((c.tc : Thread nD τ).loc main_v2) = val_main_v284 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
        (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1.trans (final m c (Cert.Pre_nonzero4.Args.nonzero _ _ _ _ _ _ _ (hpre c)))).trans
      (Cert.Reference4Ideal.Group.value _ _ _ _ _ _ _).symm, (h c).2⟩) (Cert.Kernel4Ideal.Value.run_blocks m ρ)

end Cert.Kernel4Ideal.Group

end
-- ==== Proof.lean ====
/-
  The proof of `Cert.Claim`: for each of four calls (the matrix product, the range of the weights, the greatest gap, the second
  level) that the printed program, the idealized program and the reference run and leave their arguments as they were, that the
  idealized program is the printed one up to its named constants, and that its result is the reference's over the extended reals.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2.Skeleton
public import proofs.«01_k».proof.Proof.Gen.Kernel2Ideal
public import proofs.«01_k».proof.Proof.Gen.Kernel2Ideal.Frame
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3.Skeleton
public import proofs.«01_k».proof.Proof.Gen.Kernel3.Loops
public import proofs.«01_k».proof.Proof.Gen.Kernel3Ideal
public import proofs.«01_k».proof.Proof.Gen.Kernel3Ideal.Frame
public import proofs.«01_k».proof.Proof.Gen.Kernel3Ideal.Skeleton
public import proofs.«01_k».proof.Proof.Gen.Kernel3Ideal.Loops
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.Gen.Pre_nonzero4
public import proofs.«01_k».proof.Proof.Gen.Kernel4
public import proofs.«01_k».proof.Proof.Gen.Kernel4.Frame
public import proofs.«01_k».proof.Proof.Gen.Kernel4.Skeleton
public import proofs.«01_k».proof.Proof.Gen.Kernel4.Loops
public import proofs.«01_k».proof.Proof.Gen.Kernel4.Value
public import proofs.«01_k».proof.Proof.Gen.Kernel4Ideal
public import proofs.«01_k».proof.Proof.Gen.Kernel4Ideal.Frame
public import proofs.«01_k».proof.Proof.Gen.Kernel4Ideal.Skeleton
public import proofs.«01_k».proof.Proof.Gen.Kernel4Ideal.Loops
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Agree
public import proofs.«01_k».proof.Proof.RangeRun
public import proofs.«01_k».proof.Proof.RangeEnd
public import proofs.«01_k».proof.Proof.GapRun
public import proofs.«01_k».proof.Proof.GapEnd
public import proofs.«01_k».proof.Proof.GroupEnd
public import Idealize.ShloMosaic.Adequacy
public import Idealize.ShloMosaic.Init

@[expose] public section

noncomputable section

namespace Cert.Proof

open Idealize.ShloMosaic Idealize.SL.Sem Cert.Kernel

/-- The reference runs, its arguments end unchanged, and it declares no semaphore, so that every counter is zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun _ h => ⟨fun c => (h c).2, sem_eq_zero_of_no_sems rfl _⟩) (Cert.ReferenceIdeal.Value.run m g)

/-- For finite arguments the kernel's result equals the reference's over the extended reals. -/
theorem agree : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from Cert.KernelIdeal.Gen.run_main m g
  · run_from Cert.ReferenceIdeal.Value.run m' g'
    exact (Cert.ReferenceIdeal.Read.val_main_v6_eq _ _).trans
      ((Cert.Agree.product_eq _ _ (hpre c)).symm.trans (Cert.KernelIdeal.Block.final m c).symm)

/-- The range reference runs, its arguments end unchanged, and it declares no semaphore. -/
theorem range_reference_frame (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0) :=
  (θ_run _ _ _).mono (fun _ h => ⟨fun c => (h c).2.2, sem_eq_zero_of_no_sems rfl _⟩) (Cert.Reference2Ideal.Value.run m g)

/-- The range call's two results equal the range reference's over the extended reals, for all arguments. -/
theorem range_agree : Cert.algebraic_Kernel2Ideal_Reference2Ideal (hKernel2Ideal := Cert.Kernel2Ideal.Gen.facts)
    (hReference2Ideal := Cert.Reference2Ideal.Gen.facts) := by
  intro m g m' g' _ hargs
  refine ⟨_, _, Cert.Kernel2Ideal.Range.run_values m g, (θ_run _ _ _).mono (fun _ h c => ?_) (Cert.Reference2Ideal.Value.run m' g')⟩
  refine ⟨?_, ?_, (h c).2.2⟩
  · refine (h c).1.trans ((Cert.Reference2Ideal.Read.val_main_v5_eq _ _).trans ?_)
    rw [(hargs c).1, (hargs c).2]
  · refine (h c).2.1.trans ((Cert.Reference2Ideal.Read.val_main_v11_eq _ _).trans ?_)
    rw [(hargs c).1, (hargs c).2]

/-- The gap reference runs, its arguments end unchanged, and it declares no semaphore. -/
theorem gap_reference_frame (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0) :=
  (θ_run _ _ _).mono (fun _ h => ⟨fun c => (h c).2, sem_eq_zero_of_no_sems rfl _⟩) (Cert.Reference3Ideal.Value.run m g)

/-- For finite weights the gap call's result equals the gap reference's over the extended reals. -/
theorem gap_agree : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  intro m g m' g' hpre hargs
  refine ⟨_, Cert.Kernel3Ideal.Gap.run_values m hpre g, (θ_run _ _ _).mono (fun _ h c => ?_) (Cert.Reference3Ideal.Value.run m' g')⟩
  refine ⟨?_, (h c).2⟩
  refine (h c).1.trans ((Cert.Reference3Ideal.Read.val_main_v37_eq _ _).trans ?_)
  rw [(hargs c).1, (hargs c).2.1, (hargs c).2.2.1, (hargs c).2.2.2]

/-- The second level's reference runs, its arguments end unchanged, and it declares no semaphore. -/
theorem group_reference_frame (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0) :=
  (θ_run _ _ _).mono (fun _ h => ⟨fun c => (h c).2, sem_eq_zero_of_no_sems rfl _⟩) (Cert.Reference4Ideal.Value.run m g)

/-- The idealized second level differs from the printed one in the named constant it compares with. -/
theorem group_preserves : Cert.preserves_Kernel4_Kernel4Ideal := IdealRules.named_const.statement Cert.Kernel4Ideal.κ "cut" .f32 0xBEFF8593#32 _ rfl

/-- Where no greatest gap is zero the second level's result equals its reference's over the extended reals. -/
theorem group_agree : Cert.algebraic_Kernel4Ideal_Reference4Ideal_pre_nonzero4 (hKernel4Ideal := Cert.Kernel4Ideal.Gen.facts)
    (hReference4Ideal := Cert.Reference4Ideal.Gen.facts) (hPre_nonzero4 := Cert.Pre_nonzero4.Gen.facts) := by
  intro m g m' g' hpre hargs
  refine ⟨_, Cert.Kernel4Ideal.Group.run_values m hpre g, (θ_run _ _ _).mono (fun _ h c => ?_) (Cert.Reference4Ideal.Value.run m' g')⟩
  refine ⟨?_, (h c).2⟩
  refine (h c).1.trans ((Cert.Reference4Ideal.Read.val_main_v284_eq _).trans ?_)
  obtain ⟨h0, h1, h2, h3, h4, h5, h6⟩ := hargs c
  rw [← h0, ← h1, ← h2, ← h3, ← h4, ← h5, ← h6]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts, Cert.Pre_finite3.Gen.facts, Cert.Pre_nonzero4.Gen.facts,
  fun m g _ => Cert.Kernel.Gen.frame m g,
  fun m g _ => Cert.KernelIdeal.Gen.frame m g,
  fun m g _ => Cert.KernelIdeal.Gen.frame m g,
  fun m g _ => reference_frame m g,
  fun m g _ => reference_frame m g,
  fun m g _ => Cert.Kernel2.Range.frame m g,
  fun m g _ => Cert.Kernel2Ideal.Range.frame m g,
  fun m g _ => range_reference_frame m g,
  fun m g _ => Cert.Kernel3.Gap.frame m g,
  fun m g _ => Cert.Kernel3Ideal.Gap.frame m g,
  fun m g _ => Cert.Kernel3Ideal.Gap.frame m g,
  fun m g _ => gap_reference_frame m g,
  fun m g _ => gap_reference_frame m g,
  fun m g _ => Cert.Kernel4.Gen.frame m g,
  fun m g _ => Cert.Kernel4Ideal.Gen.frame m g,
  fun m g _ => Cert.Kernel4Ideal.Gen.frame m g,
  fun m g _ => group_reference_frame m g,
  fun m g _ => group_reference_frame m g,
  trivial,
  agree,
  trivial,
  range_agree,
  trivial,
  gap_agree,
  group_preserves,
  group_agree⟩

end Cert.Proof

end
